-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_combine [hPre_finite_combine : Cert.Pre_finite_combine.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_combine.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_combine [hPre_finite_combine : Cert.Pre_finite_combine.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_combine.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Kernel15Ideal_pre_finite_combine [hKernel15Ideal : Cert.Kernel15Ideal.Facts] [hPre_finite_combine : Cert.Pre_finite_combine.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_combine m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Reference15Ideal_pre_finite_combine [hReference15Ideal : Cert.Reference15Ideal.Facts] [hPre_finite_combine : Cert.Pre_finite_combine.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_combine m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v2_0)) (v3 : (c : Dev Cert.Kernel2Ideal.nD) → Buf (Elt Ideal) ((c.tc : Thread Cert.Kernel2Ideal.nD Cert.Kernel2Ideal.τ).loc Cert.Kernel2Ideal.main_v3_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v2_0) = v2 c
          ∧ r.2.mem ((c.tc : Thread Cert.Kernel2Ideal.nD Cert.Kernel2Ideal.τ).loc Cert.Kernel2Ideal.main_v3_0) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v1_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v1_0) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v4_0)) (v2 : (c : Dev Cert.Kernel6Ideal.nD) → Buf (Elt Ideal) ((c.tc : Thread Cert.Kernel6Ideal.nD Cert.Kernel6Ideal.τ).loc Cert.Kernel6Ideal.main_v5_0)) (v3 : (c : Dev Cert.Kernel6Ideal.nD) → Buf (Elt Ideal) ((c.tc : Thread Cert.Kernel6Ideal.nD Cert.Kernel6Ideal.τ).loc Cert.Kernel6Ideal.main_v6_0)) (v4 : (c : Dev Cert.Kernel6Ideal.nD) → Buf (Elt Ideal) ((c.tc : Thread Cert.Kernel6Ideal.nD Cert.Kernel6Ideal.τ).loc Cert.Kernel6Ideal.main_v1_2)) (v5 : (c : Dev Cert.Kernel6Ideal.nD) → Buf (Elt Ideal) ((c.tc : Thread Cert.Kernel6Ideal.nD Cert.Kernel6Ideal.τ).loc Cert.Kernel6Ideal.main_v1_3)) (v6 : (c : Dev Cert.Kernel6Ideal.nD) → Buf (Elt Ideal) ((c.tc : Thread Cert.Kernel6Ideal.nD Cert.Kernel6Ideal.τ).loc Cert.Kernel6Ideal.main_v2_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v4_0) = v1 c
          ∧ r.2.mem ((c.tc : Thread Cert.Kernel6Ideal.nD Cert.Kernel6Ideal.τ).loc Cert.Kernel6Ideal.main_v5_0) = v2 c
          ∧ r.2.mem ((c.tc : Thread Cert.Kernel6Ideal.nD Cert.Kernel6Ideal.τ).loc Cert.Kernel6Ideal.main_v6_0) = v3 c
          ∧ r.2.mem ((c.tc : Thread Cert.Kernel6Ideal.nD Cert.Kernel6Ideal.τ).loc Cert.Kernel6Ideal.main_v1_2) = v4 c
          ∧ r.2.mem ((c.tc : Thread Cert.Kernel6Ideal.nD Cert.Kernel6Ideal.τ).loc Cert.Kernel6Ideal.main_v1_3) = v5 c
          ∧ r.2.mem ((c.tc : Thread Cert.Kernel6Ideal.nD Cert.Kernel6Ideal.τ).loc Cert.Kernel6Ideal.main_v2_0) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_v49) = v4 c
          ∧ r.2.mem ((c.tc : Thread Cert.Reference6Ideal.nD Cert.Reference6Ideal.τ).loc Cert.Reference6Ideal.main_v50) = v5 c
          ∧ r.2.mem ((c.tc : Thread Cert.Reference6Ideal.nD Cert.Reference6Ideal.τ).loc Cert.Reference6Ideal.main_v51) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_v22) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v26) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite_combine [hKernel15Ideal : Cert.Kernel15Ideal.Facts] [hReference15Ideal : Cert.Reference15Ideal.Facts] [hPre_finite_combine : Cert.Pre_finite_combine.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_combine m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v9_0)) (v1 : (c : Dev Cert.Kernel15Ideal.nD) → Buf (Elt Ideal) ((c.tc : Thread Cert.Kernel15Ideal.nD Cert.Kernel15Ideal.τ).loc Cert.Kernel15Ideal.main_v9_1)) (v2 : (c : Dev Cert.Kernel15Ideal.nD) → Buf (Elt Ideal) ((c.tc : Thread Cert.Kernel15Ideal.nD Cert.Kernel15Ideal.τ).loc Cert.Kernel15Ideal.main_v9_2)) (v3 : (c : Dev Cert.Kernel15Ideal.nD) → Buf (Elt Ideal) ((c.tc : Thread Cert.Kernel15Ideal.nD Cert.Kernel15Ideal.τ).loc Cert.Kernel15Ideal.main_v9_3)) (v4 : (c : Dev Cert.Kernel15Ideal.nD) → Buf (Elt Ideal) ((c.tc : Thread Cert.Kernel15Ideal.nD Cert.Kernel15Ideal.τ).loc Cert.Kernel15Ideal.main_v9_4)) (v5 : (c : Dev Cert.Kernel15Ideal.nD) → Buf (Elt Ideal) ((c.tc : Thread Cert.Kernel15Ideal.nD Cert.Kernel15Ideal.τ).loc Cert.Kernel15Ideal.main_v9_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9_0) = v0 c
          ∧ r.2.mem ((c.tc : Thread Cert.Kernel15Ideal.nD Cert.Kernel15Ideal.τ).loc Cert.Kernel15Ideal.main_v9_1) = v1 c
          ∧ r.2.mem ((c.tc : Thread Cert.Kernel15Ideal.nD Cert.Kernel15Ideal.τ).loc Cert.Kernel15Ideal.main_v9_2) = v2 c
          ∧ r.2.mem ((c.tc : Thread Cert.Kernel15Ideal.nD Cert.Kernel15Ideal.τ).loc Cert.Kernel15Ideal.main_v9_3) = v3 c
          ∧ r.2.mem ((c.tc : Thread Cert.Kernel15Ideal.nD Cert.Kernel15Ideal.τ).loc Cert.Kernel15Ideal.main_v9_4) = v4 c
          ∧ r.2.mem ((c.tc : Thread Cert.Kernel15Ideal.nD Cert.Kernel15Ideal.τ).loc Cert.Kernel15Ideal.main_v9_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v65) = v0 c
          ∧ r.2.mem ((c.tc : Thread Cert.Reference15Ideal.nD Cert.Reference15Ideal.τ).loc Cert.Reference15Ideal.main_v68) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v74) = v3 c
          ∧ r.2.mem ((c.tc : Thread Cert.Reference15Ideal.nD Cert.Reference15Ideal.τ).loc Cert.Reference15Ideal.main_v77) = v4 c
          ∧ r.2.mem ((c.tc : Thread Cert.Reference15Ideal.nD Cert.Reference15Ideal.τ).loc Cert.Reference15Ideal.main_v80) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_ffn : Cert.Pre_finite_ffn.Facts) (hPre_finite_combine : Cert.Pre_finite_combine.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_combine (hKernel15Ideal := hKernel15Ideal) (hPre_finite_combine := hPre_finite_combine)
    ∧ quiescent_Reference15Ideal (hReference15Ideal := hReference15Ideal)
    ∧ quiescent_Reference15Ideal_pre_finite_combine (hReference15Ideal := hReference15Ideal) (hPre_finite_combine := hPre_finite_combine)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_combine (hKernel15Ideal := hKernel15Ideal) (hReference15Ideal := hReference15Ideal) (hPre_finite_combine := hPre_finite_combine)
-- ==== Pre_finite.lean ====
abbrev S2048x3072 : Shape := ⟨2, ![2048, 3072]⟩
abbrev S2048x10240 : Shape := ⟨2, ![2048, 10240]⟩
abbrev S2048x512 : Shape := ⟨2, ![2048, 512]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x10240 : S_.BroadcastsInDim S2048x10240 (![] : Fin 0 → Fin S2048x10240.rank)
  reducesTo_S2048x10240_S_d0_1 : S2048x10240.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2048x3072 .f32) (main_arg1 : FVec F S2048x10240 .f32) (main_arg2 : FVec F S2048x512 .f32) (main_arg3 : FVec F S2048x512 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x10240 .f32 := Host.absf main_arg1
  let main_cst_0 : FVec F S_ .f32 := constant S_ .f32 0x7F800000#32
  let main_v5 : FVec F S2048x10240 .f32 := broadcastInDim S2048x10240 ![] bcast_S_S2048x10240 main_cst_0
  let main_v6 : IVec S2048x10240 1 := cmpf .olt main_v4 main_v5
  let main_c_1 : IVec S_ 1 := constantI S_ 1 1#1
  let main_v7 : IVec S_ 1 := (fun x v => Host.reduce IntOp.andi x v reducesTo_S2048x10240_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Pre_finite_combine.lean ====
abbrev S2048x512 : Shape := ⟨2, ![2048, 512]⟩
abbrev S2048x4 : Shape := ⟨2, ![2048, 4]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn_part1 {F : FTy → Type} [FloatOps F] (main_arg4 : FVec F S2048x4 .f32) (main_arg5 : FVec F S2048x4 .f32) (main_arg6 : FVec F S2048x4 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x4 .f32 := Host.absf main_arg4
  let main_cst_6 : FVec F S_ .f32 := constant S_ .f32 0x7F800000#32
  let main_v20 : FVec F S2048x4 .f32 := broadcastInDim S2048x4 ![] bcast_S_S2048x4 main_cst_6
  let main_v21 : IVec S2048x4 1 := cmpf .olt main_v19 main_v20
  let main_c_7 : IVec S_ 1 := constantI S_ 1 1#1
  let main_v22 : IVec S_ 1 := (fun x v => Host.reduce IntOp.andi x v reducesTo_S2048x4_S_d0_1 h_S_) main_v21 main_c_7
  let main_v23 : IVec S_ 1 := andi main_v18 main_v22
  let main_v24 : FVec F S2048x4 .f32 := Host.absf main_arg5
  let main_cst_8 : FVec F S_ .f32 := constant S_ .f32 0x7F800000#32
  let main_v25 : FVec F S2048x4 .f32 := broadcastInDim S2048x4 ![] bcast_S_S2048x4 main_cst_8
  let main_v26 : IVec S2048x4 1 := cmpf .olt main_v24 main_v25
  let main_c_9 : IVec S_ 1 := constantI S_ 1 1#1
  let main_v27 : IVec S_ 1 := (fun x v => Host.reduce IntOp.andi x v reducesTo_S2048x4_S_d0_1 h_S_) main_v26 main_c_9
  let main_v28 : IVec S_ 1 := andi main_v23 main_v27
  let main_v29 : FVec F S2048x4 .f32 := Host.absf main_arg6
  let main_cst_10 : FVec F S_ .f32 := constant S_ .f32 0x7F800000#32
  let main_v30 : FVec F S2048x4 .f32 := broadcastInDim S2048x4 ![] bcast_S_S2048x4 main_cst_10
  let main_v31 : IVec S2048x4 1 := cmpf .olt main_v29 main_v30
  let main_c_11 : IVec S_ 1 := constantI S_ 1 1#1
  let main_v32 : IVec S_ 1 := (fun x v => Host.reduce IntOp.andi x v reducesTo_S2048x4_S_d0_1 h_S_) main_v31 main_c_11
  let main_v33 : IVec S_ 1 := andi main_v28 main_v32
  main_v33

def fn {F : FTy → Type} [FloatOps F] (main_arg0 : FVec F S2048x512 .f32) (main_arg1 : FVec F S2048x512 .f32) (main_arg2 : FVec F S2048x512 .f32) (main_arg3 : FVec F S2048x512 .f32) (main_arg4 : FVec F S2048x4 .f32) (main_arg5 : FVec F S2048x4 .f32) (main_arg6 : FVec F S2048x4 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Pre_finite_ffn.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v3 : FVec F S2048x2048 .f32) (main_v17 : IVec S_ 1) : IVec S_ 1 :=
  let main_v18 : FVec F S2048x2048 .f32 := Host.absf main_v3
  let main_cst_4 : FVec F S_ .f32 := constant S_ .f32 0x7F800000#32
  let main_v19 : FVec F S2048x2048 .f32 := broadcastInDim S2048x2048 ![] bcast_S_S2048x2048 main_cst_4
  let main_v20 : IVec S2048x2048 1 := cmpf .olt main_v18 main_v19
  let main_c_5 : IVec S_ 1 := constantI S_ 1 1#1
  let main_v21 : IVec S_ 1 := (fun x v => Host.reduce IntOp.andi x v reducesTo_S2048x2048_S_d0_1 h_S_) main_v20 main_c_5
  let main_v22 : IVec S_ 1 := andi main_v17 main_v21
  main_v22

def fn {F : FTy → Type} [FloatOps F] (main_arg0 : FVec F S2048x2048 .bf16) (main_arg1 : FVec F S2048x11264 .bf16) (main_arg2 : FVec F S5632x2048 .bf16) (main_arg3 : FVec F S2048x2048 .bf16) : IVec S_ 1 :=
  let main_v0 : FVec F S2048x2048 .f32 := (extf .f32 · bitsLt_bf16_f32) main_arg0
  let main_v1 : FVec F S2048x11264 .f32 := (extf .f32 · bitsLt_bf16_f32) main_arg1
  let main_v2 : FVec F S5632x2048 .f32 := (extf .f32 · bitsLt_bf16_f32) main_arg2
  let main_v3 : FVec F S2048x2048 .f32 := (extf .f32 · bitsLt_bf16_f32) main_arg3
  let main_v4 : FVec F S2048x2048 .f32 := Host.absf main_v0
  let main_cst : FVec F S_ .f32 := constant S_ .f32 0x7F800000#32
  let main_v5 : FVec F S2048x2048 .f32 := broadcastInDim S2048x2048 ![] bcast_S_S2048x2048 main_cst
  let main_v6 : IVec S2048x2048 1 := cmpf .olt main_v4 main_v5
  let main_c : IVec S_ 1 := constantI S_ 1 1#1
  let main_v7 : IVec S_ 1 := (fun x v => Host.reduce IntOp.andi x v reducesTo_S2048x2048_S_d0_1 h_S_) main_v6 main_c
  let main_v8 : FVec F S2048x11264 .f32 := Host.absf main_v1
  let main_cst_0 : FVec F S_ .f32 := constant S_ .f32 0x7F800000#32
  let main_v9 : FVec F S2048x11264 .f32 := broadcastInDim S2048x11264 ![] bcast_S_S2048x11264 main_cst_0
  let main_v10 : IVec S2048x11264 1 := cmpf .olt main_v8 main_v9
  let main_c_1 : IVec S_ 1 := constantI S_ 1 1#1
  let main_v11 : IVec S_ 1 := (fun x v => Host.reduce IntOp.andi x v reducesTo_S2048x11264_S_d0_1 h_S_) main_v10 main_c_1
  let main_v12 : IVec S_ 1 := andi main_v7 main_v11
  let main_v13 : FVec F S5632x2048 .f32 := Host.absf main_v2
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  let main_c_3 : IVec S_ 1 := constantI S_ 1 1#1
  let main_v16 : IVec S_ 1 := (fun x v => Host.reduce IntOp.andi x v reducesTo_S5632x2048_S_d0_1 h_S_) main_v15 main_c_3
  let main_v17 : IVec S_ 1 := andi main_v12 main_v16
  fn_part1 (F := F) main_v3 main_v17
-- ==== Kernel.lean ====
abbrev S2048x3072 : Shape := ⟨2, ![2048, 3072]⟩
abbrev S2048x10240 : Shape := ⟨2, ![2048, 10240]⟩
abbrev S2048x512 : Shape := ⟨2, ![2048, 512]⟩
abbrev S1x2048x4x128 : Shape := ⟨4, ![1, 2048, 4, 128]⟩
abbrev S1x4x2048x2048 : Shape := ⟨4, ![1, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x4x2048 : Shape := ⟨3, ![1, 4, 2048]⟩
abbrev S1x4x2048x1 : Shape := ⟨4, ![1, 4, 2048, 1]⟩
abbrev S1x4x2048x128 : Shape := ⟨4, ![1, 4, 2048, 128]⟩
abbrev S1x2048x4 : Shape := ⟨3, ![1, 2048, 4]⟩
abbrev S2048x4x1 : Shape := ⟨3, ![2048, 4, 1]⟩
abbrev S2048x4x128 : Shape := ⟨3, ![2048, 4, 128]⟩
abbrev S8x128 : Shape := ⟨2, ![8, 128]⟩
abbrev S2048x128 : Shape := ⟨2, ![2048, 128]⟩
abbrev S128x128 : Shape := ⟨2, ![128, 128]⟩
abbrev S128x1 : Shape := ⟨2, ![128, 1]⟩
abbrev S128 : Shape := ⟨1, ![128]⟩

abbrev nBuf : Space → Nat
  | .hbm => 65
  | .vmem => 21
  | .smem => 0
  | _ => 0

abbrev bufTy : (tb : Table) → Fin (tcTables nBuf tb) → BufTy
  | .hbm, ⟨0, _⟩ => ⟨S2048x3072, .f32⟩
  | .hbm, ⟨1, _⟩ => ⟨S2048x10240, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S1x2048x4x128, .f32⟩
  | .hbm, ⟨6, _⟩ => ⟨S2048x512, .f32⟩
  | .hbm, ⟨7, _⟩ => ⟨S1x2048x4x128, .f32⟩
  | .hbm, ⟨8, _⟩ => ⟨S2048x512, .f32⟩
  | .hbm, ⟨9, _⟩ => ⟨S1x2048x4x128, .f32⟩
  | .hbm, ⟨10, _⟩ => ⟨S1x4x2048x2048, .f32⟩
  | .hbm, ⟨11, _⟩ => ⟨S_, .f32⟩
  | .hbm, ⟨12, _⟩ => ⟨S1x4x2048x2048, .f32⟩
  | .hbm, ⟨13, _⟩ => ⟨S1x4x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S2048x2048, .i1⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i1⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S1x4x2048x2048, .i1⟩
  | .hbm, ⟨38, _⟩ => ⟨S1x4x2048x2048, .f32⟩
  | .hbm, ⟨39, _⟩ => ⟨S1x4x2048x2048, .f32⟩
  | .hbm, ⟨40, _⟩ => ⟨S_, .f32⟩
  | .hbm, ⟨41, _⟩ => ⟨S1x4x2048, .f32⟩
  | .hbm, ⟨42, _⟩ => ⟨S1x4x2048x1, .f32⟩
  | .hbm, ⟨43, _⟩ => ⟨S1x4x2048x2048, .f32⟩
  | .hbm, ⟨44, _⟩ => ⟨S1x4x2048x2048, .f32⟩
  | .hbm, ⟨45, _⟩ => ⟨S1x4x2048x2048, .f32⟩
  | .hbm, ⟨46, _⟩ => ⟨S_, .f32⟩
  | .hbm, ⟨47, _⟩ => ⟨S1x4x2048, .f32⟩
  | .hbm, ⟨48, _⟩ => ⟨S1x4x2048x128, .f32⟩
  | .hbm, ⟨49, _⟩ => ⟨S1x4x2048x1, .f32⟩
  | .hbm, ⟨50, _⟩ => ⟨S1x4x2048x128, .f32⟩
  | .hbm, ⟨51, _⟩ => ⟨S1x4x2048x128, .f32⟩
  | .hbm, ⟨52, _⟩ => ⟨S1x4x2048, .f32⟩
  | .hbm, ⟨53, _⟩ => ⟨S1x4x2048, .f32⟩
  | .hbm, ⟨54, _⟩ => ⟨S1x4x2048, .f32⟩
  | .hbm, ⟨55, _⟩ => ⟨S1x2048x4x128, .f32⟩
  | .hbm, ⟨56, _⟩ => ⟨S1x2048x4, .f32⟩
  | .hbm, ⟨57, _⟩ => ⟨S2048x4x1, .f32⟩
  | .hbm, ⟨58, _⟩ => ⟨S2048x4x128, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S8x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S8x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_v46_3 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨2, ![4, 2], ![false, false]⟩

def k0_off1 (i : grid0.Coords) (c0_i32_2 : BitVec 32) : Fin 2 → Nat :=
  let c0_i32_3 : BitVec 32 := 0#32
  let arg1 : BitVec 32 := BitVec.ofNat 32 (i 1).val
  let c8_i32 : BitVec 32 := 8#32
  let v5 : BitVec 32 := Scalar.muli arg1 c8_i32
  let v6 : BitVec 32 := Scalar.addi v5 c0_i32_2
  let v10 : BitVec 32 := Scalar.addi c0_i32_3 v6
  let v12 : Index := Scalar.indexCast v10
  let c0_5 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2048x3072 : Shape := ⟨2, ![2048, 3072]⟩
abbrev S2048x10240 : Shape := ⟨2, ![2048, 10240]⟩
abbrev S2048x512 : Shape := ⟨2, ![2048, 512]⟩
abbrev S1x2048x4x128 : Shape := ⟨4, ![1, 2048, 4, 128]⟩
abbrev S1x2048x4x1 : Shape := ⟨4, ![1, 2048, 4, 1]⟩
abbrev S1x2048x4 : Shape := ⟨3, ![1, 2048, 4]⟩
abbrev S1x4x2048x2048 : Shape := ⟨4, ![1, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x4x2048 : Shape := ⟨3, ![1, 4, 2048]⟩
abbrev S1x4x2048x1 : Shape := ⟨4, ![1, 4, 2048, 1]⟩
abbrev S1x4x2048x128 : Shape := ⟨4, ![1, 4, 2048, 128]⟩
abbrev S4x2048 : Shape := ⟨2, ![4, 2048]⟩
abbrev S1x4x128x2048 : Shape := ⟨4, ![1, 4, 128, 2048]⟩

abbrev nBuf : Space → Nat
  | .hbm => 121
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x10240, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S1x2048x4x128, .f32⟩
  | .hbm, ⟨6, _⟩ => ⟨S2048x512, .f32⟩
  | .hbm, ⟨7, _⟩ => ⟨S1x2048x4x128, .f32⟩
  | .hbm, ⟨8, _⟩ => ⟨S2048x512, .f32⟩
  | .hbm, ⟨9, _⟩ => ⟨S1x2048x4x128, .f32⟩
  | .hbm, ⟨10, _⟩ => ⟨S1x2048x4x128, .f32⟩
  | .hbm, ⟨11, _⟩ => ⟨S1x2048x4x128, .f32⟩
  | .hbm, ⟨12, _⟩ => ⟨S1x2048x4x1, .f32⟩
  | .hbm, ⟨13, _⟩ => ⟨S1x2048x4, .f32⟩
  | .hbm, ⟨14, _⟩ => ⟨S1x4x2048x2048, .f32⟩
  | .hbm, ⟨15, _⟩ => ⟨S_, .f32⟩
  | .hbm, ⟨16, _⟩ => ⟨S1x4x2048x2048, .f32⟩
  | .hbm, ⟨17, _⟩ => ⟨S1x4x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .i32⟩
  | .hbm, ⟨29, _⟩ => ⟨S2048x2048, .i32⟩
  | .hbm, ⟨30, _⟩ => ⟨S2048x2048, .i1⟩
  | .hbm, ⟨31, _⟩ => ⟨S2048x2048, .i1⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S1x4x2048x2048, .i1⟩
  | .hbm, ⟨42, _⟩ => ⟨S1x4x2048x2048, .f32⟩
  | .hbm, ⟨43, _⟩ => ⟨S1x4x2048x2048, .f32⟩
  | .hbm, ⟨44, _⟩ => ⟨S_, .f32⟩
  | .hbm, ⟨45, _⟩ => ⟨S1x4x2048x2048, .f32⟩
  | .hbm, ⟨46, _⟩ => ⟨S_, .f32⟩
  | .hbm, ⟨47, _⟩ => ⟨S1x4x2048, .f32⟩
  | .hbm, ⟨48, _⟩ => ⟨S1x4x2048x1, .f32⟩
  | .hbm, ⟨49, _⟩ => ⟨S1x4x2048x2048, .f32⟩
  | .hbm, ⟨50, _⟩ => ⟨S1x4x2048x2048, .i1⟩
  | .hbm, ⟨51, _⟩ => ⟨S1x4x2048x2048, .f32⟩
  | .hbm, ⟨52, _⟩ => ⟨S_, .f32⟩
  | .hbm, ⟨53, _⟩ => ⟨S1x4x2048, .f32⟩
  | .hbm, ⟨54, _⟩ => ⟨S1x4x2048x1, .f32⟩
  | .hbm, ⟨55, _⟩ => ⟨S1x4x2048x2048, .f32⟩
  | .hbm, ⟨56, _⟩ => ⟨S1x4x2048x2048, .f32⟩
  | .hbm, ⟨57, _⟩ => ⟨S1x4x2048x2048, .f32⟩
  | .hbm, ⟨58, _⟩ => ⟨S_, .f32⟩
  | .hbm, ⟨59, _⟩ => ⟨S1x4x2048, .f32⟩
  | .hbm, ⟨60, _⟩ => ⟨S1x4x2048x128, .f32⟩
  | .hbm, ⟨61, _⟩ => ⟨S1x4x2048x1, .f32⟩
  | .hbm, ⟨62, _⟩ => ⟨S1x4x2048x128, .f32⟩
  | .hbm, ⟨63, _⟩ => ⟨S1x4x2048x128, .f32⟩
  | .hbm, ⟨64, _⟩ => ⟨S1x4x2048x1, .f32⟩
  | .hbm, ⟨65, _⟩ => ⟨S_, .f32⟩
  | .hbm, ⟨66, _⟩ => ⟨S1x4x2048x1, .f32⟩
  | .hbm, ⟨67, _⟩ => ⟨S1x4x2048x1, .f32⟩
  | .hbm, ⟨68, _⟩ => ⟨S1x4x2048, .f32⟩
  | .hbm, ⟨69, _⟩ => ⟨S1x4x2048, .f32⟩
  | .hbm, ⟨70, _⟩ => ⟨S1x4x2048, .f32⟩
  | .hbm, ⟨71, _⟩ => ⟨S1x2048x4x128, .f32⟩
  | .hbm, ⟨72, _⟩ => ⟨S1x2048x4, .f32⟩
  | .hbm, ⟨73, _⟩ => ⟨S1x4x2048, .f32⟩
  | .hbm, ⟨74, _⟩ => ⟨S1x4x2048x128, .f32⟩
  | .hbm, ⟨75, _⟩ => ⟨S1x4x2048, .f32⟩
  | .hbm, ⟨76, _⟩ => ⟨S1x4x2048x1, .f32⟩
  | .hbm, ⟨77, _⟩ => ⟨S1x4x2048x128, .f32⟩
  | .hbm, ⟨78, _⟩ => ⟨S1x4x2048x128, .f32⟩
  | .hbm, ⟨79, _⟩ => ⟨S1x4x2048x128, .f32⟩
  | .hbm, ⟨80, _⟩ => ⟨S_, .f32⟩
  | .hbm, ⟨81, _⟩ => ⟨S1x4x2048, .f32⟩
  | .hbm, ⟨82, _⟩ => ⟨S1x4x2048x1, .f32⟩
  | .hbm, ⟨83, _⟩ => ⟨S1x4x2048x1, .f32⟩
  | .hbm, ⟨84, _⟩ => ⟨S1x4x2048x128, .f32⟩
  | .hbm, ⟨85, _⟩ => ⟨S1x4x2048x128, .f32⟩
  | .hbm, ⟨86, _⟩ => ⟨S_, .f32⟩
  | .hbm, ⟨87, _⟩ => ⟨S4x2048, .f32⟩
  | .hbm, ⟨88, _⟩ => ⟨S1x4x2048, .f32⟩
  | .hbm, ⟨89, _⟩ => ⟨S1x4x2048, .f32⟩
  | .hbm, ⟨90, _⟩ => ⟨S1x4x128x2048, .f32⟩
  | .hbm, ⟨91, _⟩ => ⟨S1x2048x4x128, .f32⟩
  | .hbm, ⟨92, _⟩ => ⟨S1x4x2048x2048, .f32⟩
  | .hbm, ⟨93, _⟩ => ⟨S1x4x2048x2048, .f32⟩
  | .hbm, ⟨94, _⟩ => ⟨S1x4x2048x2048, .f32⟩
  | .hbm, ⟨95, _⟩ => ⟨S1x4x2048x2048, .f32⟩
  | .hbm, ⟨96, _⟩ => ⟨S1x4x2048x2048, .f32⟩
  | .hbm, ⟨97, _⟩ => ⟨S_, .f32⟩
  | .hbm, ⟨98, _⟩ => ⟨S1x4x2048, .f32⟩
  | .hbm, ⟨99, _⟩ => ⟨S1x4x2048x1, .f32⟩
  | .hbm, ⟨100, _⟩ => ⟨S1x4x2048x1, .f32⟩
  | .hbm, ⟨101, _⟩ => ⟨S_, .f32⟩
  | .hbm, ⟨102, _⟩ => ⟨S4x2048, .f32⟩
  | .hbm, ⟨103, _⟩ => ⟨S1x4x2048, .f32⟩
  | .hbm, ⟨104, _⟩ => ⟨S1x4x2048, .f32⟩
  | .hbm, ⟨105, _⟩ => ⟨S1x4x2048x2048, .f32⟩
  | .hbm, ⟨106, _⟩ => ⟨S1x4x2048x2048, .f32⟩
  | .hbm, ⟨107, _⟩ => ⟨S1x4x2048x2048, .f32⟩
  | .hbm, ⟨108, _⟩ => ⟨S_, .f32⟩
  | .hbm, ⟨109, _⟩ => ⟨S1x4x2048x2048, .f32⟩
  | .hbm, ⟨110, _⟩ => ⟨S1x4x2048x2048, .f32⟩
  | .hbm, ⟨111, _⟩ => ⟨S_, .f32⟩
  | .hbm, ⟨112, _⟩ => ⟨S1x4x2048x2048, .f32⟩
  | .hbm, ⟨113, _⟩ => ⟨S1x4x2048x2048, .f32⟩
  | .hbm, ⟨114, _⟩ => ⟨S1x4x2048x128, .f32⟩
  | .hbm, ⟨115, _⟩ => ⟨S1x2048x4x128, .f32⟩
  | .hbm, ⟨116, _⟩ => ⟨S1x4x2048x128, .f32⟩
  | .hbm, ⟨117, _⟩ => ⟨S1x2048x4x128, .f32⟩
  | .hbm, ⟨118, _⟩ => ⟨S2048x512, .f32⟩
  | .hbm, ⟨119, _⟩ => ⟨S2048x512, .f32⟩
  | .hbm, ⟨120, _⟩ => ⟨S2048x512, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_v30_1 : Ref sig .tc := ⟨.hbm, 41, rfl⟩
abbrev main_call0_v2 : Ref sig .tc := ⟨.hbm, 42, rfl⟩
abbrev main_v30_0 : Ref sig .tc := ⟨.hbm, 43, rfl⟩
abbrev main_call0_cst : Ref sig .tc := ⟨.hbm, 44, rfl⟩
abbrev main_v30_2 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call1_cst : Ref sig .tc := ⟨.hbm, 108, rfl⟩
abbrev main_call1_v0 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S8x128 : Shape := ⟨2, ![8, 128]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S512x2048 : Shape := ⟨2, ![512, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 15
  | .vmem => 41
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x5632, .bf16⟩
  | .hbm, ⟨5, _⟩ => ⟨S2048x5632, .bf16⟩
  | .hbm, ⟨6, _⟩ => ⟨S2048x5632, .bf16⟩
  | .hbm, ⟨7, _⟩ => ⟨S8x128, .f32⟩
  | .hbm, ⟨8, _⟩ => ⟨S2048x5632, .bf16⟩
  | .hbm, ⟨9, _⟩ => ⟨S2048x5632, .bf16⟩
  | .hbm, ⟨10, _⟩ => ⟨S8x128, .f32⟩
  | .hbm, ⟨11, _⟩ => ⟨S5632x2048, .bf16⟩
  | .hbm, ⟨12, _⟩ => ⟨S8x128, .f32⟩
  | .hbm, ⟨13, _⟩ => ⟨S2048x11264, .bf16⟩
  | .hbm, ⟨14, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | .local _ .vmem, ⟨13, _⟩ => ⟨S1024x2048, .bf16⟩
  | .local _ .vmem, ⟨14, _⟩ => ⟨S1024x2048, .bf16⟩
  | .local _ .vmem, ⟨15, _⟩ => ⟨S512x2048, .bf16⟩
  | .local _ .vmem, ⟨16, _⟩ => ⟨S512x2048, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S8x128, .f32⟩
  | .local _ .vmem, ⟨26, _⟩ => ⟨S2048x1408, .bf16⟩
  | .local _ .vmem, ⟨27, _⟩ => ⟨S2048x1408, .bf16⟩
  | .local _ .vmem, ⟨28, _⟩ => ⟨S2048x1024, .bf16⟩
  | .local _ .vmem, ⟨29, _⟩ => ⟨S2048x1024, .bf16⟩
  | .local _ .vmem, ⟨30, _⟩ => ⟨S1408x1024, .bf16⟩
  | .local _ .vmem, ⟨31, _⟩ => ⟨S1408x1024, .bf16⟩
  | .local _ .vmem, ⟨32, _⟩ => ⟨S8x128, .f32⟩
  | .local _ .vmem, ⟨33, _⟩ => ⟨S2048x2048, .bf16⟩
  | .local _ .vmem, ⟨34, _⟩ => ⟨S2048x512, .bf16⟩
  | .local _ .vmem, ⟨35, _⟩ => ⟨S2048x512, .bf16⟩
  | .local _ .vmem, ⟨36, _⟩ => ⟨S2048x512, .bf16⟩
  | .local _ .vmem, ⟨37, _⟩ => ⟨S2048x512, .bf16⟩
  | .local _ .vmem, ⟨38, _⟩ => ⟨S2048x512, .bf16⟩
  | .local _ .vmem, ⟨39, _⟩ => ⟨S2048x512, .bf16⟩
  | .local _ .vmem, ⟨40, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc3_sem0_0 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev grid3 : Pipeline.Grid := ⟨2, ![1, 22], ![false, false]⟩

def k3_cond1 (i : grid3.Coords) : BitVec 1 :=
  let arg1 : BitVec 32 := BitVec.ofNat 32 (i 1).val
  let c11_i32 : BitVec 32 := 11#32
  let v2 : BitVec 1 := Scalar.cmpi .slt arg1 c11_i32
  let v3 : BitVec 32 := Scalar.extui v2
  let c0_i32 : BitVec 32 := 0#32
  let v4 : BitVec 1 := Scalar.cmpi .ne v3 c0_i32
  v4

def k3_cond2 (i : grid3.Coords) : BitVec 1 :=
  let arg1 : BitVec 32 := BitVec.ofNat 32 (i 1).val
  let c11_i32_1 : BitVec 32 := 11#32
  let v5 : BitVec 1 := Scalar.cmpi .sge arg1 c11_i32_1
  let v6 : BitVec 32 := Scalar.extui v5
  let c0_i32_2 : BitVec 32 := 0#32
  let v7 : BitVec 1 := Scalar.cmpi .ne v6 c0_i32_2
  v7

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]
-- ==== Reference2Ideal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .bf16⟩
  | .hbm, ⟨4, _⟩ => ⟨S2048x2048, .f32⟩
  | .hbm, ⟨5, _⟩ => ⟨S2048x11264, .f32⟩
  | .hbm, ⟨6, _⟩ => ⟨S5632x2048, .f32⟩
  | .hbm, ⟨7, _⟩ => ⟨S2048x2048, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x2048, .f32⟩
  | .hbm, ⟨26, _⟩ => ⟨S2048x5632, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S_, .f32⟩
  | .hbm, ⟨36, _⟩ => ⟨S2048x11264, .f32⟩
  | .hbm, ⟨37, _⟩ => ⟨S_, .f32⟩
  | .hbm, ⟨38, _⟩ => ⟨S2048x11264, .f32⟩
  | .hbm, ⟨39, _⟩ => ⟨S2048x11264, .f32⟩
  | .hbm, ⟨40, _⟩ => ⟨S11264x2048, .f32⟩
  | .hbm, ⟨41, _⟩ => ⟨S2048x11264, .f32⟩
  | .hbm, ⟨42, _⟩ => ⟨S2048x2048, .f32⟩
  | .hbm, ⟨43, _⟩ => ⟨S2048x5632, .bf16⟩
  | .hbm, ⟨44, _⟩ => ⟨S2048x5632, .bf16⟩
  | .hbm, ⟨45, _⟩ => ⟨S5632x2048, .bf16⟩
  | .hbm, ⟨46, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel3.lean ====
abbrev S2048x5632 : Shape := ⟨2, ![2048, 5632]⟩
abbrev S2048x11264 : Shape := ⟨2, ![2048, 11264]⟩
abbrev S2048x2048 : Shape := ⟨2, ![2048, 2048]⟩
abbrev S8x128 : Shape := ⟨2, ![8, 128]⟩
abbrev S1024x2816 : Shape := ⟨2, ![1024, 2816]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .bf16⟩
  | .hbm, ⟨3, _⟩ => ⟨S2048x2048, .f32⟩
  | .hbm, ⟨4, _⟩ => ⟨S8x128, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 2, 4], ![false, false, false]⟩

def k0_cond7 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== Reference3Ideal.lean ====
abbrev S2048x5632 : Shape := ⟨2, ![2048, 5632]⟩
abbrev S2048x11264 : Shape := ⟨2, ![2048, 11264]⟩
abbrev S_ : Shape := ⟨0, ![]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .bf16⟩
  | .hbm, ⟨3, _⟩ => ⟨S2048x5632, .f32⟩
  | .hbm, ⟨4, _⟩ => ⟨S2048x5632, .f32⟩
  | .hbm, ⟨5, _⟩ => ⟨S2048x11264, .f32⟩
  | .hbm, ⟨6, _⟩ => ⟨S_, .f32⟩
  | .hbm, ⟨7, _⟩ => ⟨S2048x2048, .f32⟩
  | .hbm, ⟨8, _⟩ => ⟨S2048x11264, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x11264, .f32⟩
  | .hbm, ⟨13, _⟩ => ⟨S_, .f32⟩
  | .hbm, ⟨14, _⟩ => ⟨S2048x11264, .f32⟩
  | .hbm, ⟨15, _⟩ => ⟨S2048x11264, .f32⟩
  | .hbm, ⟨16, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S2048x2048 : Shape := ⟨2, ![2048, 2048]⟩
abbrev S2048x10240 : Shape := ⟨2, ![2048, 10240]⟩
abbrev S8x128 : Shape := ⟨2, ![8, 128]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .bf16⟩
  | .hbm, ⟨3, _⟩ => ⟨S2048x10240, .f32⟩
  | .hbm, ⟨4, _⟩ => ⟨S8x128, .f32⟩
  | .hbm, ⟨5, _⟩ => ⟨S2048x10240, .bf16⟩
  | .hbm, ⟨6, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S2048x2048, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev grid1 : Pipeline.Grid := ⟨3, ![1, 10, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]
-- ==== Reference4Ideal.lean ====
abbrev S2048x2048 : Shape := ⟨2, ![2048, 2048]⟩
abbrev S2048x10240 : Shape := ⟨2, ![2048, 10240]⟩
abbrev S10240x2048 : Shape := ⟨2, ![10240, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .bf16⟩
  | .hbm, ⟨3, _⟩ => ⟨S2048x2048, .f32⟩
  | .hbm, ⟨4, _⟩ => ⟨S2048x10240, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S2048x10240, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x10240 : Shape := ⟨2, ![2048, 10240]⟩
abbrev S2048x2048 : Shape := ⟨2, ![2048, 2048]⟩
abbrev S8x128 : Shape := ⟨2, ![8, 128]⟩
abbrev S1024x2560 : Shape := ⟨2, ![1024, 2560]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x2048, .f32⟩
  | .hbm, ⟨3, _⟩ => ⟨S8x128, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== Reference5Ideal.lean ====
abbrev S2048x10240 : Shape := ⟨2, ![2048, 10240]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S2048x10240, .f32⟩
  | .hbm, ⟨3, _⟩ => ⟨S2048x10240, .f32⟩
  | .hbm, ⟨4, _⟩ => ⟨S_, .f32⟩
  | .hbm, ⟨5, _⟩ => ⟨S2048x2048, .f32⟩
  | .hbm, ⟨6, _⟩ => ⟨S2048x10240, .f32⟩
  | .hbm, ⟨7, _⟩ => ⟨S2048x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x512 : Shape := ⟨2, ![2048, 512]⟩
abbrev S512x2048 : Shape := ⟨2, ![512, 2048]⟩
abbrev S2048x10240 : Shape := ⟨2, ![2048, 10240]⟩
abbrev S2048x2048 : Shape := ⟨2, ![2048, 2048]⟩
abbrev S8x128 : Shape := ⟨2, ![8, 128]⟩
abbrev S512x512 : Shape := ⟨2, ![512, 512]⟩
abbrev S256x512 : Shape := ⟨2, ![256, 512]⟩
abbrev S256x2048 : Shape := ⟨2, ![256, 2048]⟩
abbrev S1024x2048 : Shape := ⟨2, ![1024, 2048]⟩
abbrev S1024x512 : Shape := ⟨2, ![1024, 512]⟩
abbrev S2048x1024 : Shape := ⟨2, ![2048, 1024]⟩
abbrev S512x1024 : Shape := ⟨2, ![512, 1024]⟩

abbrev nBuf : Space → Nat
  | .hbm => 26
  | .vmem => 68
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x10240, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S8x128, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S8x128, .f32⟩
  | .hbm, ⟨16, _⟩ => ⟨S2048x2048, .bf16⟩
  | .hbm, ⟨17, _⟩ => ⟨S8x128, .f32⟩
  | .hbm, ⟨18, _⟩ => ⟨S2048x512, .f32⟩
  | .hbm, ⟨19, _⟩ => ⟨S8x128, .f32⟩
  | .hbm, ⟨20, _⟩ => ⟨S2048x512, .f32⟩
  | .hbm, ⟨21, _⟩ => ⟨S8x128, .f32⟩
  | .hbm, ⟨22, _⟩ => ⟨S512x2048, .bf16⟩
  | .hbm, ⟨23, _⟩ => ⟨S8x128, .f32⟩
  | .hbm, ⟨24, _⟩ => ⟨S512x2048, .bf16⟩
  | .hbm, ⟨25, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S8x128, .f32⟩
  | .local _ .vmem, ⟨17, _⟩ => ⟨S1024x2048, .bf16⟩
  | .local _ .vmem, ⟨18, _⟩ => ⟨S1024x2048, .bf16⟩
  | .local _ .vmem, ⟨19, _⟩ => ⟨S512x2048, .bf16⟩
  | .local _ .vmem, ⟨20, _⟩ => ⟨S512x2048, .bf16⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S1024x512, .bf16⟩
  | .local _ .vmem, ⟨35, _⟩ => ⟨S1024x512, .bf16⟩
  | .local _ .vmem, ⟨36, _⟩ => ⟨S1024x512, .bf16⟩
  | .local _ .vmem, ⟨37, _⟩ => ⟨S8x128, .f32⟩
  | .local _ .vmem, ⟨38, _⟩ => ⟨S2048x2048, .bf16⟩
  | .local _ .vmem, ⟨39, _⟩ => ⟨S2048x1024, .bf16⟩
  | .local _ .vmem, ⟨40, _⟩ => ⟨S2048x1024, .bf16⟩
  | .local _ .vmem, ⟨41, _⟩ => ⟨S2048x1024, .bf16⟩
  | .local _ .vmem, ⟨42, _⟩ => ⟨S2048x1024, .bf16⟩
  | .local _ .vmem, ⟨43, _⟩ => ⟨S8x128, .f32⟩
  | .local _ .vmem, ⟨44, _⟩ => ⟨S1024x2048, .bf16⟩
  | .local _ .vmem, ⟨45, _⟩ => ⟨S1024x2048, .bf16⟩
  | .local _ .vmem, ⟨46, _⟩ => ⟨S512x2048, .bf16⟩
  | .local _ .vmem, ⟨47, _⟩ => ⟨S1024x512, .f32⟩
  | .local _ .vmem, ⟨48, _⟩ => ⟨S1024x512, .f32⟩
  | .local _ .vmem, ⟨49, _⟩ => ⟨S8x128, .f32⟩
  | .local _ .vmem, ⟨50, _⟩ => ⟨S1024x2048, .bf16⟩
  | .local _ .vmem, ⟨51, _⟩ => ⟨S1024x2048, .bf16⟩
  | .local _ .vmem, ⟨52, _⟩ => ⟨S512x2048, .bf16⟩
  | .local _ .vmem, ⟨53, _⟩ => ⟨S1024x512, .f32⟩
  | .local _ .vmem, ⟨54, _⟩ => ⟨S1024x512, .f32⟩
  | .local _ .vmem, ⟨55, _⟩ => ⟨S8x128, .f32⟩
  | .local _ .vmem, ⟨56, _⟩ => ⟨S2048x512, .bf16⟩
  | .local _ .vmem, ⟨57, _⟩ => ⟨S2048x1024, .bf16⟩
  | .local _ .vmem, ⟨58, _⟩ => ⟨S2048x1024, .bf16⟩
  | .local _ .vmem, ⟨59, _⟩ => ⟨S512x1024, .bf16⟩
  | .local _ .vmem, ⟨60, _⟩ => ⟨S512x1024, .bf16⟩
  | .local _ .vmem, ⟨61, _⟩ => ⟨S8x128, .f32⟩
  | .local _ .vmem, ⟨62, _⟩ => ⟨S2048x512, .bf16⟩
  | .local _ .vmem, ⟨63, _⟩ => ⟨S2048x1024, .bf16⟩
  | .local _ .vmem, ⟨64, _⟩ => ⟨S2048x1024, .bf16⟩
  | .local _ .vmem, ⟨65, _⟩ => ⟨S512x1024, .bf16⟩
  | .local _ .vmem, ⟨66, _⟩ => ⟨S512x1024, .bf16⟩
  | .local _ .vmem, ⟨67, _⟩ => ⟨S8x128, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v2_0 : Ref sig .tc := ⟨.hbm, 16, rfl⟩
abbrev main_v2_1 : Ref sig .tc := ⟨.hbm, 17, rfl⟩
abbrev main_v3_0 : Ref sig .tc := ⟨.hbm, 18, rfl⟩
abbrev main_v3_1 : Ref sig .tc := ⟨.hbm, 19, rfl⟩
abbrev main_v4_0 : Ref sig .tc := ⟨.hbm, 20, rfl⟩
abbrev main_v4_1 : Ref sig .tc := ⟨.hbm, 21, rfl⟩
abbrev main_v5_0 : Ref sig .tc := ⟨.hbm, 22, rfl⟩
abbrev main_v5_1 : Ref sig .tc := ⟨.hbm, 23, rfl⟩
abbrev main_v6_0 : Ref sig .tc := ⟨.hbm, 24, rfl⟩
abbrev main_v6_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc2_stg0_0 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc5_stg0_0 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc6_stg0_0 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_stg3_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc2_sem0_0 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc3_sem0_0 : DmaSem sig := 44
abbrev cc3_sem0_1 : DmaSem sig := 45
abbrev cc3_sem1_0 : DmaSem sig := 46
abbrev cc3_sem2_0 : DmaSem sig := 47
abbrev cc3_sem2_1 : DmaSem sig := 48
abbrev cc3_sem3_0 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem2_1 : DmaSem sig := 54
abbrev cc4_sem3_0 : DmaSem sig := 55
abbrev cc5_sem0_0 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc6_sem0_0 : DmaSem sig := 62
abbrev cc6_sem1_0 : DmaSem sig := 63
abbrev cc6_sem1_1 : DmaSem sig := 64
abbrev cc6_sem2_0 : DmaSem sig := 65
abbrev cc6_sem2_1 : DmaSem sig := 66
abbrev cc6_sem3_0 : DmaSem sig := 67

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1024x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 1 → Memref sig .tc .vmem S8x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 1 → Memref sig .tc .vmem S8x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 1 → Memref sig .tc .vmem S8x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false, false]
-- ==== Reference6Ideal.lean ====
abbrev S2048x512 : Shape := ⟨2, ![2048, 512]⟩
abbrev S512x2048 : Shape := ⟨2, ![512, 2048]⟩
abbrev S2048x10240 : Shape := ⟨2, ![2048, 10240]⟩
abbrev S2048x2048 : Shape := ⟨2, ![2048, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x2048, .bf16⟩
  | .hbm, ⟨3, _⟩ => ⟨S512x2048, .bf16⟩
  | .hbm, ⟨4, _⟩ => ⟨S2048x10240, .f32⟩
  | .hbm, ⟨5, _⟩ => ⟨S2048x2048, .bf16⟩
  | .hbm, ⟨6, _⟩ => ⟨S2048x2048, .bf16⟩
  | .hbm, ⟨7, _⟩ => ⟨S2048x512, .f32⟩
  | .hbm, ⟨8, _⟩ => ⟨S2048x512, .f32⟩
  | .hbm, ⟨9, _⟩ => ⟨S512x2048, .f32⟩
  | .hbm, ⟨10, _⟩ => ⟨S512x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x512, .f32⟩
  | .hbm, ⟨55, _⟩ => ⟨S512x2048, .f32⟩
  | .hbm, ⟨56, _⟩ => ⟨S2048x512, .f32⟩
  | .hbm, ⟨57, _⟩ => ⟨S2048x512, .f32⟩
  | .hbm, ⟨58, _⟩ => ⟨S512x2048, .f32⟩
  | .hbm, ⟨59, _⟩ => ⟨S2048x512, .f32⟩
  | .hbm, ⟨60, _⟩ => ⟨S512x2048, .bf16⟩
  | .hbm, ⟨61, _⟩ => ⟨S512x2048, .bf16⟩
  | .hbm, ⟨62, _⟩ => ⟨S2048x2048, .bf16⟩
  | .hbm, ⟨63, _⟩ => ⟨S2048x2048, .bf16⟩
  | .hbm, ⟨64, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Kernel7.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S8x128 : Shape := ⟨2, ![8, 128]⟩
abbrev S512x1408 : Shape := ⟨2, ![512, 1408]⟩
abbrev S1408x2048 : Shape := ⟨2, ![1408, 2048]⟩
abbrev S512x2048 : Shape := ⟨2, ![512, 2048]⟩
abbrev S256x2048 : Shape := ⟨2, ![256, 2048]⟩
abbrev S256x1408 : Shape := ⟨2, ![256, 1408]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S8x128, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S8x128, .f32⟩
  | .local _ .vmem, ⟨17, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_4 : BitVec 32 := 3#32
  let v10 : BitVec 1 := Scalar.cmpi .eq arg1 c3_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference7Ideal.lean ====
abbrev S2048x5632 : Shape := ⟨2, ![2048, 5632]⟩
abbrev S5632x2048 : Shape := ⟨2, ![5632, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x5632, .f32⟩
  | .hbm, ⟨8, _⟩ => ⟨S5632x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel8.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S8x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference8Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel9.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel10.lean ====
abbrev S2x2048x1536 : Shape := ⟨3, ![2, 2048, 1536]⟩
abbrev S8x128 : Shape := ⟨2, ![8, 128]⟩
abbrev S1x256x1536 : Shape := ⟨3, ![1, 256, 1536]⟩
abbrev S256x1536 : Shape := ⟨2, ![256, 1536]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S2x2048x1536, .f32⟩
  | .hbm, ⟨5, _⟩ => ⟨S2x2048x1536, .f32⟩
  | .hbm, ⟨6, _⟩ => ⟨S2x2048x1536, .f32⟩
  | .hbm, ⟨7, _⟩ => ⟨S8x128, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S8x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S2x2048x1536 : Shape := ⟨3, ![2, 2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1536, .f32⟩
  | .hbm, ⟨1, _⟩ => ⟨S2x2048x1536, .f32⟩
  | .hbm, ⟨2, _⟩ => ⟨S2x2048x1536, .f32⟩
  | .hbm, ⟨3, _⟩ => ⟨S2x2048x1536, .f32⟩
  | .hbm, ⟨4, _⟩ => ⟨S_, .f32⟩
  | .hbm, ⟨5, _⟩ => ⟨S2x2048x1536, .f32⟩
  | .hbm, ⟨6, _⟩ => ⟨S2x2048x1536, .f32⟩
  | .hbm, ⟨7, _⟩ => ⟨S_, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S_, .f32⟩
  | .hbm, ⟨12, _⟩ => ⟨S2x2048x1536, .f32⟩
  | .hbm, ⟨13, _⟩ => ⟨S2x2048x1536, .f32⟩
  | .hbm, ⟨14, _⟩ => ⟨S2x2048x1536, .f32⟩
  | .hbm, ⟨15, _⟩ => ⟨S_, .f32⟩
  | .hbm, ⟨16, _⟩ => ⟨S2x2048x1536, .f32⟩
  | .hbm, ⟨17, _⟩ => ⟨S2x2048x1536, .f32⟩
  | .hbm, ⟨18, _⟩ => ⟨S2x2048x1536, .f32⟩
  | .hbm, ⟨19, _⟩ => ⟨S_, .f32⟩
  | .hbm, ⟨20, _⟩ => ⟨S2x2048x1536, .f32⟩
  | .hbm, ⟨21, _⟩ => ⟨S2x2048x1536, .f32⟩
  | .hbm, ⟨22, _⟩ => ⟨S_, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S_, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S_, .f32⟩
  | .hbm, ⟨35, _⟩ => ⟨S2x2048x1536, .f32⟩
  | .hbm, ⟨36, _⟩ => ⟨S2x2048x1536, .f32⟩
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2048x2048 : Shape := ⟨2, ![2048, 2048]⟩
abbrev S1x2048 : Shape := ⟨2, ![1, 2048]⟩
abbrev S1x128 : Shape := ⟨2, ![1, 128]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S1x2048, .f32⟩
  | .hbm, ⟨4, _⟩ => ⟨S1x128, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .bf16⟩
  | .hbm, ⟨37, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel12.lean ====
abbrev S8x1x33280 : Shape := ⟨3, ![8, 1, 33280]⟩
abbrev S1x33280 : Shape := ⟨2, ![1, 33280]⟩
abbrev S8x128 : Shape := ⟨2, ![8, 128]⟩
abbrev S1x1x33280 : Shape := ⟨3, ![1, 1, 33280]⟩

abbrev nBuf : Space → Nat
  | .hbm => 9
  | .vmem => 9
  | .smem => 0
  | _ => 0

abbrev bufTy : (tb : Table) → Fin (tcTables nBuf tb) → BufTy
  | .hbm, ⟨0, _⟩ => ⟨S8x1x33280, .f32⟩
  | .hbm, ⟨1, _⟩ => ⟨S1x33280, .f32⟩
  | .hbm, ⟨2, _⟩ => ⟨S1x33280, .f32⟩
  | .hbm, ⟨3, _⟩ => ⟨S1x33280, .f32⟩
  | .hbm, ⟨4, _⟩ => ⟨S1x33280, .f32⟩
  | .hbm, ⟨5, _⟩ => ⟨S1x33280, .f32⟩
  | .hbm, ⟨6, _⟩ => ⟨S1x33280, .f32⟩
  | .hbm, ⟨7, _⟩ => ⟨S1x33280, .f32⟩
  | .hbm, ⟨8, _⟩ => ⟨S8x128, .f32⟩
  | .local _ .vmem, ⟨0, _⟩ => ⟨S8x1x33280, .f32⟩
  | .local _ .vmem, ⟨1, _⟩ => ⟨S1x33280, .f32⟩
  | .local _ .vmem, ⟨2, _⟩ => ⟨S1x33280, .f32⟩
  | .local _ .vmem, ⟨3, _⟩ => ⟨S1x33280, .f32⟩
  | .local _ .vmem, ⟨4, _⟩ => ⟨S1x33280, .f32⟩
  | .local _ .vmem, ⟨5, _⟩ => ⟨S1x33280, .f32⟩
  | .local _ .vmem, ⟨6, _⟩ => ⟨S1x33280, .f32⟩
  | .local _ .vmem, ⟨7, _⟩ => ⟨S1x33280, .f32⟩
  | .local _ .vmem, ⟨8, _⟩ => ⟨S8x128, .f32⟩
  | _, _ => ⟨S8x1x33280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x1x33280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x33280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x33280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x33280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x33280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x33280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x33280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x33280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference12Ideal.lean ====
abbrev S8x1x33280 : Shape := ⟨3, ![8, 1, 33280]⟩
abbrev S1x33280 : Shape := ⟨2, ![1, 33280]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x33280, .f32⟩
  | .hbm, ⟨1, _⟩ => ⟨S1x33280, .f32⟩
  | .hbm, ⟨2, _⟩ => ⟨S1x33280, .f32⟩
  | .hbm, ⟨3, _⟩ => ⟨S1x33280, .f32⟩
  | .hbm, ⟨4, _⟩ => ⟨S_, .f32⟩
  | .hbm, ⟨5, _⟩ => ⟨S1x33280, .f32⟩
  | .hbm, ⟨6, _⟩ => ⟨S_, .f32⟩
  | .hbm, ⟨7, _⟩ => ⟨S1x33280, .f32⟩
  | .hbm, ⟨8, _⟩ => ⟨S1x33280, .f32⟩
  | .hbm, ⟨9, _⟩ => ⟨S_, .f32⟩
  | .hbm, ⟨10, _⟩ => ⟨S1x33280, .f32⟩
  | .hbm, ⟨11, _⟩ => ⟨S1x33280, .f32⟩
  | .hbm, ⟨12, _⟩ => ⟨S1x33280, .f32⟩
  | .hbm, ⟨13, _⟩ => ⟨S_, .f32⟩
  | .hbm, ⟨14, _⟩ => ⟨S1x33280, .f32⟩
  | .hbm, ⟨15, _⟩ => ⟨S1x33280, .f32⟩
  | .hbm, ⟨16, _⟩ => ⟨S1x33280, .f32⟩
  | .hbm, ⟨17, _⟩ => ⟨S_, .f32⟩
  | .hbm, ⟨18, _⟩ => ⟨S1x33280, .f32⟩
  | .hbm, ⟨19, _⟩ => ⟨S1x33280, .f32⟩
  | .hbm, ⟨20, _⟩ => ⟨S1x33280, .f32⟩
  | .hbm, ⟨21, _⟩ => ⟨S_, .f32⟩
  | .hbm, ⟨22, _⟩ => ⟨S1x33280, .f32⟩
  | .hbm, ⟨23, _⟩ => ⟨S1x33280, .f32⟩
  | .hbm, ⟨24, _⟩ => ⟨S_, .f32⟩
  | .hbm, ⟨25, _⟩ => ⟨S1x33280, .f32⟩
  | .hbm, ⟨26, _⟩ => ⟨S1x33280, .f32⟩
  | .hbm, ⟨27, _⟩ => ⟨S1x33280, .f32⟩
  | .hbm, ⟨28, _⟩ => ⟨S_, .f32⟩
  | .hbm, ⟨29, _⟩ => ⟨S1x33280, .f32⟩
  | .hbm, ⟨30, _⟩ => ⟨S1x33280, .f32⟩
  | .hbm, ⟨31, _⟩ => ⟨S1x33280, .f32⟩
  | .hbm, ⟨32, _⟩ => ⟨S_, .f32⟩
  | .hbm, ⟨33, _⟩ => ⟨S1x33280, .f32⟩
  | .hbm, ⟨34, _⟩ => ⟨S1x33280, .f32⟩
  | .hbm, ⟨35, _⟩ => ⟨S1x33280, .f32⟩
  | .hbm, ⟨36, _⟩ => ⟨S_, .f32⟩
  | .hbm, ⟨37, _⟩ => ⟨S1x33280, .f32⟩
  | .hbm, ⟨38, _⟩ => ⟨S1x33280, .f32⟩
  | _, _ => ⟨S8x1x33280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S2048x512 : Shape := ⟨2, ![2048, 512]⟩
abbrev S8x128 : Shape := ⟨2, ![8, 128]⟩
abbrev S1024x512 : Shape := ⟨2, ![1024, 512]⟩

abbrev nBuf : Space → Nat
  | .hbm => 8
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .bf16⟩
  | .hbm, ⟨7, _⟩ => ⟨S8x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S2048x512 : Shape := ⟨2, ![2048, 512]⟩
abbrev S1x2048x512 : Shape := ⟨3, ![1, 2048, 512]⟩
abbrev S3x2048x512 : Shape := ⟨3, ![3, 2048, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .hbm, ⟨9, _⟩ => ⟨S3x2048x512, .f32⟩
  | .hbm, ⟨10, _⟩ => ⟨S_, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S1x2048x512, .f32⟩
  | .hbm, ⟨16, _⟩ => ⟨S3x2048x512, .f32⟩
  | .hbm, ⟨17, _⟩ => ⟨S3x2048x512, .f32⟩
  | .hbm, ⟨18, _⟩ => ⟨S3x2048x512, .f32⟩
  | .hbm, ⟨19, _⟩ => ⟨S_, .f32⟩
  | .hbm, ⟨20, _⟩ => ⟨S2048x512, .f32⟩
  | .hbm, ⟨21, _⟩ => ⟨S1x2048x512, .f32⟩
  | .hbm, ⟨22, _⟩ => ⟨S3x2048x512, .f32⟩
  | .hbm, ⟨23, _⟩ => ⟨S3x2048x512, .f32⟩
  | .hbm, ⟨24, _⟩ => ⟨S1x2048x512, .f32⟩
  | .hbm, ⟨25, _⟩ => ⟨S1x2048x512, .f32⟩
  | .hbm, ⟨26, _⟩ => ⟨S1x2048x512, .f32⟩
  | .hbm, ⟨27, _⟩ => ⟨S3x2048x512, .f32⟩
  | .hbm, ⟨28, _⟩ => ⟨S3x2048x512, .f32⟩
  | .hbm, ⟨29, _⟩ => ⟨S_, .f32⟩
  | .hbm, ⟨30, _⟩ => ⟨S2048x512, .f32⟩
  | .hbm, ⟨31, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel14.lean ====
abbrev S2048x10240 : Shape := ⟨2, ![2048, 10240]⟩
abbrev S2x1x128 : Shape := ⟨3, ![2, 1, 128]⟩
abbrev S2048x128 : Shape := ⟨2, ![2048, 128]⟩
abbrev S2048x3072 : Shape := ⟨2, ![2048, 3072]⟩
abbrev S8x128 : Shape := ⟨2, ![8, 128]⟩
abbrev S256x1536 : Shape := ⟨2, ![256, 1536]⟩
abbrev S1x1x128 : Shape := ⟨3, ![1, 1, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x10240, .f32⟩
  | .hbm, ⟨1, _⟩ => ⟨S2x1x128, .f32⟩
  | .hbm, ⟨2, _⟩ => ⟨S2048x128, .f32⟩
  | .hbm, ⟨3, _⟩ => ⟨S2048x128, .f32⟩
  | .hbm, ⟨4, _⟩ => ⟨S2048x3072, .bf16⟩
  | .hbm, ⟨5, _⟩ => ⟨S2048x3072, .f32⟩
  | .hbm, ⟨6, _⟩ => ⟨S8x128, .f32⟩
  | .local _ .vmem, ⟨0, _⟩ => ⟨S256x1536, .f32⟩
  | .local _ .vmem, ⟨1, _⟩ => ⟨S256x1536, .f32⟩
  | .local _ .vmem, ⟨2, _⟩ => ⟨S1x1x128, .f32⟩
  | .local _ .vmem, ⟨3, _⟩ => ⟨S1x1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1536, .bf16⟩
  | .local _ .vmem, ⟨9, _⟩ => ⟨S256x1536, .bf16⟩
  | .local _ .vmem, ⟨10, _⟩ => ⟨S256x1536, .f32⟩
  | .local _ .vmem, ⟨11, _⟩ => ⟨S256x1536, .f32⟩
  | .local _ .vmem, ⟨12, _⟩ => ⟨S8x128, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference14Ideal.lean ====
abbrev S2048x10240 : Shape := ⟨2, ![2048, 10240]⟩
abbrev S2x1x128 : Shape := ⟨3, ![2, 1, 128]⟩
abbrev S2048x128 : Shape := ⟨2, ![2048, 128]⟩
abbrev S2048x3072 : Shape := ⟨2, ![2048, 3072]⟩
abbrev S2048x2x12x128 : Shape := ⟨4, ![2048, 2, 12, 128]⟩
abbrev S1x2x1x128 : Shape := ⟨4, ![1, 2, 1, 128]⟩
abbrev S_ : Shape := ⟨0, ![]⟩
abbrev S2048x2x12 : Shape := ⟨3, ![2048, 2, 12]⟩
abbrev S2048x2x12x1 : Shape := ⟨4, ![2048, 2, 12, 1]⟩
abbrev S2048x2x12x64 : Shape := ⟨4, ![2048, 2, 12, 64]⟩
abbrev S2048x1x1x128 : Shape := ⟨4, ![2048, 1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x10240, .f32⟩
  | .hbm, ⟨1, _⟩ => ⟨S2x1x128, .f32⟩
  | .hbm, ⟨2, _⟩ => ⟨S2048x128, .f32⟩
  | .hbm, ⟨3, _⟩ => ⟨S2048x128, .f32⟩
  | .hbm, ⟨4, _⟩ => ⟨S2048x3072, .f32⟩
  | .hbm, ⟨5, _⟩ => ⟨S2048x2x12x128, .f32⟩
  | .hbm, ⟨6, _⟩ => ⟨S1x2x1x128, .f32⟩
  | .hbm, ⟨7, _⟩ => ⟨S2048x2x12x128, .f32⟩
  | .hbm, ⟨8, _⟩ => ⟨S_, .f32⟩
  | .hbm, ⟨9, _⟩ => ⟨S2048x2x12, .f32⟩
  | .hbm, ⟨10, _⟩ => ⟨S2048x2x12x1, .f32⟩
  | .hbm, ⟨11, _⟩ => ⟨S_, .f32⟩
  | .hbm, ⟨12, _⟩ => ⟨S2048x2x12x1, .f32⟩
  | .hbm, ⟨13, _⟩ => ⟨S2048x2x12x1, .f32⟩
  | .hbm, ⟨14, _⟩ => ⟨S_, .f32⟩
  | .hbm, ⟨15, _⟩ => ⟨S2048x2x12x1, .f32⟩
  | .hbm, ⟨16, _⟩ => ⟨S2048x2x12x1, .f32⟩
  | .hbm, ⟨17, _⟩ => ⟨S2048x2x12x1, .f32⟩
  | .hbm, ⟨18, _⟩ => ⟨S2048x2x12x128, .f32⟩
  | .hbm, ⟨19, _⟩ => ⟨S2048x2x12x128, .f32⟩
  | .hbm, ⟨20, _⟩ => ⟨S2048x2x12x128, .f32⟩
  | .hbm, ⟨21, _⟩ => ⟨S2048x2x12x128, .f32⟩
  | .hbm, ⟨22, _⟩ => ⟨S2048x2x12x64, .f32⟩
  | .hbm, ⟨23, _⟩ => ⟨S2048x2x12x64, .f32⟩
  | .hbm, ⟨24, _⟩ => ⟨S2048x2x12x128, .f32⟩
  | .hbm, ⟨25, _⟩ => ⟨S2048x1x1x128, .f32⟩
  | .hbm, ⟨26, _⟩ => ⟨S2048x2x12x128, .f32⟩
  | .hbm, ⟨27, _⟩ => ⟨S2048x2x12x128, .f32⟩
  | .hbm, ⟨28, _⟩ => ⟨S2048x1x1x128, .f32⟩
  | .hbm, ⟨29, _⟩ => ⟨S2048x2x12x128, .f32⟩
  | .hbm, ⟨30, _⟩ => ⟨S2048x2x12x128, .f32⟩
  | .hbm, ⟨31, _⟩ => ⟨S2048x2x12x128, .f32⟩
  | .hbm, ⟨32, _⟩ => ⟨S2048x3072, .f32⟩
  | .hbm, ⟨33, _⟩ => ⟨S2048x3072, .bf16⟩
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel15.lean ====
abbrev S2048x512 : Shape := ⟨2, ![2048, 512]⟩
abbrev S2048x4 : Shape := ⟨2, ![2048, 4]⟩
abbrev S2048x4x1 : Shape := ⟨3, ![2048, 4, 1]⟩
abbrev S2048x4x128 : Shape := ⟨3, ![2048, 4, 128]⟩
abbrev S8x128 : Shape := ⟨2, ![8, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x4, .f32⟩
  | .hbm, ⟨5, _⟩ => ⟨S2048x4, .f32⟩
  | .hbm, ⟨6, _⟩ => ⟨S2048x4, .f32⟩
  | .hbm, ⟨7, _⟩ => ⟨S2048x4x1, .f32⟩
  | .hbm, ⟨8, _⟩ => ⟨S2048x4x128, .f32⟩
  | .hbm, ⟨9, _⟩ => ⟨S2048x512, .f32⟩
  | .hbm, ⟨10, _⟩ => ⟨S2048x4x1, .f32⟩
  | .hbm, ⟨11, _⟩ => ⟨S2048x4x128, .f32⟩
  | .hbm, ⟨12, _⟩ => ⟨S2048x512, .f32⟩
  | .hbm, ⟨13, _⟩ => ⟨S2048x4x1, .f32⟩
  | .hbm, ⟨14, _⟩ => ⟨S2048x4x128, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S8x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference15Ideal.lean ====
abbrev S2048x512 : Shape := ⟨2, ![2048, 512]⟩
abbrev S2048x4 : Shape := ⟨2, ![2048, 4]⟩
abbrev S1x2048x512 : Shape := ⟨3, ![1, 2048, 512]⟩
abbrev S3x2048x512 : Shape := ⟨3, ![3, 2048, 512]⟩
abbrev S3x2048x4x128 : Shape := ⟨4, ![3, 2048, 4, 128]⟩
abbrev S1x2048x4 : Shape := ⟨3, ![1, 2048, 4]⟩
abbrev S3x2048x4 : Shape := ⟨3, ![3, 2048, 4]⟩
abbrev S_ : Shape := ⟨0, ![]⟩
abbrev S3x2048x4x1 : Shape := ⟨4, ![3, 2048, 4, 1]⟩
abbrev S2048x4x128 : Shape := ⟨3, ![2048, 4, 128]⟩
abbrev S1x2048x4x128 : Shape := ⟨4, ![1, 2048, 4, 128]⟩

abbrev nBuf : Space → Nat
  | .hbm => 103
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x4, .f32⟩
  | .hbm, ⟨5, _⟩ => ⟨S2048x4, .f32⟩
  | .hbm, ⟨6, _⟩ => ⟨S2048x4, .f32⟩
  | .hbm, ⟨7, _⟩ => ⟨S1x2048x512, .f32⟩
  | .hbm, ⟨8, _⟩ => ⟨S1x2048x512, .f32⟩
  | .hbm, ⟨9, _⟩ => ⟨S1x2048x512, .f32⟩
  | .hbm, ⟨10, _⟩ => ⟨S3x2048x512, .f32⟩
  | .hbm, ⟨11, _⟩ => ⟨S3x2048x4x128, .f32⟩
  | .hbm, ⟨12, _⟩ => ⟨S1x2048x4, .f32⟩
  | .hbm, ⟨13, _⟩ => ⟨S1x2048x4, .f32⟩
  | .hbm, ⟨14, _⟩ => ⟨S1x2048x4, .f32⟩
  | .hbm, ⟨15, _⟩ => ⟨S3x2048x4, .f32⟩
  | .hbm, ⟨16, _⟩ => ⟨S_, .f32⟩
  | .hbm, ⟨17, _⟩ => ⟨S2048x4, .f32⟩
  | .hbm, ⟨18, _⟩ => ⟨S1x2048x4, .f32⟩
  | .hbm, ⟨19, _⟩ => ⟨S3x2048x4, .f32⟩
  | .hbm, ⟨20, _⟩ => ⟨S3x2048x4, .i1⟩
  | .hbm, ⟨21, _⟩ => ⟨S3x2048x4, .f32⟩
  | .hbm, ⟨22, _⟩ => ⟨S_, .f32⟩
  | .hbm, ⟨23, _⟩ => ⟨S2048x4, .f32⟩
  | .hbm, ⟨24, _⟩ => ⟨S_, .f32⟩
  | .hbm, ⟨25, _⟩ => ⟨S2048x4, .f32⟩
  | .hbm, ⟨26, _⟩ => ⟨S2048x4, .f32⟩
  | .hbm, ⟨27, _⟩ => ⟨S_, .f32⟩
  | .hbm, ⟨28, _⟩ => ⟨S2048x4, .f32⟩
  | .hbm, ⟨29, _⟩ => ⟨S2048x4, .i1⟩
  | .hbm, ⟨30, _⟩ => ⟨S_, .f32⟩
  | .hbm, ⟨31, _⟩ => ⟨S2048x4, .f32⟩
  | .hbm, ⟨32, _⟩ => ⟨S2048x4, .i1⟩
  | .hbm, ⟨33, _⟩ => ⟨S_, .f32⟩
  | .hbm, ⟨34, _⟩ => ⟨S2048x4, .f32⟩
  | .hbm, ⟨35, _⟩ => ⟨S_, .f32⟩
  | .hbm, ⟨36, _⟩ => ⟨S2048x4, .f32⟩
  | .hbm, ⟨37, _⟩ => ⟨S_, .f32⟩
  | .hbm, ⟨38, _⟩ => ⟨S2048x4, .f32⟩
  | .hbm, ⟨39, _⟩ => ⟨S2048x4, .f32⟩
  | .hbm, ⟨40, _⟩ => ⟨S2048x4, .f32⟩
  | .hbm, ⟨41, _⟩ => ⟨S1x2048x4, .f32⟩
  | .hbm, ⟨42, _⟩ => ⟨S3x2048x4, .f32⟩
  | .hbm, ⟨43, _⟩ => ⟨S3x2048x4, .f32⟩
  | .hbm, ⟨44, _⟩ => ⟨S3x2048x4, .f32⟩
  | .hbm, ⟨45, _⟩ => ⟨S_, .f32⟩
  | .hbm, ⟨46, _⟩ => ⟨S2048x4, .f32⟩
  | .hbm, ⟨47, _⟩ => ⟨S1x2048x4, .f32⟩
  | .hbm, ⟨48, _⟩ => ⟨S3x2048x4, .f32⟩
  | .hbm, ⟨49, _⟩ => ⟨S3x2048x4, .f32⟩
  | .hbm, ⟨50, _⟩ => ⟨S1x2048x4, .f32⟩
  | .hbm, ⟨51, _⟩ => ⟨S_, .f32⟩
  | .hbm, ⟨52, _⟩ => ⟨S1x2048x4, .f32⟩
  | .hbm, ⟨53, _⟩ => ⟨S1x2048x4, .f32⟩
  | .hbm, ⟨54, _⟩ => ⟨S3x2048x4x1, .f32⟩
  | .hbm, ⟨55, _⟩ => ⟨S3x2048x4x128, .f32⟩
  | .hbm, ⟨56, _⟩ => ⟨S3x2048x4x128, .f32⟩
  | .hbm, ⟨57, _⟩ => ⟨S_, .f32⟩
  | .hbm, ⟨58, _⟩ => ⟨S2048x4x128, .f32⟩
  | .hbm, ⟨59, _⟩ => ⟨S2048x4x128, .f32⟩
  | .hbm, ⟨60, _⟩ => ⟨S3x2048x4x128, .f32⟩
  | .hbm, ⟨61, _⟩ => ⟨S3x2048x4x128, .f32⟩
  | .hbm, ⟨62, _⟩ => ⟨S3x2048x4x128, .f32⟩
  | .hbm, ⟨63, _⟩ => ⟨S3x2048x4x128, .f32⟩
  | .hbm, ⟨64, _⟩ => ⟨S_, .f32⟩
  | .hbm, ⟨65, _⟩ => ⟨S3x2048x4, .f32⟩
  | .hbm, ⟨66, _⟩ => ⟨S3x2048x4x1, .f32⟩
  | .hbm, ⟨67, _⟩ => ⟨S_, .f32⟩
  | .hbm, ⟨68, _⟩ => ⟨S3x2048x4, .f32⟩
  | .hbm, ⟨69, _⟩ => ⟨S3x2048x4, .f32⟩
  | .hbm, ⟨70, _⟩ => ⟨S3x2048x4, .f32⟩
  | .hbm, ⟨71, _⟩ => ⟨S3x2048x4, .f32⟩
  | .hbm, ⟨72, _⟩ => ⟨S_, .f32⟩
  | .hbm, ⟨73, _⟩ => ⟨S2048x4, .f32⟩
  | .hbm, ⟨74, _⟩ => ⟨S1x2048x4, .f32⟩
  | .hbm, ⟨75, _⟩ => ⟨S1x2048x4, .f32⟩
  | .hbm, ⟨76, _⟩ => ⟨S3x2048x4, .f32⟩
  | .hbm, ⟨77, _⟩ => ⟨S3x2048x4, .f32⟩
  | .hbm, ⟨78, _⟩ => ⟨S_, .f32⟩
  | .hbm, ⟨79, _⟩ => ⟨S2048x4, .f32⟩
  | .hbm, ⟨80, _⟩ => ⟨S3x2048x4, .f32⟩
  | .hbm, ⟨81, _⟩ => ⟨S3x2048x4, .f32⟩
  | .hbm, ⟨82, _⟩ => ⟨S3x2048x4, .f32⟩
  | .hbm, ⟨83, _⟩ => ⟨S3x2048x4x1, .f32⟩
  | .hbm, ⟨84, _⟩ => ⟨S3x2048x4x128, .f32⟩
  | .hbm, ⟨85, _⟩ => ⟨S1x2048x4x128, .f32⟩
  | .hbm, ⟨86, _⟩ => ⟨S2048x4x128, .f32⟩
  | .hbm, ⟨87, _⟩ => ⟨S2048x512, .f32⟩
  | .hbm, ⟨88, _⟩ => ⟨S1x2048x4x128, .f32⟩
  | .hbm, ⟨89, _⟩ => ⟨S2048x4x128, .f32⟩
  | .hbm, ⟨90, _⟩ => ⟨S2048x512, .f32⟩
  | .hbm, ⟨91, _⟩ => ⟨S1x2048x4x128, .f32⟩
  | .hbm, ⟨92, _⟩ => ⟨S2048x4x128, .f32⟩
  | .hbm, ⟨93, _⟩ => ⟨S2048x512, .f32⟩
  | .hbm, ⟨94, _⟩ => ⟨S1x2048x4x128, .f32⟩
  | .hbm, ⟨95, _⟩ => ⟨S2048x4x128, .f32⟩
  | .hbm, ⟨96, _⟩ => ⟨S2048x512, .f32⟩
  | .hbm, ⟨97, _⟩ => ⟨S1x2048x4x128, .f32⟩
  | .hbm, ⟨98, _⟩ => ⟨S2048x4x128, .f32⟩
  | .hbm, ⟨99, _⟩ => ⟨S2048x512, .f32⟩
  | .hbm, ⟨100, _⟩ => ⟨S1x2048x4x128, .f32⟩
  | .hbm, ⟨101, _⟩ => ⟨S2048x4x128, .f32⟩
  | .hbm, ⟨102, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proof.RunB.lean ====
/- The body of the second grid point of a head, run symbolically: the writes it leaves in the three gradients. -/
module

public import proofs.«01_k».proof.Proof.Gen.KernelIdeal.Skeleton
public import proofs.«01_k».proof.Proof.Gen.KernelIdeal.Frame

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first of a head's two grid points: the second coordinate of the grid is zero. -/
abbrev first (i : grid0.Coords) : Prop :=
  (Scalar.cmpi .ne (Scalar.extui (Scalar.cmpi .eq (BitVec.ofNat 32 (i 1).val) 0#32)) 0#32) = 1#1

set_option maxHeartbeats 4000000 in
/-- The second point's run: lists of writes for the three gradients and the token, and the triple that says the body makes them. -/
def runB (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : ¬first i)
    (q k v o lse dO dlse y9 y10 y11 : Vec F S2048x128 .f32) :
    Σ' (L9 : List (View.Piece (Elt F) S2048x128 .f32)) (L10 : List (View.Piece (Elt F) S2048x128 .f32)), { L11 : List (View.Piece (Elt F) S2048x128 .f32) //
      ∀ (E : Set ℕ) (K : PUnit → sProp (MT nD τ sig Unit (Elt F) ℕ (UR sig nD τ) ℕ)),
        iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ owns (c : Thread nD τ) arg9 fullShare y9 ∗ owns (c : Thread nD τ) arg10 fullShare y10 ∗ owns (c : Thread nD τ) arg11 fullShare y11 ∗ (∃ d, owns (c : Thread nD τ) arg12 fullShare d)
            ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ (arg9.view.loc (c : Thread nD τ) ↦[arg9.view.set]{fullShare} arg9.view.writes (Elt F) (harg9.unread y9) L9) ∗ (arg10.view.loc (c : Thread nD τ) ↦[arg10.view.set]{fullShare} arg10.view.writes (Elt F) (harg10.unread y10) L10) ∗ (arg11.view.loc (c : Thread nD τ) ↦[arg11.view.set]{fullShare} arg11.view.writes (Elt F) (harg11.unread y11) L11) ∗ (∃ d, owns (c : Thread nD τ) arg12 fullShare d)) -∗ K ⟨⟩))
          ⊢ wp frame (wpE (defs₀ (F := F)) Variants.none c none) E (cc0_dil_bwd_16 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_dil_bwd_16_eq_skeleton]; unfold cc0_dil_bwd_16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [H11]; · iexact H11
    iexists (arg12.view.read (Elt F) (arg12.view.writes (Elt F) f12 [⟨Rect.unit ![0, 0] S8x128.size inb_S8x128_S8x128_0_0, k0_pay2⟩])); iexists _
    isplitr; · ipureintro; rfl
    iexact H12

end Cert.DilBwd

end
-- ==== Proof.RunA.lean ====
/- The body of the first grid point of a head, run symbolically: it also fills the gradients of k and v with zeros. -/
module

public import proofs.«01_k».proof.Proof.RunB

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The first point's run: lists of writes for the three gradients and the token, and the triple that says the body makes them. -/
def runA (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : first i)
    (q k v o lse dO dlse y9 : Vec F S2048x128 .f32) :
    Σ' (L9 : List (View.Piece (Elt F) S2048x128 .f32)) (L10 : List (View.Piece (Elt F) S2048x128 .f32)), { L11 : List (View.Piece (Elt F) S2048x128 .f32) //
      ∀ (E : Set ℕ) (K : PUnit → sProp (MT nD τ sig Unit (Elt F) ℕ (UR sig nD τ) ℕ)),
        iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ owns (c : Thread nD τ) arg9 fullShare y9 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ (arg9.view.loc (c : Thread nD τ) ↦[arg9.view.set]{fullShare} arg9.view.writes (Elt F) (harg9.unread y9) L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ d, owns (c : Thread nD τ) arg12 fullShare d)) -∗ K ⟨⟩))
          ⊢ wp frame (wpE (defs₀ (F := F)) Variants.none c none) E (cc0_dil_bwd_16 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_dil_bwd_16_eq_skeleton]; unfold cc0_dil_bwd_16_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexists _; iexact H10
    isplitl [H11]; · iexists _; iexact H11
    iexists (arg12.view.read (Elt F) (arg12.view.writes (Elt F) f12 [⟨Rect.unit ![0, 0] S8x128.size inb_S8x128_S8x128_0_0, k0_pay2⟩])); iexists _
    isplitr; · ipureintro; rfl
    iexact H12

end Cert.DilBwd

end
-- ==== Proof.Tiles.lean ====
/- The 128 rows of one residue modulo sixteen as a tile of a block, and the gradients of one tile as the body computes them. -/
module

public import proofs.«01_k».proof.Proof.RunA

@[expose] public section

set_option maxRecDepth 16384

noncomputable section

namespace Cert.DilBwd

open Cert.KernelIdeal Cert.KernelIdeal.Gen
open Idealize.ShloMosaic Idealize.ShloMosaic.TcCoe Idealize.ShloMosaic.Tactic

variable {F : FTy → Type} [FloatOps F]

/-- A tile: the 128 rows of one residue modulo 16. -/
abbrev Tile (F : FTy → Type) : Type := Vec F S128x128 .f32

/-- A block: 2048 rows of one head. -/
abbrev Block (F : FTy → Type) : Type := Vec F S2048x128 .f32

/-- The place in a block of a tile's place `j`, the tile being the rows of residue `ρ`: row `16 * j 0 + ρ`. -/
def place (ρ : Fin 16) (j : S128x128.Idx) : S2048x128.Idx := fun a =>
  match a with
  | 0 => (⟨16 * (j 0).val + ρ.val, by have h : (j 0).val < 128 := (j 0).isLt; show _ < 2048; omega⟩ : Fin 2048)
  | 1 => (⟨(j 1).val, (j 1).isLt⟩ : Fin 128)

/-- A block's tile of residue `ρ`. -/
def tileOf (ρ : Fin 16) (X : Block F) : Tile F := fun j => X (place ρ j)

/-- The tile whose every entry is the float zero. -/
def zeroTile : Tile F := fun _ => Scalar.ofBits .f32 0x00000000#32

/-- The tile of probabilities that the body computes from a tile of q, of k and of the log-sum-exps. -/
def pTile (q k lse : Tile F) : Tile F := k0_pay89 k0_pay84 (k0_pay85 q) (k0_pay87 lse) k

/-- The tile of the gradient of q. -/
def dqTile (q k v o lse dO dlse : Tile F) : Tile F :=
  k0_pay91 k0_pay84 (k0_pay85 q) dO (k0_pay86 dO) (k0_pay87 lse) dlse o k v

/-- The tile of the gradient of k, added to `acc`. -/
def dkTile (q k v o lse dO dlse acc : Tile F) : Tile F :=
  k0_pay92 k0_pay84 (k0_pay85 q) dO (k0_pay86 dO) (k0_pay87 lse) dlse o k v acc

/-- The tile of the gradient of v, added to `acc`. -/
def dvTile (q k lse dO acc : Tile F) : Tile F := k0_pay1 (k0_pay86 dO) (pTile q k lse) acc

/-! ## The rectangles of the body's loads and stores -/

/-- The rows that step `r` of the grid point `i` reads and writes: every sixteenth from row `8 * i 1 + r` on. -/
def rowsRect (i : grid0.Coords) (r : Fin 8) : Rect S2048x128 :=
  ⟨⟨k0_off1 i (BitVec.ofNat 32 r.val), S128x128.size, ![16, 1], k0_off1_inb i r⟩, spos_16_1⟩

/-- The residue of those rows. -/
def residue (i : grid0.Coords) (r : Fin 8) : Fin 16 :=
  ⟨8 * (i 1).val + r.val, by have h : (i 1).val < 2 := (i 1).isLt; omega⟩

theorem off_zero (i : grid0.Coords) (r : Fin 8) : k0_off1 i (BitVec.ofNat 32 r.val) 0 = 8 * (i 1).val + r.val := by
  have h : (i 1).val < 2 := (i 1).isLt
  have hb : ∀ (a : Fin 2) (r : Fin 8), (Scalar.indexCast (Scalar.addi 0#32 (Scalar.addi (Scalar.muli (BitVec.ofNat 32 a.val) 8#32)
      (BitVec.ofNat 32 r.val)))).toNat = 8 * a.val + r.val := by decide +kernel
  exact hb ⟨(i 1).val, h⟩ r

theorem rowsRect_emb (i : grid0.Coords) (r : Fin 8) (j : S128x128.Idx) :
    (rowsRect i r).emb j = place (residue i r) j := by
  funext a
  refine Fin.ext (((rowsRect i r).emb_apply j a).trans ?_)
  match a with
  | 0 =>
    show k0_off1 i (BitVec.ofNat 32 r.val) 0 + 16 * (j 0).val = 16 * (j 0).val + (8 * (i 1).val + r.val)
    rw [off_zero]; omega
  | 1 =>
    show 0 + 1 * (j 1).val = (j 1).val
    omega

theorem place_inj {ρ ρ' : Fin 16} {j j' : S128x128.Idx} (h : place ρ j = place ρ' j') : ρ = ρ' ∧ j = j' := by
  have h0 : 16 * (j 0).val + ρ.val = 16 * (j' 0).val + ρ'.val := congrArg Fin.val (congrFun h 0)
  have h1 : (j 1).val = (j' 1).val := congrArg Fin.val (congrFun h 1)
  refine ⟨Fin.ext (by omega), ?_⟩
  funext a
  match a with
  | 0 => exact Fin.ext (by omega)
  | 1 => exact Fin.ext h1

theorem exists_place (y : S2048x128.Idx) : ∃ ρ j, place ρ j = y := by
  have h0 : (y 0).val < 2048 := (y 0).isLt
  refine ⟨⟨(y 0).val % 16, by omega⟩, fun a => match a with
    | 0 => (⟨(y 0).val / 16, by show _ < 128; omega⟩ : Fin 128)
    | 1 => (⟨(y 1).val, (y 1).isLt⟩ : Fin 128), ?_⟩
  funext a
  match a with
  | 0 => exact Fin.ext (by show 16 * ((y 0).val / 16) + (y 0).val % 16 = (y 0).val; omega)
  | 1 => rfl

/-- Two blocks with the same sixteen tiles are the same. -/
theorem block_ext {X Y : Block F} (h : ∀ ρ, tileOf ρ X = tileOf ρ Y) : X = Y := by
  funext y
  obtain ⟨ρ, j, rfl⟩ := exists_place y
  exact congrFun (h ρ) j

theorem place_mem_rowsRect {i : grid0.Coords} {r : Fin 8} {ρ : Fin 16} {j : S128x128.Idx} :
    place ρ j ∈ (rowsRect i r).set ↔ ρ = residue i r := by
  constructor
  · intro h
    obtain ⟨x, hx⟩ := (rowsRect i r).exists_idx_of_mem h
    exact (place_inj ((rowsRect_emb i r x).symm.trans hx)).1.symm
  · rintro rfl
    have h := (rowsRect i r).toLoadRect.idx_mem j
    exact (rowsRect_emb i r j) ▸ h

theorem residue_inj {i : grid0.Coords} {r r' : Fin 8} (h : residue i r = residue i r') : r = r' := by
  have := congrArg Fin.val h
  simp only [residue] at this
  exact Fin.ext (by omega)

theorem readAt_rows {κ : Kind} {sp : Space} (w : View sig κ sp S2048x128 .f32) (f : w.ty.Contents (Elt F)) (i : grid0.Coords) (r : Fin 8) :
    w.readAt (Elt F) (rowsRect i r).toLoadRect f = tileOf (residue i r) (w.read (Elt F) f) := by
  funext j
  exact congrArg (w.read (Elt F) f) (rowsRect_emb i r j)

/-! ## A buffer after steps that each rewrite one tile from what it holds -/

/-- The stores of the steps `l` (last first) on top of the stores `base`: each step writes to its rows what `P` makes of
    what it reads there. -/
def stepWrites {κ : Kind} {sp : Space} (w : View sig κ sp S2048x128 .f32) (f : w.ty.Contents (Elt F)) (i : grid0.Coords)
    (P : Fin 8 → Tile F → Tile F) (base : List (View.Piece (Elt F) S2048x128 .f32)) :
    List (Fin 8) → List (View.Piece (Elt F) S2048x128 .f32)
  | [] => base
  | r :: l => ⟨rowsRect i r, P r (w.readAt (Elt F) (rowsRect i r).toLoadRect (w.writes (Elt F) f (stepWrites w f i P base l)))⟩
      :: stepWrites w f i P base l

/-- A tile of no step is as the stores `base` left it. -/
theorem tileOf_stepWrites_of_not_mem {κ : Kind} {sp : Space} (w : View sig κ sp S2048x128 .f32) (f f' : w.ty.Contents (Elt F))
    (i : grid0.Coords) (P : Fin 8 → Tile F → Tile F) (base : List (View.Piece (Elt F) S2048x128 .f32)) (ρ : Fin 16) :
    ∀ l : List (Fin 8), (∀ r ∈ l, ρ ≠ residue i r) →
      tileOf ρ (w.read (Elt F) (w.writes (Elt F) f' (stepWrites w f i P base l))) =
        tileOf ρ (w.read (Elt F) (w.writes (Elt F) f' base))
  | [], _ => rfl
  | r :: l, h => by
    rw [← tileOf_stepWrites_of_not_mem w f f' i P base ρ l fun r' hr' => h r' (List.mem_cons_of_mem _ hr')]
    funext j
    exact View.read_writes_cons_miss w f' _ _ _ fun hm => h r List.mem_cons_self (place_mem_rowsRect.mp hm)

/-- A tile of a step is what the step makes of what the stores `base` left there. -/
theorem tileOf_stepWrites_of_mem {κ : Kind} {sp : Space} (w : View sig κ sp S2048x128 .f32) (f f' : w.ty.Contents (Elt F))
    (i : grid0.Coords) (P : Fin 8 → Tile F → Tile F) (base : List (View.Piece (Elt F) S2048x128 .f32)) (r : Fin 8) :
    ∀ l : List (Fin 8), l.Nodup → r ∈ l →
      tileOf (residue i r) (w.read (Elt F) (w.writes (Elt F) f' (stepWrites w f i P base l))) =
        P r (tileOf (residue i r) (w.read (Elt F) (w.writes (Elt F) f base)))
  | [], _, h => absurd h List.not_mem_nil
  | r' :: l, hn, h => by
    obtain ⟨hr', hn'⟩ := List.nodup_cons.mp hn
    by_cases hr : r = r'
    · subst hr
      have e := (readAt_rows w (w.writes (Elt F) f (stepWrites w f i P base l)) i r).trans
        (tileOf_stepWrites_of_not_mem w f f i P base (residue i r) l fun r' hm e => hr' (residue_inj e ▸ hm))
      rw [← e]
      funext j
      exact View.read_writes_cons_hit w f' (rowsRect i r)
        (P r (w.readAt (Elt F) (rowsRect i r).toLoadRect (w.writes (Elt F) f (stepWrites w f i P base l))))
        (stepWrites w f i P base l) j (place (residue i r) j) (rowsRect_emb i r j)
    · rw [← tileOf_stepWrites_of_mem w f f' i P base r l hn' ((List.mem_cons.mp h).resolve_left hr)]
      funext j
      exact View.read_writes_cons_miss w f' _ _ _ fun hm => hr (residue_inj (place_mem_rowsRect.mp hm))

/-- The body's eight steps, last first. -/
abbrev steps : List (Fin 8) := [7, 6, 5, 4, 3, 2, 1, 0]

theorem mem_steps (r : Fin 8) : r ∈ steps := by revert r; decide

/-- A block `Z` that a grid point whose second coordinate is `g` leaves where it found `Y`: the tiles of the eight residues from `8 * g`
    on are what `P` makes of `Y`'s, the other eight are `Y`'s own. -/
def Stepped (g : ℕ) (P : Fin 16 → Tile F → Tile F) (Y Z : Block F) : Prop :=
  ∀ ρ : Fin 16, tileOf ρ Z = if ρ.val / 8 = g then P ρ (tileOf ρ Y) else tileOf ρ Y

theorem stepped_stepWrites {κ : Kind} {sp : Space} (w : View sig κ sp S2048x128 .f32) (f : w.ty.Contents (Elt F)) (i : grid0.Coords)
    (P : Fin 16 → Tile F → Tile F) (base : List (View.Piece (Elt F) S2048x128 .f32)) (f' : w.ty.Contents (Elt F)) (Y : Block F)
    (hf : w.read (Elt F) (w.writes (Elt F) f base) = Y) (hf' : w.read (Elt F) (w.writes (Elt F) f' base) = Y) :
    Stepped (i 1).val P Y (w.read (Elt F) (w.writes (Elt F) f' (stepWrites w f i (fun r => P (residue i r)) base steps))) := by
  intro ρ
  have h : (i 1).val < 2 := (i 1).isLt
  by_cases hρ : ρ.val / 8 = (i 1).val
  · rw [if_pos hρ]
    obtain ⟨r, rfl⟩ : ∃ r, ρ = residue i r := ⟨⟨ρ.val % 8, by omega⟩, Fin.ext (by simp only [residue]; omega)⟩
    rw [tileOf_stepWrites_of_mem w f f' i _ base r steps (by decide) (mem_steps r), hf]
  · rw [if_neg hρ, tileOf_stepWrites_of_not_mem w f f' i _ base ρ steps
      fun r _ e => hρ (by rw [e]; simp only [residue]; omega), hf']

end Cert.DilBwd

end
-- ==== Proof.RunTiles.lean ====
/- The writes of the symbolic runs, put as eight steps over the residues. -/
module

public import proofs.«01_k».proof.Proof.Tiles

@[expose] public section

set_option maxRecDepth 16384

noncomputable section

namespace Cert.DilBwd

open Cert.KernelIdeal Cert.KernelIdeal.Gen
open Idealize.ShloMosaic Idealize.ShloMosaic.TcCoe Idealize.ShloMosaic.Tactic

variable {F : FTy → Type} [FloatOps F]

theorem runA_L9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : first i)
    (q k v o lse dO dlse y9 : Vec F S2048x128 .f32) :
    (runA c i arg2 harg2 arg3 harg3 arg4 harg4 arg5 harg5 arg6 harg6 arg7 harg7 arg8 harg8 arg9 harg9 arg10 harg10 arg11 harg11 arg12 harg12 hc0 q k v o lse dO dlse y9).1 =
      stepWrites arg9.view (harg9.unread y9) i (fun r _ => dqTile (arg2.view.readAt (Elt F) (rowsRect i r).toLoadRect (harg2.unread q)) (arg3.view.readAt (Elt F) (rowsRect i r).toLoadRect (harg3.unread k)) (arg4.view.readAt (Elt F) (rowsRect i r).toLoadRect (harg4.unread v)) (arg5.view.readAt (Elt F) (rowsRect i r).toLoadRect (harg5.unread o)) (arg6.view.readAt (Elt F) (rowsRect i r).toLoadRect (harg6.unread lse)) (arg7.view.readAt (Elt F) (rowsRect i r).toLoadRect (harg7.unread dO)) (arg8.view.readAt (Elt F) (rowsRect i r).toLoadRect (harg8.unread dlse))) [] steps := by
  rfl

theorem runA_L10 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : first i)
    (q k v o lse dO dlse y9 : Vec F S2048x128 .f32) :
    (runA c i arg2 harg2 arg3 harg3 arg4 harg4 arg5 harg5 arg6 harg6 arg7 harg7 arg8 harg8 arg9 harg9 arg10 harg10 arg11 harg11 arg12 harg12 hc0 q k v o lse dO dlse y9).2.1 =
      stepWrites arg10.view arg10.view.junk i (fun r acc => dkTile (arg2.view.readAt (Elt F) (rowsRect i r).toLoadRect (harg2.unread q)) (arg3.view.readAt (Elt F) (rowsRect i r).toLoadRect (harg3.unread k)) (arg4.view.readAt (Elt F) (rowsRect i r).toLoadRect (harg4.unread v)) (arg5.view.readAt (Elt F) (rowsRect i r).toLoadRect (harg5.unread o)) (arg6.view.readAt (Elt F) (rowsRect i r).toLoadRect (harg6.unread lse)) (arg7.view.readAt (Elt F) (rowsRect i r).toLoadRect (harg7.unread dO)) (arg8.view.readAt (Elt F) (rowsRect i r).toLoadRect (harg8.unread dlse)) acc) [⟨Rect.unit ![0, 0] S2048x128.size inb_S2048x128_S2048x128_0_0, k0_pay3⟩] steps := by
  rfl

theorem runA_L11 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : first i)
    (q k v o lse dO dlse y9 : Vec F S2048x128 .f32) :
    (runA c i arg2 harg2 arg3 harg3 arg4 harg4 arg5 harg5 arg6 harg6 arg7 harg7 arg8 harg8 arg9 harg9 arg10 harg10 arg11 harg11 arg12 harg12 hc0 q k v o lse dO dlse y9).2.2.1 =
      stepWrites arg11.view arg11.view.junk i (fun r acc => dvTile (arg2.view.readAt (Elt F) (rowsRect i r).toLoadRect (harg2.unread q)) (arg3.view.readAt (Elt F) (rowsRect i r).toLoadRect (harg3.unread k)) (arg6.view.readAt (Elt F) (rowsRect i r).toLoadRect (harg6.unread lse)) (arg7.view.readAt (Elt F) (rowsRect i r).toLoadRect (harg7.unread dO)) acc) [⟨Rect.unit ![0, 0] S2048x128.size inb_S2048x128_S2048x128_0_0, k0_pay4⟩] steps := by
  rfl

theorem runB_L9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : ¬first i)
    (q k v o lse dO dlse y9 y10 y11 : Vec F S2048x128 .f32) :
    (runB c i arg2 harg2 arg3 harg3 arg4 harg4 arg5 harg5 arg6 harg6 arg7 harg7 arg8 harg8 arg9 harg9 arg10 harg10 arg11 harg11 arg12 harg12 hc0 q k v o lse dO dlse y9 y10 y11).1 =
      stepWrites arg9.view (harg9.unread y9) i (fun r _ => dqTile (arg2.view.readAt (Elt F) (rowsRect i r).toLoadRect (harg2.unread q)) (arg3.view.readAt (Elt F) (rowsRect i r).toLoadRect (harg3.unread k)) (arg4.view.readAt (Elt F) (rowsRect i r).toLoadRect (harg4.unread v)) (arg5.view.readAt (Elt F) (rowsRect i r).toLoadRect (harg5.unread o)) (arg6.view.readAt (Elt F) (rowsRect i r).toLoadRect (harg6.unread lse)) (arg7.view.readAt (Elt F) (rowsRect i r).toLoadRect (harg7.unread dO)) (arg8.view.readAt (Elt F) (rowsRect i r).toLoadRect (harg8.unread dlse))) [] steps := by
  rfl

theorem runB_L10 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : ¬first i)
    (q k v o lse dO dlse y9 y10 y11 : Vec F S2048x128 .f32) :
    (runB c i arg2 harg2 arg3 harg3 arg4 harg4 arg5 harg5 arg6 harg6 arg7 harg7 arg8 harg8 arg9 harg9 arg10 harg10 arg11 harg11 arg12 harg12 hc0 q k v o lse dO dlse y9 y10 y11).2.1 =
      stepWrites arg10.view (harg10.unread y10) i (fun r acc => dkTile (arg2.view.readAt (Elt F) (rowsRect i r).toLoadRect (harg2.unread q)) (arg3.view.readAt (Elt F) (rowsRect i r).toLoadRect (harg3.unread k)) (arg4.view.readAt (Elt F) (rowsRect i r).toLoadRect (harg4.unread v)) (arg5.view.readAt (Elt F) (rowsRect i r).toLoadRect (harg5.unread o)) (arg6.view.readAt (Elt F) (rowsRect i r).toLoadRect (harg6.unread lse)) (arg7.view.readAt (Elt F) (rowsRect i r).toLoadRect (harg7.unread dO)) (arg8.view.readAt (Elt F) (rowsRect i r).toLoadRect (harg8.unread dlse)) acc) [] steps := by
  rfl

theorem runB_L11 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : ¬first i)
    (q k v o lse dO dlse y9 y10 y11 : Vec F S2048x128 .f32) :
    (runB c i arg2 harg2 arg3 harg3 arg4 harg4 arg5 harg5 arg6 harg6 arg7 harg7 arg8 harg8 arg9 harg9 arg10 harg10 arg11 harg11 arg12 harg12 hc0 q k v o lse dO dlse y9 y10 y11).2.2.1 =
      stepWrites arg11.view (harg11.unread y11) i (fun r acc => dvTile (arg2.view.readAt (Elt F) (rowsRect i r).toLoadRect (harg2.unread q)) (arg3.view.readAt (Elt F) (rowsRect i r).toLoadRect (harg3.unread k)) (arg6.view.readAt (Elt F) (rowsRect i r).toLoadRect (harg6.unread lse)) (arg7.view.readAt (Elt F) (rowsRect i r).toLoadRect (harg7.unread dO)) acc) [] steps := by
  rfl

end Cert.DilBwd

end
-- ==== Proof.Body.lean ====
/- What the body leaves in the three gradients, residue by residue. -/
module

public import proofs.«01_k».proof.Proof.RunTiles

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The block whose every entry is the float zero. -/
def zeroBlock : Block F := fun _ => Scalar.ofBits .f32 0x00000000#32

/-- What the body's step at the residue `ρ` makes of the tile of q's gradient: the new tile, whatever was there. -/
def dqStep (q k v o lse dO dlse : Block F) (ρ : Fin 16) (_ : Tile F) : Tile F :=
  dqTile (tileOf ρ q) (tileOf ρ k) (tileOf ρ v) (tileOf ρ o) (tileOf ρ lse) (tileOf ρ dO) (tileOf ρ dlse)

/-- What the body's step at the residue `ρ` makes of the tile of k's gradient. -/
def dkStep (q k v o lse dO dlse : Block F) (ρ : Fin 16) (acc : Tile F) : Tile F :=
  dkTile (tileOf ρ q) (tileOf ρ k) (tileOf ρ v) (tileOf ρ o) (tileOf ρ lse) (tileOf ρ dO) (tileOf ρ dlse) acc

/-- What the body's step at the residue `ρ` makes of the tile of v's gradient. -/
def dvStep (q k lse dO : Block F) (ρ : Fin 16) (acc : Tile F) : Tile F :=
  dvTile (tileOf ρ q) (tileOf ρ k) (tileOf ρ lse) (tileOf ρ dO) acc

/-- A buffer filled with zeros reads the block of zeros. -/
theorem read_zero_fill {κ : Kind} {sp : Space} (w : View sig κ sp S2048x128 .f32) (f : w.ty.Contents (Elt F)) :
    w.read (Elt F) (w.writes (Elt F) f [⟨Rect.unit ![0, 0] S2048x128.size inb_S2048x128_S2048x128_0_0, k0_pay3⟩]) = zeroBlock := by
  funext y
  refine (View.read_writes_cons_hit w f (Rect.unit ![0, 0] S2048x128.size inb_S2048x128_S2048x128_0_0) k0_pay3 [] y y
    (Rect.emb_eq_of_coords _ _ _ fun a => ?_)).trans rfl
  match a with
  | 0 => show (y 0).val = 0 + 1 * (y 0).val; omega
  | 1 => show (y 1).val = 0 + 1 * (y 1).val; omega

/-- THE BODY at a head's FIRST grid point: from the seven input blocks and the four output buffers at anything, it runs to its end, the
    inputs as they were; of the gradient of q the tiles of the first eight residues are new and the others as found; the gradients of k
    and of v are the new tiles over a block of zeros. -/
theorem body_first (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : first i)
    (q k v o lse dO dlse y9 : Block F) (E : Set ℕ) (K : PUnit → sProp (MT nD τ sig Unit (Elt F) ℕ (UR sig nD τ) ℕ)) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ owns (c : Thread nD τ) arg9 fullShare y9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ (∃ Z, ⌜Stepped (i 1).val (dqStep q k v o lse dO dlse) y9 Z⌝ ∗ owns (c : Thread nD τ) arg9 fullShare Z) ∗ (∃ Z, ⌜Stepped (i 1).val (dkStep q k v o lse dO dlse) zeroBlock Z⌝ ∗ owns (c : Thread nD τ) arg10 fullShare Z) ∗ (∃ Z, ⌜Stepped (i 1).val (dvStep q k lse dO) zeroBlock Z⌝ ∗ owns (c : Thread nD τ) arg11 fullShare Z) ∗ (∃ d, owns (c : Thread nD τ) arg12 fullShare d)) -∗ K ⟨⟩))
      ⊢ wp frame (wpE (defs₀ (F := F)) Variants.none c none) E (cc0_dil_bwd_16 i arg2 harg2 arg3 harg3 arg4 harg4 arg5 harg5 arg6 harg6 arg7 harg7 arg8 harg8 arg9 harg9 arg10 harg10 arg11 harg11 arg12 harg12) K := by
  have h9 : Stepped (i 1).val (dqStep q k v o lse dO dlse) y9 (arg9.view.read (Elt F) (arg9.view.writes (Elt F) (harg9.unread y9)
      (runA c i arg2 harg2 arg3 harg3 arg4 harg4 arg5 harg5 arg6 harg6 arg7 harg7 arg8 harg8 arg9 harg9 arg10 harg10 arg11 harg11 arg12 harg12 hc0 q k v o lse dO dlse y9).1)) := by
    have hZ := stepped_stepWrites arg9.view (harg9.unread y9) i (dqStep q k v o lse dO dlse) [] (harg9.unread y9) y9
      (harg9.read_unread y9) (harg9.read_unread y9)
    rw [runA_L9]
    simp only [readAt_rows, harg2.read_unread, harg3.read_unread, harg4.read_unread, harg5.read_unread, harg6.read_unread, harg7.read_unread, harg8.read_unread]
    exact hZ
  have h10 : ∀ f, Stepped (i 1).val (dkStep q k v o lse dO dlse) zeroBlock (arg10.view.read (Elt F) (arg10.view.writes (Elt F) f
      (runA c i arg2 harg2 arg3 harg3 arg4 harg4 arg5 harg5 arg6 harg6 arg7 harg7 arg8 harg8 arg9 harg9 arg10 harg10 arg11 harg11 arg12 harg12 hc0 q k v o lse dO dlse y9).2.1)) := fun f => by
    have hZ := stepped_stepWrites arg10.view arg10.view.junk i (dkStep q k v o lse dO dlse)
      [⟨Rect.unit ![0, 0] S2048x128.size inb_S2048x128_S2048x128_0_0, k0_pay3⟩] f zeroBlock (read_zero_fill arg10.view _) (read_zero_fill arg10.view _)
    rw [runA_L10]
    simp only [readAt_rows, harg2.read_unread, harg3.read_unread, harg4.read_unread, harg5.read_unread, harg6.read_unread, harg7.read_unread, harg8.read_unread]
    exact hZ
  have h11 : ∀ f, Stepped (i 1).val (dvStep q k lse dO) zeroBlock (arg11.view.read (Elt F) (arg11.view.writes (Elt F) f
      (runA c i arg2 harg2 arg3 harg3 arg4 harg4 arg5 harg5 arg6 harg6 arg7 harg7 arg8 harg8 arg9 harg9 arg10 harg10 arg11 harg11 arg12 harg12 hc0 q k v o lse dO dlse y9).2.2.1)) := fun f => by
    have hZ := stepped_stepWrites arg11.view arg11.view.junk i (dvStep q k lse dO)
      [⟨Rect.unit ![0, 0] S2048x128.size inb_S2048x128_S2048x128_0_0, k0_pay4⟩] f zeroBlock (read_zero_fill arg11.view _) (read_zero_fill arg11.view _)
    rw [runA_L11]
    simp only [readAt_rows, harg2.read_unread, harg3.read_unread, harg4.read_unread, harg5.read_unread, harg6.read_unread, harg7.read_unread, harg8.read_unread]
    exact hZ
  iintro ⟨H2, H3, H4, H5, H6, H7, H8, H9, H10, H11, H12, Hk⟩
  iapply ((runA c i arg2 harg2 arg3 harg3 arg4 harg4 arg5 harg5 arg6 harg6 arg7 harg7 arg8 harg8 arg9 harg9 arg10 harg10 arg11 harg11 arg12 harg12 hc0 q k v o lse dO dlse y9).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, ⟨%f10, H10⟩, ⟨%f11, H11⟩, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    · ipureintro; exact h9
    unfold owns
    iexists _
    isplitr
    · ipureintro; rfl
    iexact H9
  isplitl [H10]
  · iexists _
    isplitr
    · ipureintro; exact h10 f10
    unfold owns
    iexists _
    isplitr
    · ipureintro; rfl
    iexact H10
  isplitl [H11]
  · iexists _
    isplitr
    · ipureintro; exact h11 f11
    unfold owns
    iexists _
    isplitr
    · ipureintro; rfl
    iexact H11
  iexact H12

/-- THE BODY at a head's SECOND grid point: as at the first, but the gradients of k and of v are new tiles over what the buffers held. -/
theorem body_second (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S8x128 .f32) (harg12 : arg12.IsWhole) (hc0 : ¬first i)
    (q k v o lse dO dlse y9 y10 y11 : Block F) (E : Set ℕ) (K : PUnit → sProp (MT nD τ sig Unit (Elt F) ℕ (UR sig nD τ) ℕ)) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ owns (c : Thread nD τ) arg9 fullShare y9 ∗ owns (c : Thread nD τ) arg10 fullShare y10 ∗ owns (c : Thread nD τ) arg11 fullShare y11 ∗ (∃ d, owns (c : Thread nD τ) arg12 fullShare d)
        ∗ (iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare lse ∗ owns (c : Thread nD τ) arg7 fullShare dO ∗ owns (c : Thread nD τ) arg8 fullShare dlse ∗ (∃ Z, ⌜Stepped (i 1).val (dqStep q k v o lse dO dlse) y9 Z⌝ ∗ owns (c : Thread nD τ) arg9 fullShare Z) ∗ (∃ Z, ⌜Stepped (i 1).val (dkStep q k v o lse dO dlse) y10 Z⌝ ∗ owns (c : Thread nD τ) arg10 fullShare Z) ∗ (∃ Z, ⌜Stepped (i 1).val (dvStep q k lse dO) y11 Z⌝ ∗ owns (c : Thread nD τ) arg11 fullShare Z) ∗ (∃ d, owns (c : Thread nD τ) arg12 fullShare d)) -∗ K ⟨⟩))
      ⊢ wp frame (wpE (defs₀ (F := F)) Variants.none c none) E (cc0_dil_bwd_16 i arg2 harg2 arg3 harg3 arg4 harg4 arg5 harg5 arg6 harg6 arg7 harg7 arg8 harg8 arg9 harg9 arg10 harg10 arg11 harg11 arg12 harg12) K := by
  have h9 : Stepped (i 1).val (dqStep q k v o lse dO dlse) y9 (arg9.view.read (Elt F) (arg9.view.writes (Elt F) (harg9.unread y9)
      (runB c i arg2 harg2 arg3 harg3 arg4 harg4 arg5 harg5 arg6 harg6 arg7 harg7 arg8 harg8 arg9 harg9 arg10 harg10 arg11 harg11 arg12 harg12 hc0 q k v o lse dO dlse y9 y10 y11).1)) := by
    have hZ := stepped_stepWrites arg9.view (harg9.unread y9) i (dqStep q k v o lse dO dlse) [] (harg9.unread y9) y9
      (harg9.read_unread y9) (harg9.read_unread y9)
    rw [runB_L9]
    simp only [readAt_rows, harg2.read_unread, harg3.read_unread, harg4.read_unread, harg5.read_unread, harg6.read_unread, harg7.read_unread, harg8.read_unread]
    exact hZ
  have h10 : Stepped (i 1).val (dkStep q k v o lse dO dlse) y10 (arg10.view.read (Elt F) (arg10.view.writes (Elt F) (harg10.unread y10)
      (runB c i arg2 harg2 arg3 harg3 arg4 harg4 arg5 harg5 arg6 harg6 arg7 harg7 arg8 harg8 arg9 harg9 arg10 harg10 arg11 harg11 arg12 harg12 hc0 q k v o lse dO dlse y9 y10 y11).2.1)) := by
    have hZ := stepped_stepWrites arg10.view (harg10.unread y10) i (dkStep q k v o lse dO dlse) [] (harg10.unread y10) y10
      (harg10.read_unread y10) (harg10.read_unread y10)
    rw [runB_L10]
    simp only [readAt_rows, harg2.read_unread, harg3.read_unread, harg4.read_unread, harg5.read_unread, harg6.read_unread, harg7.read_unread, harg8.read_unread]
    exact hZ
  have h11 : Stepped (i 1).val (dvStep q k lse dO) y11 (arg11.view.read (Elt F) (arg11.view.writes (Elt F) (harg11.unread y11)
      (runB c i arg2 harg2 arg3 harg3 arg4 harg4 arg5 harg5 arg6 harg6 arg7 harg7 arg8 harg8 arg9 harg9 arg10 harg10 arg11 harg11 arg12 harg12 hc0 q k v o lse dO dlse y9 y10 y11).2.2.1)) := by
    have hZ := stepped_stepWrites arg11.view (harg11.unread y11) i (dvStep q k lse dO) [] (harg11.unread y11) y11
      (harg11.read_unread y11) (harg11.read_unread y11)
    rw [runB_L11]
    simp only [readAt_rows, harg2.read_unread, harg3.read_unread, harg4.read_unread, harg5.read_unread, harg6.read_unread, harg7.read_unread, harg8.read_unread]
    exact hZ
  iintro ⟨H2, H3, H4, H5, H6, H7, H8, H9, H10, H11, H12, Hk⟩
  iapply ((runB c i arg2 harg2 arg3 harg3 arg4 harg4 arg5 harg5 arg6 harg6 arg7 harg7 arg8 harg8 arg9 harg9 arg10 harg10 arg11 harg11 arg12 harg12 hc0 q k v o lse dO dlse y9 y10 y11).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr
    · ipureintro; exact h9
    unfold owns
    iexists _
    isplitr
    · ipureintro; rfl
    iexact H9
  isplitl [H10]
  · iexists _
    isplitr
    · ipureintro; exact h10
    unfold owns
    iexists _
    isplitr
    · ipureintro; rfl
    iexact H10
  isplitl [H11]
  · iexists _
    isplitr
    · ipureintro; exact h11
    unfold owns
    iexists _
    isplitr
    · ipureintro; rfl
    iexact H11
  iexact H12

end Cert.DilBwd

end
-- ==== Proof.Blocks.lean ====
/- The grid's eight points as four heads of two, and the columns of the arrays that each window reads. -/
module

public import proofs.«01_k».proof.Proof.Body
public import Idealize.ShloMosaic.Lib.Pipeline.ValueKit

@[expose] public section

set_option maxRecDepth 16384

noncomputable section

namespace Cert.DilBwd

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The head of a grid point: two points a head. -/
def head (t : Fin cfg0.N) : Fin 4 := ⟨t.val / 2, by have h := t.isLt; have hN : cfg0.N = 8 := N_0; omega⟩

theorem coord_one : ∀ t : Fin cfg0.N, (cfg0.grid.coords t 1).val = t.val % 2 :=
  (by decide +kernel : ∀ t : Fin grid0.N, (grid0.coords t 1).val = t.val % 2)

theorem first_iff : ∀ t : Fin cfg0.N, first (cfg0.grid.coords t) ↔ t.val % 2 = 0 :=
  (by decide +kernel : ∀ t : Fin grid0.N, first (grid0.coords t) ↔ t.val % 2 = 0)

/-- Head `h`'s 128 columns of a matrix whose heads start at column `128 * o`. -/
def headBlock (n o : ℕ) (hn : (o + 4) * 128 ≤ n) (X : Vec F (⟨2, ![2048, n]⟩ : Shape) .f32) (h : Fin 4) : Block F := fun y =>
  X fun a => match a with
    | 0 => (⟨(y 0).val, (y 0).isLt⟩ : Fin 2048)
    | 1 => (⟨(o + h.val) * 128 + (y 1).val, by
        have h1 : (y 1).val < 128 := (y 1).isLt
        have h2 := h.isLt
        show _ < n
        omega⟩ : Fin n)

theorem index_facts : ∀ t : Fin cfg0.N,
    (win0_0.index t = ![0, 8 + t.val / 2] ∧ win0_1.index t = ![0, 20 + t.val / 2] ∧ win0_2.index t = ![0, 32 + t.val / 2]
    ∧ win0_3.index t = ![0, t.val / 2] ∧ win0_4.index t = ![0, t.val / 2] ∧ win0_5.index t = ![0, t.val / 2]
    ∧ win0_6.index t = ![0, t.val / 2])
    ∧ win0_7.index t = ![0, t.val / 2] ∧ win0_8.index t = ![0, t.val / 2] ∧ win0_9.index t = ![0, t.val / 2] :=
  (by decide +kernel : ∀ t : Fin grid0.N,
    (win0_0.index t = ![0, 8 + t.val / 2] ∧ win0_1.index t = ![0, 20 + t.val / 2] ∧ win0_2.index t = ![0, 32 + t.val / 2]
    ∧ win0_3.index t = ![0, t.val / 2] ∧ win0_4.index t = ![0, t.val / 2] ∧ win0_5.index t = ![0, t.val / 2]
    ∧ win0_6.index t = ![0, t.val / 2])
    ∧ win0_7.index t = ![0, t.val / 2] ∧ win0_8.index t = ![0, t.val / 2] ∧ win0_9.index t = ![0, t.val / 2])

theorem iblk_0 (c : Dev nD) (t : Fin cfg0.N) : iblk m c 0 t = headBlock 3072 8 (by decide) (V m c main_arg0) (head t) := by
  funext y
  show V m c main_arg0 _ = V m c main_arg0 _
  congr 1
  funext a
  apply Fin.ext
  match a with
  | 0 => blk_simp [index_facts t, head]; rfl
  | 1 => blk_simp [index_facts t, head]; rfl

theorem iblk_1 (c : Dev nD) (t : Fin cfg0.N) : iblk m c 1 t = headBlock 3072 20 (by decide) (V m c main_arg0) (head t) := by
  funext y
  show V m c main_arg0 _ = V m c main_arg0 _
  congr 1
  funext a
  apply Fin.ext
  match a with
  | 0 => blk_simp [index_facts t, head]; rfl
  | 1 => blk_simp [index_facts t, head]; rfl

theorem iblk_2 (c : Dev nD) (t : Fin cfg0.N) : iblk m c 2 t = headBlock 10240 32 (by decide) (V m c main_arg1) (head t) := by
  funext y
  show V m c main_arg1 _ = V m c main_arg1 _
  congr 1
  funext a
  apply Fin.ext
  match a with
  | 0 => blk_simp [index_facts t, head]; rfl
  | 1 => blk_simp [index_facts t, head]; rfl

theorem iblk_3 (c : Dev nD) (t : Fin cfg0.N) : iblk m c 3 t = headBlock 512 0 (by decide) (V m c main_v44) (head t) := by
  funext y
  show V m c main_v44 _ = V m c main_v44 _
  congr 1
  funext a
  apply Fin.ext
  match a with
  | 0 => blk_simp [index_facts t, head]; rfl
  | 1 => blk_simp [index_facts t, head]; rfl

theorem iblk_4 (c : Dev nD) (t : Fin cfg0.N) : iblk m c 4 t = headBlock 512 0 (by decide) (V m c main_v45) (head t) := by
  funext y
  show V m c main_v45 _ = V m c main_v45 _
  congr 1
  funext a
  apply Fin.ext
  match a with
  | 0 => blk_simp [index_facts t, head]; rfl
  | 1 => blk_simp [index_facts t, head]; rfl

theorem iblk_5 (c : Dev nD) (t : Fin cfg0.N) : iblk m c 5 t = headBlock 512 0 (by decide) (V m c main_arg2) (head t) := by
  funext y
  show V m c main_arg2 _ = V m c main_arg2 _
  congr 1
  funext a
  apply Fin.ext
  match a with
  | 0 => blk_simp [index_facts t, head]; rfl
  | 1 => blk_simp [index_facts t, head]; rfl

theorem iblk_6 (c : Dev nD) (t : Fin cfg0.N) : iblk m c 6 t = headBlock 512 0 (by decide) (V m c main_arg3) (head t) := by
  funext y
  show V m c main_arg3 _ = V m c main_arg3 _
  congr 1
  funext a
  apply Fin.ext
  match a with
  | 0 => blk_simp [index_facts t, head]; rfl
  | 1 => blk_simp [index_facts t, head]; rfl

end Cert.DilBwd

end
-- ==== Proof.Data.lean ====
/- The data of the pipeline: what each window holds after each grid point. -/
module

public import proofs.«01_k».proof.Proof.Blocks
public import Idealize.ShloMosaic.Lib.Pipeline.DatRel
public import Idealize.ShloMosaic.Lib.Pipeline.ArrRel

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.ShloMosaic.Pipeline (Dat RDat Cfg Window BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The blocks of a head, read off the arrays as the kernel finds them -/

/-- Head `h`'s block of q. -/
abbrev qB (c : Dev nD) (h : Fin 4) : Block F := headBlock 3072 8 (by decide) (V m c main_arg0) h

/-- Head `h`'s block of k. -/
abbrev kB (c : Dev nD) (h : Fin 4) : Block F := headBlock 3072 20 (by decide) (V m c main_arg0) h

/-- Head `h`'s block of v. -/
abbrev vB (c : Dev nD) (h : Fin 4) : Block F := headBlock 10240 32 (by decide) (V m c main_arg1) h

/-- Head `h`'s block of o. -/
abbrev oB (c : Dev nD) (h : Fin 4) : Block F := headBlock 512 0 (by decide) (V m c main_v44) h

/-- Head `h`'s block of lse. -/
abbrev lseB (c : Dev nD) (h : Fin 4) : Block F := headBlock 512 0 (by decide) (V m c main_v45) h

/-- Head `h`'s block of dO. -/
abbrev dOB (c : Dev nD) (h : Fin 4) : Block F := headBlock 512 0 (by decide) (V m c main_arg2) h

/-- Head `h`'s block of dlse. -/
abbrev dlseB (c : Dev nD) (h : Fin 4) : Block F := headBlock 512 0 (by decide) (V m c main_arg3) h

/-- The tile of residue `r` of head `h`'s gradient of q. -/
def dqOut (c : Dev nD) (h : Fin 4) (r : Fin 16) : Tile F := dqStep (qB m c h) (kB m c h) (vB m c h) (oB m c h) (lseB m c h) (dOB m c h) (dlseB m c h) r zeroTile

/-- The tile of residue `r` of head `h`'s gradient of k. -/
def dkOut (c : Dev nD) (h : Fin 4) (r : Fin 16) : Tile F := dkStep (qB m c h) (kB m c h) (vB m c h) (oB m c h) (lseB m c h) (dOB m c h) (dlseB m c h) r zeroTile

/-- The tile of residue `r` of head `h`'s gradient of v. -/
def dvOut (c : Dev nD) (h : Fin 4) (r : Fin 16) : Tile F := dvStep (qB m c h) (kB m c h) (lseB m c h) (dOB m c h) r zeroTile

/-- The gradient of q after grid point `t`: the tiles of the residues done so far are right. -/
def DqDone (c : Dev nD) (t : Fin cfg0.N) (X : Block F) : Prop :=
  ∀ r : Fin 16, r.val / 8 ≤ t.val % 2 → tileOf r X = dqOut m c (head t) r

/-- The gradient of k after grid point `t`: the tiles of the residues done so far are right, and the others zero. -/
def DkDone (c : Dev nD) (t : Fin cfg0.N) (X : Block F) : Prop :=
  ∀ r : Fin 16, tileOf r X = if r.val / 8 ≤ t.val % 2 then dkOut m c (head t) r else zeroTile

/-- The gradient of v after grid point `t`, likewise. -/
def DvDone (c : Dev nD) (t : Fin cfg0.N) (X : Block F) : Prop :=
  ∀ r : Fin 16, tileOf r X = if r.val / 8 ≤ t.val % 2 then dvOut m c (head t) r else zeroTile

/-! ## The pipeline's proof data -/

/-- The windows told by a relation: the four outputs. -/
def rel0 : Fin 11 → Bool := fun w => decide (7 ≤ w.val)

/-- What each output's buffer holds after grid point `t`; nothing is said of the token. -/
def Done (c : Dev nD) : (w : Fin cfg0.W) → Fin cfg0.N → ((cfg0.win w).block.Idx → Elt F (cfg0.win w).elt) → Prop
  | ⟨7, _⟩, t, X => DqDone m c t X
  | ⟨8, _⟩, t, X => DkDone m c t X
  | ⟨9, _⟩, t, X => DvDone m c t X
  | _, _, _ => True

/-- The arrays as the kernel finds them; each input's buffer holds its block after every point; the outputs are told by `Done`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem dat_A (c : Dev nD) (w : Fin cfg0.W) : (dat m c).A w = V m c (Pipeline.arrRef spec0 w) := by dsimp only [dat]

theorem after_0 (c : Dev nD) (t : Fin cfg0.N) : (dat m c).after 0 t = iblk m c 0 t := by dsimp only [dat]
theorem before_0 (c : Dev nD) (t : Fin cfg0.N) (d) : (dat m c).before 0 t d = iblk m c 0 t :=
  before0_0_of m (dat m c) (dat_A m c 0) (after_0 m c) t d
theorem after_1 (c : Dev nD) (t : Fin cfg0.N) : (dat m c).after 1 t = iblk m c 1 t := by dsimp only [dat]
theorem before_1 (c : Dev nD) (t : Fin cfg0.N) (d) : (dat m c).before 1 t d = iblk m c 1 t :=
  before0_1_of m (dat m c) (dat_A m c 1) (after_1 m c) t d
theorem after_2 (c : Dev nD) (t : Fin cfg0.N) : (dat m c).after 2 t = iblk m c 2 t := by dsimp only [dat]
theorem before_2 (c : Dev nD) (t : Fin cfg0.N) (d) : (dat m c).before 2 t d = iblk m c 2 t :=
  before0_2_of m (dat m c) (dat_A m c 2) (after_2 m c) t d
theorem after_3 (c : Dev nD) (t : Fin cfg0.N) : (dat m c).after 3 t = iblk m c 3 t := by dsimp only [dat]
theorem before_3 (c : Dev nD) (t : Fin cfg0.N) (d) : (dat m c).before 3 t d = iblk m c 3 t :=
  before0_3_of m (dat m c) (dat_A m c 3) (after_3 m c) t d
theorem after_4 (c : Dev nD) (t : Fin cfg0.N) : (dat m c).after 4 t = iblk m c 4 t := by dsimp only [dat]
theorem before_4 (c : Dev nD) (t : Fin cfg0.N) (d) : (dat m c).before 4 t d = iblk m c 4 t :=
  before0_4_of m (dat m c) (dat_A m c 4) (after_4 m c) t d
theorem after_5 (c : Dev nD) (t : Fin cfg0.N) : (dat m c).after 5 t = iblk m c 5 t := by dsimp only [dat]
theorem before_5 (c : Dev nD) (t : Fin cfg0.N) (d) : (dat m c).before 5 t d = iblk m c 5 t :=
  before0_5_of m (dat m c) (dat_A m c 5) (after_5 m c) t d
theorem after_6 (c : Dev nD) (t : Fin cfg0.N) : (dat m c).after 6 t = iblk m c 6 t := by dsimp only [dat]
theorem before_6 (c : Dev nD) (t : Fin cfg0.N) (d) : (dat m c).before 6 t d = iblk m c 6 t :=
  before0_6_of m (dat m c) (dat_A m c 6) (after_6 m c) t d

/-- The relational data of the launch. -/
abbrev rdat (c : Dev nD) : RDat τ (Elt F) Unit ℕ (UR sig nD τ) ℕ cfg0 c := (dat m c).toRRel rel0 (Done m c)

/-- An output that no point before its head's second writes back is found at that point as the first left it. -/
theorem found_of_second (c : Dev nD) (w : Fin cfg0.W) (hw : rel0 w = true) (t : Fin cfg0.N) (ht : t.val % 2 = 1)
    (hfetch : (cfg0.win w).fetch t = false)
    (hflush : (cfg0.win w).flush ⟨t.val - 1, Nat.lt_of_le_of_lt (Nat.sub_le _ _) t.isLt⟩ ≠ true)
    (Y : (cfg0.win w).block.Idx → Elt F (cfg0.win w).elt) (hY : (rdat m c).Finds w t Y) :
    Done m c w ⟨t.val - 1, Nat.lt_of_le_of_lt (Nat.sub_le _ _) t.isLt⟩ Y :=
  (dat m c).toRRel_leaves hw ((((rdat m c).finds_of_pos hfetch (by omega) Y).mp hY).resolve_left hflush)

theorem not_fetched : ∀ t : Fin cfg0.N, (cfg0.win 7).fetch t = false ∧ (cfg0.win 8).fetch t = false ∧ (cfg0.win 9).fetch t = false :=
  (by decide +kernel : ∀ t : Fin grid0.N, win0_7.fetch t = false ∧ win0_8.fetch t = false ∧ win0_9.fetch t = false)

/-! ## A point's step on what it finds -/

variable {m} {c : Dev nD} {t : Fin cfg0.N}

theorem head_pred (ht : t.val % 2 = 1) : head ⟨t.val - 1, Nat.lt_of_le_of_lt (Nat.sub_le _ _) t.isLt⟩ = head t :=
  Fin.ext (by simp only [head]; omega)

theorem dqDone_first (ht : t.val % 2 = 0) {Y Z : Block F} {P : Fin 16 → Tile F → Tile F} {g : ℕ} (hg : g = t.val % 2)
    (hP : ∀ r X, P r X = dqOut m c (head t) r) (h : Stepped g P Y Z) : DqDone m c t Z := fun r hr => by
  rw [h r, if_pos (by omega), hP]

theorem dqDone_second (ht : t.val % 2 = 1) {Y Z : Block F} {P : Fin 16 → Tile F → Tile F} {g : ℕ} (hg : g = t.val % 2)
    (hP : ∀ r X, P r X = dqOut m c (head t) r)
    (hY : DqDone m c ⟨t.val - 1, Nat.lt_of_le_of_lt (Nat.sub_le _ _) t.isLt⟩ Y) (h : Stepped g P Y Z) : DqDone m c t Z := fun r hr => by
  rw [h r]
  split
  · exact hP _ _
  · rw [hY r (by show _ ≤ (t.val - 1) % 2; omega), head_pred ht]

theorem dkDone_first (ht : t.val % 2 = 0) {Z : Block F} {P : Fin 16 → Tile F → Tile F} {g : ℕ} (hg : g = t.val % 2)
    (hP : ∀ r, P r zeroTile = dkOut m c (head t) r) (h : Stepped g P zeroBlock Z) : DkDone m c t Z := fun r => by
  have hr : r.val < 16 := r.isLt
  rw [h r]
  by_cases h0 : r.val / 8 = g
  · rw [if_pos h0, if_pos (by omega)]; exact hP r
  · rw [if_neg h0, if_neg (by omega)]; rfl

theorem dkDone_second (ht : t.val % 2 = 1) {Y Z : Block F} {P : Fin 16 → Tile F → Tile F} {g : ℕ} (hg : g = t.val % 2)
    (hP : ∀ r, P r zeroTile = dkOut m c (head t) r)
    (hY : DkDone m c ⟨t.val - 1, Nat.lt_of_le_of_lt (Nat.sub_le _ _) t.isLt⟩ Y) (h : Stepped g P Y Z) : DkDone m c t Z := fun r => by
  have hr : r.val < 16 := r.isLt
  have hY' := hY r
  rw [head_pred ht] at hY'
  rw [h r, if_pos (by omega : r.val / 8 ≤ t.val % 2), hY']
  by_cases h0 : r.val / 8 = g
  · rw [if_pos h0, if_neg (by show ¬ _ ≤ (t.val - 1) % 2; omega)]; exact hP r
  · rw [if_neg h0, if_pos (by show _ ≤ (t.val - 1) % 2; omega)]

theorem dvDone_first (ht : t.val % 2 = 0) {Z : Block F} {P : Fin 16 → Tile F → Tile F} {g : ℕ} (hg : g = t.val % 2)
    (hP : ∀ r, P r zeroTile = dvOut m c (head t) r) (h : Stepped g P zeroBlock Z) : DvDone m c t Z := fun r => by
  have hr : r.val < 16 := r.isLt
  rw [h r]
  by_cases h0 : r.val / 8 = g
  · rw [if_pos h0, if_pos (by omega)]; exact hP r
  · rw [if_neg h0, if_neg (by omega)]; rfl

theorem dvDone_second (ht : t.val % 2 = 1) {Y Z : Block F} {P : Fin 16 → Tile F → Tile F} {g : ℕ} (hg : g = t.val % 2)
    (hP : ∀ r, P r zeroTile = dvOut m c (head t) r)
    (hY : DvDone m c ⟨t.val - 1, Nat.lt_of_le_of_lt (Nat.sub_le _ _) t.isLt⟩ Y) (h : Stepped g P Y Z) : DvDone m c t Z := fun r => by
  have hr : r.val < 16 := r.isLt
  have hY' := hY r
  rw [head_pred ht] at hY'
  rw [h r, if_pos (by omega : r.val / 8 ≤ t.val % 2), hY']
  by_cases h0 : r.val / 8 = g
  · rw [if_pos h0, if_neg (by show ¬ _ ≤ (t.val - 1) % 2; omega)]; exact hP r
  · rw [if_neg h0, if_pos (by show _ ≤ (t.val - 1) % 2; omega)]

end Cert.DilBwd

end
-- ==== Proof.Launched.lean ====
/- The whole program's run: the body's obligation at each grid point, the launch, and the frame. -/
module

public import proofs.«01_k».proof.Proof.Data

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.ShloMosaic.Pipeline (Dat RDat Cfg Window BodyObligationRel)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- What the body is handed at grid point `t`, window by window, -/
def bodyPre (c : Dev nD) (t : Fin cfg0.N) : sProp (MT nD τ sig Unit (Elt F) ℕ (UR sig nD τ) ℕ) :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y))

/-- and what it hands back. -/
def bodyPost (c : Dev nD) (t : Fin cfg0.N) : sProp (MT nD τ sig Unit (Elt F) ℕ (UR sig nD τ) ℕ) :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ (∃ X, ⌜Done m c 7 t X⌝ ∗ owns (c : Thread nD τ) (st0_7 t) fullShare X)
    ∗ (∃ X, ⌜Done m c 8 t X⌝ ∗ owns (c : Thread nD τ) (st0_8 t) fullShare X)
    ∗ (∃ X, ⌜Done m c 9 t X⌝ ∗ owns (c : Thread nD τ) (st0_9 t) fullShare X)
    ∗ (∃ X, ⌜Done m c 10 t X⌝ ∗ owns (c : Thread nD τ) (st0_10 t) fullShare X))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  have e0 : ∀ d, (dat m c).before 0 t d = qB m c (head t) := fun d => (before_0 m c t d).trans (iblk_0 m c t)
  have e1 : ∀ d, (dat m c).before 1 t d = kB m c (head t) := fun d => (before_1 m c t d).trans (iblk_1 m c t)
  have e2 : ∀ d, (dat m c).before 2 t d = vB m c (head t) := fun d => (before_2 m c t d).trans (iblk_2 m c t)
  have e3 : ∀ d, (dat m c).before 3 t d = oB m c (head t) := fun d => (before_3 m c t d).trans (iblk_3 m c t)
  have e4 : ∀ d, (dat m c).before 4 t d = lseB m c (head t) := fun d => (before_4 m c t d).trans (iblk_4 m c t)
  have e5 : ∀ d, (dat m c).before 5 t d = dOB m c (head t) := fun d => (before_5 m c t d).trans (iblk_5 m c t)
  have e6 : ∀ d, (dat m c).before 6 t d = dlseB m c (head t) := fun d => (before_6 m c t d).trans (iblk_6 m c t)
  have a0 : (dat m c).after 0 t = qB m c (head t) := (after_0 m c t).trans (iblk_0 m c t)
  have a1 : (dat m c).after 1 t = kB m c (head t) := (after_1 m c t).trans (iblk_1 m c t)
  have a2 : (dat m c).after 2 t = vB m c (head t) := (after_2 m c t).trans (iblk_2 m c t)
  have a3 : (dat m c).after 3 t = oB m c (head t) := (after_3 m c t).trans (iblk_3 m c t)
  have a4 : (dat m c).after 4 t = lseB m c (head t) := (after_4 m c t).trans (iblk_4 m c t)
  have a5 : (dat m c).after 5 t = dOB m c (head t) := (after_5 m c t).trans (iblk_5 m c t)
  have a6 : (dat m c).after 6 t = dlseB m c (head t) := (after_6 m c t).trans (iblk_6 m c t)
  unfold bodyPre bodyPost bodyAt0
  simp only [e0, a0, e1, a1, e2, a2, e3, a3, e4, a4, e5, a5, e6, a6]
  rw [show (dat m c).Φ t.succ = (dat m c).Φ t.castSucc from rfl,
    show (dat m c).owesAt () t.succ = (dat m c).owesAt () t.castSucc from rfl]
  by_cases ht : t.val % 2 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
    iapply (body_first c (grid0.coords t) _ _ _ _ _ _ _ _ _ _ _ _ _ _ _ _ _ _ _ _ _ _ ((first_iff t).mpr ht) (qB m c (head t)) (kB m c (head t)) (vB m c (head t)) (oB m c (head t)) (lseB m c (head t)) (dOB m c (head t)) (dlseB m c (head t)) Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, ⟨%Z7, %hZ7, H7⟩, ⟨%Z8, %hZ8, H8⟩, ⟨%Z9, %hZ9, H9⟩, ⟨%Z10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists Z7
      isplitr
      · ipureintro; exact dqDone_first ht (coord_one t) (fun _ _ => rfl) hZ7
      iexact H7
    isplitl [H8]
    · iexists Z8
      isplitr
      · ipureintro; exact dkDone_first ht (coord_one t) (fun _ => rfl) hZ8
      iexact H8
    isplitl [H9]
    · iexists Z9
      isplitr
      · ipureintro; exact dvDone_first ht (coord_one t) (fun _ => rfl) hZ9
      iexact H9
    iexists Z10
    isplitr
    · ipureintro; trivial
    iexact H10
  · iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩⟩
    have g7 := found_of_second m c 7 rfl t (by omega) (not_fetched t).1
      (fun h => by have h' := (flush0_7 _).mp h; simp only at h'; omega) Y7 hY7
    have g8 := found_of_second m c 8 rfl t (by omega) (not_fetched t).2.1
      (fun h => by have h' := (flush0_8 _).mp h; simp only at h'; omega) Y8 hY8
    have g9 := found_of_second m c 9 rfl t (by omega) (not_fetched t).2.2
      (fun h => by have h' := (flush0_9 _).mp h; simp only at h'; omega) Y9 hY9
    iapply (body_second c (grid0.coords t) _ _ _ _ _ _ _ _ _ _ _ _ _ _ _ _ _ _ _ _ _ _ (fun h => ht ((first_iff t).mp h)) (qB m c (head t)) (kB m c (head t)) (vB m c (head t)) (oB m c (head t)) (lseB m c (head t)) (dOB m c (head t)) (dlseB m c (head t)) Y7 Y8 Y9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, ⟨%Z7, %hZ7, H7⟩, ⟨%Z8, %hZ8, H8⟩, ⟨%Z9, %hZ9, H9⟩, ⟨%Z10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists Z7
      isplitr
      · ipureintro; exact dqDone_second (by omega) (coord_one t) (fun _ _ => rfl) g7 hZ7
      iexact H7
    isplitl [H8]
    · iexists Z8
      isplitr
      · ipureintro; exact dkDone_second (by omega) (coord_one t) (fun _ => rfl) g8 hZ8
      iexact H8
    isplitl [H9]
    · iexists Z9
      isplitr
      · ipureintro; exact dvDone_second (by omega) (coord_one t) (fun _ => rfl) g9 hZ9
      iexact H9
    iexists Z10
    isplitr
    · ipureintro; trivial
    iexact H10

/-- The body table's row at grid point `t`. -/
theorem defs₀_row (t : Fin cfg0.N) :
    defs₀ (F := F) .tc cfg0.body (cfg0.bodyArgs t (cfg0.slots t)) = bodyAt0 t := by
  unfold defs₀; rw [Defs.onTc_tc]

/-- The pipeline's obligation of its body, at every grid point. -/
theorem body_obligation (c : Dev nD) : BodyObligationRel (dat (F := F) m c) (defs₀ (F := F)) Variants.none () Set.univ rel0 (Done m c) := fun t => by
  rw [bigSep_W0, bigSep_W0, defs₀_row]
  exact triple_restated (sound_body m c t) rfl .rfl fun _ => .rfl

set_option backward.isDefEq.respectTransparency.types false in
/-- THE RUN, for any values of the float types: every weakly fair execution of @main ends, with the arrays as `RDat.FramePost` says of
    the relational data and every semaphore counter at zero. -/
theorem run_main : θ_run defs (onTc (τ := τ) (main (F := F))) (s₀ m ρ)
    (fun r => (RDat.FramePost (cfgs 0) (rdat m) (V m)) r ∧ r.2.sem = fun _ => 0) :=
  RDat.θ_run_frame_track_shared cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := dat_A m)
    (hin := fun _ => .rfl) (hout := fun _ => .rfl) (Q' := _) (hQ' := fun _ h => h)

/-- Argument 0 is unchanged at the end of the run. -/
theorem arg0_unchanged {r : PUnit × MemSt nD τ sig (Elt F)} (h : RDat.FramePost (cfgs 0) (rdat m) (V m) r) (c : Dev nD) :
    r.2.mem ((c.tc : Thread nD τ).loc main_arg0) = m ((c.tc : Thread nD τ).loc main_arg0) :=
  (RDat.FramePost.arr_in h c 1 rfl).trans ((dat_A m c 1).trans (V_main_arg0 m c))

/-- Argument 1 is unchanged at the end of the run. -/
theorem arg1_unchanged {r : PUnit × MemSt nD τ sig (Elt F)} (h : RDat.FramePost (cfgs 0) (rdat m) (V m) r) (c : Dev nD) :
    r.2.mem ((c.tc : Thread nD τ).loc main_arg1) = m ((c.tc : Thread nD τ).loc main_arg1) :=
  (RDat.FramePost.arr_in h c 2 rfl).trans ((dat_A m c 2).trans (V_main_arg1 m c))

/-- Argument 2 is unchanged at the end of the run. -/
theorem arg2_unchanged {r : PUnit × MemSt nD τ sig (Elt F)} (h : RDat.FramePost (cfgs 0) (rdat m) (V m) r) (c : Dev nD) :
    r.2.mem ((c.tc : Thread nD τ).loc main_arg2) = m ((c.tc : Thread nD τ).loc main_arg2) :=
  (RDat.FramePost.arr_in h c 5 rfl).trans ((dat_A m c 5).trans (V_main_arg2 m c))

/-- Argument 3 is unchanged at the end of the run. -/
theorem arg3_unchanged {r : PUnit × MemSt nD τ sig (Elt F)} (h : RDat.FramePost (cfgs 0) (rdat m) (V m) r) (c : Dev nD) :
    r.2.mem ((c.tc : Thread nD τ).loc main_arg3) = m ((c.tc : Thread nD τ).loc main_arg3) :=
  (RDat.FramePost.arr_in h c 6 rfl).trans ((dat_A m c 6).trans (V_main_arg3 m c))

/-- THE FRAME, for any values of the float types: the run ends with the arguments unchanged and every semaphore counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨arg0_unchanged m h.1 c, arg1_unchanged m h.1 c, arg2_unchanged m h.1 c, arg3_unchanged m h.1 c⟩, h.2⟩) (run_main m ρ)

end Cert.DilBwd

end
-- ==== Proof.Arrays.lean ====
/- The result arrays at the end of the run, tile by tile. -/
module

public import proofs.«01_k».proof.Proof.Launched
public import Idealize.ShloMosaic.Lib.Pipeline.ValueKit

@[expose] public section

set_option maxRecDepth 16384

noncomputable section

namespace Cert.DilBwd

open Cert.KernelIdeal Cert.KernelIdeal.Gen
open Idealize.ShloMosaic Idealize.ShloMosaic.TcCoe Idealize.ShloMosaic.Tactic
open Idealize.ShloMosaic.Pipeline (Dat RDat Cfg Window)

variable {F : FTy → Type} [FloatOps F]

/-- The head of a column, -/
def colHead (x : Fin 512) : Fin 4 := ⟨x.val / 128, by omega⟩

/-- the residue of a row, -/
def rowRes (x : Fin 2048) : Fin 16 := ⟨x.val % 16, by omega⟩

/-- and the place of a row and a column in their tile. -/
def inTile (i : S2048x512.Idx) : S128x128.Idx := fun a => match a with
  | 0 => (⟨(i 0).val / 16, by have h : (i 0).val < 2048 := (i 0).isLt; show _ < 128; omega⟩ : Fin 128)
  | 1 => (⟨(i 1).val % 128, by show _ < 128; omega⟩ : Fin 128)

/-- The array of which `X h r` is head `h`'s tile of residue `r`. -/
def assembled (X : Fin 4 → Fin 16 → Tile F) : Vec F S2048x512 .f32 := fun i => X (colHead (i 1)) (rowRes (i 0)) (inTile i)

theorem assembled_at (X : Fin 4 → Fin 16 → Tile F) (i : S2048x512.Idx) (h : Fin 4) (r : Fin 16) (j : S128x128.Idx)
    (h0 : (i 0).val = 16 * (j 0).val + r.val) (h1 : (i 1).val = h.val * 128 + (j 1).val) : assembled X i = X h r j := by
  have hj : (j 1).val < 128 := (j 1).isLt
  have hr := r.isLt
  have e1 : colHead (i 1) = h := Fin.ext (by show (i 1).val / 128 = h.val; omega)
  have e2 : rowRes (i 0) = r := Fin.ext (by show (i 0).val % 16 = r.val; omega)
  have e3 : inTile i = j := by
    funext a
    match a with
    | 0 => exact Fin.ext (by show (i 0).val / 16 = (j 0).val; omega)
    | 1 => exact Fin.ext (by show (i 1).val % 128 = (j 1).val; omega)
  show X (colHead (i 1)) (rowRes (i 0)) (inTile i) = _
  rw [e1, e2, e3]

variable (m : (ℓ : Loc nD τ sig) → Buf (Elt F) ℓ)

theorem result_dq [∀ e, Nonempty (Elt F e)] {r : PUnit × MemSt nD τ sig (Elt F)} (h : RDat.FramePost (cfgs 0) (rdat m) (V m) r) (c : Dev nD) :
    r.2.mem ((c.tc : Thread nD τ).loc main_v46_0) = assembled (dqOut m c) := by
  obtain ⟨after, hL, hA⟩ := RDat.FramePost.exists_exact h c
  refine (hA 7).trans (Dat.arrAt_eq_of_covers _ 7 _ (by decide +kernel) fun t hf y => ?_)
  have hD : DqDone m c t (after 7 t) := (dat m c).toRRel_leaves rfl (hL 7 t hf)
  have ht := (flush0_7 t).mp hf
  blk_simp
  obtain ⟨ρ, j, rfl⟩ := exists_place y
  refine (congrFun (hD ρ (by have := ρ.isLt; omega)) j).trans (assembled_at _ _ _ _ _ ?_ ?_).symm
  · blk_simp [index_facts t]; rfl
  · blk_simp [index_facts t]; rfl

theorem result_dk [∀ e, Nonempty (Elt F e)] {r : PUnit × MemSt nD τ sig (Elt F)} (h : RDat.FramePost (cfgs 0) (rdat m) (V m) r) (c : Dev nD) :
    r.2.mem ((c.tc : Thread nD τ).loc main_v46_1) = assembled (dkOut m c) := by
  obtain ⟨after, hL, hA⟩ := RDat.FramePost.exists_exact h c
  refine (hA 8).trans (Dat.arrAt_eq_of_covers _ 8 _ (by decide +kernel) fun t hf y => ?_)
  have hD : DkDone m c t (after 8 t) := (dat m c).toRRel_leaves rfl (hL 8 t hf)
  have ht := (flush0_8 t).mp hf
  blk_simp
  obtain ⟨ρ, j, rfl⟩ := exists_place y
  refine (congrFun ((hD ρ).trans (if_pos (by have := ρ.isLt; omega))) j).trans (assembled_at _ _ _ _ _ ?_ ?_).symm
  · blk_simp [index_facts t]; rfl
  · blk_simp [index_facts t]; rfl

theorem result_dv [∀ e, Nonempty (Elt F e)] {r : PUnit × MemSt nD τ sig (Elt F)} (h : RDat.FramePost (cfgs 0) (rdat m) (V m) r) (c : Dev nD) :
    r.2.mem ((c.tc : Thread nD τ).loc main_v46_2) = assembled (dvOut m c) := by
  obtain ⟨after, hL, hA⟩ := RDat.FramePost.exists_exact h c
  refine (hA 9).trans (Dat.arrAt_eq_of_covers _ 9 _ (by decide +kernel) fun t hf y => ?_)
  have hD : DvDone m c t (after 9 t) := (dat m c).toRRel_leaves rfl (hL 9 t hf)
  have ht := (flush0_9 t).mp hf
  blk_simp
  obtain ⟨ρ, j, rfl⟩ := exists_place y
  refine (congrFun ((hD ρ).trans (if_pos (by have := ρ.isLt; omega))) j).trans (assembled_at _ _ _ _ _ ?_ ?_).symm
  · blk_simp [index_facts t]; rfl
  · blk_simp [index_facts t]; rfl

end Cert.DilBwd

end
-- ==== Proof.Reals.lean ====
/- Extended reals that are reals: sums, quotients, exponentials and logarithms of them, and the few constants the programs hold. -/
module

public import Idealize.ShloMosaic.PureOps.Ideal.Laws

@[expose] public section

noncomputable section

namespace Cert.DilBwd

open Idealize.ShloMosaic

theorem congr2 {α β δ : Type} (f : α → β → δ) {a a' : α} {b b' : β} (ha : a = a') (hb : b = b') : f a b = f a' b' := by
  rw [ha, hb]

theorem congr3 {α β γ δ : Type} (f : α → β → γ → δ) {a a' : α} {b b' : β} {c c' : γ} (ha : a = a') (hb : b = b') (hc : c = c') :
    f a b c = f a' b' c' := by
  rw [ha, hb, hc]

theorem select_iff {α : Type} {c : BitVec 1} {p : Prop} [Decidable p] (h : c = 1#1 ↔ p) (a b : α) :
    Scalar.select c a b = if p then a else b := if_congr h rfl rfl

theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

theorem coe_sum_mul {ι : Type} (S : Finset ι) (f g : ι → ℝ) :
    ∑ k ∈ S, ((f k : ℝ) : EReal) * ((g k : ℝ) : EReal) = ((∑ k ∈ S, f k * g k : ℝ) : EReal) := by
  rw [← coe_sum]; exact Finset.sum_congr rfl fun k _ => (EReal.coe_mul _ _).symm

theorem coe_div {a b : ℝ} (h : b ≠ 0) : Ideal.div (a : EReal) (b : EReal) = ((a / b : ℝ) : EReal) := by
  rw [Ideal.div_coe h, ← EReal.coe_mul, mul_one_div]

theorem coe_log {a : ℝ} (h : 0 < a) : Ideal.log (a : EReal) = ((Real.log a : ℝ) : EReal) := by
  rw [Ideal.log_coe, if_neg (not_le.mpr h)]

/-- The factor that scales the scores, one over the square root of the head's width, rounded. -/
def κ : ℝ := 11863283 / 134217728

theorem ofBits_κ : Ideal.ofBits .f32 0x3DB504F3#32 = ((κ : ℝ) : EReal) := by
  simp [Ideal.ofBits, Ideal.ieee, κ]
  rw [← EReal.coe_mul]; norm_num

theorem ofBits_one : Ideal.ofBits .f32 0x3F800000#32 = ((1 : ℝ) : EReal) := by
  simp [Ideal.ofBits, Ideal.ieee]
  rw [← EReal.coe_mul]; norm_num

theorem ofBits_bot : Ideal.ofBits .f32 0xFF800000#32 = ⊥ := by simp [Ideal.ofBits, Ideal.ieee]

/-- The greatest of finitely many, some of them minus infinity, is the greatest of the others. -/
theorem fold_max {ι : Type} [Fintype ι] [DecidableEq ι] (p : ι → Prop) [DecidablePred p] (f : ι → ℝ) (h : (Finset.univ.filter p).Nonempty) :
    (Finset.univ : Finset ι).fold max (⊥ : EReal) (fun j => if p j then ((f j : ℝ) : EReal) else ⊥)
      = (((Finset.univ.filter p).sup' h f : ℝ) : EReal) := by
  apply le_antisymm
  · rw [Finset.fold_max_le]
    refine ⟨bot_le, fun j _ => ?_⟩
    split
    · next hj => exact EReal.coe_le_coe_iff.mpr (Finset.le_sup' f (Finset.mem_filter.mpr ⟨Finset.mem_univ _, hj⟩))
    · exact bot_le
  · obtain ⟨j, hj, he⟩ := Finset.exists_mem_eq_sup' h f
    rw [he, Finset.le_fold_max]
    exact Or.inr ⟨j, Finset.mem_univ _, by rw [if_pos (Finset.mem_filter.mp hj).2]⟩

end Cert.DilBwd

end
-- ==== Proof.TileValue.lean ====
/- One tile's gradients at the reals. -/
module

public import proofs.«01_k».proof.Proof.Tiles
public import proofs.«01_k».proof.Proof.Reals
public import Idealize.ShloMosaic.Lib.Pipeline.Value
public import Idealize.ShloMosaic.Lib.ValueIdx
public import Idealize.ShloMosaic.Lib.StableHlo.Predicate
public import Idealize.ShloMosaic.PureOps.Ideal.Laws

@[expose] public section

set_option maxRecDepth 16384

noncomputable section

namespace Cert.DilBwd

open Cert.KernelIdeal Cert.KernelIdeal.Gen
open Idealize.ShloMosaic Idealize.ShloMosaic.TcCoe Idealize.ShloMosaic.Tactic

/-! ## The three products -/

theorem matmul_nt {φ : FTy} (prec : Option ContractPrecision) (A B : FVec Ideal S128x128 φ) (a b : Fin 128 → Fin 128 → ℝ)
    (hA : ∀ y, A y = ((a (y 0) (y 1) : ℝ) : EReal)) (hB : ∀ y, B y = ((b (y 0) (y 1) : ℝ) : EReal)) (j : S128x128.Idx) :
    matmul dot_S128x128_S128x128_S128x128_1_1_0_0_n_n prec A B (constant S128x128 .f32 0x00000000#32) j
      = ((∑ d, a (j 0) d * b (j 1) d : ℝ) : EReal) := by
  simp only [matmul]
  rw [Ideal.matmul_constant_zero_apply, ← Equiv.sum_comp (ValueIdx.contrEquiv1 dot_S128x128_S128x128_S128x128_1_1_0_0_n_n 128 rfl rfl).symm,
    ← coe_sum_mul]
  refine Finset.sum_congr rfl fun k _ => ?_
  have hk := ValueIdx.contrEquiv1_symm_val dot_S128x128_S128x128_S128x128_1_1_0_0_n_n 128 rfl rfl k
  rw [hA, hB]
  generalize (ValueIdx.contrEquiv1 dot_S128x128_S128x128_S128x128_1_1_0_0_n_n 128 rfl rfl).symm k = q at hk
  refine congrArg₂ (· * ·) (congrArg _ (congr2 a (Fin.ext ?_) (Fin.ext ?_))) (congrArg _ (congr2 b (Fin.ext ?_) (Fin.ext ?_)))
  · rfl
  · exact (dot_S128x128_S128x128_S128x128_1_1_0_0_n_n.lhsIdx_val_of_single rfl j q).trans hk
  · rfl
  · exact (dot_S128x128_S128x128_S128x128_1_1_0_0_n_n.rhsIdx_val_of_single rfl j q).trans hk

theorem matmul_nn {φ : FTy} (prec : Option ContractPrecision) (A B : FVec Ideal S128x128 φ) (a b : Fin 128 → Fin 128 → ℝ)
    (hA : ∀ y, A y = ((a (y 0) (y 1) : ℝ) : EReal)) (hB : ∀ y, B y = ((b (y 0) (y 1) : ℝ) : EReal)) (j : S128x128.Idx) :
    matmul dot_S128x128_S128x128_S128x128_1_0_0_1_n_n prec A B (constant S128x128 .f32 0x00000000#32) j
      = ((∑ d, a (j 0) d * b d (j 1) : ℝ) : EReal) := by
  simp only [matmul]
  rw [Ideal.matmul_constant_zero_apply, ← Equiv.sum_comp (ValueIdx.contrEquiv1 dot_S128x128_S128x128_S128x128_1_0_0_1_n_n 128 rfl rfl).symm,
    ← coe_sum_mul]
  refine Finset.sum_congr rfl fun k _ => ?_
  have hk := ValueIdx.contrEquiv1_symm_val dot_S128x128_S128x128_S128x128_1_0_0_1_n_n 128 rfl rfl k
  rw [hA, hB]
  generalize (ValueIdx.contrEquiv1 dot_S128x128_S128x128_S128x128_1_0_0_1_n_n 128 rfl rfl).symm k = q at hk
  refine congrArg₂ (· * ·) (congrArg _ (congr2 a (Fin.ext ?_) (Fin.ext ?_))) (congrArg _ (congr2 b (Fin.ext ?_) (Fin.ext ?_)))
  · rfl
  · exact (dot_S128x128_S128x128_S128x128_1_0_0_1_n_n.lhsIdx_val_of_single rfl j q).trans hk
  · exact (dot_S128x128_S128x128_S128x128_1_0_0_1_n_n.rhsIdx_val_of_single rfl j q).trans hk
  · rfl

theorem matmul_tn {φ : FTy} (prec : Option ContractPrecision) (A B : FVec Ideal S128x128 φ) (a b : Fin 128 → Fin 128 → ℝ)
    (hA : ∀ y, A y = ((a (y 0) (y 1) : ℝ) : EReal)) (hB : ∀ y, B y = ((b (y 0) (y 1) : ℝ) : EReal)) (j : S128x128.Idx) :
    matmul dot_S128x128_S128x128_S128x128_0_0_1_1_n_n prec A B (constant S128x128 .f32 0x00000000#32) j
      = ((∑ d, a d (j 0) * b d (j 1) : ℝ) : EReal) := by
  simp only [matmul]
  rw [Ideal.matmul_constant_zero_apply, ← Equiv.sum_comp (ValueIdx.contrEquiv1 dot_S128x128_S128x128_S128x128_0_0_1_1_n_n 128 rfl rfl).symm,
    ← coe_sum_mul]
  refine Finset.sum_congr rfl fun k _ => ?_
  have hk := ValueIdx.contrEquiv1_symm_val dot_S128x128_S128x128_S128x128_0_0_1_1_n_n 128 rfl rfl k
  rw [hA, hB]
  generalize (ValueIdx.contrEquiv1 dot_S128x128_S128x128_S128x128_0_0_1_1_n_n 128 rfl rfl).symm k = q at hk
  refine congrArg₂ (· * ·) (congrArg _ (congr2 a (Fin.ext ?_) (Fin.ext ?_))) (congrArg _ (congr2 b (Fin.ext ?_) (Fin.ext ?_)))
  · exact (dot_S128x128_S128x128_S128x128_0_0_1_1_n_n.lhsIdx_val_of_single rfl j q).trans hk
  · rfl
  · exact (dot_S128x128_S128x128_S128x128_0_0_1_1_n_n.rhsIdx_val_of_single rfl j q).trans hk
  · rfl

/-! ## The tiles -/

/-- The place of row `a` in a column of one entry per row. -/
def colIdx (a : Fin 128) : S128x1.Idx := fun x => match x with
  | ⟨0, _⟩ => a
  | ⟨1, _⟩ => (⟨0, Nat.one_pos⟩ : Fin 1)

/-- The place of row `a`'s first lane in a tile. -/
def laneIdx (a : Fin 128) : S128x128.Idx := fun x => match x with
  | ⟨0, _⟩ => a
  | ⟨1, _⟩ => (⟨0, by decide⟩ : Fin 128)

/-- The place of row `a` in a list of one entry per row. -/
def oneIdx (a : Fin 128) : S128.Idx := fun x => match x with
  | ⟨0, _⟩ => a

/-- A list of one entry per row as a column. -/
theorem column_at (x : FVec Ideal S128 .f32) (a : Fin 128) : shapeCast S128x1 x shapeCasts_S128_S128x1 (colIdx a) = x (oneIdx a) :=
  shapeCast_apply x shapeCasts_S128_S128x1 (colIdx a) (oneIdx a) (by
    rw [Shape.rowMajor_val_one, Shape.rowMajor_val_two]
    show a.val = a.val * 1 + 0
    omega)

/-- A tile's sum along its row `a`. -/
theorem rowSum_at (x : FVec Ideal S128x128 .f32) (f : Fin 128 → Fin 128 → ℝ) (hx : ∀ y, x y = ((f (y 0) (y 1) : ℝ) : EReal)) (h₁ h₂) (a : Fin 128) :
    multiReduction .add [1] S128 x 0x00000000#32 reduces_S128x128_S128 h₁ h₂ (oneIdx a) = ((∑ d, f a d : ℝ) : EReal) := by
  rw [Ideal.multiReduction_add_single, ← coe_sum]
  refine Finset.sum_congr rfl fun d _ => ?_
  rw [hx]
  rfl

/-- A column spread along the rows. -/
theorem spread_at (x : FVec Ideal S128x1 .f32) (j : S128x128.Idx) :
    broadcastTo S128x128 x broadcasts_S128x1_S128x128 j = x (colIdx (j 0)) :=
  broadcastTo_apply x broadcasts_S128x1_S128x128 j (colIdx (j 0)) fun a => match a with
    | ⟨0, _⟩ => rfl
    | ⟨1, _⟩ => rfl

/-- The column of a tile's first lanes. -/
theorem firstLane_at (x : FVec Ideal S128x128 .f32) (a : Fin 128) :
    extractStridedSlice S128x1 ![0, 0] x slices_S128x128_o0_0_S128x1 (colIdx a) = x (laneIdx a) :=
  extractStridedSlice_apply ![0, 0] x slices_S128x128_o0_0_S128x1 (colIdx a) (laneIdx a) fun b => match b with
    | ⟨0, _⟩ => (Nat.zero_add _).symm
    | ⟨1, _⟩ => rfl

theorem mask_tile (j : S128x128.Idx) : (k0_pay84 : IVec S128x128 1) j = 1#1 ↔ (j 1).val ≤ (j 0).val := by
  unfold k0_pay84
  show IntOp.cmpi .sle (iota .tc S128x128 32 [1] iota_S128x128_d1_w32 j) (iota .tc S128x128 32 [0] iota_S128x128_d0_w32 j) = 1#1 ↔ _
  rw [iota_single_apply, iota_single_apply]
  have h0 : (j 0).val < 128 := (j 0).isLt
  have h1 : (j 1).val < 128 := (j 1).isLt
  exact StableHlo.Predicate.sle_ofNat_iff _ _ (by omega) (by omega)

section

variable (fq fk fv fo fw : Fin 128 → Fin 128 → ℝ) (fl fg : Fin 128 → ℝ)

/-- The probabilities of a tile, -/
def probT (a b : Fin 128) : ℝ := if b.val ≤ a.val then Real.exp ((∑ d, fq a d * fk b d) * κ - fl a) else 0

/-- and its gradients of the scores. -/
def dsT (a b : Fin 128) : ℝ := probT fq fk fl a b * ((∑ d, fw a d * fv b d) + (fg a - ∑ d, fw a d * fo a d))

variable {fq fk fv fo fw fl fg} {q k v o lse dO dlse : Tile Ideal}

theorem pay87_at (hl : ∀ a, lse (laneIdx a) = ((fl a : ℝ) : EReal)) (a : Fin 128) : k0_pay87 lse (colIdx a) = ((fl a : ℝ) : EReal) := by
  unfold k0_pay87
  rw [shapeCast_self, firstLane_at, hl]

theorem probT_at (hq : ∀ y, q y = ((fq (y 0) (y 1) : ℝ) : EReal)) (hk : ∀ y, k y = ((fk (y 0) (y 1) : ℝ) : EReal))
    (hl : ∀ a, lse (laneIdx a) = ((fl a : ℝ) : EReal)) (j : S128x128.Idx) :
    pTile q k lse j = ((probT fq fk fl (j 0) (j 1) : ℝ) : EReal) := by
  have hm := matmul_nt none (k0_pay85 q) (k0_pay88 k) fq fk hq hk j
  unfold pTile k0_pay89 probT
  refine (select_iff (mask_tile j) _ _).trans ?_
  by_cases hs : (j 1).val ≤ (j 0).val
  · rw [if_pos hs, if_pos hs]
    show Ideal.exp (matmul _ none (k0_pay85 q) (k0_pay88 k) _ j * Ideal.ofBits .f32 0x3DB504F3#32 - broadcastTo S128x128 (k0_pay87 lse) _ j) = _
    rw [hm, spread_at, ofBits_κ]
    refine (congrArg (fun z => Ideal.exp (_ - z)) (pay87_at hl (j 0))).trans ?_
    rw [← EReal.coe_mul, ← EReal.coe_sub, Ideal.exp_coe]
  · rw [if_neg hs, if_neg hs]
    exact Ideal.ofBits_zero_f32

theorem dsT_at (hq : ∀ y, q y = ((fq (y 0) (y 1) : ℝ) : EReal)) (hk : ∀ y, k y = ((fk (y 0) (y 1) : ℝ) : EReal))
    (hv : ∀ y, v y = ((fv (y 0) (y 1) : ℝ) : EReal)) (ho : ∀ y, o y = ((fo (y 0) (y 1) : ℝ) : EReal))
    (hw : ∀ y, dO y = ((fw (y 0) (y 1) : ℝ) : EReal)) (hl : ∀ a, lse (laneIdx a) = ((fl a : ℝ) : EReal))
    (hg : ∀ a, dlse (laneIdx a) = ((fg a : ℝ) : EReal)) (j : S128x128.Idx) :
    k0_pay90 k0_pay84 (k0_pay85 q) dO (k0_pay86 dO) (k0_pay87 lse) dlse o k v j = ((dsT fq fk fv fo fw fl fg (j 0) (j 1) : ℝ) : EReal) := by
  have hm := matmul_nt none (k0_pay86 dO) (truncf .bf16 v bitsLt_bf16_f32) fw fv hw hv j
  unfold k0_pay90 dsT
  show pTile q k lse j * (matmul _ none (k0_pay86 dO) (truncf .bf16 v bitsLt_bf16_f32) _ j + broadcastTo S128x128 _ _ j) = _
  rw [probT_at hq hk hl, hm, spread_at, EReal.coe_mul, EReal.coe_add]
  refine congrArg (_ * ·) (congrArg (_ + ·) ?_)
  show extractStridedSlice S128x1 ![0, 0] dlse slices_S128x128_o0_0_S128x1 (colIdx (j 0)) - shapeCast S128x1 _ shapeCasts_S128_S128x1 (colIdx (j 0)) = _
  refine (congrArg₂ (· - ·) ((firstLane_at dlse (j 0)).trans (hg (j 0))) ?_).trans (EReal.coe_sub _ _).symm
  refine (column_at _ (j 0)).trans (rowSum_at _ (fun a d => fw a d * fo a d) (fun y => ?_) _ _ (j 0))
  show dO y * shapeCast S128x128 o shapeCasts_S128x128_S128x128 y = _
  rw [shapeCast_self, hw, ho, EReal.coe_mul]

theorem dqTile_at (hq : ∀ y, q y = ((fq (y 0) (y 1) : ℝ) : EReal)) (hk : ∀ y, k y = ((fk (y 0) (y 1) : ℝ) : EReal))
    (hv : ∀ y, v y = ((fv (y 0) (y 1) : ℝ) : EReal)) (ho : ∀ y, o y = ((fo (y 0) (y 1) : ℝ) : EReal))
    (hw : ∀ y, dO y = ((fw (y 0) (y 1) : ℝ) : EReal)) (hl : ∀ a, lse (laneIdx a) = ((fl a : ℝ) : EReal))
    (hg : ∀ a, dlse (laneIdx a) = ((fg a : ℝ) : EReal)) (j : S128x128.Idx) :
    dqTile q k v o lse dO dlse j = (((∑ b, dsT fq fk fv fo fw fl fg (j 0) b * fk b (j 1)) * κ : ℝ) : EReal) := by
  unfold dqTile k0_pay91
  show matmul _ none _ (k0_pay88 k) _ j * Ideal.ofBits .f32 0x3DB504F3#32 = _
  rw [matmul_nn none _ (k0_pay88 k) _ fk (dsT_at hq hk hv ho hw hl hg) hk, ofBits_κ, ← EReal.coe_mul]

theorem dkTile_at (hq : ∀ y, q y = ((fq (y 0) (y 1) : ℝ) : EReal)) (hk : ∀ y, k y = ((fk (y 0) (y 1) : ℝ) : EReal))
    (hv : ∀ y, v y = ((fv (y 0) (y 1) : ℝ) : EReal)) (ho : ∀ y, o y = ((fo (y 0) (y 1) : ℝ) : EReal))
    (hw : ∀ y, dO y = ((fw (y 0) (y 1) : ℝ) : EReal)) (hl : ∀ a, lse (laneIdx a) = ((fl a : ℝ) : EReal))
    (hg : ∀ a, dlse (laneIdx a) = ((fg a : ℝ) : EReal)) (j : S128x128.Idx) :
    dkTile q k v o lse dO dlse zeroTile j = (((∑ a, dsT fq fk fv fo fw fl fg a (j 0) * fq a (j 1)) * κ : ℝ) : EReal) := by
  unfold dkTile k0_pay92
  show shapeCast S128x128 (zeroTile (F := Ideal)) shapeCasts_S128x128_S128x128 j + matmul _ none _ (k0_pay85 q) _ j * Ideal.ofBits .f32 0x3DB504F3#32 = _
  rw [shapeCast_self, matmul_tn none _ (k0_pay85 q) _ fq (dsT_at hq hk hv ho hw hl hg) hq, ofBits_κ, ← EReal.coe_mul]
  show Ideal.ofBits .f32 0x00000000#32 + _ = _
  rw [Ideal.ofBits_zero_f32, zero_add]

theorem dvTile_at (hq : ∀ y, q y = ((fq (y 0) (y 1) : ℝ) : EReal)) (hk : ∀ y, k y = ((fk (y 0) (y 1) : ℝ) : EReal))
    (hw : ∀ y, dO y = ((fw (y 0) (y 1) : ℝ) : EReal)) (hl : ∀ a, lse (laneIdx a) = ((fl a : ℝ) : EReal)) (j : S128x128.Idx) :
    dvTile q k lse dO zeroTile j = ((∑ a, probT fq fk fl a (j 0) * fw a (j 1) : ℝ) : EReal) := by
  unfold dvTile k0_pay1
  show shapeCast S128x128 (zeroTile (F := Ideal)) shapeCasts_S128x128_S128x128 j + matmul _ none (truncf .bf16 (pTile q k lse) bitsLt_bf16_f32) (k0_pay86 dO) _ j = _
  rw [shapeCast_self]
  refine (congrArg (_ + ·) (matmul_tn none _ (k0_pay86 dO) _ fw (probT_at hq hk hl) hw j)).trans ?_
  show Ideal.ofBits .f32 0x00000000#32 + _ = _
  rw [Ideal.ofBits_zero_f32, zero_add]

end

end Cert.DilBwd

end
-- ==== Proof.Model.lean ====
/- The mathematics alone: the gradient of the dilated window attention of one head, over the reals, as the chain rule writes
   it out, and the shorter form that a kernel computes from the saved output and log-sum-exp. -/
module

public import Idealize.ShloMosaic.PureOps.Ideal.Laws

@[expose] public section

noncomputable section

namespace Cert.DilBwd.Model

open scoped Classical

/-- Query `i` sees key `j`: not after it, and a multiple of sixteen places before it. -/
def Seen (i j : Fin 2048) : Prop := j.val ≤ i.val ∧ j.val % 16 = i.val % 16

theorem seen_self (i : Fin 2048) : Seen i i := ⟨le_rfl, rfl⟩

/-- The keys that query `i` sees. -/
def keys (i : Fin 2048) : Finset (Fin 2048) := Finset.univ.filter (Seen i)

theorem keys_nonempty (i : Fin 2048) : (keys i).Nonempty := ⟨i, Finset.mem_filter.mpr ⟨Finset.mem_univ _, seen_self i⟩⟩

variable (κ : ℝ) (q k v w : Fin 2048 → Fin 128 → ℝ) (g : Fin 2048 → ℝ)

/-- The score of query `i` and key `j`. -/
def score (i j : Fin 2048) : ℝ := (∑ d, q i d * k j d) * κ

/-- The greatest score that query `i` sees. -/
def top (i : Fin 2048) : ℝ := (keys i).sup' (keys_nonempty i) (score κ q k i)

/-- The weight of key `j` before it is divided by the weights' sum. -/
def wt (i j : Fin 2048) : ℝ := if Seen i j then Real.exp (score κ q k i j - top κ q k i) else 0

/-- The sum of the weights. -/
def den (i : Fin 2048) : ℝ := ∑ j, wt κ q k i j

/-- The weighted sum of the values. -/
def num (i : Fin 2048) (d : Fin 128) : ℝ := ∑ j, wt κ q k i j * v j d

/-- One where the key has the greatest score, else zero. -/
def hit (i j : Fin 2048) : ℝ := if Seen i j ∧ score κ q k i j = top κ q k i then 1 else 0

/-- The number of keys with the greatest score. -/
def hits (i : Fin 2048) : ℝ := ∑ j, hit κ q k i j

/-- The gradient of the weights' sum. -/
def gDen (i : Fin 2048) : ℝ :=
  g i / den κ q k i + -(∑ d, w i d * (1 / (den κ q k i * den κ q k i)) * num κ q k v i d)

/-- The gradient of the exponent. -/
def gExp (i j : Fin 2048) : ℝ := ((∑ d, w i d / den κ q k i * v j d) + gDen κ q k v w g i) * wt κ q k i j

/-- The gradient of the greatest score, shared out evenly. -/
def gTop (i : Fin 2048) : ℝ := (g i + ∑ j, -(gExp κ q k v w g i j)) / hits κ q k i

/-- The gradient of the unscaled score. -/
def gScore (i j : Fin 2048) : ℝ :=
  (if Seen i j then gExp κ q k v w g i j + gTop κ q k v w g i * hit κ q k i j else 0) * κ

/-- The gradient of q, -/
def dq (i : Fin 2048) (d : Fin 128) : ℝ := ∑ j, gScore κ q k v w g i j * k j d

/-- of k, -/
def dk (j : Fin 2048) (d : Fin 128) : ℝ := ∑ i, gScore κ q k v w g i j * q i d

/-- and of v. -/
def dv (j : Fin 2048) (d : Fin 128) : ℝ := ∑ i, w i d / den κ q k i * wt κ q k i j

/-! ## The kernel's form -/

/-- The log-sum-exp of query `i`. -/
def lse (i : Fin 2048) : ℝ := top κ q k i + Real.log (den κ q k i)

/-- The output of query `i`. -/
def out (i : Fin 2048) (d : Fin 128) : ℝ := num κ q k v i d / den κ q k i

/-- The probability of key `j`. -/
def prob (i j : Fin 2048) : ℝ := if Seen i j then Real.exp (score κ q k i j - lse κ q k i) else 0

/-- The gradient of the score, from the probability. -/
def ds (i j : Fin 2048) : ℝ :=
  prob κ q k i j * ((∑ d, w i d * v j d) + (g i - ∑ d, w i d * out κ q k v i d))

theorem den_pos (i : Fin 2048) : 0 < den κ q k i := by
  refine Finset.sum_pos' (fun j _ => ?_) ⟨i, Finset.mem_univ _, ?_⟩
  · unfold wt; split
    · exact (Real.exp_pos _).le
    · exact le_rfl
  · unfold wt; rw [if_pos (seen_self i)]; exact Real.exp_pos _

theorem prob_eq (i j : Fin 2048) : prob κ q k i j = wt κ q k i j / den κ q k i := by
  have hd := den_pos κ q k i
  unfold prob wt lse
  split
  · rw [← sub_sub, Real.exp_sub, Real.exp_log hd]
  · rw [zero_div]

/-- The inner products of the output's gradient with the values, weighted, are those with the weighted sum of the values. -/
theorem sum_inner_wt (i : Fin 2048) :
    ∑ j, (∑ d, w i d / den κ q k i * v j d) * wt κ q k i j = ∑ d, w i d / den κ q k i * num κ q k v i d := by
  simp only [Finset.sum_mul, num, Finset.mul_sum]
  rw [Finset.sum_comm]
  exact Finset.sum_congr rfl fun d _ => Finset.sum_congr rfl fun j _ => by ring

theorem gDen_eq (i : Fin 2048) :
    gDen κ q k v w g i * den κ q k i = g i - ∑ d, w i d / den κ q k i * num κ q k v i d := by
  have hd := (den_pos κ q k i).ne'
  unfold gDen
  have h : (∑ d, w i d * (1 / (den κ q k i * den κ q k i)) * num κ q k v i d) * den κ q k i
      = ∑ d, w i d / den κ q k i * num κ q k v i d := by
    rw [Finset.sum_mul]
    exact Finset.sum_congr rfl fun d _ => by field_simp
  rw [add_mul, neg_mul, h, div_mul_cancel₀ _ hd, sub_eq_add_neg]

/-- The gradients of the exponents add up to the log-sum-exp's, -/
theorem sum_gExp (i : Fin 2048) : ∑ j, gExp κ q k v w g i j = g i := by
  unfold gExp
  simp only [add_mul]
  rw [Finset.sum_add_distrib, sum_inner_wt, ← Finset.mul_sum]
  show _ + gDen κ q k v w g i * den κ q k i = _
  rw [gDen_eq]; ring

/-- so nothing is left for the greatest score. -/
theorem gTop_eq (i : Fin 2048) : gTop κ q k v w g i = 0 := by
  unfold gTop
  rw [Finset.sum_neg_distrib, sum_gExp, add_neg_cancel, zero_div]

/-- The chain rule's gradient of the score is the kernel's. -/
theorem gScore_eq (i j : Fin 2048) : gScore κ q k v w g i j = ds κ q k v w g i j * κ := by
  have hd := (den_pos κ q k i).ne'
  have h1 : gDen κ q k v w g i = (g i - ∑ d, w i d * out κ q k v i d) / den κ q k i := by
    rw [eq_div_iff hd, gDen_eq]
    congr 1
    exact Finset.sum_congr rfl fun d _ => by unfold out; field_simp
  have h2 : (∑ d, w i d / den κ q k i * v j d) = (∑ d, w i d * v j d) / den κ q k i := by
    rw [Finset.sum_div]
    exact Finset.sum_congr rfl fun d _ => by field_simp
  unfold gScore ds
  rw [gTop_eq, zero_mul, add_zero, prob_eq]
  congr 1
  by_cases hs : Seen i j
  · rw [if_pos hs]
    unfold gExp
    rw [h1, h2]
    field_simp
  · rw [if_neg hs]
    unfold wt
    rw [if_neg hs, zero_div, zero_mul]

theorem hits_pos (i : Fin 2048) : 0 < hits κ q k i := by
  obtain ⟨j, hj, he⟩ := Finset.exists_mem_eq_sup' (keys_nonempty i) (score κ q k i)
  refine Finset.sum_pos' (fun j _ => ?_) ⟨j, Finset.mem_univ _, ?_⟩
  · unfold hit; split
    · exact zero_le_one
    · exact le_rfl
  · unfold hit; rw [if_pos ⟨(Finset.mem_filter.mp hj).2, he.symm⟩]; exact one_pos

/-! ## The rows of one residue -/

/-- The `b`-th row of residue `r`. -/
def row (r : Fin 16) (b : Fin 128) : Fin 2048 := ⟨16 * b.val + r.val, by omega⟩

theorem seen_row (r : Fin 16) (a b : Fin 128) : Seen (row r a) (row r b) ↔ b.val ≤ a.val := by
  unfold Seen row; simp only; omega

/-- A sum over all rows of what vanishes off one residue is the sum over the rows of that residue. -/
theorem sum_rows (r : Fin 16) (f : Fin 2048 → ℝ) (h : ∀ j, j.val % 16 ≠ r.val → f j = 0) : ∑ j, f j = ∑ b, f (row r b) := by
  symm
  refine Finset.sum_of_injOn (row r) (fun a _ b _ e => ?_) (fun _ _ => Finset.mem_coe.mpr (Finset.mem_univ _)) (fun j _ hj => ?_) fun _ _ => rfl
  · have := congrArg Fin.val e
    simp only [row] at this
    exact Fin.ext (by omega)
  · refine h j fun e => hj ⟨⟨j.val / 16, by omega⟩, Finset.mem_coe.mpr (Finset.mem_univ _), Fin.ext ?_⟩
    show 16 * (j.val / 16) + r.val = j.val
    omega

theorem not_seen_left {r : Fin 16} {a : Fin 128} {j : Fin 2048} (h : j.val % 16 ≠ r.val) : ¬ Seen (row r a) j := by
  rintro ⟨-, e⟩
  simp only [row] at e
  omega

theorem not_seen_right {r : Fin 16} {b : Fin 128} {i : Fin 2048} (h : i.val % 16 ≠ r.val) : ¬ Seen i (row r b) := by
  rintro ⟨-, e⟩
  simp only [row] at e
  omega

theorem ds_of_not_seen {i j : Fin 2048} (h : ¬ Seen i j) : ds κ q k v w g i j = 0 := by
  unfold ds prob; rw [if_neg h, zero_mul]

/-- The gradient of q, row by row, over the 128 keys of the row's residue. -/
theorem dq_row (r : Fin 16) (a d : Fin 128) :
    dq κ q k v w g (row r a) d = (∑ b, ds κ q k v w g (row r a) (row r b) * k (row r b) d) * κ := by
  unfold dq
  rw [sum_rows r _ fun j h => by rw [gScore_eq, ds_of_not_seen _ _ _ _ _ _ (not_seen_left h), zero_mul, zero_mul], Finset.sum_mul]
  exact Finset.sum_congr rfl fun b _ => by rw [gScore_eq]; ring

/-- The gradient of k likewise, over the 128 queries, -/
theorem dk_row (r : Fin 16) (b d : Fin 128) :
    dk κ q k v w g (row r b) d = (∑ a, ds κ q k v w g (row r a) (row r b) * q (row r a) d) * κ := by
  unfold dk
  rw [sum_rows r _ fun j h => by rw [gScore_eq, ds_of_not_seen _ _ _ _ _ _ (not_seen_right h), zero_mul, zero_mul], Finset.sum_mul]
  exact Finset.sum_congr rfl fun b _ => by rw [gScore_eq]; ring

/-- and of v. -/
theorem dv_row (r : Fin 16) (b d : Fin 128) :
    dv κ q k w (row r b) d = ∑ a, prob κ q k (row r a) (row r b) * w (row r a) d := by
  unfold dv
  rw [sum_rows r _ fun j h => by unfold wt; rw [if_neg (not_seen_right h), mul_zero]]
  exact Finset.sum_congr rfl fun b _ => by rw [prob_eq]; ring

end Cert.DilBwd.Model

end
-- ==== Proof.RefValue.lean ====
/- The reference's stages at the reals: each, read at an index, is the named quantity of the model. The first half, the forward pass. -/
module

public import proofs.«01_k».proof.Proof.Gen.ReferenceIdeal.Read
public import Idealize.ShloMosaic.Lib.StableHlo.Predicate
public import proofs.«01_k».proof.Proof.Model
public import proofs.«01_k».proof.Proof.Reals

@[expose] public section

noncomputable section

namespace Cert.DilBwd.Ref

open Cert.ReferenceIdeal Cert.ReferenceIdeal.Gen Cert.ReferenceIdeal.Read Idealize.ShloMosaic Idealize.ShloMosaic.TcCoe Idealize.SL.Sem Idealize.ShloMosaic.StableHlo
open Cert.DilBwd.Model
open scoped Classical

/-- Four arrays whose entries are the reals `Q`, `K`, `V`, `W` and `G`, head by head. -/
structure Inputs (x0 : (⟨S2048x3072, .f32⟩ : BufTy).Contents (Elt Ideal)) (x1 : (⟨S2048x10240, .f32⟩ : BufTy).Contents (Elt Ideal))
    (x2 x3 : (⟨S2048x512, .f32⟩ : BufTy).Contents (Elt Ideal)) (Q K V W : Fin 4 → Fin 2048 → Fin 128 → ℝ) (G : Fin 4 → Fin 2048 → ℝ) : Prop where
  q : ∀ y : S1x2048x4x128.Idx, val_main_v1 (F := Ideal) x0 y = ((Q (y 2) (y 1) (y 3) : ℝ) : EReal)
  k : ∀ y : S1x2048x4x128.Idx, val_main_v3 (F := Ideal) x0 y = ((K (y 2) (y 1) (y 3) : ℝ) : EReal)
  v : ∀ y : S1x2048x4x128.Idx, val_main_v5 (F := Ideal) x1 y = ((V (y 2) (y 1) (y 3) : ℝ) : EReal)
  w : ∀ y : S1x2048x4x128.Idx, val_main_v6 (F := Ideal) x2 y = ((W (y 2) (y 1) (y 3) : ℝ) : EReal)
  g : ∀ y : S1x2048x4.Idx, val_main_v9 (F := Ideal) x3 y = ((G (y 2) (y 1) : ℝ) : EReal)

variable {x0 : (⟨S2048x3072, .f32⟩ : BufTy).Contents (Elt Ideal)} {x1 : (⟨S2048x10240, .f32⟩ : BufTy).Contents (Elt Ideal)}
  {x2 x3 : (⟨S2048x512, .f32⟩ : BufTy).Contents (Elt Ideal)} {Q K V W : Fin 4 → Fin 2048 → Fin 128 → ℝ} {G : Fin 4 → Fin 2048 → ℝ}

theorem score_at (h : Inputs x0 x1 x2 x3 Q K V W G) (y : S1x4x2048x2048.Idx) :
    val_main_v12 (F := Ideal) x0 y = ((score κ (Q (y 1)) (K (y 1)) (y 2) (y 3) : ℝ) : EReal) := by
  rw [val_main_v12_apply, val_main_v10_apply, val_main_v11_apply, val_main_cst_apply, Ideal.mulf_def, Ideal.ofBits_def, ofBits_κ]
  simp only [h.q, h.k]
  rw [coe_sum_mul, ← EReal.coe_mul]
  rfl

/-- The mask's bit is set where the query sees the key. -/
theorem mask_at (y : S2048x2048.Idx) : val_main_v29 (F := Ideal) y = 1#1 ↔ Seen (y 0) (y 1) := by
  rw [val_main_v29_apply, val_main_v24_apply, val_main_v21_apply, val_main_v23_apply, val_main_v28_apply, val_main_v26_apply, val_main_v20_apply,
    val_main_v22_apply, val_main_v25_apply, val_main_v27_apply, val_main_v19_apply, val_main_v17_apply, val_main_v18_apply, val_main_v14_apply,
    val_main_v16_apply, val_main_v13_apply, val_main_v15_apply]
  show IntOp.andi (IntOp.andi (IntOp.cmpi .sge (IntOp.subi (BitVec.ofNat 32 (y 0).val) (BitVec.ofNat 32 (y 1).val)) 0#32)
    (IntOp.cmpi .sle (IntOp.subi (BitVec.ofNat 32 (y 0).val) (BitVec.ofNat 32 (y 1).val)) 2048#32))
    (IntOp.cmpi .eq (IntOp.remsi .host (IntOp.subi (BitVec.ofNat 32 (y 0).val) (BitVec.ofNat 32 (y 1).val)) 16#32) 0#32) = 1#1 ↔ _
  have ha : (y 0).val < 2048 := (y 0).isLt
  have hb : (y 1).val < 2048 := (y 1).isLt
  generalize hi : (y 0).val = i at *
  generalize hj : (y 1).val = j at *
  have hd : (IntOp.subi (BitVec.ofNat 32 i) (BitVec.ofNat 32 j)).toInt = (i : Int) - j := by
    show (BitVec.ofNat 32 i - BitVec.ofNat 32 j).toInt = _
    rw [BitVec.toInt_sub, Predicate.toInt_ofNat_small i (by omega), Predicate.toInt_ofNat_small j (by omega), Int.bmod_eq_of_le (by omega) (by omega)]
  rw [IntOp.remsi_of_pos _ (by decide)]
  generalize IntOp.subi (BitVec.ofNat 32 i) (BitVec.ofNat 32 j) = d at hd
  have hand : ∀ a b : BitVec 1, IntOp.andi a b = 1#1 ↔ a = 1#1 ∧ b = 1#1 := by decide
  rw [hand, hand, Predicate.cmpi_eq_iff]
  simp only [IntOp.cmpi, Predicate.ofBool_eq_one_iff, BitVec.sle, decide_eq_true_eq]
  rw [← BitVec.toInt_inj, BitVec.toInt_srem, hd]
  show ((0 : Int) ≤ _ ∧ _ ≤ (2048 : Int)) ∧ Int.tmod _ 16 = 0 ↔ (y 1).val ≤ (y 0).val ∧ (y 1).val % 16 = (y 0).val % 16
  rw [hi, hj]
  constructor
  · rintro ⟨⟨h1, h2⟩, h3⟩
    rw [Int.tmod_eq_emod_of_nonneg h1] at h3
    omega
  · rintro ⟨h1, h2⟩
    have h0 : (0 : Int) ≤ (i : Int) - j := by omega
    rw [Int.tmod_eq_emod_of_nonneg h0]
    omega

/-- The score where the query sees the key, else minus infinity. -/
def masked (Q K : Fin 4 → Fin 2048 → Fin 128 → ℝ) (a : Fin 4) (b c : Fin 2048) : EReal :=
  if Seen b c then ((score κ (Q a) (K a) b c : ℝ) : EReal) else ⊥

theorem masked_at (h : Inputs x0 x1 x2 x3 Q K V W G) (y : S1x4x2048x2048.Idx) :
    val_main_v30_0 (F := Ideal) x0 y
      = if Seen (y 2) (y 3) then ((score κ (Q (y 1)) (K (y 1)) (y 2) (y 3) : ℝ) : EReal) else ⊥ := by
  rw [val_main_v30_0_apply, val_main_v30_1_apply, score_at h, val_main_call0_v2_apply, val_main_call0_v0_apply, val_main_cst_3_apply,
    Ideal.ofBits_def, ofBits_bot]
  exact if_congr (mask_at _) rfl rfl

theorem top_at (h : Inputs x0 x1 x2 x3 Q K V W G) (y : S1x4x2048.Idx) :
    val_main_v31 (F := Ideal) x0 y = ((top κ (Q (y 1)) (K (y 1)) (y 2) : ℝ) : EReal) := by
  have hr : S1x4x2048x2048.Reduces [3] S1x4x2048 := ⟨reducesTo_S1x4x2048x2048_S1x4x2048_d3.1, by decide, reducesTo_S1x4x2048x2048_S1x4x2048_d3.2⟩
  unfold val_main_v31
  rw [Host.reduce_eq_fold_single FloatOps.maximumf _ _ reducesTo_S1x4x2048x2048_S1x4x2048_d3 hr h_S_, val_main_cst_4_apply, Ideal.ofBits_def, ofBits_bot]
  have e : (val_main_v30_0 (F := Ideal) x0 ∘ hr.lift y)
      = fun j : Fin 2048 => if Seen (y 2) j then ((score κ (Q (y 1)) (K (y 1)) (y 2) j : ℝ) : EReal) else ⊥ := by
    funext j
    show val_main_v30_0 (F := Ideal) x0 (hr.lift y j) = _
    rw [masked_at h]
    show masked Q K (hr.lift y j 1) (hr.lift y j 2) (hr.lift y j 3) = masked Q K (y 1) (y 2) j
    exact congr (congr (congrArg (masked Q K)
      (Fin.ext rfl : (hr.lift y j 1 : Fin 4) = y 1)) (Fin.ext rfl : (hr.lift y j 2 : Fin 2048) = y 2)) (Fin.ext rfl : (hr.lift y j 3 : Fin 2048) = j)
  rw [e]
  exact fold_max (Seen (y 2)) (score κ (Q (y 1)) (K (y 1)) (y 2)) (keys_nonempty (y 2))

theorem hit_at (h : Inputs x0 x1 x2 x3 Q K V W G) (y : S1x4x2048x2048.Idx) :
    val_main_v35 (F := Ideal) x0 y = ((hit κ (Q (y 1)) (K (y 1)) (y 2) (y 3) : ℝ) : EReal) := by
  rw [val_main_v35_apply, val_main_v34_apply, masked_at h, val_main_v33_apply, val_main_v32_apply, top_at h, Ideal.cmpf_def]
  have e : top κ (Q (idx_main_v32 (idx_main_v33 y) 1)) (K (idx_main_v32 (idx_main_v33 y) 1)) (idx_main_v32 (idx_main_v33 y) 2)
      = top κ (Q (y 1)) (K (y 1)) (y 2) := by
    have h1 : (y 1).val < 4 := (y 1).isLt
    have h2 : (y 2).val < 2048 := (y 2).isLt
    have e1 : (idx_main_v32 (idx_main_v33 y) 1 : Fin 4) = y 1 := Fin.ext (by
      show (((0 * 4 + (y 1).val) * 2048 + (y 2).val) * 1 + 0) / 2048 % 4 = (y 1).val; omega)
    have e2 : (idx_main_v32 (idx_main_v33 y) 2 : Fin 2048) = y 2 := Fin.ext (by
      show (((0 * 4 + (y 1).val) * 2048 + (y 2).val) * 1 + 0) % 2048 = (y 2).val; omega)
    exact congr (congr (congrArg (fun t => top κ (Q t)) e1) (congrArg K e1)) e2
  rw [e]
  unfold hit
  show (((BitVec.ofBool (decide (_ = _))).toNat : ℝ) : EReal) = _
  by_cases hs : Seen (y 2) (y 3)
  · rw [if_pos hs]
    by_cases ht : score κ (Q (y 1)) (K (y 1)) (y 2) (y 3) = top κ (Q (y 1)) (K (y 1)) (y 2)
    · rw [if_pos ⟨hs, ht⟩, decide_eq_true (by rw [ht])]
      simp
    · rw [if_neg fun c => ht c.2, decide_eq_false fun c => ht (EReal.coe_injective c)]
      simp
  · rw [if_neg hs, if_neg fun c => hs c.1, decide_eq_false (EReal.bot_ne_coe _)]
    simp

theorem hits_at (h : Inputs x0 x1 x2 x3 Q K V W G) (y : S1x4x2048.Idx) :
    val_main_v36 (F := Ideal) x0 y = ((hits κ (Q (y 1)) (K (y 1)) (y 2) : ℝ) : EReal) := by
  rw [val_main_v36_apply, val_main_cst_5_apply, Ideal.ofBits_def, Ideal.ofBits_zero_f32, zero_add]
  simp only [hit_at h]
  rw [coe_sum]
  rfl

theorem wt_at (h : Inputs x0 x1 x2 x3 Q K V W G) (y : S1x4x2048x2048.Idx) :
    val_main_v40 (F := Ideal) x0 y = ((wt κ (Q (y 1)) (K (y 1)) (y 2) (y 3) : ℝ) : EReal) := by
  rw [val_main_v40_apply, val_main_v39_apply, masked_at h, val_main_v38_apply, val_main_v37_apply, top_at h, Ideal.hostUnary_exp_def, Ideal.subf_def]
  unfold wt
  by_cases hs : Seen (y 2) (y 3)
  · rw [if_pos hs, if_pos hs, ← EReal.coe_sub, Ideal.exp_coe]
    rfl
  · rw [if_neg hs, if_neg hs, EReal.bot_sub, Ideal.exp_bot]
    rfl

theorem den_at (h : Inputs x0 x1 x2 x3 Q K V W G) (y : S1x4x2048.Idx) :
    val_main_v41 (F := Ideal) x0 y = ((den κ (Q (y 1)) (K (y 1)) (y 2) : ℝ) : EReal) := by
  rw [val_main_v41_apply, val_main_cst_6_apply, Ideal.ofBits_def, Ideal.ofBits_zero_f32, zero_add]
  simp only [wt_at h]
  rw [coe_sum]
  rfl

theorem num_at (h : Inputs x0 x1 x2 x3 Q K V W G) (y : S1x4x2048x128.Idx) :
    val_main_v42 (F := Ideal) x0 x1 y = ((num κ (Q (y 1)) (K (y 1)) (V (y 1)) (y 2) (y 3) : ℝ) : EReal) := by
  rw [val_main_v42_apply]
  simp only [wt_at h, h.v]
  rw [coe_sum_mul]
  rfl

/-- The denominator spread along a row. -/
theorem denCol_at (h : Inputs x0 x1 x2 x3 Q K V W G) (y : S1x4x2048x1.Idx) :
    val_main_v43 (F := Ideal) x0 y = ((den κ (Q (y 1)) (K (y 1)) (y 2) : ℝ) : EReal) := by
  rw [val_main_v43_apply, den_at h]
  rfl

theorem out_at (h : Inputs x0 x1 x2 x3 Q K V W G) (y : S1x2048x4x128.Idx) :
    val_main_v52 (F := Ideal) x0 x1 y = ((out κ (Q (y 2)) (K (y 2)) (V (y 2)) (y 1) (y 3) : ℝ) : EReal) := by
  rw [val_main_v52_apply, val_main_v45_apply, num_at h, val_main_v44_apply, denCol_at h, Ideal.hostDivf_def]
  exact coe_div (den_pos κ _ _ _).ne'

theorem lse_at (h : Inputs x0 x1 x2 x3 Q K V W G) (y : S1x2048x4.Idx) :
    val_main_v53 (F := Ideal) x0 y = ((lse κ (Q (y 2)) (K (y 2)) (y 1) : ℝ) : EReal) := by
  rw [val_main_v53_apply, val_main_v51_apply, val_main_v49_apply, val_main_v37_apply, val_main_v50_apply, top_at h, den_at h, Ideal.addf_def,
    Ideal.hostUnary_log_def]
  have h1 : (y 1).val < 2048 := (y 1).isLt
  have h2 : (y 2).val < 4 := (y 2).isLt
  have h0 : (y 0).val < 1 := (y 0).isLt
  have e1 : (idx_main_v37 (idx_main_v49 (idx_main_v53 y)) 1 : Fin 4) = y 2 := Fin.ext (by
    show (((y 0).val * 4 + (y 2).val) * 2048 + (y 1).val) / 2048 % 4 = (y 2).val; omega)
  have e2 : (idx_main_v37 (idx_main_v49 (idx_main_v53 y)) 2 : Fin 2048) = y 1 := Fin.ext (by
    show (((y 0).val * 4 + (y 2).val) * 2048 + (y 1).val) / 1 % 2048 = (y 1).val; omega)
  have e : top κ (Q (idx_main_v37 (idx_main_v49 (idx_main_v53 y)) 1)) (K (idx_main_v37 (idx_main_v49 (idx_main_v53 y)) 1))
      (idx_main_v37 (idx_main_v49 (idx_main_v53 y)) 2) = top κ (Q (y 2)) (K (y 2)) (y 1) :=
    congr (congr (congrArg (fun t => top κ (Q t)) e1) (congrArg K e1)) e2
  exact (congrArg₂ (· + ·) (congrArg (fun r : ℝ => (r : EReal)) e) (coe_log (den_pos κ (Q (y 2)) (K (y 2)) (y 1)))).trans
    (EReal.coe_add _ _).symm

end Cert.DilBwd.Ref

end
-- ==== Proof.Prefix.lean ====
/- What the host operations before the kernel leave in its two computed inputs. -/
module

public import proofs.«01_k».proof.Proof.Gen.KernelIdeal.Frame
public import proofs.«01_k».proof.Proof.RefValue
public import Idealize.ShloMosaic.Lib.StableHlo.Run

@[expose] public section

set_option maxRecDepth 16384

noncomputable section

namespace Cert.DilBwd

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

set_option maxHeartbeats 4000000 in
theorem V_o : V m c main_v44 = shapeCast S2048x512 (Cert.ReferenceIdeal.Read.val_main_v52 (F := F) (m ((c : Thread nD τ).loc main_arg0)) (m ((c : Thread nD τ).loc main_arg1)))
    shapeCasts_S1x2048x4x128_S2048x512 := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

set_option maxHeartbeats 4000000 in
theorem V_lse : V m c main_v45 = shapeCast S2048x512 (broadcastInDim S2048x4x128 ![0, 1, 2] bcast_S2048x4x1_S2048x4x128_0_1_2
    (shapeCast S2048x4x1 (Cert.ReferenceIdeal.Read.val_main_v53 (F := F) (m ((c : Thread nD τ).loc main_arg0))) shapeCasts_S1x2048x4_S2048x4x1))
    shapeCasts_S2048x4x128_S2048x512 := by
  simp only [V, hostOps0, hostOps0_1, hostOps0_2, List.flatten_cons, List.flatten_nil, List.append_nil, List.cons_append,
      List.nil_append, TRef.nullary, TRef.ternary, TRef.unary, TRef.toBuf, TRef.ofBuf, cast_eq]
  after_results_simp
  rfl

end Cert.DilBwd

end
-- ==== Proof.RefGrad.lean ====
/- The second half of the reference's stages at the reals: the gradients. -/
module

public import proofs.«01_k».proof.Proof.RefValue

@[expose] public section

noncomputable section

namespace Cert.DilBwd.Ref

open Cert.ReferenceIdeal Cert.ReferenceIdeal.Gen Cert.ReferenceIdeal.Read Idealize.ShloMosaic Idealize.ShloMosaic.TcCoe Idealize.SL.Sem Idealize.ShloMosaic.StableHlo
open Cert.DilBwd.Model
open scoped Classical

variable {x0 : (⟨S2048x3072, .f32⟩ : BufTy).Contents (Elt Ideal)} {x1 : (⟨S2048x10240, .f32⟩ : BufTy).Contents (Elt Ideal)}
  {x2 x3 : (⟨S2048x512, .f32⟩ : BufTy).Contents (Elt Ideal)} {Q K V W : Fin 4 → Fin 2048 → Fin 128 → ℝ} {G : Fin 4 → Fin 2048 → ℝ}

/-- A column of one entry per row, with its two axes of extent one summed away, is unchanged. -/
theorem sum_unit_axes (x : S1x4x2048x1.Idx → EReal) (init : EReal) (j : S4x2048.Idx) :
    Ideal.hostReduceAdd reducesTo_S1x4x2048x1_S4x2048_d0_3 x init j
      = init + x (fun a => match a with | ⟨0, _⟩ => (⟨0, Nat.one_pos⟩ : Fin 1) | ⟨1, _⟩ => j 0 | ⟨2, _⟩ => j 1 | ⟨3, _⟩ => (⟨0, Nat.one_pos⟩ : Fin 1)) := by
  unfold Ideal.hostReduceAdd
  congr 1
  rw [Finset.sum_eq_single_of_mem]
  · refine Finset.mem_filter.mpr ⟨Finset.mem_univ _, funext fun b => Fin.ext ?_⟩
    match b with
    | ⟨0, _⟩ => rfl
    | ⟨1, _⟩ => rfl
  · intro i hi hne
    refine absurd (funext fun a => Fin.ext ?_) hne
    have hd := (Finset.mem_filter.mp hi).2
    have h0 : (i 0).val < 1 := (i 0).isLt
    have h3 : (i 3).val < 1 := (i 3).isLt
    match a with
    | ⟨0, _⟩ => show (i 0).val = 0; omega
    | ⟨1, _⟩ => exact congrArg Fin.val (congrFun hd 0)
    | ⟨2, _⟩ => exact congrArg Fin.val (congrFun hd 1)
    | ⟨3, _⟩ => show (i 3).val = 0; omega

theorem gOut_at (h : Inputs x0 x1 x2 x3 Q K V W G) (y : S1x4x2048x128.Idx) :
    val_main_v55 (F := Ideal) x2 y = ((W (y 1) (y 2) (y 3) : ℝ) : EReal) := by
  rw [val_main_v55_apply, h.w]
  rfl

theorem gLse_at (h : Inputs x0 x1 x2 x3 Q K V W G) (y : S1x4x2048.Idx) :
    val_main_v54 (F := Ideal) x3 y = ((G (y 1) (y 2) : ℝ) : EReal) := by
  rw [val_main_v54_apply, h.g]
  rfl

theorem recip_at (h : Inputs x0 x1 x2 x3 Q K V W G) (y : S1x4x2048x1.Idx) :
    val_main_v48 (F := Ideal) x0 y
      = ((1 / (den κ (Q (y 1)) (K (y 1)) (y 2) * den κ (Q (y 1)) (K (y 1)) (y 2)) : ℝ) : EReal) := by
  rw [val_main_v48_apply, val_main_v47_apply, val_main_cst_7_apply, val_main_v46_apply, denCol_at h, Ideal.hostDivf_def, Ideal.mulf_def,
    Ideal.ofBits_def, ofBits_one, ← EReal.coe_mul]
  exact coe_div (mul_pos (den_pos κ _ _ _) (den_pos κ _ _ _)).ne'

theorem innerSum_at (h : Inputs x0 x1 x2 x3 Q K V W G) (y : S1x4x2048.Idx) :
    val_main_v61 (F := Ideal) x0 x1 x2 y
      = ((∑ d, W (y 1) (y 2) d * (1 / (den κ (Q (y 1)) (K (y 1)) (y 2) * den κ (Q (y 1)) (K (y 1)) (y 2)))
          * num κ (Q (y 1)) (K (y 1)) (V (y 1)) (y 2) d : ℝ) : EReal) := by
  rw [val_main_v61_apply, val_main_cst_8_apply, Ideal.ofBits_def, Ideal.ofBits_zero_f32, zero_add, ← coe_sum]
  refine Finset.sum_congr rfl fun d _ => ?_
  rw [val_main_v60_apply, val_main_v59_apply, val_main_v58_apply, gOut_at h, recip_at h, num_at h, Ideal.mulf_def, Ideal.mulf_def,
    ← EReal.coe_mul, ← EReal.coe_mul]
  rfl

theorem unitSum_at (h : Inputs x0 x1 x2 x3 Q K V W G) (y : S4x2048.Idx) :
    val_main_v66 (F := Ideal) x0 x1 x2 y
      = ((-(∑ d, W (y 0) (y 1) d * (1 / (den κ (Q (y 0)) (K (y 0)) (y 1) * den κ (Q (y 0)) (K (y 0)) (y 1)))
          * num κ (Q (y 0)) (K (y 0)) (V (y 0)) (y 1) d) : ℝ) : EReal) := by
  unfold val_main_v66
  simp only [Host.reduceAdd, Ideal.hostReduceAdd_def]
  rw [sum_unit_axes, val_main_cst_9_apply, Ideal.ofBits_def, Ideal.ofBits_zero_f32, zero_add, val_main_v63_apply, val_main_v62_apply, innerSum_at h,
    Ideal.hostNegf_def, EReal.coe_neg]
  have h0 : (y 0).val < 4 := (y 0).isLt
  have h1 : (y 1).val < 2048 := (y 1).isLt
  generalize hz : (fun a => match a with | ⟨0, _⟩ => (⟨0, Nat.one_pos⟩ : Fin 1) | ⟨1, _⟩ => y 0 | ⟨2, _⟩ => y 1 | ⟨3, _⟩ => (⟨0, Nat.one_pos⟩ : Fin 1) : S1x4x2048x1.Idx) = z
  have e1 : (idx_main_v62 z 1 : Fin 4) = y 0 := Fin.ext (by
    subst hz; show (((0 * 4 + (y 0).val) * 2048 + (y 1).val) * 1 + 0) / 2048 % 4 = (y 0).val; omega)
  have e2 : (idx_main_v62 z 2 : Fin 2048) = y 1 := Fin.ext (by
    subst hz; show (((0 * 4 + (y 0).val) * 2048 + (y 1).val) * 1 + 0) % 2048 = (y 1).val; omega)
  exact congr2 (fun (a : Fin 4) (b : Fin 2048) => -((∑ d, W a b d * (1 / (den κ (Q a) (K a) b * den κ (Q a) (K a) b))
          * num κ (Q a) (K a) (V a) b d : ℝ) : EReal)) e1 e2

theorem gDen_at (h : Inputs x0 x1 x2 x3 Q K V W G) (y : S1x4x2048.Idx) :
    val_main_v68 (F := Ideal) x0 x1 x2 x3 y
      = ((gDen κ (Q (y 1)) (K (y 1)) (V (y 1)) (W (y 1)) (G (y 1)) (y 2) : ℝ) : EReal) := by
  rw [val_main_v68_apply, val_main_v56_apply, val_main_v67_apply, gLse_at h, den_at h, unitSum_at h, Ideal.addf_def, Ideal.hostDivf_def]
  exact (congrArg (· + _) (coe_div (den_pos κ (Q (y 1)) (K (y 1)) (y 2)).ne')).trans (EReal.coe_add _ _).symm

theorem gOutDiv_at (h : Inputs x0 x1 x2 x3 Q K V W G) (y : S1x4x2048x128.Idx) :
    val_main_v65 (F := Ideal) x0 x2 y = ((W (y 1) (y 2) (y 3) / den κ (Q (y 1)) (K (y 1)) (y 2) : ℝ) : EReal) := by
  rw [val_main_v65_apply, val_main_v64_apply, gOut_at h, denCol_at h, Ideal.hostDivf_def]
  exact coe_div (den_pos κ (Q (y 1)) (K (y 1)) (y 2)).ne'

theorem gExp_at (h : Inputs x0 x1 x2 x3 Q K V W G) (y : S1x4x2048x2048.Idx) :
    val_main_v74 (F := Ideal) x0 x1 x2 x3 y
      = ((gExp κ (Q (y 1)) (K (y 1)) (V (y 1)) (W (y 1)) (G (y 1)) (y 2) (y 3) : ℝ) : EReal) := by
  rw [val_main_v74_apply, val_main_v73_apply, val_main_v71_apply, val_main_v72_apply, gDen_at h, wt_at h, Ideal.mulf_def, Ideal.addf_def]
  simp only [gOutDiv_at h, h.v]
  rw [coe_sum_mul, ← EReal.coe_add, ← EReal.coe_mul]
  rfl

theorem gExpSum_at (h : Inputs x0 x1 x2 x3 Q K V W G) (y : S1x4x2048.Idx) :
    val_main_v76 (F := Ideal) x0 x1 x2 x3 y
      = ((∑ j, -(gExp κ (Q (y 1)) (K (y 1)) (V (y 1)) (W (y 1)) (G (y 1)) (y 2) j) : ℝ) : EReal) := by
  rw [val_main_v76_apply, val_main_cst_10_apply, Ideal.ofBits_def, Ideal.ofBits_zero_f32, zero_add, ← coe_sum]
  refine Finset.sum_congr rfl fun d _ => ?_
  rw [val_main_v75_apply, gExp_at h, Ideal.hostNegf_def]
  exact (EReal.coe_neg _).symm

theorem gTopSum_at (h : Inputs x0 x1 x2 x3 Q K V W G) (y : S4x2048.Idx) :
    val_main_v79 (F := Ideal) x0 x1 x2 x3 y
      = ((G (y 0) (y 1) + ∑ j, -(gExp κ (Q (y 0)) (K (y 0)) (V (y 0)) (W (y 0)) (G (y 0)) (y 1) j) : ℝ) : EReal) := by
  unfold val_main_v79
  simp only [Host.reduceAdd, Ideal.hostReduceAdd_def]
  rw [sum_unit_axes, val_main_cst_11_apply, Ideal.ofBits_def, Ideal.ofBits_zero_f32, zero_add, val_main_v78_apply, val_main_v57_apply, gLse_at h,
    val_main_v77_apply, gExpSum_at h, Ideal.addf_def, EReal.coe_add]
  have h0 : (y 0).val < 4 := (y 0).isLt
  have h1 : (y 1).val < 2048 := (y 1).isLt
  generalize hz : (fun a => match a with | ⟨0, _⟩ => (⟨0, Nat.one_pos⟩ : Fin 1) | ⟨1, _⟩ => y 0 | ⟨2, _⟩ => y 1 | ⟨3, _⟩ => (⟨0, Nat.one_pos⟩ : Fin 1) : S1x4x2048x1.Idx) = z
  have e1 : (idx_main_v77 z 1 : Fin 4) = y 0 := Fin.ext (by
    subst hz; show (((0 * 4 + (y 0).val) * 2048 + (y 1).val) * 1 + 0) / 2048 % 4 = (y 0).val; omega)
  have e2 : (idx_main_v77 z 2 : Fin 2048) = y 1 := Fin.ext (by
    subst hz; show (((0 * 4 + (y 0).val) * 2048 + (y 1).val) * 1 + 0) % 2048 = (y 1).val; omega)
  refine congr (congrArg HAdd.hAdd ?_) ?_
  · subst hz; rfl
  · exact congr2 (fun (a : Fin 4) (b : Fin 2048) => ((∑ j, -(gExp κ (Q a) (K a) (V a) (W a) (G a) b j) : ℝ) : EReal)) e1 e2

theorem gTop_at (h : Inputs x0 x1 x2 x3 Q K V W G) (y : S1x4x2048.Idx) :
    val_main_v81 (F := Ideal) x0 x1 x2 x3 y
      = ((gTop κ (Q (y 1)) (K (y 1)) (V (y 1)) (W (y 1)) (G (y 1)) (y 2) : ℝ) : EReal) := by
  rw [val_main_v81_apply, val_main_v80_apply, gTopSum_at h, hits_at h, Ideal.hostDivf_def]
  exact coe_div (hits_pos κ (Q (y 1)) (K (y 1)) (y 2)).ne'

theorem gScore_at (h : Inputs x0 x1 x2 x3 Q K V W G) (y : S1x4x2048x2048.Idx) :
    val_main_v87 (F := Ideal) x0 x1 x2 x3 y
      = ((gScore κ (Q (y 1)) (K (y 1)) (V (y 1)) (W (y 1)) (G (y 1)) (y 2) (y 3) : ℝ) : EReal) := by
  rw [val_main_v87_apply, val_main_v85_apply, val_main_v86_apply, val_main_cst_12_apply, val_main_v84_apply, val_main_v83_apply, val_main_v82_apply,
    val_main_v30_1_apply, gExp_at h, gTop_at h, hit_at h, Ideal.mulf_def, Ideal.mulf_def, Ideal.addf_def, Ideal.ofBits_def, ofBits_κ]
  unfold gScore
  rw [EReal.coe_mul]
  refine congrArg (· * _) ?_
  refine (select_iff (mask_at (idx_main_v30_1 y)) _ _).trans ?_
  show (if Seen (y 2) (y 3) then _ else _) = _
  by_cases hs : Seen (y 2) (y 3)
  · rw [if_pos hs, if_pos hs, ← EReal.coe_mul, ← EReal.coe_add]
    rfl
  · rw [if_neg hs, if_neg hs]
    exact Ideal.ofBits_zero_f32

theorem dk_at (h : Inputs x0 x1 x2 x3 Q K V W G) (y : S1x4x2048x128.Idx) :
    val_main_v88 (F := Ideal) x0 x1 x2 x3 y
      = ((dk κ (Q (y 1)) (K (y 1)) (V (y 1)) (W (y 1)) (G (y 1)) (y 2) (y 3) : ℝ) : EReal) := by
  rw [val_main_v88_apply]
  simp only [gScore_at h, h.q]
  rw [coe_sum_mul]
  rfl

theorem dq_at (h : Inputs x0 x1 x2 x3 Q K V W G) (y : S1x4x2048x128.Idx) :
    val_main_v90 (F := Ideal) x0 x1 x2 x3 y
      = ((dq κ (Q (y 1)) (K (y 1)) (V (y 1)) (W (y 1)) (G (y 1)) (y 2) (y 3) : ℝ) : EReal) := by
  rw [val_main_v90_apply]
  simp only [gScore_at h, h.k]
  rw [coe_sum_mul]
  rfl

theorem dv_at (h : Inputs x0 x1 x2 x3 Q K V W G) (y : S1x4x128x2048.Idx) :
    val_main_v69 (F := Ideal) x0 x2 y = ((dv κ (Q (y 1)) (K (y 1)) (W (y 1)) (y 3) (y 2) : ℝ) : EReal) := by
  rw [val_main_v69_apply]
  simp only [gOutDiv_at h, wt_at h]
  rw [coe_sum_mul]
  rfl

/-- The head of a column of the result, -/
def headOf (c : Fin 512) : Fin 4 := ⟨c.val / 128, by omega⟩

/-- and its lane in the head. -/
def laneOf (c : Fin 512) : Fin 128 := ⟨c.val % 128, by omega⟩

theorem result_idx (i : S2048x512.Idx) :
    (⟨((i 0).val * 512 + (i 1).val) / 512 % 2048, by omega⟩ : Fin 2048) = i 0
      ∧ (⟨((i 0).val * 512 + (i 1).val) / 128 % 4, by omega⟩ : Fin 4) = headOf (i 1)
      ∧ (⟨((i 0).val * 512 + (i 1).val) % 128, by omega⟩ : Fin 128) = laneOf (i 1) := by
  have h0 : (i 0).val < 2048 := (i 0).isLt
  have h1 : (i 1).val < 512 := (i 1).isLt
  refine ⟨Fin.ext ?_, Fin.ext ?_, Fin.ext ?_⟩
  · show ((i 0).val * 512 + (i 1).val) / 512 % 2048 = (i 0).val; omega
  · show ((i 0).val * 512 + (i 1).val) / 128 % 4 = (i 1).val / 128; omega
  · show ((i 0).val * 512 + (i 1).val) % 128 = (i 1).val % 128; omega

/-- The reference's gradient of q, -/
theorem dq_result (h : Inputs x0 x1 x2 x3 Q K V W G) (i : S2048x512.Idx) :
    val_main_v92 (F := Ideal) x0 x1 x2 x3 i
      = ((dq κ (Q (headOf (i 1))) (K (headOf (i 1))) (V (headOf (i 1))) (W (headOf (i 1))) (G (headOf (i 1))) (i 0) (laneOf (i 1)) : ℝ) : EReal) := by
  rw [val_main_v92_apply, val_main_v91_apply, dq_at h]
  obtain ⟨e0, e1, e2⟩ := result_idx i
  exact congr3 (fun (a : Fin 4) (b : Fin 2048) (c : Fin 128) => ((dq κ (Q a) (K a) (V a) (W a) (G a) b c : ℝ) : EReal)) e1 e0 e2

/-- of k, -/
theorem dk_result (h : Inputs x0 x1 x2 x3 Q K V W G) (i : S2048x512.Idx) :
    val_main_v93 (F := Ideal) x0 x1 x2 x3 i
      = ((dk κ (Q (headOf (i 1))) (K (headOf (i 1))) (V (headOf (i 1))) (W (headOf (i 1))) (G (headOf (i 1))) (i 0) (laneOf (i 1)) : ℝ) : EReal) := by
  rw [val_main_v93_apply, val_main_v89_apply, dk_at h]
  obtain ⟨e0, e1, e2⟩ := result_idx i
  exact congr3 (fun (a : Fin 4) (b : Fin 2048) (c : Fin 128) => ((dk κ (Q a) (K a) (V a) (W a) (G a) b c : ℝ) : EReal)) e1 e0 e2

/-- and of v. -/
theorem dv_result (h : Inputs x0 x1 x2 x3 Q K V W G) (i : S2048x512.Idx) :
    val_main_v94 (F := Ideal) x0 x2 i
      = ((dv κ (Q (headOf (i 1))) (K (headOf (i 1))) (W (headOf (i 1))) (i 0) (laneOf (i 1)) : ℝ) : EReal) := by
  rw [val_main_v94_apply, val_main_v70_apply, dv_at h]
  obtain ⟨e0, e1, e2⟩ := result_idx i
  exact congr3 (fun (a : Fin 4) (b : Fin 2048) (c : Fin 128) => ((dv κ (Q a) (K a) (W a) b c : ℝ) : EReal)) e1 e0 e2

end Cert.DilBwd.Ref

end
-- ==== Proof.Gradients.lean ====
/- The kernel's tiles at the reals: each is the named gradient of the model, at its rows and its head. -/
module

public import proofs.«01_k».proof.Proof.Data
public import proofs.«01_k».proof.Proof.TileValue
public import proofs.«01_k».proof.Proof.Prefix
public import proofs.«01_k».proof.Proof.RefGrad

@[expose] public section

set_option maxRecDepth 16384

noncomputable section

namespace Cert.DilBwd

open Cert.KernelIdeal Cert.KernelIdeal.Gen
open Idealize.ShloMosaic Idealize.ShloMosaic.TcCoe Idealize.ShloMosaic.Tactic
open Cert.DilBwd.Model (row seen_row dq_row dk_row dv_row)
open scoped Classical

/-- The place of row `i` and lane `d` of head `h` in an array of `n` columns whose heads start at column `128 * o`. -/
def cell (n o : ℕ) (hn : (o + 4) * 128 ≤ n) (i : Fin 2048) (h : Fin 4) (d : Fin 128) : (⟨2, ![2048, n]⟩ : Shape).Idx := fun a => match a with
  | 0 => i
  | 1 => (⟨(o + h.val) * 128 + d.val, by have := h.isLt; have := d.isLt; show _ < n; omega⟩ : Fin n)

theorem tile_cell (n o : ℕ) (hn : (o + 4) * 128 ≤ n) (X : Vec Ideal (⟨2, ![2048, n]⟩ : Shape) .f32) (h : Fin 4) (r : Fin 16) (j : S128x128.Idx) :
    tileOf r (headBlock n o hn X h) j = X (cell n o hn (row r (j 0)) h (j 1)) := by
  show X _ = X _
  refine congrArg X (funext fun a => ?_)
  match a with
  | 0 => rfl
  | 1 => rfl

section

variable (R0 : S2048x3072.Idx → ℝ) (R1 : S2048x10240.Idx → ℝ) (R2 R3 : S2048x512.Idx → ℝ)

/-- The queries, -/
def Qr (h : Fin 4) (i : Fin 2048) (d : Fin 128) : ℝ := R0 (cell 3072 8 (by decide) i h d)

/-- the keys, -/
def Kr (h : Fin 4) (i : Fin 2048) (d : Fin 128) : ℝ := R0 (cell 3072 20 (by decide) i h d)

/-- the values, -/
def Vr (h : Fin 4) (i : Fin 2048) (d : Fin 128) : ℝ := R1 (cell 10240 32 (by decide) i h d)

/-- the gradient of the output, -/
def Wr (h : Fin 4) (i : Fin 2048) (d : Fin 128) : ℝ := R2 (cell 512 0 (by decide) i h d)

/-- and that of the log-sum-exp, of each head. -/
def Gr (h : Fin 4) (i : Fin 2048) : ℝ := R3 (cell 512 0 (by decide) i h ⟨0, by decide⟩)

end

section

variable {R0 : S2048x3072.Idx → ℝ} {R1 : S2048x10240.Idx → ℝ} {R2 R3 : S2048x512.Idx → ℝ}
  {x0 : Vec Ideal S2048x3072 .f32} {x1 : Vec Ideal S2048x10240 .f32} {x2 x3 : Vec Ideal S2048x512 .f32}

/-- Four arrays of reals are the reference's inputs. -/
theorem inputs_of (h0 : ∀ i, x0 i = ((R0 i : ℝ) : EReal)) (h1 : ∀ i, x1 i = ((R1 i : ℝ) : EReal)) (h2 : ∀ i, x2 i = ((R2 i : ℝ) : EReal))
    (h3 : ∀ i, x3 i = ((R3 i : ℝ) : EReal)) : Ref.Inputs x0 x1 x2 x3 (Qr R0) (Kr R0) (Vr R1) (Wr R2) (Gr R3) where
  q y := by
    rw [Cert.ReferenceIdeal.Read.val_main_v1_apply, Cert.ReferenceIdeal.Read.val_main_v0_apply, h0]
    refine congrArg (fun i => ((R0 i : ℝ) : EReal)) (funext fun a => ?_)
    have y0 : (y 0).val < 1 := (y 0).isLt
    have y1 : (y 1).val < 2048 := (y 1).isLt
    have y2 : (y 2).val < 4 := (y 2).isLt
    have y3 : (y 3).val < 128 := (y 3).isLt
    match a with
    | 0 => exact Fin.ext (by show ((((y 0).val * 2048 + (y 1).val) * 4 + (y 2).val) * 128 + (y 3).val) / 512 = (y 1).val; omega)
    | 1 => exact Fin.ext (by show 1024 + ((((y 0).val * 2048 + (y 1).val) * 4 + (y 2).val) * 128 + (y 3).val) % 512 = (8 + (y 2).val) * 128 + (y 3).val; omega)
  k y := by
    rw [Cert.ReferenceIdeal.Read.val_main_v3_apply, Cert.ReferenceIdeal.Read.val_main_v2_apply, h0]
    refine congrArg (fun i => ((R0 i : ℝ) : EReal)) (funext fun a => ?_)
    have y0 : (y 0).val < 1 := (y 0).isLt
    have y1 : (y 1).val < 2048 := (y 1).isLt
    have y2 : (y 2).val < 4 := (y 2).isLt
    have y3 : (y 3).val < 128 := (y 3).isLt
    match a with
    | 0 => exact Fin.ext (by show ((((y 0).val * 2048 + (y 1).val) * 4 + (y 2).val) * 128 + (y 3).val) / 512 = (y 1).val; omega)
    | 1 => exact Fin.ext (by show 2560 + ((((y 0).val * 2048 + (y 1).val) * 4 + (y 2).val) * 128 + (y 3).val) % 512 = (20 + (y 2).val) * 128 + (y 3).val; omega)
  v y := by
    rw [Cert.ReferenceIdeal.Read.val_main_v5_apply, Cert.ReferenceIdeal.Read.val_main_v4_apply, h1]
    refine congrArg (fun i => ((R1 i : ℝ) : EReal)) (funext fun a => ?_)
    have y0 : (y 0).val < 1 := (y 0).isLt
    have y1 : (y 1).val < 2048 := (y 1).isLt
    have y2 : (y 2).val < 4 := (y 2).isLt
    have y3 : (y 3).val < 128 := (y 3).isLt
    match a with
    | 0 => exact Fin.ext (by show ((((y 0).val * 2048 + (y 1).val) * 4 + (y 2).val) * 128 + (y 3).val) / 512 = (y 1).val; omega)
    | 1 => exact Fin.ext (by show 4096 + ((((y 0).val * 2048 + (y 1).val) * 4 + (y 2).val) * 128 + (y 3).val) % 512 = (32 + (y 2).val) * 128 + (y 3).val; omega)
  w y := by
    rw [Cert.ReferenceIdeal.Read.val_main_v6_apply, h2]
    refine congrArg (fun i => ((R2 i : ℝ) : EReal)) (funext fun a => ?_)
    have y0 : (y 0).val < 1 := (y 0).isLt
    have y1 : (y 1).val < 2048 := (y 1).isLt
    have y2 : (y 2).val < 4 := (y 2).isLt
    have y3 : (y 3).val < 128 := (y 3).isLt
    match a with
    | 0 => exact Fin.ext (by show ((((y 0).val * 2048 + (y 1).val) * 4 + (y 2).val) * 128 + (y 3).val) / 512 = (y 1).val; omega)
    | 1 => exact Fin.ext (by show ((((y 0).val * 2048 + (y 1).val) * 4 + (y 2).val) * 128 + (y 3).val) % 512 = (0 + (y 2).val) * 128 + (y 3).val; omega)
  g y := by
    rw [Cert.ReferenceIdeal.Read.val_main_v9_apply, Cert.ReferenceIdeal.Read.val_main_v8_apply, Cert.ReferenceIdeal.Read.val_main_v7_apply, h3]
    refine congrArg (fun i => ((R3 i : ℝ) : EReal)) (funext fun a => ?_)
    have y0 : (y 0).val < 1 := (y 0).isLt
    have y1 : (y 1).val < 2048 := (y 1).isLt
    have y2 : (y 2).val < 4 := (y 2).isLt
    match a with
    | 0 => exact Fin.ext (by simp only [Cert.ReferenceIdeal.Read.idx_main_v9, Cert.ReferenceIdeal.Read.idx_main_v8, Cert.ReferenceIdeal.Read.idx_main_v7, cell]; omega)
    | 1 => exact Fin.ext (by simp only [Cert.ReferenceIdeal.Read.idx_main_v9, Cert.ReferenceIdeal.Read.idx_main_v8, Cert.ReferenceIdeal.Read.idx_main_v7, cell]; omega)

end

section

variable (m : (ℓ : Loc nD τ sig) → Buf (Elt Ideal) ℓ) (c : Dev nD)
  {R0 : S2048x3072.Idx → ℝ} {R1 : S2048x10240.Idx → ℝ} {R2 R3 : S2048x512.Idx → ℝ}

/-- The launch's arguments are the reals `R0`, `R1`, `R2` and `R3`. -/
structure Args (R0 : S2048x3072.Idx → ℝ) (R1 : S2048x10240.Idx → ℝ) (R2 R3 : S2048x512.Idx → ℝ) : Prop where
  a0 : ∀ i : S2048x3072.Idx, m ((c : Thread nD τ).loc main_arg0) i = ((R0 i : ℝ) : EReal)
  a1 : ∀ i : S2048x10240.Idx, m ((c : Thread nD τ).loc main_arg1) i = ((R1 i : ℝ) : EReal)
  a2 : ∀ i : S2048x512.Idx, m ((c : Thread nD τ).loc main_arg2) i = ((R2 i : ℝ) : EReal)
  a3 : ∀ i : S2048x512.Idx, m ((c : Thread nD τ).loc main_arg3) i = ((R3 i : ℝ) : EReal)

variable {m c}

theorem Args.inputs (a : Args m c R0 R1 R2 R3) : Ref.Inputs (m ((c : Thread nD τ).loc main_arg0)) (m ((c : Thread nD τ).loc main_arg1))
    (m ((c : Thread nD τ).loc main_arg2)) (m ((c : Thread nD τ).loc main_arg3)) (Qr R0) (Kr R0) (Vr R1) (Wr R2) (Gr R3) :=
  inputs_of a.a0 a.a1 a.a2 a.a3

/-- The output array as the kernel finds it, -/
theorem Args.o (a : Args m c R0 R1 R2 R3) (h : Fin 4) (i : Fin 2048) (d : Fin 128) :
    V m c main_v44 (cell 512 0 (by decide) i h d) = ((Model.out κ (Qr R0 h) (Kr R0 h) (Vr R1 h) i d : ℝ) : EReal) := by
  rw [V_o]
  refine (shapeCast_apply _ shapeCasts_S1x2048x4x128_S2048x512 (cell 512 0 (by decide) i h d) (fun x => match x with
    | 0 => (⟨0, Nat.one_pos⟩ : Fin 1)
    | 1 => i
    | 2 => h
    | 3 => d) ?_).trans (Ref.out_at a.inputs _)
  rw [Shape.rowMajor_val_four, Shape.rowMajor_val_two]
  show ((0 * 2048 + i.val) * 4 + h.val) * 128 + d.val = i.val * 512 + ((0 + h.val) * 128 + d.val)
  omega

/-- and the log-sum-exps, in every lane. -/
theorem Args.lse (a : Args m c R0 R1 R2 R3) (h : Fin 4) (i : Fin 2048) (d : Fin 128) :
    V m c main_v45 (cell 512 0 (by decide) i h d) = ((Model.lse κ (Qr R0 h) (Kr R0 h) i : ℝ) : EReal) := by
  rw [V_lse]
  refine (shapeCast_apply _ shapeCasts_S2048x4x128_S2048x512 (cell 512 0 (by decide) i h d) (fun x => match x with
    | 0 => i
    | 1 => h
    | 2 => d) ?_).trans ?_
  · rw [Shape.rowMajor_val_three, Shape.rowMajor_val_two]
    show (i.val * 4 + h.val) * 128 + d.val = i.val * 512 + ((0 + h.val) * 128 + d.val)
    omega
  refine (shapeCast_apply _ shapeCasts_S1x2048x4_S2048x4x1 _ (fun x => match x with
    | 0 => (⟨0, Nat.one_pos⟩ : Fin 1)
    | 1 => i
    | 2 => h) ?_).trans (Ref.lse_at a.inputs _)
  rw [Shape.rowMajor_val_three, Shape.rowMajor_val_three]
  show (0 * 2048 + i.val) * 4 + h.val = (i.val * 4 + h.val) * 1 + 0
  omega

/-! ## The tiles of a head -/

theorem Args.q_tile (a : Args m c R0 R1 R2 R3) (h : Fin 4) (r : Fin 16) (y : S128x128.Idx) :
    tileOf r (qB m c h) y = ((Qr R0 h (row r (y 0)) (y 1) : ℝ) : EReal) := by
  rw [tile_cell, V_main_arg0]; exact a.a0 _

theorem Args.k_tile (a : Args m c R0 R1 R2 R3) (h : Fin 4) (r : Fin 16) (y : S128x128.Idx) :
    tileOf r (kB m c h) y = ((Kr R0 h (row r (y 0)) (y 1) : ℝ) : EReal) := by
  rw [tile_cell, V_main_arg0]; exact a.a0 _

theorem Args.v_tile (a : Args m c R0 R1 R2 R3) (h : Fin 4) (r : Fin 16) (y : S128x128.Idx) :
    tileOf r (vB m c h) y = ((Vr R1 h (row r (y 0)) (y 1) : ℝ) : EReal) := by
  rw [tile_cell, V_main_arg1]; exact a.a1 _

theorem Args.w_tile (a : Args m c R0 R1 R2 R3) (h : Fin 4) (r : Fin 16) (y : S128x128.Idx) :
    tileOf r (dOB m c h) y = ((Wr R2 h (row r (y 0)) (y 1) : ℝ) : EReal) := by
  rw [tile_cell, V_main_arg2]; exact a.a2 _

theorem Args.g_tile (a : Args m c R0 R1 R2 R3) (h : Fin 4) (r : Fin 16) (b : Fin 128) :
    tileOf r (dlseB m c h) (laneIdx b) = ((Gr R3 h (row r b) : ℝ) : EReal) := by
  rw [tile_cell, V_main_arg3]; exact a.a3 _

theorem Args.o_tile (a : Args m c R0 R1 R2 R3) (h : Fin 4) (r : Fin 16) (y : S128x128.Idx) :
    tileOf r (oB m c h) y = ((Model.out κ (Qr R0 h) (Kr R0 h) (Vr R1 h) (row r (y 0)) (y 1) : ℝ) : EReal) := by
  rw [tile_cell]; exact a.o h _ _

theorem Args.lse_tile (a : Args m c R0 R1 R2 R3) (h : Fin 4) (r : Fin 16) (b : Fin 128) :
    tileOf r (lseB m c h) (laneIdx b) = ((Model.lse κ (Qr R0 h) (Kr R0 h) (row r b) : ℝ) : EReal) := by
  rw [tile_cell]; exact a.lse h _ _

/-! ## The gradients -/

/-- A tile's probabilities are the model's at its rows, -/
theorem prob_row (q k : Fin 2048 → Fin 128 → ℝ) (r : Fin 16) (a b : Fin 128) :
    probT (fun a => q (row r a)) (fun a => k (row r a)) (fun a => Model.lse κ q k (row r a)) a b = Model.prob κ q k (row r a) (row r b) := by
  unfold probT Model.prob
  simp only [seen_row]
  rfl

/-- and so are its gradients of the scores. -/
theorem ds_row (q k v w : Fin 2048 → Fin 128 → ℝ) (g : Fin 2048 → ℝ) (r : Fin 16) (a b : Fin 128) :
    dsT (fun a => q (row r a)) (fun a => k (row r a)) (fun a => v (row r a)) (fun a => Model.out κ q k v (row r a)) (fun a => w (row r a))
      (fun a => Model.lse κ q k (row r a)) (fun a => g (row r a)) a b = Model.ds κ q k v w g (row r a) (row r b) := by
  unfold dsT Model.ds
  rw [prob_row]

theorem Args.dq (a : Args m c R0 R1 R2 R3) (h : Fin 4) (r : Fin 16) (j : S128x128.Idx) :
    dqOut m c h r j = ((Model.dq κ (Qr R0 h) (Kr R0 h) (Vr R1 h) (Wr R2 h) (Gr R3 h) (row r (j 0)) (j 1) : ℝ) : EReal) := by
  unfold dqOut dqStep
  refine (dqTile_at (fq := fun a => Qr R0 h (row r a)) (fk := fun a => Kr R0 h (row r a)) (fv := fun a => Vr R1 h (row r a))
    (fo := fun a => Model.out κ (Qr R0 h) (Kr R0 h) (Vr R1 h) (row r a)) (fw := fun a => Wr R2 h (row r a)) (fl := fun a => Model.lse κ (Qr R0 h) (Kr R0 h) (row r a))
    (fg := fun a => Gr R3 h (row r a)) (a.q_tile h r) (a.k_tile h r) (a.v_tile h r) (a.o_tile h r) (a.w_tile h r) (a.lse_tile h r) (a.g_tile h r) j).trans ?_
  exact congrArg _ (Eq.trans (congrArg (· * κ) (Finset.sum_congr rfl fun b _ => congrArg (· * _) (ds_row _ _ _ _ _ r _ _))) (dq_row ..).symm)

theorem Args.dk (a : Args m c R0 R1 R2 R3) (h : Fin 4) (r : Fin 16) (j : S128x128.Idx) :
    dkOut m c h r j = ((Model.dk κ (Qr R0 h) (Kr R0 h) (Vr R1 h) (Wr R2 h) (Gr R3 h) (row r (j 0)) (j 1) : ℝ) : EReal) := by
  unfold dkOut dkStep
  refine (dkTile_at (fq := fun a => Qr R0 h (row r a)) (fk := fun a => Kr R0 h (row r a)) (fv := fun a => Vr R1 h (row r a))
    (fo := fun a => Model.out κ (Qr R0 h) (Kr R0 h) (Vr R1 h) (row r a)) (fw := fun a => Wr R2 h (row r a)) (fl := fun a => Model.lse κ (Qr R0 h) (Kr R0 h) (row r a))
    (fg := fun a => Gr R3 h (row r a)) (a.q_tile h r) (a.k_tile h r) (a.v_tile h r) (a.o_tile h r) (a.w_tile h r) (a.lse_tile h r) (a.g_tile h r) j).trans ?_
  exact congrArg _ (Eq.trans (congrArg (· * κ) (Finset.sum_congr rfl fun b _ => congrArg (· * _) (ds_row _ _ _ _ _ r _ _))) (dk_row ..).symm)

theorem Args.dv (a : Args m c R0 R1 R2 R3) (h : Fin 4) (r : Fin 16) (j : S128x128.Idx) :
    dvOut m c h r j = ((Model.dv κ (Qr R0 h) (Kr R0 h) (Wr R2 h) (row r (j 0)) (j 1) : ℝ) : EReal) := by
  unfold dvOut dvStep
  refine (dvTile_at (fq := fun a => Qr R0 h (row r a)) (fk := fun a => Kr R0 h (row r a))
    (fw := fun a => Wr R2 h (row r a)) (fl := fun a => Model.lse κ (Qr R0 h) (Kr R0 h) (row r a))
    (a.q_tile h r) (a.k_tile h r) (a.w_tile h r) (a.lse_tile h r) j).trans ?_
  exact congrArg _ (Eq.trans (Finset.sum_congr rfl fun b _ => congrArg (· * _) (prob_row _ _ r _ _)) (dv_row ..).symm)

end

end Cert.DilBwd

end
-- ==== Proof.Finite.lean ====
/- The precondition says that every entry of every argument is a real number. -/
module

public import proofs.«01_k».proof.Pre_finite
public import proofs.«01_k».proof.Proof.Reals
public import Idealize.ShloMosaic.Lib.ReduceAll
public import Idealize.ShloMosaic.PureOps.Ideal.Laws

@[expose] public section

noncomputable section

namespace Cert.DilBwd

open Idealize.ShloMosaic Idealize.ShloMosaic.TcCoe
open Cert.Pre_finite

theorem ofBits_top : Ideal.ofBits .f32 0x7F800000#32 = ⊤ := by simp [Ideal.ofBits, Ideal.ieee]

/-- An entry whose absolute value is below infinity is a real. -/
theorem real_of_abs_lt {x : EReal} (h : Ideal.cmp .olt (max x (-x)) (Ideal.ofBits .f32 0x7F800000#32) = 1#1) : x = ((x.toReal : ℝ) : EReal) := by
  rw [ofBits_top] at h
  have h' : max x (-x) < ⊤ := by
    by_contra hc
    simp [Ideal.cmp, hc] at h
  refine (EReal.coe_toReal (fun e => ?_) (fun e => ?_)).symm
  · rw [e] at h'; simp at h'
  · rw [e] at h'; simp at h'

/-- Two bits whose conjunction is set are both set. -/
theorem of_andi {a b : BitVec 1} (h : IntOp.andi a b = 1#1) : a = 1#1 ∧ b = 1#1 := by
  revert a b; decide

/-- A conjunction over a whole array is set only if each of its bits is. -/
theorem real_of_all {s : Shape} (x : FVec Ideal s .f32) (hb : S_.BroadcastsInDim s (![] : Fin 0 → Fin s.rank)) {axes : List (Fin s.rank)}
    (hr : s.ReducesTo axes S_) (h0 : 0 < S_.numel) (j : S_.Idx)
    (h : Host.reduce IntOp.andi (cmpf .olt (Host.absf x) (broadcastInDim s ![] hb (constant S_ .f32 0x7F800000#32))) (constantI S_ 1 1#1) hr h0 j = 1#1)
    (i : s.Idx) : x i = (((x i).toReal : ℝ) : EReal) :=
  real_of_abs_lt (Host.reduce_andi_all _ _ hr h0 j h i)

/-- The precondition makes every entry of every argument a real. -/
theorem reals_of_finite [Facts] (x0 : FVec Ideal S2048x3072 .f32) (x1 : FVec Ideal S2048x10240 .f32) (x2 x3 : FVec Ideal S2048x512 .f32)
    (h : Cert.Pre_finite.fn x0 x1 x2 x3 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ ∀ i, x3 i = (((x3 i).toReal : ℝ) : EReal) := by
  have e := congrFun h (Shape.Idx.first Facts.h_S_)
  dsimp only [Cert.Pre_finite.fn, Cert.Pre_finite.fn_part1] at e
  obtain ⟨e, e3⟩ := of_andi e
  obtain ⟨e, e2⟩ := of_andi e
  obtain ⟨e0, e1⟩ := of_andi e
  exact ⟨real_of_all x0 _ _ _ _ e0, real_of_all x1 _ _ _ _ e1, real_of_all x2 _ _ _ _ e2, real_of_all x3 _ _ _ _ e3⟩

end Cert.DilBwd

end
-- ==== Proof.Same.lean ====
/- The kernel's text over floats and its idealisation's are one text. -/
module

public import proofs.«01_k».proof.Proof.Gen.Kernel
public import proofs.«01_k».proof.Proof.Gen.KernelIdeal

@[expose] public section

set_option maxRecDepth 16384

noncomputable section

namespace Cert.DilBwd

open Idealize.ShloMosaic

variable {F : FTy → Type} [FloatOps F]

/-- The tables of bodies are one table, -/
theorem defs₀_same : Cert.Kernel.defs₀ (F := F) = Cert.KernelIdeal.defs₀ := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

/-- with the launch's own among them, -/
theorem defs_same : Cert.Kernel.defs (F := F) = Cert.KernelIdeal.defs := by
  unfold Cert.Kernel.defs Cert.KernelIdeal.defs
  rw [defs₀_same]
  rfl

set_option maxHeartbeats 1000000 in
/-- and the host programs are one program. -/
theorem main_same : Cert.Kernel.main (F := F) = Cert.KernelIdeal.main := rfl

end Cert.DilBwd

end
-- ==== Proof.FfnSame.lean ====
/- The texts over floats of the feed-forward's two programs and their idealisations are one text each. -/
module

public import proofs.«01_k».proof.Proof.Gen.Kernel2
public import proofs.«01_k».proof.Proof.Gen.Kernel2Ideal
public import proofs.«01_k».proof.Proof.Gen.Kernel3
public import proofs.«01_k».proof.Proof.Gen.Kernel3Ideal

@[expose] public section

set_option maxRecDepth 16384

noncomputable section

namespace Cert.Ffn

open Idealize.ShloMosaic

variable {F : FTy → Type} [FloatOps F]

/-! ## The weights' and the activations' gradients -/

set_option maxHeartbeats 4000000 in
theorem defs₀_same : Cert.Kernel2.defs₀ (F := F) = Cert.Kernel2Ideal.defs₀ := by
  unfold Cert.Kernel2.defs₀ Cert.Kernel2Ideal.defs₀
  refine congrArg Defs.onTc (funext fun l => ?_)
  match l with
  | 0 => rfl
  | 1 => rfl
  | 2 => rfl
  | 3 => rfl
  | ⟨_ + 4, h⟩ => exact absurd h (Nat.not_lt.2 (Nat.le_add_left _ _))

theorem defs_same : Cert.Kernel2.defs (F := F) = Cert.Kernel2Ideal.defs := by
  unfold Cert.Kernel2.defs Cert.Kernel2Ideal.defs
  rw [defs₀_same]
  rfl

set_option maxHeartbeats 2000000 in
theorem main_same : Cert.Kernel2.main (F := F) = Cert.Kernel2Ideal.main := rfl

/-! ## The input's gradient -/

theorem du_defs₀_same : Cert.Kernel3.defs₀ (F := F) = Cert.Kernel3Ideal.defs₀ := by
  unfold Cert.Kernel3.defs₀ Cert.Kernel3Ideal.defs₀
  refine congrArg Defs.onTc (funext fun l => ?_)
  match l with
  | 0 => rfl
  | ⟨_ + 1, h⟩ => exact absurd h (Nat.not_lt.2 (Nat.le_add_left _ _))

theorem du_defs_same : Cert.Kernel3.defs (F := F) = Cert.Kernel3Ideal.defs := by
  unfold Cert.Kernel3.defs Cert.Kernel3Ideal.defs
  rw [du_defs₀_same]
  rfl

set_option maxHeartbeats 2000000 in
theorem du_main_same : Cert.Kernel3.main (F := F) = Cert.Kernel3Ideal.main := rfl

end Cert.Ffn

end
-- ==== Proof.Products.lean ====
/- A contraction over one axis, over the extended reals, as a sum. -/
module

public import Idealize.ShloMosaic.Lib.Pipeline.Value
public import Idealize.ShloMosaic.Lib.ValueIdx
public import Idealize.ShloMosaic.PureOps.Ideal.Laws

@[expose] public section

set_option maxRecDepth 16384

noncomputable section

namespace Cert.Ffn

open Idealize.ShloMosaic

/-- The place at row `r` and column `c` of a matrix. -/
abbrev at2 {n k : ℕ} (r : Fin n) (c : Fin k) : (⟨2, ![n, k]⟩ : Shape).Idx := fun a => match a with
  | 0 => r
  | 1 => c

theorem ext2 {n k : ℕ} {y z : (⟨2, ![n, k]⟩ : Shape).Idx} (h0 : (y 0).val = (z 0).val) (h1 : (y 1).val = (z 1).val) : y = z := by
  funext a
  match a with
  | 0 => exact Fin.ext h0
  | 1 => exact Fin.ext h1

/-- The contraction's sum over one axis of `K` terms, the operands' places of term `k` being `f k` and `g k`. -/
theorem matmul_at {S T U : Shape} {φ : FTy} (d : DotDims S T U) (K : ℕ) (h1 : d.contr.rank = 1) (h2 : d.contr.size ⟨0, by omega⟩ = K)
    (prec : Option ContractPrecision) (A : FVec Ideal S φ) (B : FVec Ideal T φ) (j : U.Idx) (f : Fin K → S.Idx) (g : Fin K → T.Idx)
    (hf : ∀ k q, (q ⟨0, by omega⟩).val = k.val → d.lhsIdx j q = f k)
    (hg : ∀ k q, (q ⟨0, by omega⟩).val = k.val → d.rhsIdx j q = g k) :
    matmul d prec A B (constant U .f32 0x00000000#32) j = ∑ k, A (f k) * B (g k) := by
  simp only [matmul]
  rw [Ideal.matmul_constant_zero_apply, ← Equiv.sum_comp (ValueIdx.contrEquiv1 d K h1 h2).symm]
  refine Finset.sum_congr rfl fun k _ => ?_
  have hk := ValueIdx.contrEquiv1_symm_val d K h1 h2 k
  rw [hf k _ hk, hg k _ hk]

end Cert.Ffn

end
-- ==== Proof.FfnModel.lean ====
/- The feed-forward's gate, its activations and the gradients of both, entry by entry over the extended reals. -/
module

public import proofs.«01_k».proof.Proof.Products
public import proofs.«01_k».proof.Proof.Gen.Kernel2Ideal
public import Idealize.ShloMosaic.Lib.Pipeline.ValueKit

@[expose] public section

set_option maxRecDepth 16384

noncomputable section

namespace Cert.Ffn

open Cert.Kernel2Ideal
open Idealize.ShloMosaic

/-- An activation: the gate through its sigmoid, times the value. -/
def act (g u : EReal) : EReal := g * Ideal.logistic g * u

/-- Its gradients by the gate and by the value, `d` being the gradient of the activation. -/
def dgate (d g u : EReal) : EReal := d * u * (Ideal.logistic g * (Ideal.ofBits .f32 0x3F800000#32 + g * (Ideal.ofBits .f32 0x3F800000#32 - Ideal.logistic g)))
def dup (d g : EReal) : EReal := d * (g * Ideal.logistic g)

/-- The gate, -/
def gate (U : FVec Ideal S2048x2048 .bf16) (W : FVec Ideal S2048x11264 .bf16) (r : Fin 2048) (s : Fin 5632) : EReal :=
  ∑ k : Fin 2048, U (at2 (n := 2048) (k := 2048) r k) * W (at2 (n := 2048) (k := 11264) k ⟨s.val, by omega⟩)

/-- the value, -/
def up (U : FVec Ideal S2048x2048 .bf16) (W : FVec Ideal S2048x11264 .bf16) (r : Fin 2048) (s : Fin 5632) : EReal :=
  ∑ k : Fin 2048, U (at2 (n := 2048) (k := 2048) r k) * W (at2 (n := 2048) (k := 11264) k ⟨5632 + s.val, by omega⟩)

/-- and the gradient of the activation. -/
def dact (D : FVec Ideal S2048x2048 .bf16) (W : FVec Ideal S5632x2048 .bf16) (r : Fin 2048) (s : Fin 5632) : EReal :=
  ∑ k : Fin 2048, D (at2 (n := 2048) (k := 2048) r k) * W (at2 (n := 5632) (k := 2048) s k)

/-- The gradient of the second weights, -/
def dwDown (A : FVec Ideal S2048x5632 .bf16) (D : FVec Ideal S2048x2048 .bf16) (r : Fin 5632) (s : Fin 2048) : EReal :=
  ∑ k : Fin 2048, A (at2 (n := 2048) (k := 5632) k r) * D (at2 (n := 2048) (k := 2048) k s)

/-- and of the first. -/
def dwUp (U : FVec Ideal S2048x2048 .bf16) (X Y : FVec Ideal S2048x5632 .bf16) (r : Fin 2048) (s : Fin 11264) : EReal :=
  ∑ k : Fin 2048, U (at2 (n := 2048) (k := 2048) k r)
    * (if h : s.val < 5632 then X (at2 (n := 2048) (k := 5632) k ⟨s.val, h⟩) else Y (at2 (n := 2048) (k := 5632) k ⟨s.val - 5632, by omega⟩))

/-! ## A tile stored in pieces -/

/-- Pieces that cover a buffer and agree with one function leave that function. -/
theorem canon_all {Val : EltTy → Type} [∀ e, Nonempty (Val e)] {S : Shape} {e : EltTy} (L : List (View.Piece Val S e)) (G : S.Idx → Val e)
    (hc : ∀ y, ∃ p ∈ L, y ∈ p.1.set) (h : ∀ p ∈ L, ∀ x, p.2 x = G (p.1.emb x)) : View.canon L = G :=
  funext fun y => View.canon_eq_of_allAt L y _ (hc y) fun p hp x hx => by rw [h p hp x, hx]

end Cert.Ffn

end
-- ==== Proof.FfnGate.lean ====
/- The first of the feed-forward's four calls: the gate, the value and the activation of a tile, and the arrays they end in. -/
module

public import proofs.«01_k».proof.Proof.FfnModel
public import proofs.«01_k».proof.Proof.Gen.Kernel2Ideal.Frame

@[expose] public section

set_option maxRecDepth 16384

noncomputable section

namespace Cert.Ffn

open Cert.Kernel2Ideal Cert.Kernel2Ideal.Gen
open Idealize.ShloMosaic Idealize.ShloMosaic.Pipeline Idealize.ShloMosaic.TcCoe Idealize.ShloMosaic.Tactic

/-! ## Rows of a tile -/

/-- A product of 256 rows with a tile of columns. -/
def rowsTimes (A : FVec Ideal S256x2048 .bf16) (B : FVec Ideal S2048x512 .bf16) : FVec Ideal S256x512 .f32 := fun y =>
  ∑ k : Fin 2048, A (at2 (n := 256) (k := 2048) (y 0) k) * B (at2 (n := 2048) (k := 512) k (y 1))

theorem rowsTimes_eq (A : FVec Ideal S256x2048 .bf16) (B : FVec Ideal S2048x512 .bf16) :
    matmul dot_S256x2048_S2048x512_S256x512_1_0_0_1_n_n none A B (constant S256x512 .f32 0x00000000#32) = rowsTimes A B := by
  funext y
  refine matmul_at _ 2048 rfl rfl none A B y _ _ (fun k q hq => ?_) (fun k q hq => ?_)
  · refine ext2 rfl ?_
    exact (dot_S256x2048_S2048x512_S256x512_1_0_0_1_n_n.lhsIdx_val_of_single rfl y q).trans hq
  · refine ext2 ?_ rfl
    exact (dot_S256x2048_S2048x512_S256x512_1_0_0_1_n_n.rhsIdx_val_of_single rfl y q).trans hq

theorem pay_act (A : FVec Ideal S256x2048 .bf16) (B C : FVec Ideal S2048x512 .bf16) :
    k0_pay6 (F := Ideal) A B C = fun y => act (rowsTimes A B y) (rowsTimes A C y) := by
  unfold k0_pay6 k0_pay4 k0_pay5
  dsimp only
  rw [rowsTimes_eq, rowsTimes_eq]
  rfl

theorem pay_gate (A : FVec Ideal S256x2048 .bf16) (B : FVec Ideal S2048x512 .bf16) : k0_pay7 (F := Ideal) A B = rowsTimes A B := by
  unfold k0_pay7 k0_pay4
  dsimp only
  rw [rowsTimes_eq]
  rfl

/-! ## A tile -/

/-- A product of a tile's rows with a tile of columns. -/
def tileTimes (A : FVec Ideal S1024x2048 .bf16) (B : FVec Ideal S2048x512 .bf16) (y : S1024x512.Idx) : EReal :=
  ∑ k : Fin 2048, A (at2 (n := 1024) (k := 2048) (y 0) k) * B (at2 (n := 2048) (k := 512) k (y 1))

/-- Rows `o` to `o + 255` of it. -/
theorem rows_of_tile (A : FVec Ideal S1024x2048 .bf16) (B : FVec Ideal S2048x512 .bf16) (o : ℕ)
    (ha : ∀ a, (![o, 0] : Fin 2 → ℕ) a + S256x2048.size a ≤ S1024x2048.size a) (hb : ∀ a, (![0, 0] : Fin 2 → ℕ) a + S2048x512.size a ≤ S2048x512.size a)
    (hy : ∀ a, (![o, 0] : Fin 2 → ℕ) a + S256x512.size a ≤ S1024x512.size a) (x : S256x512.Idx) :
    rowsTimes (View.ld (Val := Elt Ideal) (e' := .bf16) A (Rect.unit (s := S1024x2048) ![o, 0] S256x2048.size ha)) (View.ld (Val := Elt Ideal) (e' := .bf16) B (Rect.unit (s := S2048x512) ![0, 0] S2048x512.size hb)) x
      = tileTimes A B ((Rect.unit (s := S1024x512) ![o, 0] S256x512.size hy).emb x) := by
  refine Finset.sum_congr rfl fun k _ => congrArg₂ (· * ·) (congrArg A (ext2 (n := 1024) (k := 2048) ?_ ?_)) (congrArg B (ext2 (n := 2048) (k := 512) ?_ ?_))
  · rfl
  · show 0 + 1 * k.val = k.val; omega
  · show 0 + 1 * k.val = k.val; omega
  · rfl

theorem tile_act (A : FVec Ideal S1024x2048 .bf16) (B C : FVec Ideal S2048x512 .bf16) :
    out0_3 (F := Ideal) A B C = fun y => act (tileTimes A B y) (tileTimes A C y) := by
  unfold out0_3
  refine canon_all _ _ (cover0_3 _ _ _ _) ?_
  have e : ∀ (o : ℕ) ha hb hy (x : S256x512.Idx),
      k0_pay6 (F := Ideal) (View.ld A (Rect.unit (s := S1024x2048) ![o, 0] S256x2048.size ha)) (View.ld B (Rect.unit (s := S2048x512) ![0, 0] S2048x512.size hb)) (View.ld C (Rect.unit (s := S2048x512) ![0, 0] S2048x512.size hb)) x
        = act (tileTimes A B ((Rect.unit (s := S1024x512) ![o, 0] S256x512.size hy).emb x)) (tileTimes A C ((Rect.unit (s := S1024x512) ![o, 0] S256x512.size hy).emb x)) := fun o ha hb hy x => by
    rw [pay_act]
    exact congrArg₂ act (rows_of_tile A B o ha hb hy x) (rows_of_tile A C o ha hb hy x)
  exact List.forall_mem_cons.2 ⟨fun x => e 768 (by decide) (by decide) (by decide) x, List.forall_mem_cons.2 ⟨fun x => e 512 (by decide) (by decide) (by decide) x, List.forall_mem_cons.2 ⟨fun x => e 256 (by decide) (by decide) (by decide) x,
    List.forall_mem_cons.2 ⟨fun x => e 0 (by decide) (by decide) (by decide) x, fun p hp => absurd hp List.not_mem_nil⟩⟩⟩⟩

theorem tile_gate (A : FVec Ideal S1024x2048 .bf16) (B C : FVec Ideal S2048x512 .bf16) : out0_4 (F := Ideal) A B C = tileTimes A B := by
  unfold out0_4
  refine canon_all _ _ (cover0_4 _ _ _ _) ?_
  have e : ∀ (o : ℕ) ha hb hy (x : S256x512.Idx),
      k0_pay7 (F := Ideal) (View.ld A (Rect.unit (s := S1024x2048) ![o, 0] S256x2048.size ha)) (View.ld B (Rect.unit (s := S2048x512) ![0, 0] S2048x512.size hb)) x
        = tileTimes A B ((Rect.unit (s := S1024x512) ![o, 0] S256x512.size hy).emb x) := fun o ha hb hy x => by
    rw [pay_gate]
    exact rows_of_tile A B o ha hb hy x
  exact List.forall_mem_cons.2 ⟨fun x => e 768 (by decide) (by decide) (by decide) x, List.forall_mem_cons.2 ⟨fun x => e 512 (by decide) (by decide) (by decide) x, List.forall_mem_cons.2 ⟨fun x => e 256 (by decide) (by decide) (by decide) x,
    List.forall_mem_cons.2 ⟨fun x => e 0 (by decide) (by decide) (by decide) x, fun p hp => absurd hp List.not_mem_nil⟩⟩⟩⟩

theorem tile_up (A : FVec Ideal S1024x2048 .bf16) (B C : FVec Ideal S2048x512 .bf16) : out0_5 (F := Ideal) A B C = tileTimes A C :=
  tile_gate A C B

/-! ## The arrays -/

variable (V : (c : Dev nD) → (b : Ref sig .tc) → Buf (Elt Ideal) ((c : Thread nD τ).loc b))

theorem index_facts : ∀ t : Fin cfg0.N,
    (win0_0.index t = ![t.val / 11, 0] ∧ win0_1.index t = ![0, t.val % 11] ∧ win0_2.index t = ![0, 11 + t.val % 11])
    ∧ win0_3.index t = ![t.val / 11, t.val % 11] ∧ win0_4.index t = ![t.val / 11, t.val % 11] ∧ win0_5.index t = ![t.val / 11, t.val % 11] :=
  (by decide +kernel : ∀ t : Fin grid0.N,
    (win0_0.index t = ![t.val / 11, 0] ∧ win0_1.index t = ![0, t.val % 11] ∧ win0_2.index t = ![0, 11 + t.val % 11])
    ∧ win0_3.index t = ![t.val / 11, t.val % 11] ∧ win0_4.index t = ![t.val / 11, t.val % 11] ∧ win0_5.index t = ![t.val / 11, t.val % 11])

theorem tile_is_gate (c : Dev nD) (t : Fin cfg0.N) (y : S1024x512.Idx) (r : Fin 2048) (s : Fin 5632)
    (hr : r.val = t.val / 11 * 1024 + (y 0).val) (hs : s.val = t.val % 11 * 512 + (y 1).val) :
    tileTimes (iblk0 V c 0 t) (iblk0 V c 1 t) y = gate (V c main_arg0) (V c main_arg1) r s := by
  refine Finset.sum_congr rfl fun k _ => congrArg₂ (· * ·) ?_ ?_
  · show V c main_arg0 _ = V c main_arg0 _
    congr 1
    refine ext2 (n := 2048) (k := 2048) ?_ ?_
    · blk_simp [index_facts t]; show _ = r.val; rw [hr]
    · blk_simp [index_facts t]
  · show V c main_arg1 _ = V c main_arg1 _
    congr 1
    refine ext2 (n := 2048) (k := 11264) ?_ ?_
    · blk_simp [index_facts t]
    · blk_simp [index_facts t]; show _ = s.val; rw [hs]

theorem tile_is_up (c : Dev nD) (t : Fin cfg0.N) (y : S1024x512.Idx) (r : Fin 2048) (s : Fin 5632)
    (hr : r.val = t.val / 11 * 1024 + (y 0).val) (hs : s.val = t.val % 11 * 512 + (y 1).val) :
    tileTimes (iblk0 V c 0 t) (iblk0 V c 2 t) y = up (V c main_arg0) (V c main_arg1) r s := by
  refine Finset.sum_congr rfl fun k _ => congrArg₂ (· * ·) ?_ ?_
  · show V c main_arg0 _ = V c main_arg0 _
    congr 1
    refine ext2 (n := 2048) (k := 2048) ?_ ?_
    · blk_simp [index_facts t]; show _ = r.val; rw [hr]
    · blk_simp [index_facts t]
  · show V c main_arg1 _ = V c main_arg1 _
    congr 1
    refine ext2 (n := 2048) (k := 11264) ?_ ?_
    · blk_simp [index_facts t]
    · blk_simp [index_facts t]; show (11 + t.val % 11) * 512 + (y 1).val = 5632 + s.val; omega

theorem array_act (c : Dev nD) : (dat0 V c).arrAt 3 cfg0.N
    = fun i : S2048x5632.Idx => act (gate (V c main_arg0) (V c main_arg1) (i 0) (i 1)) (up (V c main_arg0) (V c main_arg1) (i 0) (i 1)) := by
  refine Dat.arrAt_eq_of_covers _ 3 _ (by decide +kernel) fun t hf y => ?_
  blk_simp
  refine (congrFun ((after0_3 V c t).trans (tile_act _ _ _)) y).trans ?_
  refine congrArg₂ act (tile_is_gate V c t y _ _ ?_ ?_) (tile_is_up V c t y _ _ ?_ ?_)
  all_goals blk_simp [index_facts t]
  all_goals rfl

theorem array_gate (c : Dev nD) : (dat0 V c).arrAt 4 cfg0.N = fun i : S2048x5632.Idx => gate (V c main_arg0) (V c main_arg1) (i 0) (i 1) := by
  refine Dat.arrAt_eq_of_covers _ 4 _ (by decide +kernel) fun t hf y => ?_
  blk_simp
  refine (congrFun ((after0_4 V c t).trans (tile_gate _ _ _)) y).trans ?_
  refine tile_is_gate V c t y _ _ ?_ ?_
  all_goals blk_simp [index_facts t]
  all_goals rfl

theorem array_up (c : Dev nD) : (dat0 V c).arrAt 5 cfg0.N = fun i : S2048x5632.Idx => up (V c main_arg0) (V c main_arg1) (i 0) (i 1) := by
  refine Dat.arrAt_eq_of_covers _ 5 _ (by decide +kernel) fun t hf y => ?_
  blk_simp
  refine (congrFun ((after0_5 V c t).trans (tile_up _ _ _)) y).trans ?_
  refine tile_is_up V c t y _ _ ?_ ?_
  all_goals blk_simp [index_facts t]
  all_goals rfl

end Cert.Ffn

end
-- ==== Proof.FfnGrad.lean ====
/- The second of the feed-forward's four calls: the gradients of a tile of the gate and of the value, and the arrays they end in. -/
module

public import proofs.«01_k».proof.Proof.FfnModel
public import proofs.«01_k».proof.Proof.Gen.Kernel2Ideal.Frame
public import Idealize.ShloMosaic.Lib.Pipeline.ReadBack

@[expose] public section

set_option maxRecDepth 16384

noncomputable section

namespace Cert.Ffn.Grad

open Cert.Kernel2Ideal Cert.Kernel2Ideal.Gen
open Idealize.ShloMosaic Idealize.ShloMosaic.Pipeline Idealize.ShloMosaic.TcCoe Idealize.ShloMosaic.Tactic

/-! ## Rows of a tile -/

/-- A product of 256 rows with rows. -/
def rowsTimes (A : FVec Ideal S256x2048 .bf16) (B : FVec Ideal S512x2048 .bf16) : FVec Ideal S256x512 .f32 := fun y =>
  ∑ k : Fin 2048, A (at2 (n := 256) (k := 2048) (y 0) k) * B (at2 (n := 512) (k := 2048) (y 1) k)

theorem rowsTimes_eq (A : FVec Ideal S256x2048 .bf16) (B : FVec Ideal S512x2048 .bf16) :
    matmul dot_S256x2048_S512x2048_S256x512_1_1_0_0_n_n none A B (constant S256x512 .f32 0x00000000#32) = rowsTimes A B := by
  funext y
  refine matmul_at _ 2048 rfl rfl none A B y _ _ (fun k q hq => ?_) (fun k q hq => ?_)
  · refine ext2 rfl ?_
    exact (dot_S256x2048_S512x2048_S256x512_1_1_0_0_n_n.lhsIdx_val_of_single rfl y q).trans hq
  · refine ext2 rfl ?_
    exact (dot_S256x2048_S512x2048_S256x512_1_1_0_0_n_n.rhsIdx_val_of_single rfl y q).trans hq

theorem pay_gate (B : FVec Ideal S512x2048 .bf16) (A : FVec Ideal S256x2048 .bf16) (g u : FVec Ideal S256x512 .bf16) :
    k1_pay11 (F := Ideal) B A g u = fun y => dgate (rowsTimes A B y) (g y) (u y) := by
  unfold k1_pay11 k1_pay10 k1_pay9 k1_pay8
  dsimp only
  rw [rowsTimes_eq, shapeCast_self, shapeCast_self]
  rfl

theorem pay_up (B : FVec Ideal S512x2048 .bf16) (A : FVec Ideal S256x2048 .bf16) (g : FVec Ideal S256x512 .bf16) :
    k1_pay12 (F := Ideal) B A g = fun y => dup (rowsTimes A B y) (g y) := by
  unfold k1_pay12 k1_pay10 k1_pay9 k1_pay8
  dsimp only
  rw [rowsTimes_eq, shapeCast_self]
  rfl

/-! ## A tile -/

/-- A product of a tile's rows with rows. -/
def tileTimes (A : FVec Ideal S1024x2048 .bf16) (B : FVec Ideal S512x2048 .bf16) (y : S1024x512.Idx) : EReal :=
  ∑ k : Fin 2048, A (at2 (n := 1024) (k := 2048) (y 0) k) * B (at2 (n := 512) (k := 2048) (y 1) k)

/-- Rows `o` to `o + 255` of it. -/
theorem rows_of_tile (A : FVec Ideal S1024x2048 .bf16) (B : FVec Ideal S512x2048 .bf16) (o : ℕ)
    (ha : ∀ a, (![o, 0] : Fin 2 → ℕ) a + S256x2048.size a ≤ S1024x2048.size a)
    (hy : ∀ a, (![o, 0] : Fin 2 → ℕ) a + S256x512.size a ≤ S1024x512.size a) (x : S256x512.Idx) :
    rowsTimes (View.ld (Val := Elt Ideal) (e' := .bf16) A (Rect.unit (s := S1024x2048) ![o, 0] S256x2048.size ha)) B x
      = tileTimes A B ((Rect.unit (s := S1024x512) ![o, 0] S256x512.size hy).emb x) := by
  refine Finset.sum_congr rfl fun k _ => congrArg₂ (· * ·) (congrArg A (ext2 (n := 1024) (k := 2048) ?_ ?_)) (congrArg B (ext2 (n := 512) (k := 2048) ?_ ?_))
  · rfl
  · show 0 + 1 * k.val = k.val; omega
  · show (x 1).val = 0 + 1 * (x 1).val; omega
  · rfl

variable (V : (c : Dev nD) → (b : Ref sig .tc) → Buf (Elt Ideal) ((c : Thread nD τ).loc b))

/-- What a point leaves of the gate's gradient, -/
theorem left_gate (c : Dev nD) (t : Fin cfg1.N) :
    (outsAt1 V c t).1 = fun y => dgate (tileTimes (iblk1 V c 0 t) (iblk1 V c 1 t) y) ((iblk1 V c 2 t : FVec Ideal S1024x512 .bf16) y) ((iblk1 V c 3 t : FVec Ideal S1024x512 .bf16) y) := by
  unfold outsAt1
  dsimp only
  frame_out
  have e : ∀ (o : ℕ) ha hy (x : S256x512.Idx),
      k1_pay11 (F := Ideal) (iblk1 V c 1 t) (View.ld (iblk1 V c 0 t) (Rect.unit (s := S1024x2048) ![o, 0] S256x2048.size ha))
          (View.ld (iblk1 V c 2 t) (Rect.unit (s := S1024x512) ![o, 0] S256x512.size hy)) (View.ld (iblk1 V c 3 t) (Rect.unit (s := S1024x512) ![o, 0] S256x512.size hy)) x
        = dgate (tileTimes (iblk1 V c 0 t) (iblk1 V c 1 t) ((Rect.unit (s := S1024x512) ![o, 0] S256x512.size hy).emb x))
            ((iblk1 V c 2 t : FVec Ideal S1024x512 .bf16) ((Rect.unit (s := S1024x512) ![o, 0] S256x512.size hy).emb x))
            ((iblk1 V c 3 t : FVec Ideal S1024x512 .bf16) ((Rect.unit (s := S1024x512) ![o, 0] S256x512.size hy).emb x)) := fun o ha hy x => by
    rw [pay_gate]
    exact congrArg (fun z => dgate z _ _) (rows_of_tile _ _ o ha hy x)
  refine canon_all _ _ (fun y => cover0_3 (F := Ideal) _ _ _ _ y) ?_
  exact List.forall_mem_cons.2 ⟨fun x => e 768 (by decide) (by decide) x, List.forall_mem_cons.2 ⟨fun x => e 512 (by decide) (by decide) x,
    List.forall_mem_cons.2 ⟨fun x => e 256 (by decide) (by decide) x,
    List.forall_mem_cons.2 ⟨fun x => e 0 (by decide) (by decide) x, fun p hp => absurd hp List.not_mem_nil⟩⟩⟩⟩

/-- and of the value's. -/
theorem left_up (c : Dev nD) (t : Fin cfg1.N) :
    (outsAt1 V c t).2.1 = fun y => dup (tileTimes (iblk1 V c 0 t) (iblk1 V c 1 t) y) ((iblk1 V c 2 t : FVec Ideal S1024x512 .bf16) y) := by
  unfold outsAt1
  dsimp only
  frame_out
  have e : ∀ (o : ℕ) ha hy (x : S256x512.Idx),
      k1_pay12 (F := Ideal) (iblk1 V c 1 t) (View.ld (iblk1 V c 0 t) (Rect.unit (s := S1024x2048) ![o, 0] S256x2048.size ha))
          (View.ld (iblk1 V c 2 t) (Rect.unit (s := S1024x512) ![o, 0] S256x512.size hy)) x
        = dup (tileTimes (iblk1 V c 0 t) (iblk1 V c 1 t) ((Rect.unit (s := S1024x512) ![o, 0] S256x512.size hy).emb x))
            ((iblk1 V c 2 t : FVec Ideal S1024x512 .bf16) ((Rect.unit (s := S1024x512) ![o, 0] S256x512.size hy).emb x)) := fun o ha hy x => by
    rw [pay_up]
    exact congrArg (fun z => dup z _) (rows_of_tile _ _ o ha hy x)
  refine canon_all _ _ (fun y => cover0_4 (F := Ideal) _ _ _ _ y) ?_
  exact List.forall_mem_cons.2 ⟨fun x => e 768 (by decide) (by decide) x, List.forall_mem_cons.2 ⟨fun x => e 512 (by decide) (by decide) x,
    List.forall_mem_cons.2 ⟨fun x => e 256 (by decide) (by decide) x,
    List.forall_mem_cons.2 ⟨fun x => e 0 (by decide) (by decide) x, fun p hp => absurd hp List.not_mem_nil⟩⟩⟩⟩

/-! ## The arrays -/

theorem index_facts : ∀ t : Fin cfg1.N,
    (win1_0.index t = ![t.val / 11, 0] ∧ win1_1.index t = ![t.val % 11, 0] ∧ win1_2.index t = ![t.val / 11, t.val % 11])
    ∧ win1_3.index t = ![t.val / 11, t.val % 11] ∧ win1_4.index t = ![t.val / 11, t.val % 11] ∧ win1_5.index t = ![t.val / 11, t.val % 11] :=
  (by decide +kernel : ∀ t : Fin grid1.N,
    (win1_0.index t = ![t.val / 11, 0] ∧ win1_1.index t = ![t.val % 11, 0] ∧ win1_2.index t = ![t.val / 11, t.val % 11])
    ∧ win1_3.index t = ![t.val / 11, t.val % 11] ∧ win1_4.index t = ![t.val / 11, t.val % 11] ∧ win1_5.index t = ![t.val / 11, t.val % 11])

theorem tile_is_dact (c : Dev nD) (t : Fin cfg1.N) (y : S1024x512.Idx) (r : Fin 2048) (s : Fin 5632)
    (hr : r.val = t.val / 11 * 1024 + (y 0).val) (hs : s.val = t.val % 11 * 512 + (y 1).val) :
    tileTimes (iblk1 V c 0 t) (iblk1 V c 1 t) y = dact (V c main_arg3) (V c main_arg2) r s := by
  refine Finset.sum_congr rfl fun k _ => congrArg₂ (· * ·) ?_ ?_
  · show V c main_arg3 _ = V c main_arg3 _
    congr 1
    refine ext2 (n := 2048) (k := 2048) ?_ ?_
    · blk_simp [index_facts t]; show _ = r.val; rw [hr]
    · blk_simp [index_facts t]
  · show V c main_arg2 _ = V c main_arg2 _
    congr 1
    refine ext2 (n := 5632) (k := 2048) ?_ ?_
    · blk_simp [index_facts t]; show _ = s.val; rw [hs]
    · blk_simp [index_facts t]

theorem tile_of_gate (c : Dev nD) (t : Fin cfg1.N) (y : S1024x512.Idx) (r : Fin 2048) (s : Fin 5632)
    (hr : r.val = t.val / 11 * 1024 + (y 0).val) (hs : s.val = t.val % 11 * 512 + (y 1).val) :
    (iblk1 V c 2 t : FVec Ideal S1024x512 .bf16) y = (V c main_v0_1 : FVec Ideal S2048x5632 .bf16) (at2 (n := 2048) (k := 5632) r s) := by
  show V c main_v0_1 _ = V c main_v0_1 _
  congr 1
  refine ext2 (n := 2048) (k := 5632) ?_ ?_
  · blk_simp [index_facts t]; show _ = r.val; rw [hr]
  · blk_simp [index_facts t]; show _ = s.val; rw [hs]

theorem tile_of_up (c : Dev nD) (t : Fin cfg1.N) (y : S1024x512.Idx) (r : Fin 2048) (s : Fin 5632)
    (hr : r.val = t.val / 11 * 1024 + (y 0).val) (hs : s.val = t.val % 11 * 512 + (y 1).val) :
    (iblk1 V c 3 t : FVec Ideal S1024x512 .bf16) y = (V c main_v0_2 : FVec Ideal S2048x5632 .bf16) (at2 (n := 2048) (k := 5632) r s) := by
  show V c main_v0_2 _ = V c main_v0_2 _
  congr 1
  refine ext2 (n := 2048) (k := 5632) ?_ ?_
  · blk_simp [index_facts t]; show _ = r.val; rw [hr]
  · blk_simp [index_facts t]; show _ = s.val; rw [hs]

theorem array_gate (c : Dev nD) : (dat1 V c).arrAt 4 cfg1.N
    = fun i : S2048x5632.Idx => dgate (dact (V c main_arg3) (V c main_arg2) (i 0) (i 1))
        ((V c main_v0_1 : FVec Ideal S2048x5632 .bf16) (at2 (n := 2048) (k := 5632) (i 0) (i 1))) ((V c main_v0_2 : FVec Ideal S2048x5632 .bf16) (at2 (n := 2048) (k := 5632) (i 0) (i 1))) := by
  refine Dat.arrAt_eq_of_covers _ 4 _ (by decide +kernel) fun t hf y => ?_
  blk_simp
  refine (congrFun ((after1_4 V c t).trans (left_gate V c t)) y).trans ?_
  refine congr (congrArg₂ dgate (tile_is_dact V c t y _ _ ?_ ?_) (tile_of_gate V c t y _ _ ?_ ?_)) (tile_of_up V c t y _ _ ?_ ?_)
  all_goals blk_simp [index_facts t]
  all_goals rfl

theorem array_up (c : Dev nD) : (dat1 V c).arrAt 5 cfg1.N
    = fun i : S2048x5632.Idx => dup (dact (V c main_arg3) (V c main_arg2) (i 0) (i 1))
        ((V c main_v0_1 : FVec Ideal S2048x5632 .bf16) (at2 (n := 2048) (k := 5632) (i 0) (i 1))) := by
  refine Dat.arrAt_eq_of_covers _ 5 _ (by decide +kernel) fun t hf y => ?_
  blk_simp
  refine (congrFun ((after1_5 V c t).trans (left_up V c t)) y).trans ?_
  refine congrArg₂ dup (tile_is_dact V c t y _ _ ?_ ?_) (tile_of_gate V c t y _ _ ?_ ?_)
  all_goals blk_simp [index_facts t]
  all_goals rfl

end Cert.Ffn.Grad

end
-- ==== Proof.FfnWeights.lean ====
/- The last two of the feed-forward's four calls: the gradients of the two weights. -/
module

public import proofs.«01_k».proof.Proof.FfnModel
public import proofs.«01_k».proof.Proof.Gen.Kernel2Ideal.Frame
public import Idealize.ShloMosaic.Lib.Pipeline.ReadBack

@[expose] public section

set_option maxRecDepth 16384

noncomputable section

namespace Cert.Ffn.Weights

open Cert.Kernel2Ideal Cert.Kernel2Ideal.Gen
open Idealize.ShloMosaic Idealize.ShloMosaic.Pipeline Idealize.ShloMosaic.TcCoe Idealize.ShloMosaic.Tactic

variable (V : (c : Dev nD) → (b : Ref sig .tc) → Buf (Elt Ideal) ((c : Thread nD τ).loc b))

/-! ## The second weights' -/

/-- A product of columns with columns. -/
def colsTimes (A : FVec Ideal S2048x1408 .bf16) (B : FVec Ideal S2048x1024 .bf16) : FVec Ideal S1408x1024 .f32 := fun y =>
  ∑ k : Fin 2048, A (at2 (n := 2048) (k := 1408) k (y 0)) * B (at2 (n := 2048) (k := 1024) k (y 1))

theorem pay_down (A : FVec Ideal S2048x1408 .bf16) (B : FVec Ideal S2048x1024 .bf16) : k2_pay2 (F := Ideal) A B = colsTimes A B := by
  funext y
  unfold k2_pay2
  rw [shapeCast_self]
  refine matmul_at dot_S2048x1408_S2048x1024_S1408x1024_0_0_1_1_n_n 2048 rfl rfl none A B y _ _ (fun k q hq => ?_) (fun k q hq => ?_)
  · refine ext2 ?_ rfl
    exact (dot_S2048x1408_S2048x1024_S1408x1024_0_0_1_1_n_n.lhsIdx_val_of_single rfl y q).trans hq
  · refine ext2 ?_ rfl
    exact (dot_S2048x1408_S2048x1024_S1408x1024_0_0_1_1_n_n.rhsIdx_val_of_single rfl y q).trans hq

theorem left_down (c : Dev nD) (t : Fin cfg2.N) : (outsAt2 V c t).1 = colsTimes (iblk2 V c 0 t) (iblk2 V c 1 t) := by
  unfold outsAt2
  dsimp only
  frame_out
  exact pay_down _ _

theorem down_facts : ∀ t : Fin cfg2.N,
    win2_0.index t = ![0, t.val / 2] ∧ win2_1.index t = ![0, t.val % 2] ∧ win2_2.index t = ![t.val / 2, t.val % 2] :=
  (by decide +kernel : ∀ t : Fin grid2.N,
    win2_0.index t = ![0, t.val / 2] ∧ win2_1.index t = ![0, t.val % 2] ∧ win2_2.index t = ![t.val / 2, t.val % 2])

theorem tile_down (c : Dev nD) (t : Fin cfg2.N) (y : S1408x1024.Idx) (r : Fin 5632) (s : Fin 2048)
    (hr : r.val = t.val / 2 * 1408 + (y 0).val) (hs : s.val = t.val % 2 * 1024 + (y 1).val) :
    colsTimes (iblk2 V c 0 t) (iblk2 V c 1 t) y = dwDown (V c main_v0_0) (V c main_arg3) r s := by
  refine Finset.sum_congr rfl fun k _ => congrArg₂ (· * ·) ?_ ?_
  · show V c main_v0_0 _ = V c main_v0_0 _
    congr 1
    refine ext2 (n := 2048) (k := 5632) ?_ ?_
    · blk_simp [down_facts t]
    · blk_simp [down_facts t]; show _ = r.val; rw [hr]
  · show V c main_arg3 _ = V c main_arg3 _
    congr 1
    refine ext2 (n := 2048) (k := 2048) ?_ ?_
    · blk_simp [down_facts t]
    · blk_simp [down_facts t]; show _ = s.val; rw [hs]

theorem array_down (c : Dev nD) : (dat2 V c).arrAt 2 cfg2.N = fun i : S5632x2048.Idx => dwDown (V c main_v0_0) (V c main_arg3) (i 0) (i 1) := by
  refine Dat.arrAt_eq_of_covers _ 2 _ (by decide +kernel) fun t hf y => ?_
  blk_simp
  refine (congrFun ((after2_2 V c t).trans (left_down V c t)) y).trans ?_
  refine tile_down V c t y _ _ ?_ ?_
  all_goals blk_simp [down_facts t]
  all_goals rfl

/-! ## The first weights' -/

/-- A product of columns with a tile's columns. -/
def colsTile (A : FVec Ideal S2048x2048 .bf16) (B : FVec Ideal S2048x512 .bf16) : FVec Ideal S2048x512 .f32 := fun y =>
  ∑ k : Fin 2048, A (at2 (n := 2048) (k := 2048) k (y 0)) * B (at2 (n := 2048) (k := 512) k (y 1))

theorem pay_first (A : FVec Ideal S2048x2048 .bf16) (B : FVec Ideal S2048x512 .bf16) : k3_pay2 (F := Ideal) A B = colsTile A B := by
  funext y
  unfold k3_pay2
  rw [shapeCast_self]
  refine matmul_at dot_S2048x2048_S2048x512_S2048x512_0_0_1_1_n_n 2048 rfl rfl none A B y _ _ (fun k q hq => ?_) (fun k q hq => ?_)
  · refine ext2 ?_ rfl
    exact (dot_S2048x2048_S2048x512_S2048x512_0_0_1_1_n_n.lhsIdx_val_of_single rfl y q).trans hq
  · refine ext2 ?_ rfl
    exact (dot_S2048x2048_S2048x512_S2048x512_0_0_1_1_n_n.rhsIdx_val_of_single rfl y q).trans hq

/-- What a point of the first half leaves, -/
theorem left_lo (c : Dev nD) (t : Fin cfg3.N) (h : t.val < 11) : (outsAt3 V c t.val t.isLt).1 = colsTile (iblk3 V c 0 t) (iblk3 V c 1 t) := by
  rw [outsAt3_A V c t h (by omega)]
  frame_out
  exact pay_first _ _

/-- and of the second. -/
theorem left_hi (c : Dev nD) (t : Fin cfg3.N) (h : ¬ t.val < 11) : (outsAt3 V c t.val t.isLt).1 = colsTile (iblk3 V c 0 t) (iblk3 V c 2 t) := by
  rw [outsAt3_B V c t h (by omega)]
  frame_out
  exact pay_first _ _

theorem first_facts : ∀ t : Fin cfg3.N,
    win3_0.index t = ![0, 0] ∧ win3_1.index t = ![0, min t.val 10] ∧ win3_2.index t = ![0, t.val - 11] ∧ win3_3.index t = ![0, t.val] :=
  (by decide +kernel : ∀ t : Fin grid3.N,
    win3_0.index t = ![0, 0] ∧ win3_1.index t = ![0, min t.val 10] ∧ win3_2.index t = ![0, t.val - 11] ∧ win3_3.index t = ![0, t.val])

theorem whole (c : Dev nD) (t : Fin cfg3.N) (y : S2048x2048.Idx) :
    (iblk3 V c 0 t : FVec Ideal S2048x2048 .bf16) y = (V c main_arg0 : FVec Ideal S2048x2048 .bf16) (at2 (n := 2048) (k := 2048) (y 0) (y 1)) := by
  show V c main_arg0 _ = V c main_arg0 _
  congr 1
  refine ext2 (n := 2048) (k := 2048) ?_ ?_
  · blk_simp [first_facts t]
  · blk_simp [first_facts t]

theorem tile_lo (c : Dev nD) (t : Fin cfg3.N) (h : t.val < 11) (y : S2048x512.Idx) (r : Fin 2048) (s : Fin 11264)
    (hr : r.val = (y 0).val) (hs : s.val = t.val * 512 + (y 1).val) :
    colsTile (iblk3 V c 0 t) (iblk3 V c 1 t) y = dwUp (V c main_arg0) (V c main_v1_0) (V c main_v1_1) r s := by
  have hy : (y 1).val < 512 := (y 1).isLt
  have hlt : s.val < 5632 := by omega
  refine Finset.sum_congr rfl fun k _ => congrArg₂ (· * ·) ?_ ?_
  · exact (whole V c t _).trans (congrArg (V c main_arg0 : FVec Ideal S2048x2048 .bf16) (ext2 (n := 2048) (k := 2048) rfl hr.symm))
  · rw [dif_pos hlt]
    show V c main_v1_0 _ = V c main_v1_0 _
    congr 1
    refine ext2 (n := 2048) (k := 5632) ?_ ?_
    · blk_simp [first_facts t]
    · blk_simp [first_facts t]; show min t.val 10 * 512 + (y 1).val = s.val; rw [hs, Nat.min_eq_left (by omega)]

theorem tile_hi (c : Dev nD) (t : Fin cfg3.N) (h : ¬ t.val < 11) (y : S2048x512.Idx) (r : Fin 2048) (s : Fin 11264)
    (hr : r.val = (y 0).val) (hs : s.val = t.val * 512 + (y 1).val) :
    colsTile (iblk3 V c 0 t) (iblk3 V c 2 t) y = dwUp (V c main_arg0) (V c main_v1_0) (V c main_v1_1) r s := by
  have hlt : ¬ s.val < 5632 := by omega
  refine Finset.sum_congr rfl fun k _ => congrArg₂ (· * ·) ?_ ?_
  · exact (whole V c t _).trans (congrArg (V c main_arg0 : FVec Ideal S2048x2048 .bf16) (ext2 (n := 2048) (k := 2048) rfl hr.symm))
  · rw [dif_neg hlt]
    show V c main_v1_1 _ = V c main_v1_1 _
    congr 1
    refine ext2 (n := 2048) (k := 5632) ?_ ?_
    · blk_simp [first_facts t]
    · blk_simp [first_facts t]; show (t.val - 11) * 512 + (y 1).val = s.val - 5632; omega

theorem array_first (c : Dev nD) : (dat3 V c).arrAt 3 cfg3.N
    = fun i : S2048x11264.Idx => dwUp (V c main_arg0) (V c main_v1_0) (V c main_v1_1) (i 0) (i 1) := by
  refine Dat.arrAt_eq_of_covers _ 3 _ (by decide +kernel) fun t hf y => ?_
  blk_simp
  refine (congrFun (after3_3 V c t) y).trans ?_
  by_cases h : t.val < 11
  · refine (congrFun (left_lo V c t h) y).trans ?_
    refine tile_lo V c t h y _ _ ?_ ?_
    all_goals blk_simp [first_facts t]
    all_goals rfl
  · refine (congrFun (left_hi V c t h) y).trans ?_
    refine tile_hi V c t h y _ _ ?_ ?_
    all_goals blk_simp [first_facts t]
    all_goals rfl

end Cert.Ffn.Weights

end
-- ==== Proof.FfnRun.lean ====
/- The feed-forward's four calls one after another: what the program leaves in each of its results. -/
module

public import proofs.«01_k».proof.Proof.FfnGate
public import proofs.«01_k».proof.Proof.FfnGrad
public import proofs.«01_k».proof.Proof.FfnWeights

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The values -/

section Values
variable (U D : FVec Ideal S2048x2048 .bf16) (W : FVec Ideal S2048x11264 .bf16) (Z : FVec Ideal S5632x2048 .bf16)

/-- The gradient of the gate, -/
def gateGrad : FVec Ideal S2048x5632 .bf16 := fun i => dgate (dact D Z (i 0) (i 1)) (gate U W (i 0) (i 1)) (up U W (i 0) (i 1))
/-- of the value, -/
def upGrad : FVec Ideal S2048x5632 .bf16 := fun i => dup (dact D Z (i 0) (i 1)) (gate U W (i 0) (i 1))
/-- the activation, -/
def acts : FVec Ideal S2048x5632 .bf16 := fun i => act (gate U W (i 0) (i 1)) (up U W (i 0) (i 1))
/-- the gradient of the second weights, -/
def downGrad : FVec Ideal S5632x2048 .bf16 := fun i => dwDown (acts U W) D (i 0) (i 1)
/-- and of the first. -/
def firstGrad : FVec Ideal S2048x11264 .bf16 := fun i => dwUp U (gateGrad U D W Z) (upGrad U D W Z) (i 0) (i 1)
end Values

variable (m : (ℓ : Loc nD τ sig) → Buf (Elt Ideal) ℓ) (ρ : Dev nD → PrngReg)

/-- The arguments. -/
def inU (c : Dev nD) : FVec Ideal S2048x2048 .bf16 := m ((c.tc : Thread nD τ).loc main_arg0)
def inW (c : Dev nD) : FVec Ideal S2048x11264 .bf16 := m ((c.tc : Thread nD τ).loc main_arg1)
def inZ (c : Dev nD) : FVec Ideal S5632x2048 .bf16 := m ((c.tc : Thread nD τ).loc main_arg2)
def inD (c : Dev nD) : FVec Ideal S2048x2048 .bf16 := m ((c.tc : Thread nD τ).loc main_arg3)

theorem after0_act (c : Dev nD) : V1 m ρ c main_v0_0 = acts (inU m c) (inW m c) := (W1_arr m ρ c 3).trans (array_act (V0 m ρ) c)
theorem after0_gate (c : Dev nD) : V1 m ρ c main_v0_1 = fun i : S2048x5632.Idx => gate (inU m c) (inW m c) (i 0) (i 1) := (W1_arr m ρ c 4).trans (array_gate (V0 m ρ) c)
theorem after0_up (c : Dev nD) : V1 m ρ c main_v0_2 = fun i : S2048x5632.Idx => up (inU m c) (inW m c) (i 0) (i 1) := (W1_arr m ρ c 5).trans (array_up (V0 m ρ) c)

theorem arg2_at1 (c : Dev nD) : V1 m ρ c main_arg2 = inZ m c := W1_args m ρ c main_arg2 (by decide)
theorem arg3_at1 (c : Dev nD) : V1 m ρ c main_arg3 = inD m c := W1_args m ρ c main_arg3 (by decide)
theorem arg3_at2 (c : Dev nD) : V2 m ρ c main_arg3 = inD m c := W2_args m ρ c main_arg3 (by decide)
theorem arg0_at3 (c : Dev nD) : V3 m ρ c main_arg0 = inU m c := W3_args m ρ c main_arg0 (by decide)

theorem after1_gate (c : Dev nD) : V2 m ρ c main_v1_0 = gateGrad (inU m c) (inD m c) (inW m c) (inZ m c) := by
  refine (W2_arr m ρ c 4).trans ((Grad.array_gate (V1 m ρ) c).trans ?_)
  rw [arg2_at1, arg3_at1, after0_gate, after0_up]
  rfl

theorem after1_up (c : Dev nD) : V2 m ρ c main_v1_1 = upGrad (inU m c) (inD m c) (inW m c) (inZ m c) := by
  refine (W2_arr m ρ c 5).trans ((Grad.array_up (V1 m ρ) c).trans ?_)
  rw [arg2_at1, arg3_at1, after0_gate]
  rfl

theorem act_at2 (c : Dev nD) : V2 m ρ c main_v0_0 = acts (inU m c) (inW m c) := (W2_of_ne m ρ c main_v0_0 (by decide)).trans (after0_act m ρ c)

theorem after2_down (c : Dev nD) : V3 m ρ c main_v2_0 = downGrad (inU m c) (inD m c) (inW m c) := by
  refine (W3_arr m ρ c 2).trans ((Weights.array_down (V2 m ρ) c).trans ?_)
  rw [act_at2, arg3_at2]
  rfl

theorem gate_at3 (c : Dev nD) : V3 m ρ c main_v1_0 = gateGrad (inU m c) (inD m c) (inW m c) (inZ m c) := (W3_of_ne m ρ c main_v1_0 (by decide)).trans (after1_gate m ρ c)
theorem up_at3 (c : Dev nD) : V3 m ρ c main_v1_1 = upGrad (inU m c) (inD m c) (inW m c) (inZ m c) := (W3_of_ne m ρ c main_v1_1 (by decide)).trans (after1_up m ρ c)

theorem after3_first (c : Dev nD) : V4 m ρ c main_v3_0 = firstGrad (inU m c) (inD m c) (inW m c) (inZ m c) := by
  refine (W4_arr m ρ c 3).trans ((Weights.array_first (V3 m ρ) c).trans ?_)
  rw [arg0_at3, gate_at3, up_at3]
  rfl

theorem gate_at4 (c : Dev nD) : V4 m ρ c main_v1_0 = gateGrad (inU m c) (inD m c) (inW m c) (inZ m c) := (W4_of m ρ c main_v1_0 (by decide)).trans (gate_at3 m ρ c)
theorem up_at4 (c : Dev nD) : V4 m ρ c main_v1_1 = upGrad (inU m c) (inD m c) (inW m c) (inZ m c) := (W4_of m ρ c main_v1_1 (by decide)).trans (up_at3 m ρ c)
theorem down_at4 (c : Dev nD) : V4 m ρ c main_v2_0 = downGrad (inU m c) (inD m c) (inW m c) := (W4_of_ne m ρ c main_v2_0 (by decide)).trans (after2_down m ρ c)

/-! ## The run -/

-- the launch's implicit arguments are found by unifying its conclusion, which takes unfolding definitions in a metavariable's type
set_option backward.isDefEq.respectTransparency.types false in
/-- Every buffer of the four calls ends as the last of them leaves it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The four results, and the arguments unchanged. -/
theorem run : θ_run defs (onTc (τ := τ) (main (F := Ideal))) ⟨m, fun _ => 0, ρ⟩ (fun r => ∀ c : Dev nD,
    (r.2.mem ((c.tc : Thread nD τ).loc main_v1_0) = gateGrad (inU m c) (inD m c) (inW m c) (inZ m c)
      ∧ r.2.mem ((c.tc : Thread nD τ).loc main_v1_1) = upGrad (inU m c) (inD m c) (inW m c) (inZ m c)
      ∧ r.2.mem ((c.tc : Thread nD τ).loc main_v2_0) = downGrad (inU m c) (inD m c) (inW m c)
      ∧ r.2.mem ((c.tc : Thread nD τ).loc main_v3_0) = firstGrad (inU m c) (inD m c) (inW m c) (inZ m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c =>
    ⟨⟨(h c _ (mem_uc main_v1_0 (by decide))).trans (gate_at4 m ρ c), (h c _ (mem_uc main_v1_1 (by decide))).trans (up_at4 m ρ c),
      (h c _ (mem_uc main_v2_0 (by decide))).trans (down_at4 m ρ c), (h c _ (mem_uc main_v3_0 (by decide))).trans (after3_first m ρ c)⟩,
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c)⟩) (run_all m ρ)

end Cert.Ffn

end
-- ==== Proof.Beside.lean ====
/- Two arrays padded with zeros and added: one beside the other. -/
module

public import proofs.«01_k».proof.Proof.Products
public import Idealize.ShloMosaic.Lib.KernelVsHost

@[expose] public section

set_option maxRecDepth 16384

noncomputable section

namespace Cert.Ffn

open Idealize.ShloMosaic

/-- The two gradients side by side, at a row and a column. -/
theorem beside (X Y : FVec Ideal ⟨2, ![2048, 5632]⟩ .f32) (v : FVec Ideal ⟨0, ![]⟩ .f32) (hv : ∀ i, (v i : EReal) = 0) (j : (⟨2, ![2048, 11264]⟩ : Shape).Idx) (r : Fin 2048) (k : Fin 11264)
    (h0 : (j 0).val = r.val) (h1 : (j 1).val = k.val) (h2 h3 h4) :
    (pad ⟨2, ![2048, 11264]⟩ ![0, 5632] ![0, 0] ![0, 0] Y v h2 h4 j : EReal) + (pad ⟨2, ![2048, 11264]⟩ ![0, 0] ![0, 5632] ![0, 0] X v h3 h4 j : EReal)
      = (if h : k.val < 5632 then X (at2 (n := 2048) (k := 5632) r ⟨k.val, h⟩) else Y (at2 (n := 2048) (k := 5632) r ⟨k.val - 5632, by omega⟩)) := by
  split
  · next h =>
    rw [pad_apply_of_not_inside _ _ _ _ _ _ _ j 1 (fun hc => ?_), pad_apply_of_inside _ _ _ _ _ _ _ j (at2 (n := 2048) (k := 5632) r ⟨k.val, h⟩) (fun a => ?_), hv]
    · exact zero_add _
    · match a with
      | 0 => show (j 0).val = 0 + r.val * 1; omega
      | 1 => show (j 1).val = 0 + k.val * 1; omega
    · have h2 : 5632 ≤ (j 1).val := hc.1
      omega
  · next h =>
    rw [pad_apply_of_inside _ _ _ _ _ _ _ j (at2 (n := 2048) (k := 5632) r ⟨k.val - 5632, by omega⟩) (fun a => ?_), pad_apply_of_not_inside _ _ _ _ _ _ _ j 1 (fun hc => ?_), hv]
    · exact add_zero _
    · have h2 : ((j 1).val - 0) / 1 < 5632 := hc.2.2
      omega
    · match a with
      | 0 => show (j 0).val = 0 + r.val * 1; omega
      | 1 => show (j 1).val = 5632 + (k.val - 5632) * 1; omega

end Cert.Ffn

end
-- ==== Proof.FfnRef.lean ====
/- The feed-forward's reference, over the extended reals, as the kernel's values. -/
module

public import proofs.«01_k».proof.Proof.FfnRun
public import proofs.«01_k».proof.Proof.Beside
public import proofs.«01_k».proof.Proof.Finite
public import proofs.«01_k».proof.Pre_finite_ffn
public import proofs.«01_k».proof.Proof.Gen.Reference2Ideal.Read
public import Idealize.ShloMosaic.Lib.KernelVsHost

@[expose] public section

set_option maxRecDepth 16384

noncomputable section

namespace Cert.Ffn

/-! ## Real arguments -/

section Real
open Idealize.ShloMosaic Cert.Pre_finite_ffn

/-- The precondition makes every entry of every argument a real. -/
theorem reals_of_finite [Facts] (x0 : FVec Ideal S2048x2048 .bf16) (x1 : FVec Ideal S2048x11264 .bf16) (x2 : FVec Ideal S5632x2048 .bf16) (x3 : FVec Ideal S2048x2048 .bf16)
    (h : Cert.Pre_finite_ffn.fn x0 x1 x2 x3 = fun _ => 1#1) :
    (∀ i, ∃ r : ℝ, (x0 i : EReal) = r) ∧ (∀ i, ∃ r : ℝ, (x1 i : EReal) = r) ∧ (∀ i, ∃ r : ℝ, (x2 i : EReal) = r) ∧ ∀ i, ∃ r : ℝ, (x3 i : EReal) = r := by
  have e := congrFun h (Shape.Idx.first Facts.h_S_)
  dsimp only [Cert.Pre_finite_ffn.fn, Cert.Pre_finite_ffn.fn_part1] at e
  obtain ⟨e, e3⟩ := Cert.DilBwd.of_andi e
  obtain ⟨e, e2⟩ := Cert.DilBwd.of_andi e
  obtain ⟨e0, e1⟩ := Cert.DilBwd.of_andi e
  exact ⟨fun i => ⟨_, Cert.DilBwd.real_of_all (extf .f32 x0 _) _ _ _ _ e0 i⟩, fun i => ⟨_, Cert.DilBwd.real_of_all (extf .f32 x1 _) _ _ _ _ e1 i⟩,
    fun i => ⟨_, Cert.DilBwd.real_of_all (extf .f32 x2 _) _ _ _ _ e2 i⟩, fun i => ⟨_, Cert.DilBwd.real_of_all (extf .f32 x3 _) _ _ _ _ e3 i⟩⟩

/-- A sum of products of reals is real. -/
theorem real_sum {n : ℕ} (f g : Fin n → EReal) (hf : ∀ k, ∃ r : ℝ, f k = r) (hg : ∀ k, ∃ r : ℝ, g k = r) : ∃ r : ℝ, ∑ k, f k * g k = r := by
  choose f' hf' using hf
  choose g' hg' using hg
  exact ⟨_, (Finset.sum_congr rfl fun k _ => by rw [hf' k, hg' k]).trans (Cert.DilBwd.coe_sum_mul Finset.univ f' g')⟩

/-- The gate's gradient multiplied out, where everything is real. -/
theorem dgate_of_real (d g u : EReal) (hd : ∃ r : ℝ, d = r) (hg : ∃ r : ℝ, g = r) (hu : ∃ r : ℝ, u = r) :
    d * u * Ideal.logistic g + g * (d * u) * (Ideal.logistic g * (Ideal.ofBits .f32 0x3F800000#32 - Ideal.logistic g)) = dgate d g u := by
  obtain ⟨d, rfl⟩ := hd
  obtain ⟨g, rfl⟩ := hg
  obtain ⟨u, rfl⟩ := hu
  unfold dgate
  rw [Cert.DilBwd.ofBits_one, Ideal.logistic_coe]
  norm_cast
  ring

end Real

open Cert.Reference2Ideal Cert.Reference2Ideal.Gen Cert.Reference2Ideal.Read
open Idealize.ShloMosaic

variable (U : FVec Ideal S2048x2048 .bf16) (W : FVec Ideal S2048x11264 .bf16) (Z : FVec Ideal S5632x2048 .bf16) (D : FVec Ideal S2048x2048 .bf16)

/-! ## The products and the activations -/

theorem ref_gate (i : S2048x5632.Idx) : val_main_v5 (F := Ideal) U W i = gate U W (i 0) (i 1) := by
  rw [val_main_v5_apply, val_main_v4_apply]
  refine Finset.sum_congr rfl fun k _ => congrArg₂ (· * ·) ?_ ?_
  · exact congrArg U (ext2 (n := 2048) (k := 2048) rfl rfl)
  · exact congrArg W (ext2 (n := 2048) (k := 11264) rfl rfl)

theorem ref_up (i : S2048x5632.Idx) : val_main_v6 (F := Ideal) U W i = up U W (i 0) (i 1) := by
  rw [val_main_v6_apply, val_main_v4_apply]
  refine Finset.sum_congr rfl fun k _ => congrArg₂ (· * ·) ?_ ?_
  · exact congrArg U (ext2 (n := 2048) (k := 2048) rfl rfl)
  · exact congrArg W (ext2 (n := 2048) (k := 11264) rfl rfl)

theorem ref_dact (i : S2048x5632.Idx) : val_main_v12 (F := Ideal) Z D i = dact D Z (i 0) (i 1) := by
  rw [val_main_v12_apply]
  refine Finset.sum_congr rfl fun k _ => congrArg₂ (· * ·) ?_ ?_
  · exact congrArg D (ext2 (n := 2048) (k := 2048) rfl rfl)
  · exact congrArg Z (ext2 (n := 5632) (k := 2048) rfl rfl)

theorem one_eq : (Ideal.ofBits .f32 0x3F800000#32 : EReal) = 1 := Cert.DilBwd.ofBits_one.trans EReal.coe_one

theorem ref_sigma (i : S2048x5632.Idx) : val_main_v7_2 (F := Ideal) U W i = Ideal.logistic (gate U W (i 0) (i 1)) := by
  rw [← ref_gate U W i, val_main_v7_2_apply, val_main_call0_v3_apply, val_main_call0_v4_apply, val_main_call0_v2_apply]
  show Ideal.div (Ideal.ofBits .f32 0x3F800000#32) (Ideal.ofBits .f32 0x3F800000#32 + Ideal.exp (-(val_main_v5 (F := Ideal) U W i))) = _
  rw [one_eq]
  rfl

theorem ref_act (i : S2048x5632.Idx) : val_main_v8 (F := Ideal) U W i = act (gate U W (i 0) (i 1)) (up U W (i 0) (i 1)) := by
  rw [val_main_v8_apply, val_main_v7_0_apply, ref_gate, ref_sigma, ref_up]
  rfl

/-! ## The results -/

theorem ref_upGrad (i : S2048x5632.Idx) : val_main_v13 (F := Ideal) U W Z D i = upGrad U D W Z i := by
  rw [val_main_v13_apply, val_main_v7_0_apply, ref_gate, ref_sigma, ref_dact]
  exact mul_comm (gate U W (i 0) (i 1) * Ideal.logistic (gate U W (i 0) (i 1))) (dact D Z (i 0) (i 1))

theorem ref_gateGrad (hU : ∀ i, ∃ r : ℝ, (U i : EReal) = r) (hW : ∀ i, ∃ r : ℝ, (W i : EReal) = r) (hZ : ∀ i, ∃ r : ℝ, (Z i : EReal) = r)
    (hD : ∀ i, ∃ r : ℝ, (D i : EReal) = r) (i : S2048x5632.Idx) : val_main_v15 (F := Ideal) U W Z D i = gateGrad U D W Z i := by
  rw [val_main_v15_apply, val_main_call1_v1_apply, val_main_call1_v2_apply, val_main_call1_v0_apply, val_main_v14_apply, val_main_v7_1_apply,
    val_main_call0_v7_apply, val_main_call0_v6_apply, ref_gate, ref_sigma, ref_up, ref_dact]
  exact dgate_of_real _ _ _ (real_sum _ _ (fun k => hD _) fun k => hZ _) (real_sum _ _ (fun k => hU _) fun k => hW _) (real_sum _ _ (fun k => hU _) fun k => hW _)

theorem ref_downGrad (i : S5632x2048.Idx) : val_main_v11 (F := Ideal) U W D i = downGrad U D W i := by
  rw [val_main_v11_apply, val_main_v10_apply]
  show _ = dwDown (acts U W) D (i 0) (i 1)
  unfold dwDown
  refine Finset.sum_congr rfl fun k _ => ?_
  refine Eq.trans (b := (D (at2 (n := 2048) (k := 2048) k (i 1)) : EReal) * acts U W (at2 (n := 2048) (k := 5632) k (i 0))) (congrArg₂ (· * ·) ?_ ?_) (mul_comm _ _)
  · exact congrArg D (ext2 (n := 2048) (k := 2048) rfl rfl)
  · exact ref_act U W _

theorem ref_firstGrad (hU : ∀ i, ∃ r : ℝ, (U i : EReal) = r) (hW : ∀ i, ∃ r : ℝ, (W i : EReal) = r) (hZ : ∀ i, ∃ r : ℝ, (Z i : EReal) = r)
    (hD : ∀ i, ∃ r : ℝ, (D i : EReal) = r) (i : S2048x11264.Idx) : val_main_v20 (F := Ideal) U W Z D i = firstGrad U D W Z i := by
  rw [val_main_v20_apply, val_main_v19_apply]
  show _ = dwUp U (gateGrad U D W Z) (upGrad U D W Z) (i 0) (i 1)
  unfold dwUp
  refine Finset.sum_congr rfl fun k _ => ?_
  refine Eq.trans (b := (val_main_v18 (F := Ideal) U W Z D (lidx_main_v19 (idx_main_v20 i) k) : EReal) * U (at2 (n := 2048) (k := 2048) k (i 0)))
    (congrArg₂ (· * ·) rfl ?_) ((mul_comm _ _).trans (congrArg₂ (· * ·) rfl ?_))
  · exact congrArg U (ext2 (n := 2048) (k := 2048) rfl rfl)
  · rw [val_main_v18_apply]
    unfold val_main_v16 val_main_v17
    rw [show val_main_v13 (F := Ideal) U W Z D = upGrad U D W Z from funext (ref_upGrad U W Z D),
      show val_main_v15 (F := Ideal) U W Z D = gateGrad U D W Z from funext (ref_gateGrad U W Z D hU hW hZ hD)]
    exact beside _ _ (val_main_cst (F := Ideal)) (fun _ => Ideal.ofBits_zero_f32) (lidx_main_v19 (idx_main_v20 i) k) k (i 1) rfl rfl _ _ _

end Cert.Ffn

end
-- ==== Proof.Dots.lean ====
/- The three products of two matrices, as sums, and a contraction that is one of them. -/
module

public import proofs.«01_k».proof.Proof.Products

@[expose] public section

set_option maxRecDepth 16384

noncomputable section

namespace Cert.Ffn

open Idealize.ShloMosaic

variable {n k m : ℕ} {φ : FTy}

/-- Rows times columns, -/
def nn (A : (⟨2, ![n, k]⟩ : Shape).Idx → EReal) (B : (⟨2, ![k, m]⟩ : Shape).Idx → EReal) (r : Fin n) (s : Fin m) : EReal :=
  ∑ q : Fin k, A (at2 (n := n) (k := k) r q) * B (at2 (n := k) (k := m) q s)

/-- rows times rows, -/
def nt (A : (⟨2, ![n, k]⟩ : Shape).Idx → EReal) (B : (⟨2, ![m, k]⟩ : Shape).Idx → EReal) (r : Fin n) (s : Fin m) : EReal :=
  ∑ q : Fin k, A (at2 (n := n) (k := k) r q) * B (at2 (n := m) (k := k) s q)

/-- and columns times columns. -/
def tn (A : (⟨2, ![k, n]⟩ : Shape).Idx → EReal) (B : (⟨2, ![k, m]⟩ : Shape).Idx → EReal) (r : Fin n) (s : Fin m) : EReal :=
  ∑ q : Fin k, A (at2 (n := k) (k := n) q r) * B (at2 (n := k) (k := m) q s)

theorem matmul_nn (d : DotDims ⟨2, ![n, k]⟩ ⟨2, ![k, m]⟩ ⟨2, ![n, m]⟩) (h1 : d.contr.rank = 1) (h2 : d.contr.size ⟨0, by omega⟩ = k)
    (l0 : ∀ y q, (d.lhsIdx y q 0).val = (y 0).val) (l1 : ∀ y q, (d.lhsIdx y q 1).val = (q ⟨0, by omega⟩).val)
    (r0 : ∀ y q, (d.rhsIdx y q 0).val = (q ⟨0, by omega⟩).val) (r1 : ∀ y q, (d.rhsIdx y q 1).val = (y 1).val)
    (A : FVec Ideal ⟨2, ![n, k]⟩ φ) (B : FVec Ideal ⟨2, ![k, m]⟩ φ) (y : (⟨2, ![n, m]⟩ : Shape).Idx) :
    matmul d none A B (constant ⟨2, ![n, m]⟩ .f32 0x00000000#32) y = nn A B (y 0) (y 1) :=
  matmul_at d k h1 h2 none A B y _ _ (fun q p hq => ext2 (l0 y p) ((l1 y p).trans hq)) (fun q p hq => ext2 ((r0 y p).trans hq) (r1 y p))

theorem matmul_nt (d : DotDims ⟨2, ![n, k]⟩ ⟨2, ![m, k]⟩ ⟨2, ![n, m]⟩) (h1 : d.contr.rank = 1) (h2 : d.contr.size ⟨0, by omega⟩ = k)
    (l0 : ∀ y q, (d.lhsIdx y q 0).val = (y 0).val) (l1 : ∀ y q, (d.lhsIdx y q 1).val = (q ⟨0, by omega⟩).val)
    (r0 : ∀ y q, (d.rhsIdx y q 0).val = (y 1).val) (r1 : ∀ y q, (d.rhsIdx y q 1).val = (q ⟨0, by omega⟩).val)
    (A : FVec Ideal ⟨2, ![n, k]⟩ φ) (B : FVec Ideal ⟨2, ![m, k]⟩ φ) (y : (⟨2, ![n, m]⟩ : Shape).Idx) :
    matmul d none A B (constant ⟨2, ![n, m]⟩ .f32 0x00000000#32) y = nt A B (y 0) (y 1) :=
  matmul_at d k h1 h2 none A B y _ _ (fun q p hq => ext2 (l0 y p) ((l1 y p).trans hq)) (fun q p hq => ext2 (r0 y p) ((r1 y p).trans hq))

theorem matmul_tn (d : DotDims ⟨2, ![k, n]⟩ ⟨2, ![k, m]⟩ ⟨2, ![n, m]⟩) (h1 : d.contr.rank = 1) (h2 : d.contr.size ⟨0, by omega⟩ = k)
    (l0 : ∀ y q, (d.lhsIdx y q 0).val = (q ⟨0, by omega⟩).val) (l1 : ∀ y q, (d.lhsIdx y q 1).val = (y 0).val)
    (r0 : ∀ y q, (d.rhsIdx y q 0).val = (q ⟨0, by omega⟩).val) (r1 : ∀ y q, (d.rhsIdx y q 1).val = (y 1).val)
    (A : FVec Ideal ⟨2, ![k, n]⟩ φ) (B : FVec Ideal ⟨2, ![k, m]⟩ φ) (y : (⟨2, ![n, m]⟩ : Shape).Idx) :
    matmul d none A B (constant ⟨2, ![n, m]⟩ .f32 0x00000000#32) y = tn A B (y 0) (y 1) :=
  matmul_at d k h1 h2 none A B y _ _ (fun q p hq => ext2 ((l0 y p).trans hq) (l1 y p)) (fun q p hq => ext2 ((r0 y p).trans hq) (r1 y p))

/-- A sum over `4 K` terms in four runs of `K`. -/
theorem four_runs {N K : ℕ} (hN : N = K + K + K + K) (g : Fin N → EReal) (f : Fin 4 → Fin K → Fin N) (hf : ∀ q k, (f q k).val = q.val * K + k.val) :
    (((∑ k, g (f 0 k)) + ∑ k, g (f 1 k)) + ∑ k, g (f 2 k)) + ∑ k, g (f 3 k) = ∑ k, g k := by
  subst hN
  rw [Fin.sum_univ_add, Fin.sum_univ_add, Fin.sum_univ_add]
  refine congrArg₂ (· + ·) (congrArg₂ (· + ·) (congrArg₂ (· + ·) ?_ ?_) ?_) ?_ <;>
    refine Finset.sum_congr rfl fun k _ => congrArg g (Fin.ext ?_) <;> rw [hf] <;> simp <;> omega

end Cert.Ffn

end
-- ==== Proof.DuValue.lean ====
/- The gradient of the feed-forward's input: what the kernel leaves, over the extended reals. -/
module

public import proofs.«01_k».proof.Proof.Dots
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Ffn.Du

open Cert.Kernel3Ideal Cert.Kernel3Ideal.Gen Cert.Kernel3Ideal.Value
open Idealize.ShloMosaic Idealize.ShloMosaic.TcCoe Idealize.ShloMosaic.Tactic

/-- A product of a block of rows with the transpose of another. -/
def part (A B : FVec Ideal S1024x2816 .bf16) : FVec Ideal S1024x1024 .f32 := fun y =>
  ∑ k : Fin 2816, A (at2 (n := 1024) (y 0) k) * B (at2 (n := 1024) (y 1) k)

theorem product (A B : FVec Ideal S1024x2816 .bf16) :
    matmul dot_S1024x2816_S1024x2816_S1024x1024_1_1_0_0_n_n none A B (constant S1024x1024 .f32 0x00000000#32) = part A B := by
  funext y
  refine matmul_at _ 2816 rfl rfl none A B y _ _ (fun k q hq => ?_) (fun k q hq => ?_)
  · refine ext2 rfl ?_
    exact (dot_S1024x2816_S1024x2816_S1024x1024_1_1_0_0_n_n.lhsIdx_val_of_single rfl y q).trans hq
  · refine ext2 rfl ?_
    exact (dot_S1024x2816_S1024x2816_S1024x1024_1_1_0_0_n_n.rhsIdx_val_of_single rfl y q).trans hq

theorem first_eq (A B : FVec Ideal S1024x2816 .bf16) : k0_pay3 A B = part A B := by
  unfold k0_pay3 k0_pay2
  dsimp only
  rw [shapeCast_self]
  exact product A B

theorem next_eq (A B : FVec Ideal S1024x2816 .bf16) (X : FVec Ideal S1024x1024 .f32) : k0_pay4 A B X = fun y => X y + part A B y := by
  unfold k0_pay4 k0_pay2
  dsimp only
  rw [shapeCast_self, product]
  rfl

theorem next_eq' (A B : FVec Ideal S1024x2816 .bf16) (X : FVec Ideal S1024x1024 .f32) : k0_pay7 A B X = fun y => X y + part A B y := by
  unfold k0_pay7 k0_pay5
  dsimp only
  rw [shapeCast_self, product]
  rfl

variable (m : (ℓ : Loc nD τ sig) → Buf (Elt Ideal) ℓ)

/-- What is carried after the first of a block's four points, -/
theorem carried_A (c : Dev nD) (t : Fin cfg0.N) (h : t.val % 4 = 0) :
    (outsAt0 m c t.val t.isLt).2.2 = part (iblk m c 0 t) (iblk m c 2 t) := by
  rw [outsAt0_A m c t (by omega) h (by omega) (by omega) (by omega)]
  frame_out
  exact first_eq _ _

/-- the second, -/
theorem carried_B (c : Dev nD) (t : Fin cfg0.N) (h : t.val % 4 = 1) :
    (outsAt0 m c t.val t.isLt).2.2
      = fun y => (outsAt0 m c (t.val - 1) (Nat.lt_of_le_of_lt (Nat.sub_le _ _) t.isLt)).2.2 y + part (iblk m c 0 t) (iblk m c 2 t) y := by
  rw [outsAt0_B m c t (by omega) (by omega) (by omega) (by omega) (by omega)]
  frame_out
  rw [read_unread_whole]
  exact next_eq _ _ _

/-- the third, -/
theorem carried_C (c : Dev nD) (t : Fin cfg0.N) (h : t.val % 4 = 2) :
    (outsAt0 m c t.val t.isLt).2.2
      = fun y => (outsAt0 m c (t.val - 1) (Nat.lt_of_le_of_lt (Nat.sub_le _ _) t.isLt)).2.2 y + part (iblk m c 1 t) (iblk m c 2 t) y := by
  rw [outsAt0_C m c t (by omega) (by omega) (by omega) (by omega) (by omega)]
  frame_out
  rw [read_unread_whole]
  exact next_eq' _ _ _

/-- and what the fourth leaves in the block. -/
theorem left_D (c : Dev nD) (t : Fin cfg0.N) (h : t.val % 4 = 3) :
    (outsAt0 m c t.val t.isLt).1
      = fun y => (outsAt0 m c (t.val - 1) (Nat.lt_of_le_of_lt (Nat.sub_le _ _) t.isLt)).2.2 y + part (iblk m c 1 t) (iblk m c 2 t) y := by
  rw [outsAt0_D m c t (by omega) (by omega) (by omega) (by omega) (by omega)]
  frame_out
  rw [read_unread_whole]
  exact next_eq' _ _ _

/-! ## The blocks, and their sum -/

/-- The two gradients the kernel is given, and the weights. -/
def lo (c : Dev nD) : FVec Ideal S2048x5632 .bf16 := V m c main_arg0
def hi (c : Dev nD) : FVec Ideal S2048x5632 .bf16 := V m c main_arg1
def wt (c : Dev nD) : FVec Ideal S2048x11264 .bf16 := V m c main_arg2

/-- Term `k` of a row of the two gradients side by side against a row of the weights. -/
def term (X Y : FVec Ideal S2048x5632 .bf16) (W : FVec Ideal S2048x11264 .bf16) (r s : Fin 2048) (k : Fin 11264) : EReal :=
  (if h : k.val < 5632 then X (at2 (n := 2048) (k := 5632) r ⟨k.val, h⟩) else Y (at2 (n := 2048) (k := 5632) r ⟨k.val - 5632, by omega⟩))
    * W (at2 (n := 2048) (k := 11264) s k)

theorem index_facts : ∀ t : Fin cfg0.N,
    (t.val % 4 < 2 → win0_0.index t = ![t.val / 8, t.val % 4]) ∧ (2 ≤ t.val % 4 → win0_1.index t = ![t.val / 8, t.val % 4 - 2])
    ∧ win0_2.index t = ![t.val / 4 % 2, t.val % 4] :=
  (by decide +kernel : ∀ t : Fin grid0.N,
    (t.val % 4 < 2 → win0_0.index t = ![t.val / 8, t.val % 4]) ∧ (2 ≤ t.val % 4 → win0_1.index t = ![t.val / 8, t.val % 4 - 2])
    ∧ win0_2.index t = ![t.val / 4 % 2, t.val % 4])

theorem pts (t : Fin cfg0.N) : t.val < 16 := lt_of_lt_of_eq t.isLt N_0

theorem iblk_w (c : Dev nD) (t : Fin cfg0.N) (s : Fin 1024) (k : Fin 2816) (s' : Fin 2048) (k' : Fin 11264)
    (hs : s'.val = t.val / 4 % 2 * 1024 + s.val) (hk : k'.val = (t.val % 4) * 2816 + k.val) :
    iblk m c 2 t (at2 (n := 1024) s k) = V m c main_arg2 (at2 (n := 2048) (k := 11264) s' k') := by
  show V m c main_arg2 _ = V m c main_arg2 _
  congr 1
  refine ext2 (n := 2048) (k := 11264) ?_ ?_
  · blk_simp [(index_facts t).2.2]; show _ = s'.val; rw [hs]
  · blk_simp [(index_facts t).2.2]; show _ = k'.val; rw [hk]

theorem part_lo (c : Dev nD) (t : Fin cfg0.N) (h : t.val % 4 < 2) (y : S1024x1024.Idx) (r s : Fin 2048)
    (hr : r.val = t.val / 8 * 1024 + (y 0).val) (hs : s.val = t.val / 4 % 2 * 1024 + (y 1).val) (f : Fin 2816 → Fin 11264)
    (hf : ∀ k, (f k).val = (t.val % 4) * 2816 + k.val) :
    part (iblk m c 0 t) (iblk m c 2 t) y = ∑ k, term (lo m c) (hi m c) (wt m c) r s (f k) := by
  refine Finset.sum_congr rfl fun k _ => ?_
  have hk := k.isLt
  have hlt : (f k).val < 5632 := by rw [hf]; omega
  unfold term
  rw [dif_pos hlt]
  refine congrArg₂ (· * ·) ?_ (iblk_w m c t _ _ _ _ hs (hf k))
  show V m c main_arg0 _ = V m c main_arg0 _
  congr 1
  refine ext2 (n := 2048) (k := 5632) ?_ ?_
  · blk_simp [(index_facts t).1 h]; show _ = r.val; rw [hr]
  · blk_simp [(index_facts t).1 h]; show _ = (f k).val; rw [hf]

theorem part_hi (c : Dev nD) (t : Fin cfg0.N) (h : 2 ≤ t.val % 4) (y : S1024x1024.Idx) (r s : Fin 2048)
    (hr : r.val = t.val / 8 * 1024 + (y 0).val) (hs : s.val = t.val / 4 % 2 * 1024 + (y 1).val) (f : Fin 2816 → Fin 11264)
    (hf : ∀ k, (f k).val = (t.val % 4) * 2816 + k.val) :
    part (iblk m c 1 t) (iblk m c 2 t) y = ∑ k, term (lo m c) (hi m c) (wt m c) r s (f k) := by
  refine Finset.sum_congr rfl fun k _ => ?_
  have hk := k.isLt
  have hlt : ¬(f k).val < 5632 := by rw [hf]; omega
  unfold term
  rw [dif_neg hlt]
  refine congrArg₂ (· * ·) ?_ (iblk_w m c t _ _ _ _ hs (hf k))
  show V m c main_arg1 _ = V m c main_arg1 _
  congr 1
  refine ext2 (n := 2048) (k := 5632) ?_ ?_
  · blk_simp [(index_facts t).2.1 h]; show _ = r.val; rw [hr]
  · blk_simp [(index_facts t).2.1 h]
    show _ = (f k).val - 5632
    rw [hf]
    show (t.val % 4 - 2) * 2816 + k.val = _
    omega

/-- The entry of the array the kernel leaves. -/
theorem entry (c : Dev nD) (i : S2048x2048.Idx) : G3 m c i = ∑ k, term (lo m c) (hi m c) (wt m c) (i 0) (i 1) k := by
  have h0 : (i 0).val < 2048 := (i 0).isLt
  have h1 : (i 1).val < 2048 := (i 1).isLt
  have hN : cfg0.N = 16 := N_0
  have hr : run3Of i = 2 * ((i 0).val / 1024) + (i 1).val / 1024 := by show 2 * _ + 1 * _ = _; omega
  have hp : pt3Of i = 4 * run3Of i + 3 := rfl
  have hlt : pt3Of i < cfg0.N := by omega
  unfold G3
  rw [dif_pos hlt]
  have hl0 : (loc3Of i 0).val = (i 0).val % 1024 := rfl
  have hl1 : (loc3Of i 1).val = (i 1).val % 1024 := rfl
  have hb : ∀ q : Fin 4, 4 * run3Of i + q.val < cfg0.N := fun q => by have := q.isLt; omega
  let t : Fin 4 → Fin cfg0.N := fun q => ⟨4 * run3Of i + q.val, hb q⟩
  let f : Fin 4 → Fin 2816 → Fin 11264 := fun q k => ⟨q.val * 2816 + k.val, by omega⟩
  have ht : ∀ q, (t q).val = 4 * run3Of i + q.val := fun q => rfl
  have hm : ∀ q : Fin 4, (t q).val % 4 = q.val := fun q => by have := q.isLt; rw [ht]; omega
  have hf : ∀ q k, (f q k).val = (t q).val % 4 * 2816 + k.val := fun q k => by rw [hm]
  have hrow : ∀ q, (i 0).val = (t q).val / 8 * 1024 + (loc3Of i 0).val := fun q => by
    have := q.isLt
    rw [ht, hl0, hr]; omega
  have hcol : ∀ q, (i 1).val = (t q).val / 4 % 2 * 1024 + (loc3Of i 1).val := fun q => by
    have := q.isLt
    rw [ht, hl1, hr]; omega
  have e3 : Pipeline.accAt (fun n h => stAt0 m c n h junk0) (stAt0 m c) 0 (pt3Of i) (by omega)
      = outsAt0 m c (t 3).val (t 3).isLt := (outsAt0_sweep m c _ _).symm
  rw [e3, left_D m c (t 3) (hm 3)]
  have e2 : outsAt0 m c ((t 3).val - 1) (Nat.lt_of_le_of_lt (Nat.sub_le _ _) (t 3).isLt) = outsAt0 m c (t 2).val (t 2).isLt := rfl
  have e1 : outsAt0 m c ((t 2).val - 1) (Nat.lt_of_le_of_lt (Nat.sub_le _ _) (t 2).isLt) = outsAt0 m c (t 1).val (t 1).isLt := rfl
  have e0 : outsAt0 m c ((t 1).val - 1) (Nat.lt_of_le_of_lt (Nat.sub_le _ _) (t 1).isLt) = outsAt0 m c (t 0).val (t 0).isLt := rfl
  rw [e2, carried_C m c (t 2) (hm 2), e1, carried_B m c (t 1) (hm 1), e0, carried_A m c (t 0) (hm 0)]
  rw [← four_runs (by decide) _ f (fun q k => rfl)]
  refine congrArg₂ (· + ·) (congrArg₂ (· + ·) (congrArg₂ (· + ·) ?_ ?_) ?_) ?_
  · exact part_lo m c (t 0) (by rw [hm]; decide) _ _ _ (hrow 0) (hcol 0) (f 0) (hf 0)
  · exact part_lo m c (t 1) (by rw [hm]; decide) _ _ _ (hrow 1) (hcol 1) (f 1) (hf 1)
  · exact part_hi m c (t 2) (by rw [hm]; decide) _ _ _ (hrow 2) (hcol 2) (f 2) (hf 2)
  · exact part_hi m c (t 3) (by rw [hm]; decide) _ _ _ (hrow 3) (hcol 3) (f 3) (hf 3)

end Cert.Ffn.Du

end
-- ==== Proof.DuRef.lean ====
/- The gradient of the feed-forward's input: the reference's, over the extended reals, as the kernel's sum. -/
module

public import proofs.«01_k».proof.Proof.DuValue
public import proofs.«01_k».proof.Proof.Beside
public import proofs.«01_k».proof.Proof.Gen.Reference3Ideal.Read
public import Idealize.ShloMosaic.Lib.KernelVsHost

@[expose] public section

set_option maxRecDepth 16384

noncomputable section

namespace Cert.Ffn.Du

open Cert.Reference3Ideal Cert.Reference3Ideal.Gen Cert.Reference3Ideal.Read
open Idealize.ShloMosaic

/-- The two gradients side by side, at a row and a column. -/
theorem side_by_side (X Y : FVec Ideal S2048x5632 .bf16) (j : S2048x11264.Idx) (r : Fin 2048) (k : Fin 11264)
    (h0 : (j 0).val = r.val) (h1 : (j 1).val = k.val) :
    val_main_v9 (F := Ideal) X Y j
      = (if h : k.val < 5632 then X (at2 (n := 2048) (k := 5632) r ⟨k.val, h⟩) else Y (at2 (n := 2048) (k := 5632) r ⟨k.val - 5632, by omega⟩)) := by
  rw [val_main_v9_apply]
  unfold val_main_v7 val_main_v8
  exact beside X Y (val_main_cst_0 (F := Ideal)) (fun _ => Ideal.ofBits_zero_f32) j r k h0 h1 _ _ _

/-- The reference's gradient at an index. -/
theorem ref_entry (X Y : FVec Ideal S2048x5632 .bf16) (W : FVec Ideal S2048x11264 .bf16) (i : S2048x2048.Idx) :
    val_main_v10 (F := Ideal) X Y W i = ∑ k, term X Y W (i 0) (i 1) k := by
  rw [val_main_v10_apply]
  refine Finset.sum_congr rfl fun k _ => ?_
  unfold term
  rw [side_by_side X Y _ (i 0) k rfl rfl]
  refine congrArg (_ * ·) ?_
  exact congrArg W (ext2 (n := 2048) (k := 11264) rfl rfl)

end Cert.Ffn.Du

end
-- ==== Proof.CallsSame.lean ====
/- The texts over floats of the other programs and their idealisations are one text each. -/
module

public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.Kernel9
public import proofs.«01_k».proof.Proof.Gen.Kernel9Ideal
public import proofs.«01_k».proof.Proof.Gen.Kernel10
public import proofs.«01_k».proof.Proof.Gen.Kernel10Ideal
public import proofs.«01_k».proof.Proof.Gen.Kernel11
public import proofs.«01_k».proof.Proof.Gen.Kernel11Ideal
public import proofs.«01_k».proof.Proof.Gen.Kernel12
public import proofs.«01_k».proof.Proof.Gen.Kernel12Ideal
public import proofs.«01_k».proof.Proof.Gen.Kernel13
public import proofs.«01_k».proof.Proof.Gen.Kernel13Ideal
public import proofs.«01_k».proof.Proof.Gen.Kernel14
public import proofs.«01_k».proof.Proof.Gen.Kernel14Ideal
public import proofs.«01_k».proof.Proof.Gen.Kernel15
public import proofs.«01_k».proof.Proof.Gen.Kernel15Ideal

@[expose] public section

set_option maxRecDepth 16384

noncomputable section

namespace Cert.Calls

open Idealize.ShloMosaic

variable {F : FTy → Type} [FloatOps F]

/-! ## The input projection -/

set_option maxHeartbeats 4000000 in
theorem in_defs₀_same : Cert.Kernel4.defs₀ (F := F) = Cert.Kernel4Ideal.defs₀ := by
  unfold Cert.Kernel4.defs₀ Cert.Kernel4Ideal.defs₀
  refine congrArg Defs.onTc (funext fun l => ?_)
  match l with
  | 0 => rfl
  | 1 => rfl
  | ⟨_ + 2, h⟩ => exact absurd h (Nat.not_lt.2 (Nat.le_add_left _ _))

set_option maxHeartbeats 4000000 in
theorem in_defs_same : Cert.Kernel4.defs (F := F) = Cert.Kernel4Ideal.defs := by
  unfold Cert.Kernel4.defs Cert.Kernel4Ideal.defs
  rw [in_defs₀_same]
  rfl

set_option maxHeartbeats 4000000 in
theorem in_main_same : Cert.Kernel4.main (F := F) = Cert.Kernel4Ideal.main := rfl

/-! ## The input projection's input -/

set_option maxHeartbeats 4000000 in
theorem inT_defs₀_same : Cert.Kernel5.defs₀ (F := F) = Cert.Kernel5Ideal.defs₀ := by
  unfold Cert.Kernel5.defs₀ Cert.Kernel5Ideal.defs₀
  refine congrArg Defs.onTc (funext fun l => ?_)
  match l with
  | 0 => rfl
  | ⟨_ + 1, h⟩ => exact absurd h (Nat.not_lt.2 (Nat.le_add_left _ _))

set_option maxHeartbeats 4000000 in
theorem inT_defs_same : Cert.Kernel5.defs (F := F) = Cert.Kernel5Ideal.defs := by
  unfold Cert.Kernel5.defs Cert.Kernel5Ideal.defs
  rw [inT_defs₀_same]
  rfl

set_option maxHeartbeats 4000000 in
theorem inT_main_same : Cert.Kernel5.main (F := F) = Cert.Kernel5Ideal.main := rfl

/-! ## The merge of the branches -/

set_option maxHeartbeats 4000000 in
theorem merge_defs₀_same : Cert.Kernel6.defs₀ (F := F) = Cert.Kernel6Ideal.defs₀ := by
  unfold Cert.Kernel6.defs₀ Cert.Kernel6Ideal.defs₀
  refine congrArg Defs.onTc (funext fun l => ?_)
  match l with
  | 0 => rfl
  | 1 => rfl
  | 2 => rfl
  | 3 => rfl
  | 4 => rfl
  | 5 => rfl
  | 6 => rfl
  | ⟨_ + 7, h⟩ => exact absurd h (Nat.not_lt.2 (Nat.le_add_left _ _))

set_option maxHeartbeats 4000000 in
theorem merge_defs_same : Cert.Kernel6.defs (F := F) = Cert.Kernel6Ideal.defs := by
  unfold Cert.Kernel6.defs Cert.Kernel6Ideal.defs
  rw [merge_defs₀_same]
  rfl

set_option maxHeartbeats 4000000 in
theorem merge_main_same : Cert.Kernel6.main (F := F) = Cert.Kernel6Ideal.main := rfl

/-! ## The second product of the feed-forward -/

set_option maxHeartbeats 4000000 in
theorem down_defs₀_same : Cert.Kernel7.defs₀ (F := F) = Cert.Kernel7Ideal.defs₀ := by
  unfold Cert.Kernel7.defs₀ Cert.Kernel7Ideal.defs₀
  refine congrArg Defs.onTc (funext fun l => ?_)
  match l with
  | 0 => rfl
  | ⟨_ + 1, h⟩ => exact absurd h (Nat.not_lt.2 (Nat.le_add_left _ _))

set_option maxHeartbeats 4000000 in
theorem down_defs_same : Cert.Kernel7.defs (F := F) = Cert.Kernel7Ideal.defs := by
  unfold Cert.Kernel7.defs Cert.Kernel7Ideal.defs
  rw [down_defs₀_same]
  rfl

set_option maxHeartbeats 4000000 in
theorem down_main_same : Cert.Kernel7.main (F := F) = Cert.Kernel7Ideal.main := rfl

/-! ## The output projection -/

set_option maxHeartbeats 4000000 in
theorem out_defs₀_same : Cert.Kernel8.defs₀ (F := F) = Cert.Kernel8Ideal.defs₀ := by
  unfold Cert.Kernel8.defs₀ Cert.Kernel8Ideal.defs₀
  refine congrArg Defs.onTc (funext fun l => ?_)
  match l with
  | 0 => rfl
  | ⟨_ + 1, h⟩ => exact absurd h (Nat.not_lt.2 (Nat.le_add_left _ _))

set_option maxHeartbeats 4000000 in
theorem out_defs_same : Cert.Kernel8.defs (F := F) = Cert.Kernel8Ideal.defs := by
  unfold Cert.Kernel8.defs Cert.Kernel8Ideal.defs
  rw [out_defs₀_same]
  rfl

set_option maxHeartbeats 4000000 in
theorem out_main_same : Cert.Kernel8.main (F := F) = Cert.Kernel8Ideal.main := rfl

/-! ## The first norm -/

set_option maxHeartbeats 4000000 in
theorem norm_defs₀_same : Cert.Kernel9.defs₀ (F := F) = Cert.Kernel9Ideal.defs₀ := by
  unfold Cert.Kernel9.defs₀ Cert.Kernel9Ideal.defs₀
  refine congrArg Defs.onTc (funext fun l => ?_)
  match l with
  | 0 => rfl
  | ⟨_ + 1, h⟩ => exact absurd h (Nat.not_lt.2 (Nat.le_add_left _ _))

set_option maxHeartbeats 4000000 in
theorem norm_defs_same : Cert.Kernel9.defs (F := F) = Cert.Kernel9Ideal.defs := by
  unfold Cert.Kernel9.defs Cert.Kernel9Ideal.defs
  rw [norm_defs₀_same]
  rfl

set_option maxHeartbeats 4000000 in
theorem norm_main_same : Cert.Kernel9.main (F := F) = Cert.Kernel9Ideal.main := rfl

/-! ## The AdamW step of a large weight -/

set_option maxHeartbeats 4000000 in
theorem adam_defs₀_same : Cert.Kernel10.defs₀ (F := F) = Cert.Kernel10Ideal.defs₀ := by
  unfold Cert.Kernel10.defs₀ Cert.Kernel10Ideal.defs₀
  refine congrArg Defs.onTc (funext fun l => ?_)
  match l with
  | 0 => rfl
  | ⟨_ + 1, h⟩ => exact absurd h (Nat.not_lt.2 (Nat.le_add_left _ _))

set_option maxHeartbeats 4000000 in
theorem adam_defs_same : Cert.Kernel10.defs (F := F) = Cert.Kernel10Ideal.defs := by
  unfold Cert.Kernel10.defs Cert.Kernel10Ideal.defs
  rw [adam_defs₀_same]
  rfl

set_option maxHeartbeats 4000000 in
theorem adam_main_same : Cert.Kernel10.main (F := F) = Cert.Kernel10Ideal.main := rfl

/-! ## The loss -/

set_option maxHeartbeats 4000000 in
theorem loss_defs₀_same : Cert.Kernel11.defs₀ (F := F) = Cert.Kernel11Ideal.defs₀ := by
  unfold Cert.Kernel11.defs₀ Cert.Kernel11Ideal.defs₀
  refine congrArg Defs.onTc (funext fun l => ?_)
  match l with
  | 0 => rfl
  | ⟨_ + 1, h⟩ => exact absurd h (Nat.not_lt.2 (Nat.le_add_left _ _))

set_option maxHeartbeats 4000000 in
theorem loss_defs_same : Cert.Kernel11.defs (F := F) = Cert.Kernel11Ideal.defs := by
  unfold Cert.Kernel11.defs Cert.Kernel11Ideal.defs
  rw [loss_defs₀_same]
  rfl

set_option maxHeartbeats 4000000 in
theorem loss_main_same : Cert.Kernel11.main (F := F) = Cert.Kernel11Ideal.main := rfl

/-! ## The AdamW step of the small weights -/

set_option maxHeartbeats 4000000 in
theorem small_defs₀_same : Cert.Kernel12.defs₀ (F := F) = Cert.Kernel12Ideal.defs₀ := by
  unfold Cert.Kernel12.defs₀ Cert.Kernel12Ideal.defs₀
  refine congrArg Defs.onTc (funext fun l => ?_)
  match l with
  | 0 => rfl
  | ⟨_ + 1, h⟩ => exact absurd h (Nat.not_lt.2 (Nat.le_add_left _ _))

set_option maxHeartbeats 4000000 in
theorem small_defs_same : Cert.Kernel12.defs (F := F) = Cert.Kernel12Ideal.defs := by
  unfold Cert.Kernel12.defs Cert.Kernel12Ideal.defs
  rw [small_defs₀_same]
  rfl

set_option maxHeartbeats 4000000 in
theorem small_main_same : Cert.Kernel12.main (F := F) = Cert.Kernel12Ideal.main := rfl

/-! ## The combination of the groups -/

set_option maxHeartbeats 4000000 in
theorem combine_defs₀_same : Cert.Kernel13.defs₀ (F := F) = Cert.Kernel13Ideal.defs₀ := by
  unfold Cert.Kernel13.defs₀ Cert.Kernel13Ideal.defs₀
  refine congrArg Defs.onTc (funext fun l => ?_)
  match l with
  | 0 => rfl
  | ⟨_ + 1, h⟩ => exact absurd h (Nat.not_lt.2 (Nat.le_add_left _ _))

set_option maxHeartbeats 4000000 in
theorem combine_defs_same : Cert.Kernel13.defs (F := F) = Cert.Kernel13Ideal.defs := by
  unfold Cert.Kernel13.defs Cert.Kernel13Ideal.defs
  rw [combine_defs₀_same]
  rfl

set_option maxHeartbeats 4000000 in
theorem combine_main_same : Cert.Kernel13.main (F := F) = Cert.Kernel13Ideal.main := rfl

/-! ## The norms of q and k with the rotary embedding -/

set_option maxHeartbeats 4000000 in
theorem qkrope_defs₀_same : Cert.Kernel14.defs₀ (F := F) = Cert.Kernel14Ideal.defs₀ := by
  unfold Cert.Kernel14.defs₀ Cert.Kernel14Ideal.defs₀
  refine congrArg Defs.onTc (funext fun l => ?_)
  match l with
  | 0 => rfl
  | ⟨_ + 1, h⟩ => exact absurd h (Nat.not_lt.2 (Nat.le_add_left _ _))

set_option maxHeartbeats 4000000 in
theorem qkrope_defs_same : Cert.Kernel14.defs (F := F) = Cert.Kernel14Ideal.defs := by
  unfold Cert.Kernel14.defs Cert.Kernel14Ideal.defs
  rw [qkrope_defs₀_same]
  rfl

set_option maxHeartbeats 4000000 in
theorem qkrope_main_same : Cert.Kernel14.main (F := F) = Cert.Kernel14Ideal.main := rfl

/-! ## The gradients of the combination of the groups -/

set_option maxHeartbeats 4000000 in
theorem back_defs₀_same : Cert.Kernel15.defs₀ (F := F) = Cert.Kernel15Ideal.defs₀ := by
  unfold Cert.Kernel15.defs₀ Cert.Kernel15Ideal.defs₀
  refine congrArg Defs.onTc (funext fun l => ?_)
  match l with
  | 0 => rfl
  | ⟨_ + 1, h⟩ => exact absurd h (Nat.not_lt.2 (Nat.le_add_left _ _))

set_option maxHeartbeats 4000000 in
theorem back_defs_same : Cert.Kernel15.defs (F := F) = Cert.Kernel15Ideal.defs := by
  unfold Cert.Kernel15.defs Cert.Kernel15Ideal.defs
  rw [back_defs₀_same]
  rfl

set_option maxHeartbeats 4000000 in
theorem back_main_same : Cert.Kernel15.main (F := F) = Cert.Kernel15Ideal.main := rfl

end Cert.Calls

end
-- ==== Proof.InValue.lean ====
/- The input projection and the gradient of its weights: what the two calls leave, over the extended reals. -/
module

public import proofs.«01_k».proof.Proof.Dots
public import proofs.«01_k».proof.Proof.Gen.Kernel4Ideal.Frame
public import Idealize.ShloMosaic.Lib.Pipeline.ReadBack
public import Idealize.ShloMosaic.Lib.Pipeline.ValueKit

@[expose] public section

set_option maxRecDepth 16384

noncomputable section

namespace Cert.Proj

open Cert.Ffn Cert.Kernel4Ideal Cert.Kernel4Ideal.Gen
open Idealize.ShloMosaic Idealize.ShloMosaic.Pipeline Idealize.ShloMosaic.TcCoe Idealize.ShloMosaic.Tactic

variable (V : (c : Dev nD) → (b : Ref sig .tc) → Buf (Elt Ideal) ((c : Thread nD τ).loc b))

/-! ## The projection -/

theorem pay_in (A : FVec Ideal S1024x2048 .bf16) (B : FVec Ideal S2048x1024 .bf16) (y : S1024x1024.Idx) : k0_pay2 (F := Ideal) A B y = nn A B (y 0) (y 1) := by
  unfold k0_pay2
  exact matmul_nn dot_S1024x2048_S2048x1024_S1024x1024_1_0_0_1_n_n rfl rfl (fun _ _ => rfl)
    (dot_S1024x2048_S2048x1024_S1024x1024_1_0_0_1_n_n.lhsIdx_val_of_single rfl)
    (dot_S1024x2048_S2048x1024_S1024x1024_1_0_0_1_n_n.rhsIdx_val_of_single rfl) (fun _ _ => rfl) A B y

theorem left_in (c : Dev nD) (t : Fin cfg0.N) (y : S1024x1024.Idx) :
    out0_2 (iblk0 V c 0 t) (iblk0 V c 1 t) y = nn (iblk0 V c 0 t : FVec Ideal S1024x2048 .bf16) (iblk0 V c 1 t : FVec Ideal S2048x1024 .bf16) (y 0) (y 1) := by
  frame_out
  exact pay_in _ _ y

theorem in_facts : ∀ t : Fin cfg0.N,
    win0_0.index t = ![t.val / 10, 0] ∧ win0_1.index t = ![0, t.val % 10] ∧ win0_2.index t = ![t.val / 10, t.val % 10] :=
  (by decide +kernel : ∀ t : Fin grid0.N,
    win0_0.index t = ![t.val / 10, 0] ∧ win0_1.index t = ![0, t.val % 10] ∧ win0_2.index t = ![t.val / 10, t.val % 10])

theorem tile_in (c : Dev nD) (t : Fin cfg0.N) (y : S1024x1024.Idx) (r : Fin 2048) (s : Fin 10240)
    (hr : r.val = t.val / 10 * 1024 + (y 0).val) (hs : s.val = t.val % 10 * 1024 + (y 1).val) :
    nn (iblk0 V c 0 t : FVec Ideal S1024x2048 .bf16) (iblk0 V c 1 t : FVec Ideal S2048x1024 .bf16) (y 0) (y 1)
      = nn (V c main_arg0 : FVec Ideal S2048x2048 .bf16) (V c main_arg1 : FVec Ideal S2048x10240 .bf16) r s := by
  refine Finset.sum_congr rfl fun k _ => congrArg₂ (· * ·) ?_ ?_
  · show V c main_arg0 _ = V c main_arg0 _
    congr 1
    refine ext2 (n := 2048) (k := 2048) ?_ ?_
    · blk_simp [in_facts t]; show _ = r.val; rw [hr]
    · blk_simp [in_facts t]
  · show V c main_arg1 _ = V c main_arg1 _
    congr 1
    refine ext2 (n := 2048) (k := 10240) ?_ ?_
    · blk_simp [in_facts t]
    · blk_simp [in_facts t]; show _ = s.val; rw [hs]

/-- The projection. -/
theorem array_in (c : Dev nD) : (dat0 V c).arrAt 2 cfg0.N
    = fun i : S2048x10240.Idx => nn (V c main_arg0 : FVec Ideal S2048x2048 .bf16) (V c main_arg1 : FVec Ideal S2048x10240 .bf16) (i 0) (i 1) := by
  refine Dat.arrAt_eq_of_covers _ 2 _ (by decide +kernel) fun t hf y => ?_
  blk_simp
  refine (congrFun (after0_2 V c t) y).trans ((left_in V c t y).trans ?_)
  refine tile_in V c t y _ _ ?_ ?_
  all_goals blk_simp [in_facts t]
  all_goals rfl

/-! ## The gradient of its weights -/

theorem pay_dw (A : FVec Ideal S2048x2048 .bf16) (B : FVec Ideal S2048x1024 .bf16) (y : S2048x1024.Idx) : k1_pay2 (F := Ideal) A B y = tn A B (y 0) (y 1) := by
  unfold k1_pay2
  exact matmul_tn dot_S2048x2048_S2048x1024_S2048x1024_0_0_1_1_n_n rfl rfl
    (dot_S2048x2048_S2048x1024_S2048x1024_0_0_1_1_n_n.lhsIdx_val_of_single rfl) (fun _ _ => rfl)
    (dot_S2048x2048_S2048x1024_S2048x1024_0_0_1_1_n_n.rhsIdx_val_of_single rfl) (fun _ _ => rfl) A B y

theorem left_dw (c : Dev nD) (t : Fin cfg1.N) (y : S2048x1024.Idx) :
    (outsAt1 V c t).1 y = tn (iblk1 V c 0 t : FVec Ideal S2048x2048 .bf16) (iblk1 V c 1 t : FVec Ideal S2048x1024 .bf16) (y 0) (y 1) := by
  unfold outsAt1
  dsimp only
  frame_out
  exact pay_dw _ _ y

theorem dw_facts : ∀ t : Fin cfg1.N, win1_0.index t = ![0, 0] ∧ win1_1.index t = ![0, t.val] ∧ win1_2.index t = ![0, t.val] :=
  (by decide +kernel : ∀ t : Fin grid1.N, win1_0.index t = ![0, 0] ∧ win1_1.index t = ![0, t.val] ∧ win1_2.index t = ![0, t.val])

theorem tile_dw (c : Dev nD) (t : Fin cfg1.N) (y : S2048x1024.Idx) (r : Fin 2048) (s : Fin 10240)
    (hr : r.val = (y 0).val) (hs : s.val = t.val * 1024 + (y 1).val) :
    tn (iblk1 V c 0 t : FVec Ideal S2048x2048 .bf16) (iblk1 V c 1 t : FVec Ideal S2048x1024 .bf16) (y 0) (y 1)
      = tn (V c main_arg0 : FVec Ideal S2048x2048 .bf16) (V c main_arg2 : FVec Ideal S2048x10240 .bf16) r s := by
  refine Finset.sum_congr rfl fun k _ => congrArg₂ (· * ·) ?_ ?_
  · show V c main_arg0 _ = V c main_arg0 _
    congr 1
    refine ext2 (n := 2048) (k := 2048) ?_ ?_
    · blk_simp [dw_facts t]
    · blk_simp [dw_facts t]; exact hr.symm
  · show V c main_arg2 _ = V c main_arg2 _
    congr 1
    refine ext2 (n := 2048) (k := 10240) ?_ ?_
    · blk_simp [dw_facts t]
    · blk_simp [dw_facts t]; show _ = s.val; rw [hs]

/-- The weights' gradient. -/
theorem array_dw (c : Dev nD) : (dat1 V c).arrAt 2 cfg1.N
    = fun i : S2048x10240.Idx => tn (V c main_arg0 : FVec Ideal S2048x2048 .bf16) (V c main_arg2 : FVec Ideal S2048x10240 .bf16) (i 0) (i 1) := by
  refine Dat.arrAt_eq_of_covers _ 2 _ (by decide +kernel) fun t hf y => ?_
  blk_simp
  refine (congrFun (after1_2 V c t) y).trans ((left_dw V c t y).trans ?_)
  refine tile_dw V c t y _ _ ?_ ?_
  all_goals blk_simp [dw_facts t]
  all_goals rfl

end Cert.Proj

end
-- ==== Proof.InRun.lean ====
/- The input projection's two calls one after another: what the program leaves in each of its results. -/
module

public import proofs.«01_k».proof.Proof.InValue

@[expose] public section

set_option maxRecDepth 16384

noncomputable section

namespace Cert.Proj

open Cert.Ffn Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The input, the weights and the gradient of the projection. -/
def inU (c : Dev nD) : FVec Ideal S2048x2048 .bf16 := m ((c.tc : Thread nD τ).loc main_arg0)
def inW (c : Dev nD) : FVec Ideal S2048x10240 .bf16 := m ((c.tc : Thread nD τ).loc main_arg1)
def inG (c : Dev nD) : FVec Ideal S2048x10240 .bf16 := m ((c.tc : Thread nD τ).loc main_arg2)

/-- The projection, and the gradient of its weights. -/
def proj (c : Dev nD) : FVec Ideal S2048x10240 .f32 := fun i => nn (inU m c) (inW m c) (i 0) (i 1)
def wGrad (c : Dev nD) : FVec Ideal S2048x10240 .bf16 := fun i => tn (inU m c) (inG m c) (i 0) (i 1)

theorem after0 (c : Dev nD) : V1 m ρ c main_v0_0 = proj m c := (W1_arr m ρ c 2).trans (array_in (V0 m ρ) c)
theorem arg0_at1 (c : Dev nD) : V1 m ρ c main_arg0 = inU m c := W1_args m ρ c main_arg0 (by decide)
theorem arg2_at1 (c : Dev nD) : V1 m ρ c main_arg2 = inG m c := W1_args m ρ c main_arg2 (by decide)

theorem after1 (c : Dev nD) : V2 m ρ c main_v1_0 = wGrad m c := by
  refine (W2_arr m ρ c 2).trans ((array_dw (V1 m ρ) c).trans ?_)
  rw [arg0_at1, arg2_at1]
  rfl

theorem proj_at2 (c : Dev nD) : V2 m ρ c main_v0_0 = proj m c := (W2_of_ne m ρ c main_v0_0 (by decide)).trans (after0 m ρ c)

/-! ## The run -/

-- the launch's implicit arguments are found by unifying its conclusion, which takes unfolding definitions in a metavariable's type
set_option backward.isDefEq.respectTransparency.types false in
/-- Every buffer of the calls ends as the last of them leaves it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The two results, and the arguments unchanged. -/
theorem run : θ_run defs (onTc (τ := τ) (main (F := Ideal))) ⟨m, fun _ => 0, ρ⟩ (fun r => ∀ c : Dev nD,
    (r.2.mem ((c.tc : Thread nD τ).loc main_v0_0) = proj m c ∧ r.2.mem ((c.tc : Thread nD τ).loc main_v1_0) = wGrad m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨⟨(h c _ (mem_uc main_v0_0 (by decide))).trans (proj_at2 m ρ c), (h c _ (mem_uc main_v1_0 (by decide))).trans (after1 m ρ c)⟩,
     (h c _ (mem_uc main_arg0 (by decide))).trans (W2_main_arg0 m ρ c), (h c _ (mem_uc main_arg1 (by decide))).trans (W2_main_arg1 m ρ c),
     (h c _ (mem_uc main_arg2 (by decide))).trans (W2_main_arg2 m ρ c)⟩) (run_all m ρ)

end Cert.Proj

end
-- ==== Proof.InRef.lean ====
/- The input projection, its weights' gradient and its input's: the reference's, over the extended reals, as sums of products. -/
module

public import proofs.«01_k».proof.Proof.Dots
public import proofs.«01_k».proof.Proof.Gen.Reference4Ideal.Read
public import proofs.«01_k».proof.Proof.Gen.Reference5Ideal.Read
public import Idealize.ShloMosaic.Lib.KernelVsHost

@[expose] public section

set_option maxRecDepth 16384

noncomputable section

namespace Cert.Proj

open Cert.Ffn Idealize.ShloMosaic

section
open Cert.Reference4Ideal Cert.Reference4Ideal.Gen Cert.Reference4Ideal.Read

variable (U : FVec Ideal S2048x2048 .bf16) (W G : FVec Ideal S2048x10240 .bf16) (i : S2048x10240.Idx)

theorem ref_proj : val_main_v3 (F := Ideal) U W i = nn U W (i 0) (i 1) := by
  rw [val_main_v3_apply]
  refine Finset.sum_congr rfl fun k _ => congrArg₂ (· * ·) ?_ ?_
  · exact congrArg U (ext2 (n := 2048) (k := 2048) rfl rfl)
  · exact congrArg W (ext2 (n := 2048) (k := 10240) rfl rfl)

theorem ref_wGrad : val_main_v6 (F := Ideal) U G i = tn U G (i 0) (i 1) := by
  show val_main_v5 (F := Ideal) U G i = _
  rw [val_main_v5_apply, val_main_v4_apply]
  refine Finset.sum_congr rfl fun k _ => (mul_comm _ _).trans (congrArg₂ (· * ·) ?_ ?_)
  · exact congrArg U (ext2 (n := 2048) (k := 2048) rfl rfl)
  · exact congrArg G (ext2 (n := 2048) (k := 10240) rfl rfl)

end

open Cert.Reference5Ideal Cert.Reference5Ideal.Gen Cert.Reference5Ideal.Read in
theorem ref_inputGrad (G W : FVec Ideal S2048x10240 .bf16) (i : S2048x2048.Idx) : val_main_v4 (F := Ideal) G W i = nt G W (i 0) (i 1) := by
  rw [val_main_v4_apply]
  refine Finset.sum_congr rfl fun k _ => congrArg₂ (· * ·) ?_ ?_
  · exact congrArg G (ext2 (n := 2048) (k := 10240) rfl rfl)
  · exact congrArg W (ext2 (n := 2048) (k := 10240) rfl rfl)

end Cert.Proj

end
-- ==== Proof.InTValue.lean ====
/- The gradient of the input projection's input: what the kernel leaves, over the extended reals. -/
module

public import proofs.«01_k».proof.Proof.Dots
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Proj.Back

open Cert.Ffn Cert.Kernel5Ideal Cert.Kernel5Ideal.Gen Cert.Kernel5Ideal.Value
open Idealize.ShloMosaic Idealize.ShloMosaic.TcCoe Idealize.ShloMosaic.Tactic

theorem product (A B : FVec Ideal S1024x2560 .bf16) : k0_pay2 (F := Ideal) A B = fun y => nt A B (y 0) (y 1) := by
  funext y
  unfold k0_pay2
  exact matmul_nt dot_S1024x2560_S1024x2560_S1024x1024_1_1_0_0_n_n rfl rfl (fun _ _ => rfl)
    (dot_S1024x2560_S1024x2560_S1024x1024_1_1_0_0_n_n.lhsIdx_val_of_single rfl) (fun _ _ => rfl)
    (dot_S1024x2560_S1024x2560_S1024x1024_1_1_0_0_n_n.rhsIdx_val_of_single rfl) A B y

theorem first_eq (A B : FVec Ideal S1024x2560 .bf16) : k0_pay3 (F := Ideal) A B = fun y => nt A B (y 0) (y 1) := by
  unfold k0_pay3
  dsimp only
  rw [shapeCast_self, product]

theorem next_eq (A B : FVec Ideal S1024x2560 .bf16) (X : FVec Ideal S1024x1024 .f32) : k0_pay4 (F := Ideal) A B X = fun y => X y + nt A B (y 0) (y 1) := by
  unfold k0_pay4
  dsimp only
  rw [shapeCast_self, product]
  rfl

variable (m : (ℓ : Loc nD τ sig) → Buf (Elt Ideal) ℓ)

/-- A point's blocks. -/
def rows (c : Dev nD) (t : Fin cfg0.N) : FVec Ideal S1024x2560 .bf16 := iblk m c 0 t
def cols (c : Dev nD) (t : Fin cfg0.N) : FVec Ideal S1024x2560 .bf16 := iblk m c 1 t

/-- What is carried after the first of a block's four points, -/
theorem carried_A (c : Dev nD) (t : Fin cfg0.N) (h : t.val % 4 = 0) :
    (outsAt0 m c t.val t.isLt).2.2 = fun y => nt (rows m c t) (cols m c t) (y 0) (y 1) := by
  rw [outsAt0_A m c t h (by omega) (by omega)]
  frame_out
  exact first_eq _ _

/-- the second and the third, -/
theorem carried_B (c : Dev nD) (t : Fin cfg0.N) (h : t.val % 4 = 1 ∨ t.val % 4 = 2) :
    (outsAt0 m c t.val t.isLt).2.2
      = fun y => (outsAt0 m c (t.val - 1) (Nat.lt_of_le_of_lt (Nat.sub_le _ _) t.isLt)).2.2 y + nt (rows m c t) (cols m c t) (y 0) (y 1) := by
  rw [outsAt0_B m c t (by omega) (by omega) (by omega)]
  frame_out
  rw [read_unread_whole]
  exact next_eq _ _ _

/-- and what the fourth leaves in the block. -/
theorem left_C (c : Dev nD) (t : Fin cfg0.N) (h : t.val % 4 = 3) :
    (outsAt0 m c t.val t.isLt).1
      = fun y => (outsAt0 m c (t.val - 1) (Nat.lt_of_le_of_lt (Nat.sub_le _ _) t.isLt)).2.2 y + nt (rows m c t) (cols m c t) (y 0) (y 1) := by
  rw [outsAt0_C m c t (by omega) (by omega) h]
  frame_out
  rw [read_unread_whole]
  exact next_eq _ _ _

/-! ## The blocks, and their sum -/

/-- The gradient that the kernel is given, and the weights. -/
def grad (c : Dev nD) : FVec Ideal S2048x10240 .bf16 := V m c main_arg0
def wt (c : Dev nD) : FVec Ideal S2048x10240 .bf16 := V m c main_arg1

theorem index_facts : ∀ t : Fin cfg0.N, win0_0.index t = ![t.val / 8, t.val % 4] ∧ win0_1.index t = ![t.val / 4 % 2, t.val % 4] :=
  (by decide +kernel : ∀ t : Fin grid0.N, win0_0.index t = ![t.val / 8, t.val % 4] ∧ win0_1.index t = ![t.val / 4 % 2, t.val % 4])

/-- A point's product is a run of the terms of the whole product. -/
theorem run_of (c : Dev nD) (t : Fin cfg0.N) (y : S1024x1024.Idx) (r s : Fin 2048)
    (hr : r.val = t.val / 8 * 1024 + (y 0).val) (hs : s.val = t.val / 4 % 2 * 1024 + (y 1).val) (f : Fin 2560 → Fin 10240)
    (hf : ∀ k, (f k).val = t.val % 4 * 2560 + k.val) :
    nt (rows m c t) (cols m c t) (y 0) (y 1)
      = ∑ k, grad m c (at2 (n := 2048) (k := 10240) r (f k)) * wt m c (at2 (n := 2048) (k := 10240) s (f k)) := by
  refine Finset.sum_congr rfl fun k _ => congrArg₂ (· * ·) ?_ ?_
  · show V m c main_arg0 _ = V m c main_arg0 _
    congr 1
    refine ext2 (n := 2048) (k := 10240) ?_ ?_
    · blk_simp [(index_facts t).1]; show _ = r.val; rw [hr]
    · blk_simp [(index_facts t).1]; show _ = (f k).val; rw [hf]
  · show V m c main_arg1 _ = V m c main_arg1 _
    congr 1
    refine ext2 (n := 2048) (k := 10240) ?_ ?_
    · blk_simp [(index_facts t).2]; show _ = s.val; rw [hs]
    · blk_simp [(index_facts t).2]; show _ = (f k).val; rw [hf]

/-- The entry of the array the kernel leaves. -/
theorem entry (c : Dev nD) (i : S2048x2048.Idx) : G2 m c i = nt (grad m c) (wt m c) (i 0) (i 1) := by
  have h0 : (i 0).val < 2048 := (i 0).isLt
  have h1 : (i 1).val < 2048 := (i 1).isLt
  have hN : cfg0.N = 16 := N_0
  have hr : run2Of i = 2 * ((i 0).val / 1024) + (i 1).val / 1024 := by show 2 * _ + 1 * _ = _; omega
  have hp : pt2Of i = 4 * run2Of i + 3 := rfl
  have hlt : pt2Of i < cfg0.N := by omega
  unfold G2
  rw [dif_pos hlt]
  have hl0 : (loc2Of i 0).val = (i 0).val % 1024 := rfl
  have hl1 : (loc2Of i 1).val = (i 1).val % 1024 := rfl
  let t : Fin 4 → Fin cfg0.N := fun q => ⟨4 * run2Of i + q.val, by have := q.isLt; omega⟩
  let f : Fin 4 → Fin 2560 → Fin 10240 := fun q k => ⟨q.val * 2560 + k.val, by omega⟩
  have ht : ∀ q, (t q).val = 4 * run2Of i + q.val := fun q => rfl
  have hm : ∀ q : Fin 4, (t q).val % 4 = q.val := fun q => by have := q.isLt; rw [ht]; omega
  have hf : ∀ q k, (f q k).val = (t q).val % 4 * 2560 + k.val := fun q k => by rw [hm]
  have hrow : ∀ q, (i 0).val = (t q).val / 8 * 1024 + (loc2Of i 0).val := fun q => by
    have := q.isLt
    rw [ht, hl0, hr]; omega
  have hcol : ∀ q, (i 1).val = (t q).val / 4 % 2 * 1024 + (loc2Of i 1).val := fun q => by
    have := q.isLt
    rw [ht, hl1, hr]; omega
  have e3 : Pipeline.accAt (fun n h => stAt0 m c n h junk0) (stAt0 m c) 0 (pt2Of i) (by omega)
      = outsAt0 m c (t 3).val (t 3).isLt := (outsAt0_sweep m c _ _).symm
  rw [e3, left_C m c (t 3) (hm 3)]
  have e2 : outsAt0 m c ((t 3).val - 1) (Nat.lt_of_le_of_lt (Nat.sub_le _ _) (t 3).isLt) = outsAt0 m c (t 2).val (t 2).isLt := rfl
  have e1 : outsAt0 m c ((t 2).val - 1) (Nat.lt_of_le_of_lt (Nat.sub_le _ _) (t 2).isLt) = outsAt0 m c (t 1).val (t 1).isLt := rfl
  have e0 : outsAt0 m c ((t 1).val - 1) (Nat.lt_of_le_of_lt (Nat.sub_le _ _) (t 1).isLt) = outsAt0 m c (t 0).val (t 0).isLt := rfl
  rw [e2, carried_B m c (t 2) (.inr (hm 2)), e1, carried_B m c (t 1) (.inl (hm 1)), e0, carried_A m c (t 0) (hm 0)]
  unfold nt
  rw [← four_runs (by decide) _ f (fun q k => rfl)]
  exact congrArg₂ (· + ·) (congrArg₂ (· + ·) (congrArg₂ (· + ·) (run_of m c (t 0) _ _ _ (hrow 0) (hcol 0) (f 0) (hf 0))
    (run_of m c (t 1) _ _ _ (hrow 1) (hcol 1) (f 1) (hf 1))) (run_of m c (t 2) _ _ _ (hrow 2) (hcol 2) (f 2) (hf 2)))
    (run_of m c (t 3) _ _ _ (hrow 3) (hcol 3) (f 3) (hf 3))

end Cert.Proj.Back

end
-- ==== Proof.MergeModel.lean ====
/- The merge of the two branches by its gates, and its gradients, entry by entry over the extended reals. -/
module

public import proofs.«01_k».proof.Proof.Dots

@[expose] public section

set_option maxRecDepth 16384

noncomputable section

namespace Cert.Merge

open Cert.Ffn Idealize.ShloMosaic

/-- Two values gated and added, -/
def gated (g a h b : EReal) : EReal := Ideal.logistic g * a + Ideal.logistic h * b

/-- the gradient of a gated value, `d` being the gradient of the sum, -/
def dvalue (d g : EReal) : EReal := d * Ideal.logistic g

/-- and of its gate. -/
def dgate (d g y : EReal) : EReal := d * y * (Ideal.logistic g * (Ideal.ofBits .f32 0x3F800000#32 - Ideal.logistic g))

theorem gated_congr {g g' a a' h h' b b' : EReal} (hg : g = g') (ha : a = a') (hh : h = h') (hb : b = b') : gated g a h b = gated g' a' h' b' := by
  rw [hg, ha, hh, hb]

theorem dgate_congr {d d' g g' y y' : EReal} (hd : d = d') (hg : g = g') (hy : y = y') : dgate d g y = dgate d' g' y' := by
  rw [hd, hg, hy]

variable (A B : (⟨2, ![2048, 512]⟩ : Shape).Idx → EReal) (X Y : (⟨2, ![512, 2048]⟩ : Shape).Idx → EReal) (P : (⟨2, ![2048, 10240]⟩ : Shape).Idx → EReal)
  (W D : (⟨2, ![2048, 2048]⟩ : Shape).Idx → EReal)

/-- The two gates lie beside each other in the input projection. -/
def gateA (r s : Fin 2048) : EReal := P (at2 (n := 2048) (k := 10240) r ⟨6144 + s.val, by omega⟩)
def gateB (r s : Fin 2048) : EReal := P (at2 (n := 2048) (k := 10240) r ⟨8192 + s.val, by omega⟩)

/-- A branch's product, -/
def branch : (⟨2, ![2048, 2048]⟩ : Shape).Idx → EReal := fun i => nn A X (i 0) (i 1)

/-- the merged branches, -/
def merged : (⟨2, ![2048, 2048]⟩ : Shape).Idx → EReal := fun i => gated (gateA P (i 0) (i 1)) (branch A X i) (gateB P (i 0) (i 1)) (branch B Y i)

/-- the gradients of the two products, -/
def dA : (⟨2, ![2048, 2048]⟩ : Shape).Idx → EReal := fun i => dvalue (nt D W (i 0) (i 1)) (gateA P (i 0) (i 1))
def dB : (⟨2, ![2048, 2048]⟩ : Shape).Idx → EReal := fun i => dvalue (nt D W (i 0) (i 1)) (gateB P (i 0) (i 1))

/-- and of the two gates. -/
def dgA : (⟨2, ![2048, 2048]⟩ : Shape).Idx → EReal := fun i => dgate (nt D W (i 0) (i 1)) (gateA P (i 0) (i 1)) (branch A X i)
def dgB : (⟨2, ![2048, 2048]⟩ : Shape).Idx → EReal := fun i => dgate (nt D W (i 0) (i 1)) (gateB P (i 0) (i 1)) (branch B Y i)

/-- The gradient of the output's weights, -/
def dOut : (⟨2, ![2048, 2048]⟩ : Shape).Idx → EReal := fun i => tn (merged A B X Y P) D (i 0) (i 1)

/-- of the branches, given those of their products, -/
def dIn : (⟨2, ![2048, 512]⟩ : Shape).Idx → EReal := fun i => nt D X (i 0) (i 1)

/-- and of their weights. -/
def dW : (⟨2, ![512, 2048]⟩ : Shape).Idx → EReal := fun i => tn A D (i 0) (i 1)

end Cert.Merge

end
-- ==== Proof.MergeFirst.lean ====
/- The first call of the merge of the branches: the two branch products and their gated sum, row chunk by row chunk. -/
module

public import proofs.«01_k».proof.Proof.MergeModel
public import proofs.«01_k».proof.Proof.FfnModel
public import proofs.«01_k».proof.Proof.Gen.Kernel6Ideal.Frame
public import Idealize.ShloMosaic.Lib.Pipeline.ReadBack
public import Idealize.ShloMosaic.Lib.Pipeline.ValueKit

@[expose] public section

set_option maxRecDepth 16384

noncomputable section

namespace Cert.Merge

open Cert.Ffn Cert.Kernel6Ideal Cert.Kernel6Ideal.Gen
open Idealize.ShloMosaic Idealize.ShloMosaic.Pipeline Idealize.ShloMosaic.TcCoe Idealize.ShloMosaic.Tactic

/-! ## A chunk of 256 rows -/

theorem chunk_nn (A : FVec Ideal S256x512 .bf16) (B : FVec Ideal S512x2048 .bf16) :
    matmul dot_S256x512_S512x2048_S256x2048_1_0_0_1_n_n none A B (constant S256x2048 .f32 0x00000000#32) = fun y => nn A B (y 0) (y 1) :=
  funext fun y => matmul_nn dot_S256x512_S512x2048_S256x2048_1_0_0_1_n_n rfl rfl (fun _ _ => rfl)
    (dot_S256x512_S512x2048_S256x2048_1_0_0_1_n_n.lhsIdx_val_of_single rfl)
    (dot_S256x512_S512x2048_S256x2048_1_0_0_1_n_n.rhsIdx_val_of_single rfl) (fun _ _ => rfl) A B y

/-- Rows `o` to `o + 255` of a block's product. -/
theorem rows_of_block (A : FVec Ideal S512x512 .bf16) (B : FVec Ideal S512x2048 .bf16) (o : ℕ)
    (ha : ∀ a, (![o, 0] : Fin 2 → ℕ) a + S256x512.size a ≤ S512x512.size a) (hb : ∀ a, (![0, 0] : Fin 2 → ℕ) a + S512x2048.size a ≤ S512x2048.size a)
    (hy : ∀ a, (![o, 0] : Fin 2 → ℕ) a + S256x2048.size a ≤ S512x2048.size a) (x : S256x2048.Idx) :
    nn (View.ld (Val := Elt Ideal) (e' := .bf16) A (Rect.unit (s := S512x512) ![o, 0] S256x512.size ha))
        (View.ld (Val := Elt Ideal) (e' := .bf16) B (Rect.unit (s := S512x2048) ![0, 0] S512x2048.size hb)) (x 0) (x 1)
      = nn A B ((Rect.unit (s := S512x2048) ![o, 0] S256x2048.size hy).emb x 0) ((Rect.unit (s := S512x2048) ![o, 0] S256x2048.size hy).emb x 1) := by
  refine Finset.sum_congr rfl fun k _ => congrArg₂ (· * ·) (congrArg A (ext2 (n := 512) (k := 512) ?_ ?_)) (congrArg B (ext2 (n := 512) (k := 2048) ?_ ?_))
  · rfl
  · show 0 + 1 * k.val = k.val; omega
  · show 0 + 1 * k.val = k.val; omega
  · rfl

theorem pay_first (A B : FVec Ideal S256x512 .bf16) (X Y : FVec Ideal S512x2048 .bf16) (G H : FVec Ideal S256x2048 .f32) :
    k0_pay8 (F := Ideal) A X B Y G H = fun y => gated (G y) (nn A X (y 0) (y 1)) (H y) (nn B Y (y 0) (y 1)) := by
  unfold k0_pay8 k0_pay6 k0_pay7
  dsimp only
  rw [chunk_nn, chunk_nn]
  rfl

theorem pay_second (A B : FVec Ideal S256x512 .bf16) (X Y : FVec Ideal S512x2048 .bf16) (G H : FVec Ideal S256x2048 .f32) :
    k0_pay2 (F := Ideal) (k0_pay11 A X) B Y G H = fun y => gated (G y) (nn A X (y 0) (y 1)) (H y) (nn B Y (y 0) (y 1)) :=
  (rfl : k0_pay2 (F := Ideal) (k0_pay11 A X) B Y G H = k0_pay8 A X B Y G H).trans (pay_first A B X Y G H)

theorem pay_branch (A : FVec Ideal S256x512 .bf16) (X : FVec Ideal S512x2048 .bf16) : k0_pay9 (F := Ideal) A X = fun y => nn A X (y 0) (y 1) := by
  unfold k0_pay9 k0_pay6
  dsimp only
  rw [chunk_nn]
  rfl

/-! ## A block -/

section
variable (A B : FVec Ideal S512x512 .bf16) (X Y : FVec Ideal S512x2048 .bf16) (G H : FVec Ideal S512x2048 .f32)

theorem block_merged : out0_6 (F := Ideal) A B X Y G H = fun y => gated (G y) (nn A X (y 0) (y 1)) (H y) (nn B Y (y 0) (y 1)) := by
  unfold out0_6 k0_pay12
  refine canon_all _ _ (cover0_6 _ _) ?_
  have e := fun (o : ℕ) ha hb hy x => gated_congr (rfl : G ((Rect.unit (s := S512x2048) ![o, 0] S256x2048.size hy).emb x) = _) (rows_of_block A X o ha hb hy x)
    (rfl : H ((Rect.unit (s := S512x2048) ![o, 0] S256x2048.size hy).emb x) = _) (rows_of_block B Y o ha hb hy x)
  exact List.forall_mem_cons.2 ⟨fun x => (congrFun (pay_second _ _ _ _ _ _) x).trans (e 256 (by decide) (by decide) (by decide) x),
    List.forall_mem_cons.2 ⟨fun x => (congrFun (pay_first _ _ _ _ _ _) x).trans (e 0 (by decide) (by decide) (by decide) x), fun p hp => absurd hp List.not_mem_nil⟩⟩

theorem block_branchA : out0_7 (F := Ideal) A B X Y G H = fun y => nn A X (y 0) (y 1) := by
  unfold out0_7 k0_pay12
  refine canon_all _ _ (cover0_7 _ _) ?_
  have e := fun (o : ℕ) ha hb hy x => (congrFun (pay_branch _ _) x).trans (rows_of_block A X o ha hb hy x)
  exact List.forall_mem_cons.2 ⟨fun x => e 256 (by decide) (by decide) (by decide) x,
    List.forall_mem_cons.2 ⟨fun x => e 0 (by decide) (by decide) (by decide) x, fun p hp => absurd hp List.not_mem_nil⟩⟩

theorem block_branchB : out0_8 (F := Ideal) A B X Y G H = fun y => nn B Y (y 0) (y 1) :=
  block_branchA B A Y X G H

end

/-! ## The arrays -/

variable (V : (c : Dev nD) → (b : Ref sig .tc) → Buf (Elt Ideal) ((c : Thread nD τ).loc b))

theorem first_facts : ∀ t : Fin cfg0.N,
    (win0_0.index t = ![t.val, 0] ∧ win0_1.index t = ![t.val, 0] ∧ win0_2.index t = ![0, 0] ∧ win0_3.index t = ![0, 0] ∧ win0_4.index t = ![t.val, 3] ∧ win0_5.index t = ![t.val, 4])
    ∧ win0_6.index t = ![t.val, 0] ∧ win0_7.index t = ![t.val, 0] ∧ win0_8.index t = ![t.val, 0] :=
  (by decide +kernel : ∀ t : Fin grid0.N,
    (win0_0.index t = ![t.val, 0] ∧ win0_1.index t = ![t.val, 0] ∧ win0_2.index t = ![0, 0] ∧ win0_3.index t = ![0, 0] ∧ win0_4.index t = ![t.val, 3] ∧ win0_5.index t = ![t.val, 4])
    ∧ win0_6.index t = ![t.val, 0] ∧ win0_7.index t = ![t.val, 0] ∧ win0_8.index t = ![t.val, 0])

section
variable (c : Dev nD) (t : Fin cfg0.N) (y : S512x2048.Idx) (r s : Fin 2048) (hr : r.val = t.val * 512 + (y 0).val) (hs : s.val = (y 1).val)
include hr hs

theorem at_branchA : nn (iblk0 V c 0 t) (iblk0 V c 2 t) (y 0) (y 1) = nn (V c main_arg0) (V c main_arg2) r s := by
  refine Finset.sum_congr rfl fun k _ => congrArg₂ (· * ·) ?_ ?_
  · show V c main_arg0 _ = V c main_arg0 _
    congr 1
    refine ext2 (n := 2048) (k := 512) ?_ ?_
    · blk_simp [first_facts t]; show _ = r.val; rw [hr]
    · blk_simp [first_facts t]
  · show V c main_arg2 _ = V c main_arg2 _
    congr 1
    refine ext2 (n := 512) (k := 2048) ?_ ?_
    · blk_simp [first_facts t]
    · blk_simp [first_facts t]; exact hs.symm

theorem at_branchB : nn (iblk0 V c 1 t) (iblk0 V c 3 t) (y 0) (y 1) = nn (V c main_arg1) (V c main_arg3) r s := by
  refine Finset.sum_congr rfl fun k _ => congrArg₂ (· * ·) ?_ ?_
  · show V c main_arg1 _ = V c main_arg1 _
    congr 1
    refine ext2 (n := 2048) (k := 512) ?_ ?_
    · blk_simp [first_facts t]; show _ = r.val; rw [hr]
    · blk_simp [first_facts t]
  · show V c main_arg3 _ = V c main_arg3 _
    congr 1
    refine ext2 (n := 512) (k := 2048) ?_ ?_
    · blk_simp [first_facts t]
    · blk_simp [first_facts t]; exact hs.symm

theorem at_gateA : (iblk0 V c 4 t : FVec Ideal S512x2048 .f32) y = gateA (V c main_arg4) r s := by
  show V c main_arg4 _ = V c main_arg4 _
  congr 1
  refine ext2 (n := 2048) (k := 10240) ?_ ?_
  · blk_simp [first_facts t]; show _ = r.val; rw [hr]
  · blk_simp [first_facts t]; show 3 * 2048 + (y 1).val = 6144 + s.val; omega

theorem at_gateB : (iblk0 V c 5 t : FVec Ideal S512x2048 .f32) y = gateB (V c main_arg4) r s := by
  show V c main_arg4 _ = V c main_arg4 _
  congr 1
  refine ext2 (n := 2048) (k := 10240) ?_ ?_
  · blk_simp [first_facts t]; show _ = r.val; rw [hr]
  · blk_simp [first_facts t]; show 4 * 2048 + (y 1).val = 8192 + s.val; omega

end

/-- The merged branches, -/
theorem array_merged (c : Dev nD) : (dat0 V c).arrAt 6 cfg0.N = merged (V c main_arg0) (V c main_arg1) (V c main_arg2) (V c main_arg3) (V c main_arg4) := by
  refine Dat.arrAt_eq_of_covers _ 6 _ (by decide +kernel) fun t hf y => ?_
  blk_simp
  refine (congrFun ((after0_6 V c t).trans (block_merged _ _ _ _ _ _)) y).trans ?_
  refine gated_congr (at_gateA V c t y _ _ ?_ ?_) (at_branchA V c t y _ _ ?_ ?_) (at_gateB V c t y _ _ ?_ ?_) (at_branchB V c t y _ _ ?_ ?_)
  all_goals blk_simp [first_facts t]
  all_goals rfl

/-- and the two products. -/
theorem array_branchA (c : Dev nD) : (dat0 V c).arrAt 7 cfg0.N = branch (V c main_arg0) (V c main_arg2) := by
  refine Dat.arrAt_eq_of_covers _ 7 _ (by decide +kernel) fun t hf y => ?_
  blk_simp
  refine (congrFun ((after0_7 V c t).trans (block_branchA _ _ _ _ _ _)) y).trans (at_branchA V c t y _ _ ?_ ?_)
  all_goals blk_simp [first_facts t]
  all_goals rfl

theorem array_branchB (c : Dev nD) : (dat0 V c).arrAt 8 cfg0.N = branch (V c main_arg1) (V c main_arg3) := by
  refine Dat.arrAt_eq_of_covers _ 8 _ (by decide +kernel) fun t hf y => ?_
  blk_simp
  refine (congrFun ((after0_8 V c t).trans (block_branchB _ _ _ _ _ _)) y).trans (at_branchB V c t y _ _ ?_ ?_)
  all_goals blk_simp [first_facts t]
  all_goals rfl

end Cert.Merge

end
-- ==== Proof.MergeBack.lean ====
/- The second call of the merge of the branches: the gradients of the two products and of the two gates. -/
module

public import proofs.«01_k».proof.Proof.MergeModel
public import proofs.«01_k».proof.Proof.FfnModel
public import proofs.«01_k».proof.Proof.Gen.Kernel6Ideal.Frame
public import Idealize.ShloMosaic.Lib.Pipeline.ReadBack
public import Idealize.ShloMosaic.Lib.Pipeline.ValueKit

@[expose] public section

set_option maxRecDepth 16384

noncomputable section

namespace Cert.Merge.Back

open Cert.Ffn Cert.Kernel6Ideal Cert.Kernel6Ideal.Gen
open Idealize.ShloMosaic Idealize.ShloMosaic.Pipeline Idealize.ShloMosaic.TcCoe Idealize.ShloMosaic.Tactic

/-! ## Rows of a tile -/

theorem chunk_nt (A : FVec Ideal S256x2048 .bf16) (B : FVec Ideal S512x2048 .bf16) :
    matmul dot_S256x2048_S512x2048_S256x512_1_1_0_0_n_n none A B (constant S256x512 .f32 0x00000000#32) = fun y => nt A B (y 0) (y 1) :=
  funext fun y => matmul_nt dot_S256x2048_S512x2048_S256x512_1_1_0_0_n_n rfl rfl (fun _ _ => rfl)
    (dot_S256x2048_S512x2048_S256x512_1_1_0_0_n_n.lhsIdx_val_of_single rfl) (fun _ _ => rfl)
    (dot_S256x2048_S512x2048_S256x512_1_1_0_0_n_n.rhsIdx_val_of_single rfl) A B y

theorem pay_value (B : FVec Ideal S512x2048 .bf16) (A : FVec Ideal S256x2048 .bf16) (g : FVec Ideal S256x512 .f32) :
    k1_pay5 (F := Ideal) B A g = fun y => dvalue (nt A B (y 0) (y 1)) (g y) := by
  unfold k1_pay5 k1_pay3 k1_pay2
  dsimp only
  rw [chunk_nt]
  rfl

theorem pay_gate (B : FVec Ideal S512x2048 .bf16) (A : FVec Ideal S256x2048 .bf16) (g : FVec Ideal S256x512 .f32) (u : FVec Ideal S256x512 .bf16) :
    k1_pay7 (F := Ideal) B A g u = fun y => dgate (nt A B (y 0) (y 1)) (g y) (u y) := by
  unfold k1_pay7 k1_pay3 k1_pay2
  dsimp only
  rw [chunk_nt, shapeCast_self]
  rfl

/-! ## A tile -/

/-- Rows `o` to `o + 255` of a tile's product. -/
theorem rows_of_tile (A : FVec Ideal S1024x2048 .bf16) (B : FVec Ideal S512x2048 .bf16) (o : ℕ)
    (ha : ∀ a, (![o, 0] : Fin 2 → ℕ) a + S256x2048.size a ≤ S1024x2048.size a)
    (hy : ∀ a, (![o, 0] : Fin 2 → ℕ) a + S256x512.size a ≤ S1024x512.size a) (x : S256x512.Idx) :
    nt (View.ld (Val := Elt Ideal) (e' := .bf16) A (Rect.unit (s := S1024x2048) ![o, 0] S256x2048.size ha)) B (x 0) (x 1)
      = nt A B ((Rect.unit (s := S1024x512) ![o, 0] S256x512.size hy).emb x 0) ((Rect.unit (s := S1024x512) ![o, 0] S256x512.size hy).emb x 1) := by
  refine Finset.sum_congr rfl fun k _ => congrArg₂ (· * ·) (congrArg A (ext2 (n := 1024) (k := 2048) ?_ ?_)) (congrArg B (ext2 (n := 512) (k := 2048) ?_ ?_))
  · rfl
  · show 0 + 1 * k.val = k.val; omega
  · show (x 1).val = 0 + 1 * (x 1).val; omega
  · rfl

/-- Four pieces of 256 rows each, one function's rows in each, are the function. -/
theorem four_pieces (G : S1024x512.Idx → EReal) (p q r s : Vec Ideal S256x512 .bf16) (h3 h2 h1 h0)
    (ep : ∀ x, p x = G ((Rect.unit (s := S1024x512) ![768, 0] S256x512.size h3).emb x)) (eq : ∀ x, q x = G ((Rect.unit (s := S1024x512) ![512, 0] S256x512.size h2).emb x))
    (er : ∀ x, r x = G ((Rect.unit (s := S1024x512) ![256, 0] S256x512.size h1).emb x)) (es : ∀ x, s x = G ((Rect.unit (s := S1024x512) ![0, 0] S256x512.size h0).emb x)) :
    View.canon ([⟨Rect.unit (s := S1024x512) ![768, 0] S256x512.size h3, p⟩, ⟨Rect.unit (s := S1024x512) ![512, 0] S256x512.size h2, q⟩,
      ⟨Rect.unit (s := S1024x512) ![256, 0] S256x512.size h1, r⟩, ⟨Rect.unit (s := S1024x512) ![0, 0] S256x512.size h0, s⟩] : List (View.Piece (Elt Ideal) S1024x512 .bf16)) = G :=
  canon_all _ _ (fun y => View.cover_of_tiled (s := S1024x512) _ S256x512.size (by rfl) y)
    (List.forall_mem_cons.2 ⟨ep, List.forall_mem_cons.2 ⟨eq, List.forall_mem_cons.2 ⟨er, List.forall_mem_cons.2 ⟨es, fun p hp => absurd hp List.not_mem_nil⟩⟩⟩⟩)

section
variable (A : FVec Ideal S1024x2048 .bf16) (B : FVec Ideal S512x2048 .bf16) (g : FVec Ideal S1024x512 .f32) (u : FVec Ideal S1024x512 .bf16) (o : ℕ)
  (ha : ∀ a, (![o, 0] : Fin 2 → ℕ) a + S256x2048.size a ≤ S1024x2048.size a) (hy : ∀ a, (![o, 0] : Fin 2 → ℕ) a + S256x512.size a ≤ S1024x512.size a) (x : S256x512.Idx)

theorem rows_value : k1_pay5 (F := Ideal) B (View.ld (Val := Elt Ideal) (e' := .bf16) A (Rect.unit (s := S1024x2048) ![o, 0] S256x2048.size ha))
      (View.ld (Val := Elt Ideal) (e' := .f32) g (Rect.unit (s := S1024x512) ![o, 0] S256x512.size hy)) x
    = (fun y : S1024x512.Idx => dvalue (nt A B (y 0) (y 1)) (g y)) ((Rect.unit (s := S1024x512) ![o, 0] S256x512.size hy).emb x) := by
  rw [pay_value]
  exact congrArg (fun z => dvalue z _) (rows_of_tile A B o ha hy x)

theorem rows_gate : k1_pay7 (F := Ideal) B (View.ld (Val := Elt Ideal) (e' := .bf16) A (Rect.unit (s := S1024x2048) ![o, 0] S256x2048.size ha))
      (View.ld (Val := Elt Ideal) (e' := .f32) g (Rect.unit (s := S1024x512) ![o, 0] S256x512.size hy))
      (View.ld (Val := Elt Ideal) (e' := .bf16) u (Rect.unit (s := S1024x512) ![o, 0] S256x512.size hy)) x
    = (fun y : S1024x512.Idx => dgate (nt A B (y 0) (y 1)) (g y) (u y)) ((Rect.unit (s := S1024x512) ![o, 0] S256x512.size hy).emb x) := by
  rw [pay_gate]
  exact congrArg (fun z => dgate z _ _) (rows_of_tile A B o ha hy x)

end

variable (V : (c : Dev nD) → (b : Ref sig .tc) → Buf (Elt Ideal) ((c : Thread nD τ).loc b))

/-- What a point leaves of the first product's gradient, -/
theorem left_dA (c : Dev nD) (t : Fin cfg1.N) : (outsAt1 V c t).1 = fun y => dvalue (nt (iblk1 V c 0 t) (iblk1 V c 1 t) (y 0) (y 1)) ((iblk1 V c 2 t : FVec Ideal S1024x512 .f32) y) := by
  unfold outsAt1
  dsimp only
  frame_out
  exact four_pieces _ _ _ _ _ _ _ _ _ (fun x => rows_value (iblk1 V c 0 t) (iblk1 V c 1 t) (iblk1 V c 2 t) 768 (by decide) (by decide) x) (fun x => rows_value (iblk1 V c 0 t) (iblk1 V c 1 t) (iblk1 V c 2 t) 512 (by decide) (by decide) x)
    (fun x => rows_value (iblk1 V c 0 t) (iblk1 V c 1 t) (iblk1 V c 2 t) 256 (by decide) (by decide) x) (fun x => rows_value (iblk1 V c 0 t) (iblk1 V c 1 t) (iblk1 V c 2 t) 0 (by decide) (by decide) x)

/-- of the second's, -/
theorem left_dB (c : Dev nD) (t : Fin cfg1.N) : (outsAt1 V c t).2.1 = fun y => dvalue (nt (iblk1 V c 0 t) (iblk1 V c 1 t) (y 0) (y 1)) ((iblk1 V c 3 t : FVec Ideal S1024x512 .f32) y) := by
  unfold outsAt1
  dsimp only
  frame_out
  exact four_pieces _ _ _ _ _ _ _ _ _ (fun x => rows_value (iblk1 V c 0 t) (iblk1 V c 1 t) (iblk1 V c 3 t) 768 (by decide) (by decide) x) (fun x => rows_value (iblk1 V c 0 t) (iblk1 V c 1 t) (iblk1 V c 3 t) 512 (by decide) (by decide) x)
    (fun x => rows_value (iblk1 V c 0 t) (iblk1 V c 1 t) (iblk1 V c 3 t) 256 (by decide) (by decide) x) (fun x => rows_value (iblk1 V c 0 t) (iblk1 V c 1 t) (iblk1 V c 3 t) 0 (by decide) (by decide) x)

/-- of the first gate's -/
theorem left_dgA (c : Dev nD) (t : Fin cfg1.N) : (outsAt1 V c t).2.2.1 = fun y => dgate (nt (iblk1 V c 0 t) (iblk1 V c 1 t) (y 0) (y 1)) ((iblk1 V c 2 t : FVec Ideal S1024x512 .f32) y) ((iblk1 V c 4 t : FVec Ideal S1024x512 .bf16) y) := by
  unfold outsAt1
  dsimp only
  frame_out
  exact four_pieces _ _ _ _ _ _ _ _ _ (fun x => rows_gate (iblk1 V c 0 t) (iblk1 V c 1 t) (iblk1 V c 2 t) (iblk1 V c 4 t) 768 (by decide) (by decide) x) (fun x => rows_gate (iblk1 V c 0 t) (iblk1 V c 1 t) (iblk1 V c 2 t) (iblk1 V c 4 t) 512 (by decide) (by decide) x)
    (fun x => rows_gate (iblk1 V c 0 t) (iblk1 V c 1 t) (iblk1 V c 2 t) (iblk1 V c 4 t) 256 (by decide) (by decide) x) (fun x => rows_gate (iblk1 V c 0 t) (iblk1 V c 1 t) (iblk1 V c 2 t) (iblk1 V c 4 t) 0 (by decide) (by decide) x)

/-- and of the second's. -/
theorem left_dgB (c : Dev nD) (t : Fin cfg1.N) : (outsAt1 V c t).2.2.2.1 = fun y => dgate (nt (iblk1 V c 0 t) (iblk1 V c 1 t) (y 0) (y 1)) ((iblk1 V c 3 t : FVec Ideal S1024x512 .f32) y) ((iblk1 V c 5 t : FVec Ideal S1024x512 .bf16) y) := by
  unfold outsAt1
  dsimp only
  frame_out
  exact four_pieces _ _ _ _ _ _ _ _ _ (fun x => rows_gate (iblk1 V c 0 t) (iblk1 V c 1 t) (iblk1 V c 3 t) (iblk1 V c 5 t) 768 (by decide) (by decide) x) (fun x => rows_gate (iblk1 V c 0 t) (iblk1 V c 1 t) (iblk1 V c 3 t) (iblk1 V c 5 t) 512 (by decide) (by decide) x)
    (fun x => rows_gate (iblk1 V c 0 t) (iblk1 V c 1 t) (iblk1 V c 3 t) (iblk1 V c 5 t) 256 (by decide) (by decide) x) (fun x => rows_gate (iblk1 V c 0 t) (iblk1 V c 1 t) (iblk1 V c 3 t) (iblk1 V c 5 t) 0 (by decide) (by decide) x)

/-! ## The arrays -/

theorem index_facts : ∀ t : Fin cfg1.N,
    (win1_0.index t = ![t.val / 4, 0] ∧ win1_1.index t = ![t.val % 4, 0] ∧ win1_2.index t = ![t.val / 4, 12 + t.val % 4] ∧ win1_3.index t = ![t.val / 4, 16 + t.val % 4] ∧ win1_4.index t = ![t.val / 4, t.val % 4] ∧ win1_5.index t = ![t.val / 4, t.val % 4])
    ∧ win1_6.index t = ![t.val / 4, t.val % 4] ∧ win1_7.index t = ![t.val / 4, t.val % 4] ∧ win1_8.index t = ![t.val / 4, t.val % 4] ∧ win1_9.index t = ![t.val / 4, t.val % 4] :=
  (by decide +kernel : ∀ t : Fin grid1.N,
    (win1_0.index t = ![t.val / 4, 0] ∧ win1_1.index t = ![t.val % 4, 0] ∧ win1_2.index t = ![t.val / 4, 12 + t.val % 4] ∧ win1_3.index t = ![t.val / 4, 16 + t.val % 4] ∧ win1_4.index t = ![t.val / 4, t.val % 4] ∧ win1_5.index t = ![t.val / 4, t.val % 4])
    ∧ win1_6.index t = ![t.val / 4, t.val % 4] ∧ win1_7.index t = ![t.val / 4, t.val % 4] ∧ win1_8.index t = ![t.val / 4, t.val % 4] ∧ win1_9.index t = ![t.val / 4, t.val % 4])

section
variable (c : Dev nD) (t : Fin cfg1.N) (y : S1024x512.Idx) (r s : Fin 2048) (hr : r.val = t.val / 4 * 1024 + (y 0).val) (hs : s.val = t.val % 4 * 512 + (y 1).val)
include hr hs

theorem at_sum : nt (iblk1 V c 0 t) (iblk1 V c 1 t) (y 0) (y 1) = nt (V c main_arg6) (V c main_arg5) r s := by
  refine Finset.sum_congr rfl fun k _ => congrArg₂ (· * ·) ?_ ?_
  · show V c main_arg6 _ = V c main_arg6 _
    congr 1
    refine ext2 (n := 2048) (k := 2048) ?_ ?_
    · blk_simp [index_facts t]; show _ = r.val; rw [hr]
    · blk_simp [index_facts t]
  · show V c main_arg5 _ = V c main_arg5 _
    congr 1
    refine ext2 (n := 2048) (k := 2048) ?_ ?_
    · blk_simp [index_facts t]; show _ = s.val; rw [hs]
    · blk_simp [index_facts t]

theorem at_gateA : (iblk1 V c 2 t : FVec Ideal S1024x512 .f32) y = gateA (V c main_arg4) r s := by
  show V c main_arg4 _ = V c main_arg4 _
  congr 1
  refine ext2 (n := 2048) (k := 10240) ?_ ?_
  · blk_simp [index_facts t]; show _ = r.val; rw [hr]
  · blk_simp [index_facts t]; show (12 + t.val % 4) * 512 + (y 1).val = 6144 + s.val; omega

theorem at_gateB : (iblk1 V c 3 t : FVec Ideal S1024x512 .f32) y = gateB (V c main_arg4) r s := by
  show V c main_arg4 _ = V c main_arg4 _
  congr 1
  refine ext2 (n := 2048) (k := 10240) ?_ ?_
  · blk_simp [index_facts t]; show _ = r.val; rw [hr]
  · blk_simp [index_facts t]; show (16 + t.val % 4) * 512 + (y 1).val = 8192 + s.val; omega

theorem at_branchA : (iblk1 V c 4 t : FVec Ideal S1024x512 .bf16) y = (V c main_v0_1 : FVec Ideal S2048x2048 .bf16) (at2 (n := 2048) (k := 2048) r s) := by
  show V c main_v0_1 _ = V c main_v0_1 _
  congr 1
  refine ext2 (n := 2048) (k := 2048) ?_ ?_
  · blk_simp [index_facts t]; show _ = r.val; rw [hr]
  · blk_simp [index_facts t]; show _ = s.val; rw [hs]

theorem at_branchB : (iblk1 V c 5 t : FVec Ideal S1024x512 .bf16) y = (V c main_v0_2 : FVec Ideal S2048x2048 .bf16) (at2 (n := 2048) (k := 2048) r s) := by
  show V c main_v0_2 _ = V c main_v0_2 _
  congr 1
  refine ext2 (n := 2048) (k := 2048) ?_ ?_
  · blk_simp [index_facts t]; show _ = r.val; rw [hr]
  · blk_simp [index_facts t]; show _ = s.val; rw [hs]

end

theorem array_dA (c : Dev nD) : (dat1 V c).arrAt 6 cfg1.N = dA (V c main_arg4) (V c main_arg5) (V c main_arg6) := by
  refine Dat.arrAt_eq_of_covers _ 6 _ (by decide +kernel) fun t hf y => ?_
  blk_simp
  refine (congrFun ((after1_6 V c t).trans (left_dA V c t)) y).trans ?_
  refine congrArg₂ dvalue (at_sum V c t y _ _ ?_ ?_) (at_gateA V c t y _ _ ?_ ?_)
  all_goals blk_simp [index_facts t]
  all_goals rfl

theorem array_dB (c : Dev nD) : (dat1 V c).arrAt 7 cfg1.N = dB (V c main_arg4) (V c main_arg5) (V c main_arg6) := by
  refine Dat.arrAt_eq_of_covers _ 7 _ (by decide +kernel) fun t hf y => ?_
  blk_simp
  refine (congrFun ((after1_7 V c t).trans (left_dB V c t)) y).trans ?_
  refine congrArg₂ dvalue (at_sum V c t y _ _ ?_ ?_) (at_gateB V c t y _ _ ?_ ?_)
  all_goals blk_simp [index_facts t]
  all_goals rfl

/-- What the gate's gradient ends in, the product being the first call's. -/
theorem array_dgA (c : Dev nD) (A : FVec Ideal S2048x512 .bf16) (X : FVec Ideal S512x2048 .bf16) (h : V c main_v0_1 = branch A X) :
    (dat1 V c).arrAt 8 cfg1.N = dgA A X (V c main_arg4) (V c main_arg5) (V c main_arg6) := by
  refine Dat.arrAt_eq_of_covers _ 8 _ (by decide +kernel) fun t hf y => ?_
  blk_simp
  refine (congrFun ((after1_8 V c t).trans (left_dgA V c t)) y).trans ?_
  refine dgate_congr (at_sum V c t y _ _ ?_ ?_) (at_gateA V c t y _ _ ?_ ?_) ((at_branchA V c t y _ _ ?_ ?_).trans ((congrFun h _).trans (congrArg (branch A X) (ext2 (n := 2048) (k := 2048) rfl rfl))))
  all_goals blk_simp [index_facts t]
  all_goals rfl

/-- What the gate's gradient ends in, the product being the first call's. -/
theorem array_dgB (c : Dev nD) (A : FVec Ideal S2048x512 .bf16) (X : FVec Ideal S512x2048 .bf16) (h : V c main_v0_2 = branch A X) :
    (dat1 V c).arrAt 9 cfg1.N = dgB A X (V c main_arg4) (V c main_arg5) (V c main_arg6) := by
  refine Dat.arrAt_eq_of_covers _ 9 _ (by decide +kernel) fun t hf y => ?_
  blk_simp
  refine (congrFun ((after1_9 V c t).trans (left_dgB V c t)) y).trans ?_
  refine dgate_congr (at_sum V c t y _ _ ?_ ?_) (at_gateB V c t y _ _ ?_ ?_) ((at_branchB V c t y _ _ ?_ ?_).trans ((congrFun h _).trans (congrArg (branch A X) (ext2 (n := 2048) (k := 2048) rfl rfl))))
  all_goals blk_simp [index_facts t]
  all_goals rfl

end Cert.Merge.Back

end
-- ==== Proof.MergeWeights.lean ====
/- The last five calls of the merge of the branches: the gradients of the three weights and of the two branches. -/
module

public import proofs.«01_k».proof.Proof.MergeModel
public import proofs.«01_k».proof.Proof.FfnModel
public import proofs.«01_k».proof.Proof.Gen.Kernel6Ideal.Frame
public import Idealize.ShloMosaic.Lib.Pipeline.ReadBack
public import Idealize.ShloMosaic.Lib.Pipeline.ValueKit

@[expose] public section

set_option maxRecDepth 16384

noncomputable section

namespace Cert.Merge.Weights

open Cert.Ffn Cert.Kernel6Ideal Cert.Kernel6Ideal.Gen
open Idealize.ShloMosaic Idealize.ShloMosaic.Pipeline Idealize.ShloMosaic.TcCoe Idealize.ShloMosaic.Tactic

/-! ## Products -/

theorem pay_out (A : FVec Ideal S2048x2048 .bf16) (B : FVec Ideal S2048x1024 .bf16) : k2_pay2 (F := Ideal) A B = fun y => tn A B (y 0) (y 1) := by
  funext y
  unfold k2_pay2
  rw [shapeCast_self]
  exact matmul_tn dot_S2048x2048_S2048x1024_S2048x1024_0_0_1_1_n_n rfl rfl
    (dot_S2048x2048_S2048x1024_S2048x1024_0_0_1_1_n_n.lhsIdx_val_of_single rfl) (fun _ _ => rfl)
    (dot_S2048x2048_S2048x1024_S2048x1024_0_0_1_1_n_n.rhsIdx_val_of_single rfl) (fun _ _ => rfl) A B y

theorem pay_in (A : FVec Ideal S1024x2048 .bf16) (B : FVec Ideal S512x2048 .bf16) : k3_pay2 (F := Ideal) A B = fun y => nt A B (y 0) (y 1) := by
  funext y
  unfold k3_pay2
  rw [shapeCast_self]
  exact matmul_nt dot_S1024x2048_S512x2048_S1024x512_1_1_0_0_n_n rfl rfl (fun _ _ => rfl)
    (dot_S1024x2048_S512x2048_S1024x512_1_1_0_0_n_n.lhsIdx_val_of_single rfl) (fun _ _ => rfl)
    (dot_S1024x2048_S512x2048_S1024x512_1_1_0_0_n_n.rhsIdx_val_of_single rfl) A B y

theorem pay_branch (A : FVec Ideal S2048x512 .bf16) (B : FVec Ideal S2048x1024 .bf16) : k5_pay2 (F := Ideal) A B = fun y => tn A B (y 0) (y 1) := by
  funext y
  unfold k5_pay2
  rw [shapeCast_self]
  exact matmul_tn dot_S2048x512_S2048x1024_S512x1024_0_0_1_1_n_n rfl rfl
    (dot_S2048x512_S2048x1024_S512x1024_0_0_1_1_n_n.lhsIdx_val_of_single rfl) (fun _ _ => rfl)
    (dot_S2048x512_S2048x1024_S512x1024_0_0_1_1_n_n.rhsIdx_val_of_single rfl) (fun _ _ => rfl) A B y

variable (V : (c : Dev nD) → (b : Ref sig .tc) → Buf (Elt Ideal) ((c : Thread nD τ).loc b))

/-! ## The output weights' -/

theorem left2 (c : Dev nD) (t : Fin cfg2.N) : (outsAt2 V c t).1 = fun y => tn (iblk2 V c 0 t) (iblk2 V c 1 t) (y 0) (y 1) := by
  unfold outsAt2
  dsimp only
  frame_out
  exact pay_out _ _

theorem facts2 : ∀ t : Fin cfg2.N, win2_0.index t = ![0, 0] ∧ win2_1.index t = ![0, t.val] ∧ win2_2.index t = ![0, t.val] :=
  (by decide +kernel : ∀ t : Fin grid2.N, win2_0.index t = ![0, 0] ∧ win2_1.index t = ![0, t.val] ∧ win2_2.index t = ![0, t.val])

theorem at2 (c : Dev nD) (t : Fin cfg2.N) (y : S2048x1024.Idx) (r : Fin 2048) (s : Fin 2048) (hr : r.val = (y 0).val) (hs : s.val = t.val * 1024 + (y 1).val) :
    tn (iblk2 V c 0 t) (iblk2 V c 1 t) (y 0) (y 1) = tn (V c main_v0_0) (V c main_arg6) r s := by
  refine Finset.sum_congr rfl fun k _ => congrArg₂ (· * ·) ?_ ?_
  · show V c main_v0_0 _ = V c main_v0_0 _
    congr 1
    refine ext2 (n := 2048) (k := 2048) ?_ ?_
    · blk_simp [facts2 t]
    · blk_simp [facts2 t]; exact hr.symm
  · show V c main_arg6 _ = V c main_arg6 _
    congr 1
    refine ext2 (n := 2048) (k := 2048) ?_ ?_
    · blk_simp [facts2 t]
    · blk_simp [facts2 t]; show _ = s.val; rw [hs]

theorem array2 (c : Dev nD) : (dat2 V c).arrAt 2 cfg2.N = fun i : S2048x2048.Idx => tn (V c main_v0_0) (V c main_arg6) (i 0) (i 1) := by
  refine Dat.arrAt_eq_of_covers _ 2 _ (by decide +kernel) fun t hf y => ?_
  blk_simp
  refine (congrFun ((after2_2 V c t).trans (left2 V c t)) y).trans (at2 V c t y _ _ ?_ ?_)
  all_goals blk_simp [facts2 t]
  all_goals rfl

/-! ## The first branch's -/

theorem left3 (c : Dev nD) (t : Fin cfg3.N) : (outsAt3 V c t).1 = fun y => nt (iblk3 V c 0 t) (iblk3 V c 1 t) (y 0) (y 1) := by
  unfold outsAt3
  dsimp only
  frame_out
  exact pay_in _ _

theorem facts3 : ∀ t : Fin cfg3.N, win3_0.index t = ![t.val, 0] ∧ win3_1.index t = ![0, 0] ∧ win3_2.index t = ![t.val, 0] :=
  (by decide +kernel : ∀ t : Fin grid3.N, win3_0.index t = ![t.val, 0] ∧ win3_1.index t = ![0, 0] ∧ win3_2.index t = ![t.val, 0])

theorem at3 (c : Dev nD) (t : Fin cfg3.N) (y : S1024x512.Idx) (r : Fin 2048) (s : Fin 512) (hr : r.val = t.val * 1024 + (y 0).val) (hs : s.val = (y 1).val) :
    nt (iblk3 V c 0 t) (iblk3 V c 1 t) (y 0) (y 1) = nt (V c main_v1_0) (V c main_arg2) r s := by
  refine Finset.sum_congr rfl fun k _ => congrArg₂ (· * ·) ?_ ?_
  · show V c main_v1_0 _ = V c main_v1_0 _
    congr 1
    refine ext2 (n := 2048) (k := 2048) ?_ ?_
    · blk_simp [facts3 t]; show _ = r.val; rw [hr]
    · blk_simp [facts3 t]
  · show V c main_arg2 _ = V c main_arg2 _
    congr 1
    refine ext2 (n := 512) (k := 2048) ?_ ?_
    · blk_simp [facts3 t]; exact hs.symm
    · blk_simp [facts3 t]

theorem array3 (c : Dev nD) : (dat3 V c).arrAt 2 cfg3.N = fun i : S2048x512.Idx => nt (V c main_v1_0) (V c main_arg2) (i 0) (i 1) := by
  refine Dat.arrAt_eq_of_covers _ 2 _ (by decide +kernel) fun t hf y => ?_
  blk_simp
  refine (congrFun ((after3_2 V c t).trans (left3 V c t)) y).trans (at3 V c t y _ _ ?_ ?_)
  all_goals blk_simp [facts3 t]
  all_goals rfl

/-! ## The second branch's -/

theorem left4 (c : Dev nD) (t : Fin cfg4.N) : (outsAt4 V c t).1 = fun y => nt (iblk4 V c 0 t) (iblk4 V c 1 t) (y 0) (y 1) := by
  unfold outsAt4
  dsimp only
  frame_out
  exact pay_in _ _

theorem facts4 : ∀ t : Fin cfg4.N, win4_0.index t = ![t.val, 0] ∧ win4_1.index t = ![0, 0] ∧ win4_2.index t = ![t.val, 0] :=
  (by decide +kernel : ∀ t : Fin grid4.N, win4_0.index t = ![t.val, 0] ∧ win4_1.index t = ![0, 0] ∧ win4_2.index t = ![t.val, 0])

theorem at4 (c : Dev nD) (t : Fin cfg4.N) (y : S1024x512.Idx) (r : Fin 2048) (s : Fin 512) (hr : r.val = t.val * 1024 + (y 0).val) (hs : s.val = (y 1).val) :
    nt (iblk4 V c 0 t) (iblk4 V c 1 t) (y 0) (y 1) = nt (V c main_v1_1) (V c main_arg3) r s := by
  refine Finset.sum_congr rfl fun k _ => congrArg₂ (· * ·) ?_ ?_
  · show V c main_v1_1 _ = V c main_v1_1 _
    congr 1
    refine ext2 (n := 2048) (k := 2048) ?_ ?_
    · blk_simp [facts4 t]; show _ = r.val; rw [hr]
    · blk_simp [facts4 t]
  · show V c main_arg3 _ = V c main_arg3 _
    congr 1
    refine ext2 (n := 512) (k := 2048) ?_ ?_
    · blk_simp [facts4 t]; exact hs.symm
    · blk_simp [facts4 t]

theorem array4 (c : Dev nD) : (dat4 V c).arrAt 2 cfg4.N = fun i : S2048x512.Idx => nt (V c main_v1_1) (V c main_arg3) (i 0) (i 1) := by
  refine Dat.arrAt_eq_of_covers _ 2 _ (by decide +kernel) fun t hf y => ?_
  blk_simp
  refine (congrFun ((after4_2 V c t).trans (left4 V c t)) y).trans (at4 V c t y _ _ ?_ ?_)
  all_goals blk_simp [facts4 t]
  all_goals rfl

/-! ## The first branch's weights' -/

theorem left5 (c : Dev nD) (t : Fin cfg5.N) : (outsAt5 V c t).1 = fun y => tn (iblk5 V c 0 t) (iblk5 V c 1 t) (y 0) (y 1) := by
  unfold outsAt5
  dsimp only
  frame_out
  exact pay_branch _ _

theorem facts5 : ∀ t : Fin cfg5.N, win5_0.index t = ![0, 0] ∧ win5_1.index t = ![0, t.val] ∧ win5_2.index t = ![0, t.val] :=
  (by decide +kernel : ∀ t : Fin grid5.N, win5_0.index t = ![0, 0] ∧ win5_1.index t = ![0, t.val] ∧ win5_2.index t = ![0, t.val])

theorem at5 (c : Dev nD) (t : Fin cfg5.N) (y : S512x1024.Idx) (r : Fin 512) (s : Fin 2048) (hr : r.val = (y 0).val) (hs : s.val = t.val * 1024 + (y 1).val) :
    tn (iblk5 V c 0 t) (iblk5 V c 1 t) (y 0) (y 1) = tn (V c main_arg0) (V c main_v1_0) r s := by
  refine Finset.sum_congr rfl fun k _ => congrArg₂ (· * ·) ?_ ?_
  · show V c main_arg0 _ = V c main_arg0 _
    congr 1
    refine ext2 (n := 2048) (k := 512) ?_ ?_
    · blk_simp [facts5 t]
    · blk_simp [facts5 t]; exact hr.symm
  · show V c main_v1_0 _ = V c main_v1_0 _
    congr 1
    refine ext2 (n := 2048) (k := 2048) ?_ ?_
    · blk_simp [facts5 t]
    · blk_simp [facts5 t]; show _ = s.val; rw [hs]

theorem array5 (c : Dev nD) : (dat5 V c).arrAt 2 cfg5.N = fun i : S512x2048.Idx => tn (V c main_arg0) (V c main_v1_0) (i 0) (i 1) := by
  refine Dat.arrAt_eq_of_covers _ 2 _ (by decide +kernel) fun t hf y => ?_
  blk_simp
  refine (congrFun ((after5_2 V c t).trans (left5 V c t)) y).trans (at5 V c t y _ _ ?_ ?_)
  all_goals blk_simp [facts5 t]
  all_goals rfl

/-! ## The second branch's weights' -/

theorem left6 (c : Dev nD) (t : Fin cfg6.N) : (outsAt6 V c t).1 = fun y => tn (iblk6 V c 0 t) (iblk6 V c 1 t) (y 0) (y 1) := by
  unfold outsAt6
  dsimp only
  frame_out
  exact pay_branch _ _

theorem facts6 : ∀ t : Fin cfg6.N, win6_0.index t = ![0, 0] ∧ win6_1.index t = ![0, t.val] ∧ win6_2.index t = ![0, t.val] :=
  (by decide +kernel : ∀ t : Fin grid6.N, win6_0.index t = ![0, 0] ∧ win6_1.index t = ![0, t.val] ∧ win6_2.index t = ![0, t.val])

theorem at6 (c : Dev nD) (t : Fin cfg6.N) (y : S512x1024.Idx) (r : Fin 512) (s : Fin 2048) (hr : r.val = (y 0).val) (hs : s.val = t.val * 1024 + (y 1).val) :
    tn (iblk6 V c 0 t) (iblk6 V c 1 t) (y 0) (y 1) = tn (V c main_arg1) (V c main_v1_1) r s := by
  refine Finset.sum_congr rfl fun k _ => congrArg₂ (· * ·) ?_ ?_
  · show V c main_arg1 _ = V c main_arg1 _
    congr 1
    refine ext2 (n := 2048) (k := 512) ?_ ?_
    · blk_simp [facts6 t]
    · blk_simp [facts6 t]; exact hr.symm
  · show V c main_v1_1 _ = V c main_v1_1 _
    congr 1
    refine ext2 (n := 2048) (k := 2048) ?_ ?_
    · blk_simp [facts6 t]
    · blk_simp [facts6 t]; show _ = s.val; rw [hs]

theorem array6 (c : Dev nD) : (dat6 V c).arrAt 2 cfg6.N = fun i : S512x2048.Idx => tn (V c main_arg1) (V c main_v1_1) (i 0) (i 1) := by
  refine Dat.arrAt_eq_of_covers _ 2 _ (by decide +kernel) fun t hf y => ?_
  blk_simp
  refine (congrFun ((after6_2 V c t).trans (left6 V c t)) y).trans (at6 V c t y _ _ ?_ ?_)
  all_goals blk_simp [facts6 t]
  all_goals rfl

end Cert.Merge.Weights

end
-- ==== Proof.MergeRun.lean ====
/- The merge's seven calls one after another: what the program leaves in each of its results. -/
module

public import proofs.«01_k».proof.Proof.MergeFirst
public import proofs.«01_k».proof.Proof.MergeBack
public import proofs.«01_k».proof.Proof.MergeWeights

@[expose] public section

set_option maxRecDepth 16384

noncomputable section

namespace Cert.Merge

open Cert.Ffn Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The arguments: the two branches, their weights, the input projection, the output's weights and the gradient. -/
def inA (c : Dev nD) : FVec Ideal S2048x512 .bf16 := m ((c.tc : Thread nD τ).loc main_arg0)
def inB (c : Dev nD) : FVec Ideal S2048x512 .bf16 := m ((c.tc : Thread nD τ).loc main_arg1)
def inX (c : Dev nD) : FVec Ideal S512x2048 .bf16 := m ((c.tc : Thread nD τ).loc main_arg2)
def inY (c : Dev nD) : FVec Ideal S512x2048 .bf16 := m ((c.tc : Thread nD τ).loc main_arg3)
def inP (c : Dev nD) : FVec Ideal S2048x10240 .f32 := m ((c.tc : Thread nD τ).loc main_arg4)
def inO (c : Dev nD) : FVec Ideal S2048x2048 .bf16 := m ((c.tc : Thread nD τ).loc main_arg5)
def inD (c : Dev nD) : FVec Ideal S2048x2048 .bf16 := m ((c.tc : Thread nD τ).loc main_arg6)

/-- The gradients: of the two branches, -/
def gradA (c : Dev nD) : FVec Ideal S2048x512 .f32 := dIn (inX m c) (dA (inP m c) (inO m c) (inD m c))
def gradB (c : Dev nD) : FVec Ideal S2048x512 .f32 := dIn (inY m c) (dB (inP m c) (inO m c) (inD m c))
/-- of their weights, -/
def gradX (c : Dev nD) : FVec Ideal S512x2048 .bf16 := dW (inA m c) (dA (inP m c) (inO m c) (inD m c))
def gradY (c : Dev nD) : FVec Ideal S512x2048 .bf16 := dW (inB m c) (dB (inP m c) (inO m c) (inD m c))
/-- of the two gates -/
def gradGA (c : Dev nD) : FVec Ideal S2048x2048 .bf16 := dgA (inA m c) (inX m c) (inP m c) (inO m c) (inD m c)
def gradGB (c : Dev nD) : FVec Ideal S2048x2048 .bf16 := dgB (inB m c) (inY m c) (inP m c) (inO m c) (inD m c)
/-- and of the output's weights. -/
def gradO (c : Dev nD) : FVec Ideal S2048x2048 .bf16 := dOut (inA m c) (inB m c) (inX m c) (inY m c) (inP m c) (inD m c)

/-! ## Call by call -/

theorem merged1 (c : Dev nD) : V1 m ρ c main_v0_0 = merged (inA m c) (inB m c) (inX m c) (inY m c) (inP m c) := (W1_arr m ρ c 6).trans (array_merged (V0 m ρ) c)
theorem branchA1 (c : Dev nD) : V1 m ρ c main_v0_1 = branch (inA m c) (inX m c) := (W1_arr m ρ c 7).trans (array_branchA (V0 m ρ) c)
theorem branchB1 (c : Dev nD) : V1 m ρ c main_v0_2 = branch (inB m c) (inY m c) := (W1_arr m ρ c 8).trans (array_branchB (V0 m ρ) c)

theorem arg4_at1 (c : Dev nD) : V1 m ρ c main_arg4 = inP m c := W1_args m ρ c main_arg4 (by decide)
theorem arg5_at1 (c : Dev nD) : V1 m ρ c main_arg5 = inO m c := W1_args m ρ c main_arg5 (by decide)
theorem arg6_at1 (c : Dev nD) : V1 m ρ c main_arg6 = inD m c := W1_args m ρ c main_arg6 (by decide)
theorem arg6_at2 (c : Dev nD) : V2 m ρ c main_arg6 = inD m c := W2_args m ρ c main_arg6 (by decide)
theorem arg2_at3 (c : Dev nD) : V3 m ρ c main_arg2 = inX m c := W3_args m ρ c main_arg2 (by decide)
theorem arg3_at4 (c : Dev nD) : V4 m ρ c main_arg3 = inY m c := W4_args m ρ c main_arg3 (by decide)
theorem arg0_at5 (c : Dev nD) : V5 m ρ c main_arg0 = inA m c := W5_args m ρ c main_arg0 (by decide)
theorem arg1_at6 (c : Dev nD) : V6 m ρ c main_arg1 = inB m c := W6_args m ρ c main_arg1 (by decide)

theorem dA2 (c : Dev nD) : V2 m ρ c main_v1_0 = dA (inP m c) (inO m c) (inD m c) := by
  refine (W2_arr m ρ c 6).trans ((Back.array_dA (V1 m ρ) c).trans ?_)
  rw [arg4_at1, arg5_at1, arg6_at1]

theorem dB2 (c : Dev nD) : V2 m ρ c main_v1_1 = dB (inP m c) (inO m c) (inD m c) := by
  refine (W2_arr m ρ c 7).trans ((Back.array_dB (V1 m ρ) c).trans ?_)
  rw [arg4_at1, arg5_at1, arg6_at1]

theorem dgA2 (c : Dev nD) : V2 m ρ c main_v1_2 = gradGA m c := by
  refine (W2_arr m ρ c 8).trans ((Back.array_dgA (V1 m ρ) c _ _ (branchA1 m ρ c)).trans ?_)
  rw [arg4_at1, arg5_at1, arg6_at1]
  rfl

theorem dgB2 (c : Dev nD) : V2 m ρ c main_v1_3 = gradGB m c := by
  refine (W2_arr m ρ c 9).trans ((Back.array_dgB (V1 m ρ) c _ _ (branchB1 m ρ c)).trans ?_)
  rw [arg4_at1, arg5_at1, arg6_at1]
  rfl

theorem merged2 (c : Dev nD) : V2 m ρ c main_v0_0 = merged (inA m c) (inB m c) (inX m c) (inY m c) (inP m c) := (W2_of m ρ c main_v0_0 (by decide)).trans (merged1 m ρ c)
theorem dA3 (c : Dev nD) : V3 m ρ c main_v1_0 = dA (inP m c) (inO m c) (inD m c) := (W3_of m ρ c main_v1_0 (by decide)).trans (dA2 m ρ c)
theorem dA5 (c : Dev nD) : V5 m ρ c main_v1_0 = dA (inP m c) (inO m c) (inD m c) := (W5_of m ρ c main_v1_0 (by decide)).trans ((W4_of m ρ c main_v1_0 (by decide)).trans (dA3 m ρ c))
theorem dB4 (c : Dev nD) : V4 m ρ c main_v1_1 = dB (inP m c) (inO m c) (inD m c) := (W4_of m ρ c main_v1_1 (by decide)).trans ((W3_of m ρ c main_v1_1 (by decide)).trans (dB2 m ρ c))
theorem dB6 (c : Dev nD) : V6 m ρ c main_v1_1 = dB (inP m c) (inO m c) (inD m c) := (W6_of m ρ c main_v1_1 (by decide)).trans ((W5_of m ρ c main_v1_1 (by decide)).trans (dB4 m ρ c))

theorem out2 (c : Dev nD) : V3 m ρ c main_v2_0 = gradO m c := by
  refine (W3_arr m ρ c 2).trans ((Weights.array2 (V2 m ρ) c).trans ?_)
  rw [merged2, arg6_at2]
  rfl

theorem out3 (c : Dev nD) : V4 m ρ c main_v3_0 = gradA m c := by
  refine (W4_arr m ρ c 2).trans ((Weights.array3 (V3 m ρ) c).trans ?_)
  rw [dA3, arg2_at3]
  rfl

theorem out4 (c : Dev nD) : V5 m ρ c main_v4_0 = gradB m c := by
  refine (W5_arr m ρ c 2).trans ((Weights.array4 (V4 m ρ) c).trans ?_)
  rw [dB4, arg3_at4]
  rfl

theorem out5 (c : Dev nD) : V6 m ρ c main_v5_0 = gradX m c := by
  refine (W6_arr m ρ c 2).trans ((Weights.array5 (V5 m ρ) c).trans ?_)
  rw [arg0_at5, dA5]
  rfl

theorem out6 (c : Dev nD) : V7 m ρ c main_v6_0 = gradY m c := by
  refine (W7_arr m ρ c 2).trans ((Weights.array6 (V6 m ρ) c).trans ?_)
  rw [arg1_at6, dB6]
  rfl

/-! ## The results at the end -/

theorem end_gradA (c : Dev nD) : V7 m ρ c main_v3_0 = gradA m c := (W7_of m ρ c main_v3_0 (by decide)).trans ((W6_of m ρ c main_v3_0 (by decide)).trans ((W5_of m ρ c main_v3_0 (by decide)).trans (out3 m ρ c)))
theorem end_gradB (c : Dev nD) : V7 m ρ c main_v4_0 = gradB m c := (W7_of m ρ c main_v4_0 (by decide)).trans ((W6_of m ρ c main_v4_0 (by decide)).trans (out4 m ρ c))
theorem end_gradX (c : Dev nD) : V7 m ρ c main_v5_0 = gradX m c := (W7_of m ρ c main_v5_0 (by decide)).trans (out5 m ρ c)
theorem end_gradY (c : Dev nD) : V7 m ρ c main_v6_0 = gradY m c := out6 m ρ c
theorem end_gradGA (c : Dev nD) : V7 m ρ c main_v1_2 = gradGA m c := (W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans (dgA2 m ρ c)))))
theorem end_gradGB (c : Dev nD) : V7 m ρ c main_v1_3 = gradGB m c := (W7_of m ρ c main_v1_3 (by decide)).trans ((W6_of m ρ c main_v1_3 (by decide)).trans ((W5_of m ρ c main_v1_3 (by decide)).trans ((W4_of m ρ c main_v1_3 (by decide)).trans ((W3_of m ρ c main_v1_3 (by decide)).trans (dgB2 m ρ c)))))
theorem end_gradO (c : Dev nD) : V7 m ρ c main_v2_0 = gradO m c := (W7_of m ρ c main_v2_0 (by decide)).trans ((W6_of m ρ c main_v2_0 (by decide)).trans ((W5_of m ρ c main_v2_0 (by decide)).trans ((W4_of m ρ c main_v2_0 (by decide)).trans (out2 m ρ c))))

/-! ## The run -/

-- the launch's implicit arguments are found by unifying its conclusion, which takes unfolding definitions in a metavariable's type
set_option backward.isDefEq.respectTransparency.types false in
/-- Every buffer of the calls ends as the last of them leaves it. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

/-- The seven results, and the arguments unchanged. -/
theorem run : θ_run defs (onTc (τ := τ) (main (F := Ideal))) ⟨m, fun _ => 0, ρ⟩ (fun r => ∀ c : Dev nD,
    r.2.mem ((c.tc : Thread nD τ).loc main_v3_0) = gradA m c
    ∧ r.2.mem ((c.tc : Thread nD τ).loc main_v4_0) = gradB m c
    ∧ r.2.mem ((c.tc : Thread nD τ).loc main_v5_0) = gradX m c
    ∧ r.2.mem ((c.tc : Thread nD τ).loc main_v6_0) = gradY m c
    ∧ r.2.mem ((c.tc : Thread nD τ).loc main_v1_2) = gradGA m c
    ∧ r.2.mem ((c.tc : Thread nD τ).loc main_v1_3) = gradGB m c
    ∧ r.2.mem ((c.tc : Thread nD τ).loc main_v2_0) = gradO m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c =>
    ⟨(h c _ (mem_uc main_v3_0 (by decide))).trans (end_gradA m ρ c),
     (h c _ (mem_uc main_v4_0 (by decide))).trans (end_gradB m ρ c),
     (h c _ (mem_uc main_v5_0 (by decide))).trans (end_gradX m ρ c),
     (h c _ (mem_uc main_v6_0 (by decide))).trans (end_gradY m ρ c),
     (h c _ (mem_uc main_v1_2 (by decide))).trans (end_gradGA m ρ c),
     (h c _ (mem_uc main_v1_3 (by decide))).trans (end_gradGB m ρ c),
     (h c _ (mem_uc main_v2_0 (by decide))).trans (end_gradO m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.Merge

end
-- ==== Proof.MergeRef.lean ====
/- The reference's merge of the branches and its gradients, over the extended reals, as the model's. -/
module

public import proofs.«01_k».proof.Proof.MergeModel
public import proofs.«01_k».proof.Proof.FfnRef
public import proofs.«01_k».proof.Proof.Gen.Reference6Ideal.Read
public import Idealize.ShloMosaic.Lib.KernelVsHost

@[expose] public section

set_option maxRecDepth 16384

noncomputable section

namespace Cert.Merge

open Cert.Ffn (nn nt tn at2 ext2 one_eq)
open Cert.Reference6Ideal Cert.Reference6Ideal.Gen Cert.Reference6Ideal.Read
open Idealize.ShloMosaic

variable (A B : FVec Ideal S2048x512 .bf16) (X Y : FVec Ideal S512x2048 .bf16) (P : FVec Ideal S2048x10240 .f32) (W D : FVec Ideal S2048x2048 .bf16)

/-! ## The branches and the gates -/

theorem ref_branchA (i : S2048x2048.Idx) : val_main_v8 (F := Ideal) A X i = branch A X i := by
  rw [val_main_v8_apply]
  unfold branch
  refine Finset.sum_congr rfl fun k _ => congrArg₂ (· * ·) ?_ ?_
  · exact congrArg A (ext2 (n := 2048) (k := 512) rfl rfl)
  · exact congrArg X (ext2 (n := 512) (k := 2048) rfl rfl)

theorem ref_branchB (i : S2048x2048.Idx) : val_main_v9 (F := Ideal) B Y i = branch B Y i := by
  rw [val_main_v9_apply]
  unfold branch
  refine Finset.sum_congr rfl fun k _ => congrArg₂ (· * ·) ?_ ?_
  · exact congrArg B (ext2 (n := 2048) (k := 512) rfl rfl)
  · exact congrArg Y (ext2 (n := 512) (k := 2048) rfl rfl)

theorem ref_sigmaA (i : S2048x2048.Idx) : val_main_v15 (F := Ideal) P i = Ideal.logistic (gateA P (i 0) (i 1)) := by
  have e : val_main_v6 (F := Ideal) P i = gateA P (i 0) (i 1) := by
    rw [val_main_v6_apply]
    exact congrArg P (ext2 (n := 2048) (k := 10240) rfl rfl)
  rw [← e, val_main_v15_apply, val_main_v14_apply, val_main_v13_apply, val_main_v12_apply, val_main_v11_apply, val_main_v10_apply]
  show Ideal.div (Ideal.ofBits .f32 0x3F800000#32) (Ideal.ofBits .f32 0x3F800000#32 + Ideal.exp (-(val_main_v6 (F := Ideal) P i))) = _
  rw [one_eq]
  rfl

theorem ref_sigmaB (i : S2048x2048.Idx) : val_main_v25 (F := Ideal) P i = Ideal.logistic (gateB P (i 0) (i 1)) := by
  have e : val_main_v7 (F := Ideal) P i = gateB P (i 0) (i 1) := by
    rw [val_main_v7_apply]
    exact congrArg P (ext2 (n := 2048) (k := 10240) rfl rfl)
  rw [← e, val_main_v25_apply, val_main_v24_apply, val_main_v23_apply, val_main_v22_apply, val_main_v21_apply, val_main_v20_apply]
  show Ideal.div (Ideal.ofBits .f32 0x3F800000#32) (Ideal.ofBits .f32 0x3F800000#32 + Ideal.exp (-(val_main_v7 (F := Ideal) P i))) = _
  rw [one_eq]
  rfl

theorem ref_merged (i : S2048x2048.Idx) : val_main_v30 (F := Ideal) A B X Y P i = merged A B X Y P i := by
  rw [val_main_v30_apply, val_main_v19_apply, val_main_v29_apply, ref_sigmaA, ref_sigmaB, ref_branchA, ref_branchB]
  rfl

/-! ## Their gradients -/

theorem ref_dsum (i : S2048x2048.Idx) : val_main_v34 (F := Ideal) W D i = nt D W (i 0) (i 1) := by
  rw [val_main_v34_apply]
  refine Finset.sum_congr rfl fun k _ => congrArg₂ (· * ·) ?_ ?_
  · exact congrArg D (ext2 (n := 2048) (k := 2048) rfl rfl)
  · exact congrArg W (ext2 (n := 2048) (k := 2048) rfl rfl)

theorem ref_dA (i : S2048x2048.Idx) : val_main_v38 (F := Ideal) P W D i = dA P W D i := by
  rw [val_main_v38_apply, ref_sigmaA, ref_dsum]
  exact mul_comm (Ideal.logistic (gateA P (i 0) (i 1))) (nt D W (i 0) (i 1))

theorem ref_dB (i : S2048x2048.Idx) : val_main_v35 (F := Ideal) P W D i = dB P W D i := by
  rw [val_main_v35_apply, ref_sigmaB, ref_dsum]
  exact mul_comm (Ideal.logistic (gateB P (i 0) (i 1))) (nt D W (i 0) (i 1))

theorem ref_dgA (i : S2048x2048.Idx) : val_main_v49 (F := Ideal) A X P W D i = dgA A X P W D i := by
  show val_main_v40 (F := Ideal) A X P W D i = _
  rw [val_main_v40_apply, val_main_v39_apply, val_main_v18_apply, val_main_v17_apply, ref_sigmaA, ref_dsum, ref_branchA]
  rfl

theorem ref_dgB (i : S2048x2048.Idx) : val_main_v50 (F := Ideal) B Y P W D i = dgB B Y P W D i := by
  show val_main_v37 (F := Ideal) B Y P W D i = _
  rw [val_main_v37_apply, val_main_v36_apply, val_main_v28_apply, val_main_v27_apply, ref_sigmaB, ref_dsum, ref_branchB]
  rfl

theorem ref_dOut (i : S2048x2048.Idx) : val_main_v51 (F := Ideal) A B X Y P D i = dOut A B X Y P D i := by
  show val_main_v33 (F := Ideal) A B X Y P D i = _
  rw [val_main_v33_apply, val_main_v32_apply]
  unfold dOut
  refine Finset.sum_congr rfl fun k _ => (mul_comm _ _).trans (congrArg₂ (· * ·) ?_ ?_)
  · exact (ref_merged A B X Y P _).trans (congrArg (merged A B X Y P) (ext2 (n := 2048) (k := 2048) rfl rfl))
  · exact congrArg D (ext2 (n := 2048) (k := 2048) rfl rfl)

theorem ref_dInA (i : S2048x512.Idx) : val_main_v46 (F := Ideal) X P W D i = dIn X (dA P W D) i := by
  rw [val_main_v46_apply]
  unfold dIn
  refine Finset.sum_congr rfl fun k _ => congrArg₂ (· * ·) ?_ ?_
  · exact (ref_dA P W D _).trans (congrArg (dA P W D) (ext2 (n := 2048) (k := 2048) rfl rfl))
  · exact congrArg X (ext2 (n := 512) (k := 2048) rfl rfl)

theorem ref_dInB (i : S2048x512.Idx) : val_main_v43 (F := Ideal) Y P W D i = dIn Y (dB P W D) i := by
  rw [val_main_v43_apply]
  unfold dIn
  refine Finset.sum_congr rfl fun k _ => congrArg₂ (· * ·) ?_ ?_
  · exact (ref_dB P W D _).trans (congrArg (dB P W D) (ext2 (n := 2048) (k := 2048) rfl rfl))
  · exact congrArg Y (ext2 (n := 512) (k := 2048) rfl rfl)

theorem ref_dWA (i : S512x2048.Idx) : val_main_v47 (F := Ideal) A P W D i = dW A (dA P W D) i := by
  show val_main_v45 (F := Ideal) A P W D i = _
  rw [val_main_v45_apply, val_main_v44_apply]
  unfold dW
  refine Finset.sum_congr rfl fun k _ => (mul_comm _ _).trans (congrArg₂ (· * ·) ?_ ?_)
  · exact congrArg A (ext2 (n := 2048) (k := 512) rfl rfl)
  · exact (ref_dA P W D _).trans (congrArg (dA P W D) (ext2 (n := 2048) (k := 2048) rfl rfl))

theorem ref_dWB (i : S512x2048.Idx) : val_main_v48 (F := Ideal) B P W D i = dW B (dB P W D) i := by
  show val_main_v42 (F := Ideal) B P W D i = _
  rw [val_main_v42_apply, val_main_v41_apply]
  unfold dW
  refine Finset.sum_congr rfl fun k _ => (mul_comm _ _).trans (congrArg₂ (· * ·) ?_ ?_)
  · exact congrArg B (ext2 (n := 2048) (k := 512) rfl rfl)
  · exact (ref_dB P W D _).trans (congrArg (dB P W D) (ext2 (n := 2048) (k := 2048) rfl rfl))

end Cert.Merge

end
-- ==== Proof.NormModel.lean ====
/- A product with its residual and the norm of what comes out, entry by entry over the extended reals. -/
module

public import proofs.«01_k».proof.Proof.Dots
public import Idealize.ShloMosaic.Lib.Pipeline.Value

@[expose] public section

set_option maxRecDepth 16384

noncomputable section

namespace Cert.Norm

open Cert.Ffn Idealize.ShloMosaic

/-- A row's reciprocal root mean square. -/
def root (f : Fin 2048 → EReal) : EReal :=
  Ideal.rsqrt (Ideal.div (∑ d, f d * f d) (Ideal.ofBits .f32 0x45000000#32) + Ideal.ofBits .f32 0x358637BD#32)

/-- An entry of a row, normed, scaled and shifted. -/
def normed (f : Fin 2048 → EReal) (s : Fin 2048) (gain scale shift : EReal) : EReal :=
  f s * root f * gain * (Ideal.ofBits .f32 0x3F800000#32 + scale) + shift

theorem normed_congr {f f' : Fin 2048 → EReal} {s s' : Fin 2048} {g g' a a' b b' : EReal} (hf : f = f') (hs : s = s') (hg : g = g') (ha : a = a') (hb : b = b') :
    normed f s g a b = normed f' s' g' a' b' := by
  rw [hf, hs, hg, ha, hb]

/-- A residual with the gated product added. -/
def resid (h g t : EReal) : EReal := h + g * t

theorem resid_congr {h h' g g' t t' : EReal} (hh : h = h') (hg : g = g') (ht : t = t') : resid h g t = resid h' g' t' := by
  rw [hh, hg, ht]

/-! ## Rows of 256 -/

/-- The place of a row's only entry. -/
def only (a : Fin 256) : (⟨1, ![256]⟩ : Shape).Idx := fun x => match x with
  | ⟨0, _⟩ => a

theorem down_rows (x : FVec Ideal ⟨2, ![1, 2048]⟩ .f32) (h) (j : (⟨2, ![256, 2048]⟩ : Shape).Idx) :
    broadcastTo ⟨2, ![256, 2048]⟩ x h j = x (at2 (n := 1) (k := 2048) 0 (j 1)) :=
  broadcastTo_apply x h j (at2 (n := 1) (k := 2048) 0 (j 1)) fun a => match a with
    | ⟨0, _⟩ => rfl
    | ⟨1, _⟩ => rfl

theorem along_rows (x : FVec Ideal ⟨2, ![256, 1]⟩ .f32) (h) (j : (⟨2, ![256, 2048]⟩ : Shape).Idx) :
    broadcastTo ⟨2, ![256, 2048]⟩ x h j = x (at2 (n := 256) (k := 1) (j 0) 0) :=
  broadcastTo_apply x h j (at2 (n := 256) (k := 1) (j 0) 0) fun a => match a with
    | ⟨0, _⟩ => rfl
    | ⟨1, _⟩ => rfl

theorem as_column (x : FVec Ideal ⟨1, ![256]⟩ .f32) (h) (a : Fin 256) : shapeCast ⟨2, ![256, 1]⟩ x h (at2 (n := 256) (k := 1) a 0) = x (only a) :=
  shapeCast_apply x h (at2 (n := 256) (k := 1) a 0) (only a) (by
    rw [Shape.rowMajor_val_one, Shape.rowMajor_val_two]
    show a.val = a.val * 1 + 0
    omega)

theorem row_sum (x : FVec Ideal ⟨2, ![256, 2048]⟩ .f32) (h h₁ h₂) (a : Fin 256) :
    multiReduction .add [1] ⟨1, ![256]⟩ x 0x00000000#32 h h₁ h₂ (only a) = ∑ d : Fin 2048, x (at2 (n := 256) (k := 2048) a d) := by
  rw [Ideal.multiReduction_add_single]
  refine Finset.sum_congr rfl fun d _ => congrArg x (ext2 (n := 256) (k := 2048) rfl rfl)

/-- The rows' reciprocal roots, spread along them. -/
theorem roots (x : FVec Ideal ⟨2, ![256, 2048]⟩ .f32) (h h₁ h₂ hc hb) (j : (⟨2, ![256, 2048]⟩ : Shape).Idx) :
    broadcastTo ⟨2, ![256, 2048]⟩ (rsqrt (addf (divf (shapeCast ⟨2, ![256, 1]⟩ (multiReduction .add [1] ⟨1, ![256]⟩ (mulf x x) 0x00000000#32 h h₁ h₂) hc)
        (broadcast ⟨2, ![256, 1]⟩ (Scalar.ofBits .f32 0x45000000#32))) (broadcast ⟨2, ![256, 1]⟩ (Scalar.ofBits .f32 0x358637BD#32)))) hb j
      = root fun d => x (at2 (n := 256) (k := 2048) (j 0) d) := by
  refine (along_rows _ _ _).trans ?_
  exact congrArg (fun z => Ideal.rsqrt (Ideal.div z (Ideal.ofBits .f32 0x45000000#32) + Ideal.ofBits .f32 0x358637BD#32))
    ((as_column _ hc (j 0)).trans (row_sum (mulf x x) h h₁ h₂ (j 0)))

/-! ## The whole arrays -/

section
variable {k : ℕ} (X : (⟨2, ![2048, k]⟩ : Shape).Idx → EReal) (W : (⟨2, ![k, 2048]⟩ : Shape).Idx → EReal) (H : (⟨2, ![2048, 2048]⟩ : Shape).Idx → EReal)
  (g a s b : (⟨2, ![1, 2048]⟩ : Shape).Idx → EReal)

/-- The product, -/
def prodOut : (⟨2, ![2048, 2048]⟩ : Shape).Idx → EReal := fun i => nn X W (i 0) (i 1)

/-- the residual stream after it, -/
def hOut : (⟨2, ![2048, 2048]⟩ : Shape).Idx → EReal := fun i => resid (H (at2 (n := 2048) (k := 2048) (i 0) (i 1))) (g (at2 (n := 1) (k := 2048) 0 (i 1))) (nn X W (i 0) (i 1))

/-- and the normed one: `a` the gain, `s` the scale and `b` the shift. -/
def normOut : (⟨2, ![2048, 2048]⟩ : Shape).Idx → EReal := fun i =>
  normed (fun d => hOut X W H g (at2 (n := 2048) (k := 2048) (i 0) d)) (i 1) (a (at2 (n := 1) (k := 2048) 0 (i 1))) (s (at2 (n := 1) (k := 2048) 0 (i 1))) (b (at2 (n := 1) (k := 2048) 0 (i 1)))

end

end Cert.Norm

end
-- ==== Proof.DownValue.lean ====
/- The second product of the feed-forward with its residual and norm: what the kernel leaves, over the extended reals. -/
module

public import proofs.«01_k».proof.Proof.NormModel
public import proofs.«01_k».proof.Proof.FfnModel
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.Norm.Down

open Cert.Ffn Cert.Kernel7Ideal Cert.Kernel7Ideal.Gen Cert.Kernel7Ideal.Value
open Idealize.ShloMosaic Idealize.ShloMosaic.Pipeline Idealize.ShloMosaic.TcCoe Idealize.ShloMosaic.Tactic

theorem first_eq (A : FVec Ideal S512x1408 .bf16) (B : FVec Ideal S1408x2048 .bf16) : k0_pay2 (F := Ideal) A B = fun y => nn A B (y 0) (y 1) := by
  unfold k0_pay2
  dsimp only
  rw [shapeCast_self]
  exact funext fun y => matmul_nn dot_S512x1408_S1408x2048_S512x2048_1_0_0_1_n_n rfl rfl (fun _ _ => rfl)
    (dot_S512x1408_S1408x2048_S512x2048_1_0_0_1_n_n.lhsIdx_val_of_single rfl)
    (dot_S512x1408_S1408x2048_S512x2048_1_0_0_1_n_n.rhsIdx_val_of_single rfl) (fun _ _ => rfl) A B y

/-- What is carried, with a further run of terms. -/
def total (Z : FVec Ideal S512x2048 .f32) (A : FVec Ideal S512x1408 .bf16) (B : FVec Ideal S1408x2048 .bf16) : FVec Ideal S512x2048 .f32 :=
  fun y => Z y + nn A B (y 0) (y 1)

theorem next_eq (Z : FVec Ideal S512x2048 .f32) (A : FVec Ideal S512x1408 .bf16) (B : FVec Ideal S1408x2048 .bf16) : k0_pay3 (F := Ideal) Z A B = total Z A B := by
  unfold k0_pay3
  dsimp only
  rw [shapeCast_self]
  exact funext fun y => congrArg (Z y + ·) (matmul_nn dot_S512x1408_S1408x2048_S512x2048_1_0_0_1_n_n rfl rfl (fun _ _ => rfl)
    (dot_S512x1408_S1408x2048_S512x2048_1_0_0_1_n_n.lhsIdx_val_of_single rfl)
    (dot_S512x1408_S1408x2048_S512x2048_1_0_0_1_n_n.rhsIdx_val_of_single rfl) (fun _ _ => rfl) A B y)

/-! ## The two halves of a block's rows -/

theorem second_h : k0_pay12 (F := Ideal) = k0_pay6 := rfl
theorem second_t : k0_pay13 (F := Ideal) = k0_pay7 := rfl

theorem second_normed (Z : FVec Ideal S256x2048 .f32) (A : FVec Ideal S256x1408 .bf16) (B : FVec Ideal S1408x2048 .bf16) (H : FVec Ideal S256x2048 .f32)
    (g a s b : FVec Ideal S1x2048 .f32) : k0_pay4 (F := Ideal) (k0_pay14 Z A B H g a) (k0_pay15 s) b = k0_pay10 (k0_pay8 Z A B H g a s) (k0_pay9 b) := rfl

section
variable (Z : FVec Ideal S512x2048 .f32) (A : FVec Ideal S512x1408 .bf16) (B : FVec Ideal S1408x2048 .bf16) (H : FVec Ideal S512x2048 .f32) (g a s b : FVec Ideal S1x2048 .f32)

def tileH : FVec Ideal S512x2048 .f32 := fun y => resid (H y) (g (at2 (n := 1) (k := 2048) 0 (y 1))) (total Z A B y)

def tileNormed : FVec Ideal S512x2048 .f32 := fun y =>
  normed (fun d => tileH Z A B H g (at2 (n := 512) (k := 2048) (y 0) d)) (y 1) (a (at2 (n := 1) (k := 2048) 0 (y 1))) (s (at2 (n := 1) (k := 2048) 0 (y 1))) (b (at2 (n := 1) (k := 2048) 0 (y 1)))

variable (o : ℕ) (ha : ∀ i, (![o, 0] : Fin 2 → ℕ) i + S256x1408.size i ≤ S512x1408.size i) (hz : ∀ i, (![o, 0] : Fin 2 → ℕ) i + S256x2048.size i ≤ S512x2048.size i) (x : S256x2048.Idx)

theorem half_t : k0_pay5 (F := Ideal) (View.ld Z (Rect.unit (s := S512x2048) ![o, 0] S256x2048.size hz)) (View.ld A (Rect.unit (s := S512x1408) ![o, 0] S256x1408.size ha)) B x
    = total Z A B ((Rect.unit (s := S512x2048) ![o, 0] S256x2048.size hz).emb x) := by
  unfold k0_pay5
  refine congrArg₂ (· + ·) rfl ((matmul_nn dot_S256x1408_S1408x2048_S256x2048_1_0_0_1_n_n rfl rfl (fun _ _ => rfl)
    (dot_S256x1408_S1408x2048_S256x2048_1_0_0_1_n_n.lhsIdx_val_of_single rfl)
    (dot_S256x1408_S1408x2048_S256x2048_1_0_0_1_n_n.rhsIdx_val_of_single rfl) (fun _ _ => rfl) _ B x).trans ?_)
  refine Finset.sum_congr rfl fun k _ => congrArg₂ (· * ·) (congrArg A (ext2 (n := 512) (k := 1408) rfl ?_)) (congrArg B (ext2 (n := 1408) (k := 2048) rfl ?_))
  · show 0 + 1 * k.val = k.val; omega
  · show (x 1).val = 0 + 1 * (x 1).val; omega

theorem half_h : k0_pay6 (F := Ideal) (View.ld Z (Rect.unit (s := S512x2048) ![o, 0] S256x2048.size hz)) (View.ld A (Rect.unit (s := S512x1408) ![o, 0] S256x1408.size ha)) B
    (View.ld H (Rect.unit (s := S512x2048) ![o, 0] S256x2048.size hz)) g x = tileH Z A B H g ((Rect.unit (s := S512x2048) ![o, 0] S256x2048.size hz).emb x) := by
  unfold k0_pay6
  refine congrArg₂ (· + ·) rfl (congrArg₂ (· * ·) ((down_rows g _ x).trans (congrArg g (ext2 (n := 1) (k := 2048) rfl ?_))) (half_t Z A B o ha hz x))
  show (x 1).val = 0 + 1 * (x 1).val; omega

theorem half_normed : k0_pay10 (F := Ideal) (k0_pay8 (F := Ideal) (View.ld Z (Rect.unit (s := S512x2048) ![o, 0] S256x2048.size hz)) (View.ld A (Rect.unit (s := S512x1408) ![o, 0] S256x1408.size ha)) B
    (View.ld H (Rect.unit (s := S512x2048) ![o, 0] S256x2048.size hz)) g a s) (k0_pay9 b) x = tileNormed Z A B H g a s b ((Rect.unit (s := S512x2048) ![o, 0] S256x2048.size hz).emb x) := by
  unfold k0_pay10 k0_pay8 k0_pay9
  have e : x 1 = (Rect.unit (s := S512x2048) ![o, 0] S256x2048.size hz).emb x 1 := Fin.ext (by show (x 1).val = 0 + 1 * (x 1).val; omega)
  have v : ∀ f : FVec Ideal S1x2048 .f32, f (at2 (n := 1) (k := 2048) 0 (x 1)) = f (at2 (n := 1) (k := 2048) 0 ((Rect.unit (s := S512x2048) ![o, 0] S256x2048.size hz).emb x 1)) :=
    fun f => congrArg (fun q => f (at2 (n := 1) (k := 2048) 0 q)) e
  refine Eq.trans (b := normed (fun d => k0_pay6 (F := Ideal) (View.ld Z (Rect.unit (s := S512x2048) ![o, 0] S256x2048.size hz)) (View.ld A (Rect.unit (s := S512x1408) ![o, 0] S256x1408.size ha)) B
    (View.ld H (Rect.unit (s := S512x2048) ![o, 0] S256x2048.size hz)) g (at2 (n := 256) (k := 2048) (x 0) d)) (x 1) (a (at2 (n := 1) (k := 2048) 0 (x 1)))
    (s (at2 (n := 1) (k := 2048) 0 (x 1))) (b (at2 (n := 1) (k := 2048) 0 (x 1)))) ?_ ?_
  · refine congrArg₂ (· + ·) (congrArg₂ (· * ·) (congrArg₂ (· * ·) (congrArg₂ (· * ·) ?_ (roots (k0_pay6 (F := Ideal) (View.ld Z (Rect.unit (s := S512x2048) ![o, 0] S256x2048.size hz))
      (View.ld A (Rect.unit (s := S512x1408) ![o, 0] S256x1408.size ha)) B (View.ld H (Rect.unit (s := S512x2048) ![o, 0] S256x2048.size hz)) g) _ _ _ _ _ x)) (down_rows a _ x))
      (down_rows (addf (broadcast S1x2048 (Scalar.ofBits .f32 0x3F800000#32)) s) _ x)) (down_rows b _ x)
    exact congrArg (k0_pay6 (F := Ideal) _ _ _ _ _) (ext2 (n := 256) (k := 2048) rfl rfl)
  · refine normed_congr (funext fun d => (half_h Z A B H g o ha hz _).trans (congrArg (tileH Z A B H g) (ext2 (n := 512) (k := 2048) rfl ?_))) e (v a) (v s) (v b)
    show 0 + 1 * d.val = d.val; omega

end

variable (m : (ℓ : Loc nD τ sig) → Buf (Elt Ideal) ℓ)

/-- A point's blocks. -/
def pA (c : Dev nD) (t : Fin cfg0.N) : FVec Ideal S512x1408 .bf16 := iblk m c 0 t
def pB (c : Dev nD) (t : Fin cfg0.N) : FVec Ideal S1408x2048 .bf16 := iblk m c 1 t
def pH (c : Dev nD) (t : Fin cfg0.N) : FVec Ideal S512x2048 .f32 := iblk m c 2 t
def pg (c : Dev nD) (t : Fin cfg0.N) : FVec Ideal S1x2048 .f32 := iblk m c 3 t
def pa (c : Dev nD) (t : Fin cfg0.N) : FVec Ideal S1x2048 .f32 := iblk m c 4 t
def ps (c : Dev nD) (t : Fin cfg0.N) : FVec Ideal S1x2048 .f32 := iblk m c 5 t
def pb (c : Dev nD) (t : Fin cfg0.N) : FVec Ideal S1x2048 .f32 := iblk m c 6 t

/-- The arguments. -/
def aX (c : Dev nD) : FVec Ideal S2048x5632 .bf16 := V m c main_arg0
def aW (c : Dev nD) : FVec Ideal S5632x2048 .bf16 := V m c main_arg1
def aH (c : Dev nD) : FVec Ideal S2048x2048 .f32 := V m c main_arg2
def ag (c : Dev nD) : FVec Ideal S1x2048 .f32 := V m c main_arg3
def aa (c : Dev nD) : FVec Ideal S1x2048 .f32 := V m c main_arg4
def ac (c : Dev nD) : FVec Ideal S1x2048 .f32 := V m c main_arg5
def ab (c : Dev nD) : FVec Ideal S1x2048 .f32 := V m c main_arg6

theorem facts : ∀ t : Fin cfg0.N, (win0_0.index t = ![t.val / 4, t.val % 4] ∧ win0_1.index t = ![t.val % 4, 0] ∧ win0_2.index t = ![t.val / 4, 0])
    ∧ (win0_3.index t = ![0, 0] ∧ win0_4.index t = ![0, 0] ∧ win0_5.index t = ![0, 0] ∧ win0_6.index t = ![0, 0])
    ∧ win0_7.index t = ![t.val / 4, 0] ∧ win0_8.index t = ![t.val / 4, 0] ∧ win0_9.index t = ![t.val / 4, 0] :=
  (by decide +kernel : ∀ t : Fin grid0.N, (win0_0.index t = ![t.val / 4, t.val % 4] ∧ win0_1.index t = ![t.val % 4, 0] ∧ win0_2.index t = ![t.val / 4, 0])
    ∧ (win0_3.index t = ![0, 0] ∧ win0_4.index t = ![0, 0] ∧ win0_5.index t = ![0, 0] ∧ win0_6.index t = ![0, 0])
    ∧ win0_7.index t = ![t.val / 4, 0] ∧ win0_8.index t = ![t.val / 4, 0] ∧ win0_9.index t = ![t.val / 4, 0])

theorem at_g (c : Dev nD) (t : Fin cfg0.N) (r : Fin 2048) : pg m c t (at2 (n := 1) (k := 2048) 0 r) = ag m c (at2 (n := 1) (k := 2048) 0 r) := by
  show V m c main_arg3 _ = V m c main_arg3 _
  congr 1
  refine ext2 (n := 1) (k := 2048) ?_ ?_
  all_goals blk_simp [facts t]

theorem at_a (c : Dev nD) (t : Fin cfg0.N) (r : Fin 2048) : pa m c t (at2 (n := 1) (k := 2048) 0 r) = aa m c (at2 (n := 1) (k := 2048) 0 r) := by
  show V m c main_arg4 _ = V m c main_arg4 _
  congr 1
  refine ext2 (n := 1) (k := 2048) ?_ ?_
  all_goals blk_simp [facts t]

theorem at_s (c : Dev nD) (t : Fin cfg0.N) (r : Fin 2048) : ps m c t (at2 (n := 1) (k := 2048) 0 r) = ac m c (at2 (n := 1) (k := 2048) 0 r) := by
  show V m c main_arg5 _ = V m c main_arg5 _
  congr 1
  refine ext2 (n := 1) (k := 2048) ?_ ?_
  all_goals blk_simp [facts t]

theorem at_b (c : Dev nD) (t : Fin cfg0.N) (r : Fin 2048) : pb m c t (at2 (n := 1) (k := 2048) 0 r) = ab m c (at2 (n := 1) (k := 2048) 0 r) := by
  show V m c main_arg6 _ = V m c main_arg6 _
  congr 1
  refine ext2 (n := 1) (k := 2048) ?_ ?_
  all_goals blk_simp [facts t]

/-! ## What is carried, and what the last of a block's points leaves -/

/-- What the point before left carried. -/
def before (c : Dev nD) (t : Fin cfg0.N) : FVec Ideal S512x2048 .f32 := (outsAt0 m c (t.val - 1) (Nat.lt_of_le_of_lt (Nat.sub_le _ _) t.isLt)).2.2.2.2

theorem carried_A (c : Dev nD) (t : Fin cfg0.N) (h : t.val % 4 = 0) :
    (outsAt0 m c t.val t.isLt).2.2.2.2 = fun y => nn (pA m c t) (pB m c t) (y 0) (y 1) := by
  rw [outsAt0_A m c t h (by omega) (by omega)]
  frame_out
  exact first_eq _ _

theorem carried_B (c : Dev nD) (t : Fin cfg0.N) (h : t.val % 4 = 1 ∨ t.val % 4 = 2) :
    (outsAt0 m c t.val t.isLt).2.2.2.2 = total (before m c t) (pA m c t) (pB m c t) := by
  rw [outsAt0_B m c t (by omega) (by omega) (by omega)]
  frame_out
  rw [read_unread_whole]
  exact next_eq _ _ _

theorem left_h (c : Dev nD) (t : Fin cfg0.N) (h : t.val % 4 = 3) :
    (outsAt0 m c t.val t.isLt).1 = tileH (before m c t) (pA m c t) (pB m c t) (pH m c t) (pg m c t) := by
  rw [outsAt0_C m c t (by omega) (by omega) h]
  frame_out
  rw [read_unread_whole, second_h]
  refine canon_all _ _ (fun y => View.cover_of_tiled (s := S512x2048) _ S256x2048.size (by rfl) y) ?_
  exact List.forall_mem_cons.2 ⟨fun x => half_h (before m c t) (pA m c t) (pB m c t) (pH m c t) (pg m c t) 256 _ _ x,
    List.forall_mem_cons.2 ⟨fun x => half_h (before m c t) (pA m c t) (pB m c t) (pH m c t) (pg m c t) 0 _ _ x, fun p hp => absurd hp List.not_mem_nil⟩⟩

theorem left_t (c : Dev nD) (t : Fin cfg0.N) (h : t.val % 4 = 3) :
    (outsAt0 m c t.val t.isLt).2.1 = total (before m c t) (pA m c t) (pB m c t) := by
  rw [outsAt0_C m c t (by omega) (by omega) h]
  frame_out
  rw [read_unread_whole, second_t]
  refine canon_all _ _ (fun y => View.cover_of_tiled (s := S512x2048) _ S256x2048.size (by rfl) y) ?_
  exact List.forall_mem_cons.2 ⟨fun x => half_t (before m c t) (pA m c t) (pB m c t) 256 _ _ x,
    List.forall_mem_cons.2 ⟨fun x => half_t (before m c t) (pA m c t) (pB m c t) 0 _ _ x, fun p hp => absurd hp List.not_mem_nil⟩⟩

theorem left_normed (c : Dev nD) (t : Fin cfg0.N) (h : t.val % 4 = 3) :
    (outsAt0 m c t.val t.isLt).2.2.1 = tileNormed (before m c t) (pA m c t) (pB m c t) (pH m c t) (pg m c t) (pa m c t) (ps m c t) (pb m c t) := by
  rw [outsAt0_C m c t (by omega) (by omega) h]
  frame_out
  rw [read_unread_whole, second_normed]
  refine canon_all _ _ (fun y => View.cover_of_tiled (s := S512x2048) _ S256x2048.size (by rfl) y) ?_
  exact List.forall_mem_cons.2 ⟨fun x => half_normed (before m c t) (pA m c t) (pB m c t) (pH m c t) (pg m c t) (pa m c t) (ps m c t) (pb m c t) 256 _ _ x,
    List.forall_mem_cons.2 ⟨fun x => half_normed (before m c t) (pA m c t) (pB m c t) (pH m c t) (pg m c t) (pa m c t) (ps m c t) (pb m c t) 0 _ _ x,
      fun p hp => absurd hp List.not_mem_nil⟩⟩

/-! ## The terms of a block's four points -/

theorem block_row (n : ℕ) (hn : 4 * n + 3 < cfg0.N) : (⟨4 * n + 3, hn⟩ : Fin cfg0.N).val / 4 = n := by
  show (4 * n + 3) / 4 = n
  omega

theorem run_of (c : Dev nD) (t : Fin cfg0.N) (p : Fin 512) (q r : Fin 2048) (hr : r.val = t.val / 4 * 512 + p.val) (f : Fin 1408 → Fin 5632)
    (hf : ∀ k, (f k).val = t.val % 4 * 1408 + k.val) :
    nn (pA m c t) (pB m c t) p q = ∑ k, aX m c (at2 (n := 2048) (k := 5632) r (f k)) * aW m c (at2 (n := 5632) (k := 2048) (f k) q) := by
  refine Finset.sum_congr rfl fun k _ => congrArg₂ (· * ·) ?_ ?_
  · show V m c main_arg0 _ = V m c main_arg0 _
    congr 1
    refine ext2 (n := 2048) (k := 5632) ?_ ?_
    · blk_simp [facts t]; show _ = r.val; rw [hr]
    · blk_simp [facts t]; show _ = (f k).val; rw [hf]
  · show V m c main_arg1 _ = V m c main_arg1 _
    congr 1
    refine ext2 (n := 5632) (k := 2048) ?_ ?_
    · blk_simp [facts t]; show _ = (f k).val; rw [hf]
    · blk_simp [facts t]

theorem total_of (c : Dev nD) (n : ℕ) (hn : 4 * n + 3 < cfg0.N) (y : S512x2048.Idx) (r : Fin 2048) (hr : r.val = n * 512 + (y 0).val) :
    total (before m c ⟨4 * n + 3, hn⟩) (pA m c ⟨4 * n + 3, hn⟩) (pB m c ⟨4 * n + 3, hn⟩) y = nn (aX m c) (aW m c) r (y 1) := by
  let t : Fin 4 → Fin cfg0.N := fun q => ⟨4 * n + q.val, by have := q.isLt; omega⟩
  let f : Fin 4 → Fin 1408 → Fin 5632 := fun q k => ⟨q.val * 1408 + k.val, by omega⟩
  have ht : ∀ q, (t q).val = 4 * n + q.val := fun q => rfl
  have hm : ∀ q : Fin 4, (t q).val % 4 = q.val := fun q => by have := q.isLt; rw [ht]; omega
  have hf : ∀ q k, (f q k).val = (t q).val % 4 * 1408 + k.val := fun q k => by rw [hm]
  have hrow : ∀ q, r.val = (t q).val / 4 * 512 + (y 0).val := fun q => by have := q.isLt; rw [ht, hr]; omega
  have b3 : before m c (t 3) = (outsAt0 m c (t 2).val (t 2).isLt).2.2.2.2 := rfl
  have b2 : before m c (t 2) = (outsAt0 m c (t 1).val (t 1).isLt).2.2.2.2 := rfl
  have b1 : before m c (t 1) = (outsAt0 m c (t 0).val (t 0).isLt).2.2.2.2 := rfl
  show total (before m c (t 3)) (pA m c (t 3)) (pB m c (t 3)) y = _
  rw [b3, carried_B m c (t 2) (.inr (hm 2)), b2, carried_B m c (t 1) (.inl (hm 1)), b1, carried_A m c (t 0) (hm 0)]
  unfold nn
  rw [← four_runs (by decide) _ f (fun q k => rfl)]
  exact congrArg₂ (· + ·) (congrArg₂ (· + ·) (congrArg₂ (· + ·) (run_of m c (t 0) _ _ _ (hrow 0) (f 0) (hf 0))
    (run_of m c (t 1) _ _ _ (hrow 1) (f 1) (hf 1))) (run_of m c (t 2) _ _ _ (hrow 2) (f 2) (hf 2))) (run_of m c (t 3) _ _ _ (hrow 3) (f 3) (hf 3))

theorem h_of (c : Dev nD) (n : ℕ) (hn : 4 * n + 3 < cfg0.N) (y : S512x2048.Idx) (r : Fin 2048) (hr : r.val = n * 512 + (y 0).val) :
    tileH (before m c ⟨4 * n + 3, hn⟩) (pA m c ⟨4 * n + 3, hn⟩) (pB m c ⟨4 * n + 3, hn⟩) (pH m c ⟨4 * n + 3, hn⟩) (pg m c ⟨4 * n + 3, hn⟩) y
      = hOut (aX m c) (aW m c) (aH m c) (ag m c) (at2 (n := 2048) (k := 2048) r (y 1)) := by
  refine resid_congr ?_ (at_g m c _ (y 1)) (total_of m c n hn y r hr)
  show V m c main_arg2 _ = V m c main_arg2 _
  congr 1
  refine ext2 (n := 2048) (k := 2048) ?_ ?_
  · blk_simp [facts ⟨4 * n + 3, hn⟩]; show _ = r.val; rw [hr, block_row]
  · blk_simp [facts ⟨4 * n + 3, hn⟩]

theorem normed_of (c : Dev nD) (n : ℕ) (hn : 4 * n + 3 < cfg0.N) (y : S512x2048.Idx) (r : Fin 2048) (hr : r.val = n * 512 + (y 0).val) :
    tileNormed (before m c ⟨4 * n + 3, hn⟩) (pA m c ⟨4 * n + 3, hn⟩) (pB m c ⟨4 * n + 3, hn⟩) (pH m c ⟨4 * n + 3, hn⟩) (pg m c ⟨4 * n + 3, hn⟩)
        (pa m c ⟨4 * n + 3, hn⟩) (ps m c ⟨4 * n + 3, hn⟩) (pb m c ⟨4 * n + 3, hn⟩) y
      = normOut (aX m c) (aW m c) (aH m c) (ag m c) (aa m c) (ac m c) (ab m c) (at2 (n := 2048) (k := 2048) r (y 1)) :=
  normed_congr (funext fun d => h_of m c n hn (at2 (n := 512) (k := 2048) (y 0) d) r hr) rfl (at_a m c _ (y 1)) (at_s m c _ (y 1)) (at_b m c _ (y 1))

/-! ## The three results -/

theorem last_point : ∀ t : Fin cfg0.N, (cfg0.win 7).flush t = true ∨ (cfg0.win 8).flush t = true ∨ (cfg0.win 9).flush t = true → t.val = 4 * (t.val / 4) + 3 :=
  (by decide +kernel : ∀ t : Fin grid0.N, (cfg0.win 7).flush t = true ∨ (cfg0.win 8).flush t = true ∨ (cfg0.win 9).flush t = true → t.val = 4 * (t.val / 4) + 3)

/-- The row of the arrays that a row of a point's block is. -/
def rowOf (n : ℕ) (hn : 4 * n + 3 < cfg0.N) (y : S512x2048.Idx) : Fin 2048 :=
  ⟨n * 512 + (y 0).val, by have h0 : (y 0).val < 512 := (y 0).isLt; have h1 : 4 * n + 3 < 16 := lt_of_lt_of_eq hn N_0; omega⟩

theorem array_h (c : Dev nD) : (dats m 0 c).arrAt 7 cfg0.N = hOut (aX m c) (aW m c) (aH m c) (ag m c) := by
  refine Dat.arrAt_eq_of_covers _ 7 _ (by decide +kernel) fun t hf y => ?_
  obtain ⟨n, e⟩ : ∃ n, t.val = 4 * n + 3 := ⟨_, last_point t (.inl hf)⟩
  obtain ⟨_, hn⟩ := t
  subst e
  blk_simp
  refine (congrFun ((after0_7 m c ⟨4 * n + 3, hn⟩).trans (left_h m c ⟨4 * n + 3, hn⟩ (by show (4 * n + 3) % 4 = 3; omega))) y).trans ?_
  refine (h_of m c n hn y (rowOf n hn y) rfl).trans ?_
  refine congrArg _ (ext2 (n := 2048) (k := 2048) ?_ ?_)
  · blk_simp [facts ⟨4 * n + 3, hn⟩]; show n * 512 + (y 0).val = _; rw [block_row]
  · blk_simp [facts ⟨4 * n + 3, hn⟩]

theorem array_t (c : Dev nD) : (dats m 0 c).arrAt 8 cfg0.N = prodOut (aX m c) (aW m c) := by
  refine Dat.arrAt_eq_of_covers _ 8 _ (by decide +kernel) fun t hf y => ?_
  obtain ⟨n, e⟩ : ∃ n, t.val = 4 * n + 3 := ⟨_, last_point t (.inr (.inl hf))⟩
  obtain ⟨_, hn⟩ := t
  subst e
  blk_simp
  refine (congrFun ((after0_8 m c ⟨4 * n + 3, hn⟩).trans (left_t m c ⟨4 * n + 3, hn⟩ (by show (4 * n + 3) % 4 = 3; omega))) y).trans ?_
  refine (total_of m c n hn y (rowOf n hn y) rfl).trans ?_
  refine congrArg₂ (nn (aX m c) (aW m c)) (Fin.ext ?_) (Fin.ext ?_)
  · blk_simp [facts ⟨4 * n + 3, hn⟩]; show n * 512 + (y 0).val = _; rw [block_row]
  · blk_simp [facts ⟨4 * n + 3, hn⟩]

theorem array_normed (c : Dev nD) : (dats m 0 c).arrAt 9 cfg0.N = normOut (aX m c) (aW m c) (aH m c) (ag m c) (aa m c) (ac m c) (ab m c) := by
  refine Dat.arrAt_eq_of_covers _ 9 _ (by decide +kernel) fun t hf y => ?_
  obtain ⟨n, e⟩ : ∃ n, t.val = 4 * n + 3 := ⟨_, last_point t (.inr (.inr hf))⟩
  obtain ⟨_, hn⟩ := t
  subst e
  blk_simp
  refine (congrFun ((after0_9 m c ⟨4 * n + 3, hn⟩).trans (left_normed m c ⟨4 * n + 3, hn⟩ (by show (4 * n + 3) % 4 = 3; omega))) y).trans ?_
  refine (normed_of m c n hn y (rowOf n hn y) rfl).trans ?_
  refine congrArg _ (ext2 (n := 2048) (k := 2048) ?_ ?_)
  · blk_simp [facts ⟨4 * n + 3, hn⟩]; show n * 512 + (y 0).val = _; rw [block_row]
  · blk_simp [facts ⟨4 * n + 3, hn⟩]

end Cert.Norm.Down

end
-- ==== Proof.NormRef.lean ====
/- The references' product with its residual and norm, over the extended reals, as the model's. -/
module

public import proofs.«01_k».proof.Proof.NormModel
public import proofs.«01_k».proof.Proof.Gen.Reference7Ideal.Read
public import proofs.«01_k».proof.Proof.Gen.Reference8Ideal.Read
public import Idealize.ShloMosaic.Lib.KernelVsHost

@[expose] public section

set_option maxRecDepth 16384

noncomputable section

namespace Cert.Norm

open Cert.Ffn Idealize.ShloMosaic

theorem zero_eq : Ideal.ofBits .f32 0x00000000#32 = 0 := Ideal.ofBits_zero_f32

section
open Cert.Reference7Ideal Cert.Reference7Ideal.Gen Cert.Reference7Ideal.Read

variable (X : FVec Ideal S2048x5632 .bf16) (W : FVec Ideal S5632x2048 .bf16) (H : FVec Ideal S2048x2048 .f32) (g a s b : FVec Ideal S1x2048 .f32) (i : S2048x2048.Idx)

theorem ref_prod7 : val_main_v2 (F := Ideal) X W i = prodOut X W i := by
  rw [val_main_v2_apply]
  unfold prodOut
  refine Finset.sum_congr rfl fun k _ => congrArg₂ (· * ·) ?_ ?_
  · exact congrArg X (ext2 (n := 2048) (k := 5632) rfl rfl)
  · exact congrArg W (ext2 (n := 5632) (k := 2048) rfl rfl)

theorem ref_h7 : val_main_v5 (F := Ideal) X W H g i = hOut X W H g i := by
  rw [val_main_v5_apply, val_main_v4_apply, val_main_v3_apply, ref_prod7]
  exact resid_congr (congrArg H (ext2 (n := 2048) (k := 2048) rfl rfl)) (congrArg g (ext2 (n := 1) (k := 2048) rfl rfl)) rfl

theorem ref_root7 (j : S2048x1.Idx) : val_main_v14 (F := Ideal) X W H g j = root fun d => hOut X W H g (at2 (n := 2048) (k := 2048) (j 0) d) := by
  rw [val_main_v14_apply, val_main_v13_apply, val_main_v12_apply, val_main_v11_apply, val_main_v10_apply, val_main_v9_apply, val_main_v8_apply]
  show Ideal.rsqrt (Ideal.div (Ideal.ofBits .f32 0x00000000#32 + ∑ k : Fin 2048, _) (Ideal.ofBits .f32 0x45000000#32) + Ideal.ofBits .f32 0x358637BD#32) = _
  rw [zero_eq, zero_add]
  refine congrArg (fun z => Ideal.rsqrt (Ideal.div z _ + _)) (Finset.sum_congr rfl fun k _ => ?_)
  rw [val_main_v7_apply, ref_h7]
  have e : idx_main_v8 (idx_main_v9 j) k = at2 (n := 2048) (k := 2048) (j 0) k := ext2 (n := 2048) (k := 2048) rfl rfl
  rw [e]
  rfl

theorem ref_norm7 : val_main_v25 (F := Ideal) X W H g a s b i = normOut X W H g a s b i := by
  show val_main_v24 (F := Ideal) X W H g a s b i = _
  rw [val_main_v24_apply, val_main_v23_apply, val_main_v22_apply, val_main_v21_apply, val_main_v20_apply, val_main_v19_apply, val_main_v18_apply, val_main_v17_apply,
    val_main_v16_apply, val_main_v15_apply, ref_root7, ref_h7]
  refine normed_congr (f := fun d => hOut X W H g (at2 (n := 2048) (k := 2048) (i 0) d)) rfl rfl (congrArg a (ext2 (n := 1) (k := 2048) rfl rfl))
    (congrArg s (ext2 (n := 1) (k := 2048) rfl rfl)) (congrArg b (ext2 (n := 1) (k := 2048) rfl rfl))

end

section
open Cert.Reference8Ideal Cert.Reference8Ideal.Gen Cert.Reference8Ideal.Read

variable (X : FVec Ideal S2048x2048 .bf16) (W : FVec Ideal S2048x2048 .bf16) (H : FVec Ideal S2048x2048 .f32) (g a s b : FVec Ideal S1x2048 .f32) (i : S2048x2048.Idx)

theorem ref_prod8 : val_main_v2 (F := Ideal) X W i = prodOut X W i := by
  rw [val_main_v2_apply]
  unfold prodOut
  refine Finset.sum_congr rfl fun k _ => congrArg₂ (· * ·) ?_ ?_
  · exact congrArg X (ext2 (n := 2048) (k := 2048) rfl rfl)
  · exact congrArg W (ext2 (n := 2048) (k := 2048) rfl rfl)

theorem ref_h8 : val_main_v5 (F := Ideal) X W H g i = hOut X W H g i := by
  rw [val_main_v5_apply, val_main_v4_apply, val_main_v3_apply, ref_prod8]
  exact resid_congr (congrArg H (ext2 (n := 2048) (k := 2048) rfl rfl)) (congrArg g (ext2 (n := 1) (k := 2048) rfl rfl)) rfl

theorem ref_root8 (j : S2048x1.Idx) : val_main_v14 (F := Ideal) X W H g j = root fun d => hOut X W H g (at2 (n := 2048) (k := 2048) (j 0) d) := by
  rw [val_main_v14_apply, val_main_v13_apply, val_main_v12_apply, val_main_v11_apply, val_main_v10_apply, val_main_v9_apply, val_main_v8_apply]
  show Ideal.rsqrt (Ideal.div (Ideal.ofBits .f32 0x00000000#32 + ∑ k : Fin 2048, _) (Ideal.ofBits .f32 0x45000000#32) + Ideal.ofBits .f32 0x358637BD#32) = _
  rw [zero_eq, zero_add]
  refine congrArg (fun z => Ideal.rsqrt (Ideal.div z _ + _)) (Finset.sum_congr rfl fun k _ => ?_)
  rw [val_main_v7_apply, ref_h8]
  have e : idx_main_v8 (idx_main_v9 j) k = at2 (n := 2048) (k := 2048) (j 0) k := ext2 (n := 2048) (k := 2048) rfl rfl
  rw [e]
  rfl

theorem ref_norm8 : val_main_v25 (F := Ideal) X W H g a s b i = normOut X W H g a s b i := by
  show val_main_v24 (F := Ideal) X W H g a s b i = _
  rw [val_main_v24_apply, val_main_v23_apply, val_main_v22_apply, val_main_v21_apply, val_main_v20_apply, val_main_v19_apply, val_main_v18_apply, val_main_v17_apply,
    val_main_v16_apply, val_main_v15_apply, ref_root8, ref_h8]
  refine normed_congr (f := fun d => hOut X W H g (at2 (n := 2048) (k := 2048) (i 0) d)) rfl rfl (congrArg a (ext2 (n := 1) (k := 2048) rfl rfl))
    (congrArg s (ext2 (n := 1) (k := 2048) rfl rfl)) (congrArg b (ext2 (n := 1) (k := 2048) rfl rfl))

end

end Cert.Norm

end
-- ==== Proof.OutValue.lean ====
/- The output projection with its residual and norm: what the kernel leaves, over the extended reals. -/
module

public import proofs.«01_k».proof.Proof.NormModel
public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.Norm.Out

open Cert.Ffn Cert.Kernel8Ideal Cert.Kernel8Ideal.Gen
open Idealize.ShloMosaic Idealize.ShloMosaic.Pipeline Idealize.ShloMosaic.TcCoe Idealize.ShloMosaic.Tactic

section
variable (A : FVec Ideal S256x2048 .bf16) (B : FVec Ideal S2048x2048 .bf16) (H : FVec Ideal S256x2048 .f32) (g a s b : FVec Ideal S1x2048 .f32) (y : S256x2048.Idx)

theorem pay_prod : k0_pay3 (F := Ideal) A B y = nn A B (y 0) (y 1) := by
  unfold k0_pay3
  exact matmul_nn dot_S256x2048_S2048x2048_S256x2048_1_0_0_1_n_n rfl rfl (fun _ _ => rfl)
    (dot_S256x2048_S2048x2048_S256x2048_1_0_0_1_n_n.lhsIdx_val_of_single rfl)
    (dot_S256x2048_S2048x2048_S256x2048_1_0_0_1_n_n.rhsIdx_val_of_single rfl) (fun _ _ => rfl) A B y

theorem pay_h : k0_pay4 (F := Ideal) A B H g y = resid (H (at2 (n := 256) (k := 2048) (y 0) (y 1))) (g (at2 (n := 1) (k := 2048) 0 (y 1))) (nn A B (y 0) (y 1)) := by
  unfold k0_pay4
  show H y + broadcastTo S256x2048 g broadcasts_S1x2048_S256x2048 y * k0_pay3 (F := Ideal) A B y = _
  rw [down_rows, pay_prod]
  exact resid_congr (congrArg H (ext2 (n := 256) (k := 2048) rfl rfl)) rfl rfl

theorem pay_normed : k0_pay1 (F := Ideal) (k0_pay6 (F := Ideal) A B H g a s) b y
    = normed (fun d => k0_pay4 (F := Ideal) A B H g (at2 (n := 256) (k := 2048) (y 0) d)) (y 1) (a (at2 (n := 1) (k := 2048) 0 (y 1)))
      (s (at2 (n := 1) (k := 2048) 0 (y 1))) (b (at2 (n := 1) (k := 2048) 0 (y 1))) := by
  unfold k0_pay1 k0_pay6
  refine congrArg₂ (· + ·) (congrArg₂ (· * ·) (congrArg₂ (· * ·) (congrArg₂ (· * ·) ?_ (roots (k0_pay4 (F := Ideal) A B H g) _ _ _ _ _ y)) (down_rows a _ y))
    (down_rows (addf (broadcast S1x2048 (Scalar.ofBits .f32 0x3F800000#32)) s) _ y)) (down_rows b _ y)
  exact congrArg (k0_pay4 (F := Ideal) A B H g) (ext2 (n := 256) (k := 2048) rfl rfl)

end

variable (m : (ℓ : Loc nD τ sig) → Buf (Elt Ideal) ℓ)

/-- A point's blocks. -/
def pA (c : Dev nD) (t : Fin cfg0.N) : FVec Ideal S256x2048 .bf16 := iblk m c 0 t
def pB (c : Dev nD) (t : Fin cfg0.N) : FVec Ideal S2048x2048 .bf16 := iblk m c 1 t
def pH (c : Dev nD) (t : Fin cfg0.N) : FVec Ideal S256x2048 .f32 := iblk m c 2 t
def pg (c : Dev nD) (t : Fin cfg0.N) : FVec Ideal S1x2048 .f32 := iblk m c 3 t
def pa (c : Dev nD) (t : Fin cfg0.N) : FVec Ideal S1x2048 .f32 := iblk m c 4 t
def ps (c : Dev nD) (t : Fin cfg0.N) : FVec Ideal S1x2048 .f32 := iblk m c 5 t
def pb (c : Dev nD) (t : Fin cfg0.N) : FVec Ideal S1x2048 .f32 := iblk m c 6 t

/-- The arguments. -/
def aX (c : Dev nD) : FVec Ideal S2048x2048 .bf16 := V m c main_arg0
def aW (c : Dev nD) : FVec Ideal S2048x2048 .bf16 := V m c main_arg1
def aH (c : Dev nD) : FVec Ideal S2048x2048 .f32 := V m c main_arg2
def ag (c : Dev nD) : FVec Ideal S1x2048 .f32 := V m c main_arg3
def aa (c : Dev nD) : FVec Ideal S1x2048 .f32 := V m c main_arg4
def ac (c : Dev nD) : FVec Ideal S1x2048 .f32 := V m c main_arg5
def ab (c : Dev nD) : FVec Ideal S1x2048 .f32 := V m c main_arg6

theorem facts : ∀ t : Fin cfg0.N, (win0_0.index t = ![t.val, 0] ∧ win0_1.index t = ![0, 0] ∧ win0_2.index t = ![t.val, 0])
    ∧ (win0_3.index t = ![0, 0] ∧ win0_4.index t = ![0, 0] ∧ win0_5.index t = ![0, 0] ∧ win0_6.index t = ![0, 0])
    ∧ win0_7.index t = ![t.val, 0] ∧ win0_8.index t = ![t.val, 0] ∧ win0_9.index t = ![t.val, 0] :=
  (by decide +kernel : ∀ t : Fin grid0.N, (win0_0.index t = ![t.val, 0] ∧ win0_1.index t = ![0, 0] ∧ win0_2.index t = ![t.val, 0])
    ∧ (win0_3.index t = ![0, 0] ∧ win0_4.index t = ![0, 0] ∧ win0_5.index t = ![0, 0] ∧ win0_6.index t = ![0, 0])
    ∧ win0_7.index t = ![t.val, 0] ∧ win0_8.index t = ![t.val, 0] ∧ win0_9.index t = ![t.val, 0])

theorem at_g (c : Dev nD) (t : Fin cfg0.N) (r : Fin 2048) : pg m c t (at2 (n := 1) (k := 2048) 0 r) = ag m c (at2 (n := 1) (k := 2048) 0 r) := by
  show V m c main_arg3 _ = V m c main_arg3 _
  congr 1
  refine ext2 (n := 1) (k := 2048) ?_ ?_
  all_goals blk_simp [facts t]

theorem at_a (c : Dev nD) (t : Fin cfg0.N) (r : Fin 2048) : pa m c t (at2 (n := 1) (k := 2048) 0 r) = aa m c (at2 (n := 1) (k := 2048) 0 r) := by
  show V m c main_arg4 _ = V m c main_arg4 _
  congr 1
  refine ext2 (n := 1) (k := 2048) ?_ ?_
  all_goals blk_simp [facts t]

theorem at_s (c : Dev nD) (t : Fin cfg0.N) (r : Fin 2048) : ps m c t (at2 (n := 1) (k := 2048) 0 r) = ac m c (at2 (n := 1) (k := 2048) 0 r) := by
  show V m c main_arg5 _ = V m c main_arg5 _
  congr 1
  refine ext2 (n := 1) (k := 2048) ?_ ?_
  all_goals blk_simp [facts t]

theorem at_b (c : Dev nD) (t : Fin cfg0.N) (r : Fin 2048) : pb m c t (at2 (n := 1) (k := 2048) 0 r) = ab m c (at2 (n := 1) (k := 2048) 0 r) := by
  show V m c main_arg6 _ = V m c main_arg6 _
  congr 1
  refine ext2 (n := 1) (k := 2048) ?_ ?_
  all_goals blk_simp [facts t]

section
variable (c : Dev nD) (t : Fin cfg0.N) (p : Fin 256) (q : Fin 2048) (r : Fin 2048) (hr : r.val = t.val * 256 + p.val)
include hr

theorem at_prod : nn (pA m c t) (pB m c t) p q = nn (aX m c) (aW m c) r q := by
  refine Finset.sum_congr rfl fun k _ => congrArg₂ (· * ·) ?_ ?_
  · show V m c main_arg0 _ = V m c main_arg0 _
    congr 1
    refine ext2 (n := 2048) (k := 2048) ?_ ?_
    · blk_simp [facts t]; show _ = r.val; rw [hr]
    · blk_simp [facts t]
  · show V m c main_arg1 _ = V m c main_arg1 _
    congr 1
    refine ext2 (n := 2048) (k := 2048) ?_ ?_
    all_goals blk_simp [facts t]

theorem at_h : k0_pay4 (F := Ideal) (pA m c t) (pB m c t) (pH m c t) (pg m c t) (at2 (n := 256) (k := 2048) p q)
    = hOut (aX m c) (aW m c) (aH m c) (ag m c) (at2 (n := 2048) (k := 2048) r q) := by
  refine (pay_h _ _ _ _ _).trans (resid_congr ?_ (at_g m c t q) (at_prod m c t p q r hr))
  show V m c main_arg2 _ = V m c main_arg2 _
  congr 1
  refine ext2 (n := 2048) (k := 2048) ?_ ?_
  · blk_simp [facts t]; show _ = r.val; rw [hr]
  · blk_simp [facts t]

theorem at_normed : k0_pay1 (F := Ideal) (k0_pay6 (F := Ideal) (pA m c t) (pB m c t) (pH m c t) (pg m c t) (pa m c t) (ps m c t)) (pb m c t) (at2 (n := 256) (k := 2048) p q)
    = normOut (aX m c) (aW m c) (aH m c) (ag m c) (aa m c) (ac m c) (ab m c) (at2 (n := 2048) (k := 2048) r q) :=
  (pay_normed _ _ _ _ _ _ _ _).trans (normed_congr (funext fun d => at_h m c t p d r hr) rfl (at_a m c t q) (at_s m c t q) (at_b m c t q))

end

/-! ## The three results -/

theorem left_h (c : Dev nD) (t : Fin cfg0.N) (y : S256x2048.Idx) :
    out0_7 (iblk m c 0 t) (iblk m c 1 t) (iblk m c 2 t) (iblk m c 3 t) (iblk m c 4 t) (iblk m c 5 t) (iblk m c 6 t) y
      = k0_pay4 (F := Ideal) (pA m c t) (pB m c t) (pH m c t) (pg m c t) y := by
  frame_out
  rfl

theorem left_t (c : Dev nD) (t : Fin cfg0.N) (y : S256x2048.Idx) :
    out0_8 (iblk m c 0 t) (iblk m c 1 t) (iblk m c 2 t) (iblk m c 3 t) (iblk m c 4 t) (iblk m c 5 t) (iblk m c 6 t) y
      = nn (pA m c t) (pB m c t) (y 0) (y 1) := by
  frame_out
  exact pay_prod _ _ y

theorem left_normed (c : Dev nD) (t : Fin cfg0.N) (y : S256x2048.Idx) :
    out0_9 (iblk m c 0 t) (iblk m c 1 t) (iblk m c 2 t) (iblk m c 3 t) (iblk m c 4 t) (iblk m c 5 t) (iblk m c 6 t) y
      = k0_pay1 (F := Ideal) (k0_pay6 (F := Ideal) (pA m c t) (pB m c t) (pH m c t) (pg m c t) (pa m c t) (ps m c t)) (pb m c t) y := by
  frame_out
  rfl

theorem pair (y : S256x2048.Idx) : y = at2 (n := 256) (k := 2048) (y 0) (y 1) := ext2 (n := 256) (k := 2048) rfl rfl

theorem array_h (c : Dev nD) : (dats m 0 c).arrAt 7 cfg0.N = hOut (aX m c) (aW m c) (aH m c) (ag m c) := by
  refine Dat.arrAt_eq_of_covers _ 7 _ (by decide +kernel) fun t hf y => ?_
  blk_simp
  refine (congrFun (after0_7 m c t) y).trans ((left_h m c t y).trans ?_)
  refine (congrArg _ (pair y)).trans ((at_h m c t _ _ ⟨t.val * 256 + (y 0).val, by have h0 : (y 0).val < 256 := (y 0).isLt; have h1 : t.val < 8 := lt_of_lt_of_eq t.isLt N_0; omega⟩ rfl).trans ?_)
  refine congrArg _ (ext2 (n := 2048) (k := 2048) ?_ ?_)
  all_goals blk_simp [facts t]
  all_goals rfl

theorem array_t (c : Dev nD) : (dats m 0 c).arrAt 8 cfg0.N = prodOut (aX m c) (aW m c) := by
  refine Dat.arrAt_eq_of_covers _ 8 _ (by decide +kernel) fun t hf y => ?_
  blk_simp
  refine (congrFun (after0_8 m c t) y).trans ((left_t m c t y).trans ?_)
  refine (at_prod m c t _ _ ⟨t.val * 256 + (y 0).val, by have h0 : (y 0).val < 256 := (y 0).isLt; have h1 : t.val < 8 := lt_of_lt_of_eq t.isLt N_0; omega⟩ rfl).trans ?_
  refine congrArg₂ (nn (aX m c) (aW m c)) (Fin.ext ?_) (Fin.ext ?_)
  all_goals blk_simp [facts t]
  all_goals rfl

theorem array_normed (c : Dev nD) : (dats m 0 c).arrAt 9 cfg0.N = normOut (aX m c) (aW m c) (aH m c) (ag m c) (aa m c) (ac m c) (ab m c) := by
  refine Dat.arrAt_eq_of_covers _ 9 _ (by decide +kernel) fun t hf y => ?_
  blk_simp
  refine (congrFun (after0_9 m c t) y).trans ((left_normed m c t y).trans ?_)
  refine (congrArg _ (pair y)).trans ((at_normed m c t _ _ ⟨t.val * 256 + (y 0).val, by have h0 : (y 0).val < 256 := (y 0).isLt; have h1 : t.val < 8 := lt_of_lt_of_eq t.isLt N_0; omega⟩ rfl).trans ?_)
  refine congrArg _ (ext2 (n := 2048) (k := 2048) ?_ ?_)
  all_goals blk_simp [facts t]
  all_goals rfl

end Cert.Norm.Out

end
-- ==== Proof.FirstValue.lean ====
/- The first layer's first norm: what the kernel leaves and what its reference says, over the extended reals. -/
module

public import proofs.«01_k».proof.Proof.NormModel
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

namespace Cert.Norm

open Cert.Ffn Idealize.ShloMosaic

/-- An array of rows, normed: `a` the gain, `s` the scale and `b` the shift. -/
def rowsOut (H : (⟨2, ![2048, 2048]⟩ : Shape).Idx → EReal) (a s b : (⟨2, ![1, 2048]⟩ : Shape).Idx → EReal) : (⟨2, ![2048, 2048]⟩ : Shape).Idx → EReal := fun i =>
  normed (fun d => H (at2 (n := 2048) (k := 2048) (i 0) d)) (i 1) (a (at2 (n := 1) (k := 2048) 0 (i 1))) (s (at2 (n := 1) (k := 2048) 0 (i 1))) (b (at2 (n := 1) (k := 2048) 0 (i 1)))

namespace First

section
open Cert.Kernel9Ideal Cert.Kernel9Ideal.Gen
open Idealize.ShloMosaic.Pipeline Idealize.ShloMosaic.TcCoe Idealize.ShloMosaic.Tactic

theorem pay_normed (H : FVec Ideal S256x2048 .f32) (a s b : FVec Ideal S1x2048 .f32) (y : S256x2048.Idx) : k0_pay2 (F := Ideal) H a s b y
    = normed (fun d => H (at2 (n := 256) (k := 2048) (y 0) d)) (y 1) (a (at2 (n := 1) (k := 2048) 0 (y 1))) (s (at2 (n := 1) (k := 2048) 0 (y 1)))
      (b (at2 (n := 1) (k := 2048) 0 (y 1))) := by
  unfold k0_pay2
  refine congrArg₂ (· + ·) (congrArg₂ (· * ·) (congrArg₂ (· * ·) (congrArg₂ (· * ·) ?_ (roots H _ _ _ _ _ y)) (down_rows a _ y))
    (down_rows (addf (broadcast S1x2048 (Scalar.ofBits .f32 0x3F800000#32)) s) _ y)) (down_rows b _ y)
  exact congrArg H (ext2 (n := 256) (k := 2048) rfl rfl)

variable (m : (ℓ : Loc nD τ sig) → Buf (Elt Ideal) ℓ)

/-- A point's blocks. -/
def pH (c : Dev nD) (t : Fin cfg0.N) : FVec Ideal S256x2048 .f32 := iblk m c 0 t
def pa (c : Dev nD) (t : Fin cfg0.N) : FVec Ideal S1x2048 .f32 := iblk m c 1 t
def ps (c : Dev nD) (t : Fin cfg0.N) : FVec Ideal S1x2048 .f32 := iblk m c 2 t
def pb (c : Dev nD) (t : Fin cfg0.N) : FVec Ideal S1x2048 .f32 := iblk m c 3 t

/-- The arguments. -/
def aH (c : Dev nD) : FVec Ideal S2048x2048 .f32 := V m c main_arg0
def aa (c : Dev nD) : FVec Ideal S1x2048 .f32 := V m c main_arg1
def ac (c : Dev nD) : FVec Ideal S1x2048 .f32 := V m c main_arg2
def ab (c : Dev nD) : FVec Ideal S1x2048 .f32 := V m c main_arg3

theorem facts : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0])

theorem at_a (c : Dev nD) (t : Fin cfg0.N) (r : Fin 2048) : pa m c t (at2 (n := 1) (k := 2048) 0 r) = aa m c (at2 (n := 1) (k := 2048) 0 r) := by
  show V m c main_arg1 _ = V m c main_arg1 _
  congr 1
  refine ext2 (n := 1) (k := 2048) ?_ ?_
  all_goals blk_simp [facts t]

theorem at_s (c : Dev nD) (t : Fin cfg0.N) (r : Fin 2048) : ps m c t (at2 (n := 1) (k := 2048) 0 r) = ac m c (at2 (n := 1) (k := 2048) 0 r) := by
  show V m c main_arg2 _ = V m c main_arg2 _
  congr 1
  refine ext2 (n := 1) (k := 2048) ?_ ?_
  all_goals blk_simp [facts t]

theorem at_b (c : Dev nD) (t : Fin cfg0.N) (r : Fin 2048) : pb m c t (at2 (n := 1) (k := 2048) 0 r) = ab m c (at2 (n := 1) (k := 2048) 0 r) := by
  show V m c main_arg3 _ = V m c main_arg3 _
  congr 1
  refine ext2 (n := 1) (k := 2048) ?_ ?_
  all_goals blk_simp [facts t]

theorem at_h (c : Dev nD) (t : Fin cfg0.N) (p : Fin 256) (q r : Fin 2048) (hr : r.val = t.val * 256 + p.val) :
    pH m c t (at2 (n := 256) (k := 2048) p q) = aH m c (at2 (n := 2048) (k := 2048) r q) := by
  show V m c main_arg0 _ = V m c main_arg0 _
  congr 1
  refine ext2 (n := 2048) (k := 2048) ?_ ?_
  · blk_simp [facts t]; show _ = r.val; rw [hr]
  · blk_simp [facts t]

theorem left_rows (c : Dev nD) (t : Fin cfg0.N) (y : S256x2048.Idx) :
    out0_4 (iblk m c 0 t) (iblk m c 1 t) (iblk m c 2 t) (iblk m c 3 t) y = k0_pay2 (F := Ideal) (pH m c t) (pa m c t) (ps m c t) (pb m c t) y := by
  frame_out
  rfl

theorem array_rows (c : Dev nD) : (dats m 0 c).arrAt 4 cfg0.N = rowsOut (aH m c) (aa m c) (ac m c) (ab m c) := by
  refine Dat.arrAt_eq_of_covers _ 4 _ (by decide +kernel) fun t hf y => ?_
  blk_simp
  refine (congrFun (after0_4 m c t) y).trans ((left_rows m c t y).trans ((pay_normed _ _ _ _ y).trans ?_))
  refine (normed_congr (funext fun d => at_h m c t (y 0) d ⟨t.val * 256 + (y 0).val, by have h0 : (y 0).val < 256 := (y 0).isLt; have h1 : t.val < 8 := lt_of_lt_of_eq t.isLt N_0; omega⟩ rfl)
    rfl (at_a m c t (y 1)) (at_s m c t (y 1)) (at_b m c t (y 1))).trans ?_
  refine congrArg (rowsOut (aH m c) (aa m c) (ac m c) (ab m c)) (a₁ := at2 (n := 2048) (k := 2048) _ (y 1)) (ext2 (n := 2048) (k := 2048) ?_ ?_)
  all_goals blk_simp [facts t]
  all_goals rfl

end

section
open Cert.Reference9Ideal Cert.Reference9Ideal.Gen Cert.Reference9Ideal.Read

variable (H : FVec Ideal S2048x2048 .f32) (a s b : FVec Ideal S1x2048 .f32) (i : S2048x2048.Idx)

theorem ref_root (j : S2048x1.Idx) : val_main_v7 (F := Ideal) H j = root fun d => H (at2 (n := 2048) (k := 2048) (j 0) d) := by
  rw [val_main_v7_apply, val_main_v6_apply, val_main_v5_apply, val_main_v4_apply, val_main_v3_apply, val_main_v2_apply, val_main_v1_apply]
  show Ideal.rsqrt (Ideal.div (Ideal.ofBits .f32 0x00000000#32 + ∑ k : Fin 2048, _) (Ideal.ofBits .f32 0x45000000#32) + Ideal.ofBits .f32 0x358637BD#32) = _
  rw [Ideal.ofBits_zero_f32, zero_add]
  refine congrArg (fun z => Ideal.rsqrt (Ideal.div z _ + _)) (Finset.sum_congr rfl fun k _ => ?_)
  rw [val_main_v0_apply]
  have e : idx_main_v1 (idx_main_v2 j) k = at2 (n := 2048) (k := 2048) (j 0) k := ext2 (n := 2048) (k := 2048) rfl rfl
  rw [e]
  rfl

theorem ref_rows : val_main_v18 (F := Ideal) H a s b i = rowsOut H a s b i := by
  show val_main_v17 (F := Ideal) H a s b i = _
  rw [val_main_v17_apply, val_main_v16_apply, val_main_v15_apply, val_main_v14_apply, val_main_v13_apply, val_main_v12_apply, val_main_v11_apply,
    val_main_v10_apply, val_main_v9_apply, val_main_v8_apply, ref_root]

  exact congrArg₂ (· + ·) (congrArg₂ (· * ·) (congrArg₂ (· * ·) (congrArg₂ (· * ·) (congrArg H (ext2 (n := 2048) (k := 2048) rfl rfl)) rfl) (congrArg a (ext2 (n := 1) (k := 2048) rfl rfl)))
    (congrArg (fun z => _ + s z) (ext2 (n := 1) (k := 2048) rfl rfl))) (congrArg b (ext2 (n := 1) (k := 2048) rfl rfl))

end

end First

end Cert.Norm

end
-- ==== Proof.AdamModel.lean ====
/- One step of AdamW on an entry, over the extended reals. -/
module

public import Idealize.ShloMosaic.PureOps.Ideal

@[expose] public section

noncomputable section

namespace Cert.Adam

open Idealize.ShloMosaic

/-- The new first moment, -/
def moved (m g : EReal) : EReal := Ideal.ofBits .f32 0x3F666666#32 * m + Ideal.ofBits .f32 0x3DCCCCCD#32 * g

/-- the new second moment, -/
def spread (v g : EReal) : EReal := Ideal.ofBits .f32 0x3F7FBE77#32 * v + Ideal.ofBits .f32 0x3A83126F#32 * (g * g)

/-- and the weight's change. -/
def change (g w m v : EReal) : EReal :=
  Ideal.ofBits .f32 0xBA83126F#32 * (Ideal.div (Ideal.div (moved m g) (Ideal.ofBits .f32 0x3F26BD02#32))
    (Ideal.sqrt (Ideal.div (spread v g) (Ideal.ofBits .f32 0x3C231ACC#32)) + Ideal.ofBits .f32 0x322BCC77#32) + Ideal.ofBits .f32 0x3C23D70A#32 * w)

theorem moved_congr {m m' g g' : EReal} (hm : m = m') (hg : g = g') : moved m g = moved m' g' := by rw [hm, hg]

theorem spread_congr {v v' g g' : EReal} (hv : v = v') (hg : g = g') : spread v g = spread v' g' := by rw [hv, hg]

theorem change_congr {g g' w w' m m' v v' : EReal} (hg : g = g') (hw : w = w') (hm : m = m') (hv : v = v') : change g w m v = change g' w' m' v' := by
  rw [hg, hw, hm, hv]

end Cert.Adam

end
-- ==== Proof.AdamValue.lean ====
/- The AdamW step of the conditioning's weights: the kernel's and the reference's. -/
module

public import proofs.«01_k».proof.Proof.AdamModel
public import proofs.«01_k».proof.Proof.Products
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

namespace Cert.Adam.Stack

open Cert.Ffn Idealize.ShloMosaic

theorem ext3 {n k : ℕ} {a : ℕ} {y z : (⟨3, ![a, n, k]⟩ : Shape).Idx} (h0 : (y 0).val = (z 0).val) (h1 : (y 1).val = (z 1).val) (h2 : (y 2).val = (z 2).val) : y = z := by
  funext x
  match x with
  | 0 => exact Fin.ext h0
  | 1 => exact Fin.ext h1
  | 2 => exact Fin.ext h2

section
variable (G W M V : (⟨3, ![2, 2048, 1536]⟩ : Shape).Idx → EReal)

/-- The weights' changes, -/
def wOut : (⟨3, ![2, 2048, 1536]⟩ : Shape).Idx → EReal := fun i => change (G i) (W i) (M i) (V i)

/-- and the new moments. -/
def mOut : (⟨3, ![2, 2048, 1536]⟩ : Shape).Idx → EReal := fun i => moved (M i) (G i)
def vOut : (⟨3, ![2, 2048, 1536]⟩ : Shape).Idx → EReal := fun i => spread (V i) (G i)

end

section
open Cert.Kernel10Ideal Cert.Kernel10Ideal.Gen
open Idealize.ShloMosaic.Pipeline Idealize.ShloMosaic.TcCoe Idealize.ShloMosaic.Tactic

/-- The two last places of a block's entry. -/
def flat (y : S1x256x1536.Idx) : S256x1536.Idx := at2 (n := 256) (k := 1536) (y 1) (y 2)

theorem same_place (y : S1x256x1536.Idx) : (S1x256x1536.rowMajor y).val = (S256x1536.rowMajor (flat y)).val := by
  rw [Shape.rowMajor_val_three, Shape.rowMajor_val_two]
  have h0 : (y 0).val < 1 := (y 0).isLt
  show ((y 0).val * 256 + (y 1).val) * 1536 + (y 2).val = (y 1).val * 1536 + (y 2).val
  omega

theorem down (x : FVec Ideal S1x256x1536 .f32) (h) (y : S1x256x1536.Idx) : shapeCast S256x1536 x h (flat y) = x y :=
  shapeCast_apply x h (flat y) y (same_place y)

theorem up (x : FVec Ideal S256x1536 .f32) (h) (y : S1x256x1536.Idx) : shapeCast S1x256x1536 x h y = x (flat y) :=
  shapeCast_apply x h y (flat y) (same_place y).symm

section
variable (G W M V : FVec Ideal S1x256x1536 .f32) (y : S1x256x1536.Idx)

theorem pay_w : k0_pay1 (F := Ideal) (k0_pay8 G W M V) k0_pay9 y = change (G y) (W y) (M y) (V y) := by
  unfold k0_pay1
  refine (up _ _ y).trans ?_
  unfold k0_pay8 k0_pay9 k0_pay7 k0_pay6 k0_pay5
  exact change_congr (down G _ y) (down W _ y) (down M _ y) (down V _ y)

theorem pay_m : k0_pay2 (F := Ideal) (k0_pay6 G M) y = moved (M y) (G y) := by
  unfold k0_pay2
  refine (up _ _ y).trans ?_
  unfold k0_pay6 k0_pay5
  exact moved_congr (down M _ y) (down G _ y)

theorem pay_v : k0_pay3 (F := Ideal) (k0_pay7 G V) y = spread (V y) (G y) := by
  unfold k0_pay3
  refine (up _ _ y).trans ?_
  unfold k0_pay7 k0_pay5
  exact spread_congr (down V _ y) (down G _ y)

end

variable (m : (ℓ : Loc nD τ sig) → Buf (Elt Ideal) ℓ)

/-- A point's blocks. -/
def pG (c : Dev nD) (t : Fin cfg0.N) : FVec Ideal S1x256x1536 .f32 := iblk m c 0 t
def pW (c : Dev nD) (t : Fin cfg0.N) : FVec Ideal S1x256x1536 .f32 := iblk m c 1 t
def pM (c : Dev nD) (t : Fin cfg0.N) : FVec Ideal S1x256x1536 .f32 := iblk m c 2 t
def pV (c : Dev nD) (t : Fin cfg0.N) : FVec Ideal S1x256x1536 .f32 := iblk m c 3 t

/-- The arguments. -/
def aG (c : Dev nD) : FVec Ideal S2x2048x1536 .f32 := V m c main_arg0
def aW (c : Dev nD) : FVec Ideal S2x2048x1536 .f32 := V m c main_arg1
def aM (c : Dev nD) : FVec Ideal S2x2048x1536 .f32 := V m c main_arg2
def aV (c : Dev nD) : FVec Ideal S2x2048x1536 .f32 := V m c main_arg3

theorem facts : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] :=
  (by decide +kernel : ∀ t : Fin grid0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0])

/-- Where a point's block is in the array. -/
def place (t : Fin cfg0.N) (y : S1x256x1536.Idx) : S2x2048x1536.Idx := fun x => match x with
  | ⟨0, _⟩ => ⟨t.val / 8, by have h1 : t.val < 16 := lt_of_lt_of_eq t.isLt N_0; show _ < 2; omega⟩
  | ⟨1, _⟩ => ⟨t.val % 8 * 256 + (y 1).val, by have h0 : (y 1).val < 256 := (y 1).isLt; show _ < 2048; omega⟩
  | ⟨2, _⟩ => y 2

theorem head_zero (y : S1x256x1536.Idx) : (y 0).val = 0 := by
  have h0 : (y 0).val < 1 := (y 0).isLt
  omega

theorem at_g (c : Dev nD) (t : Fin cfg0.N) (y : S1x256x1536.Idx) : pG m c t y = aG m c (place t y) := by
  show V m c main_arg0 _ = V m c main_arg0 _
  congr 1
  refine ext3 (a := 2) (n := 2048) (k := 1536) ?_ ?_ ?_
  all_goals blk_simp [facts t, head_zero y]
  all_goals rfl

theorem at_w (c : Dev nD) (t : Fin cfg0.N) (y : S1x256x1536.Idx) : pW m c t y = aW m c (place t y) := by
  show V m c main_arg1 _ = V m c main_arg1 _
  congr 1
  refine ext3 (a := 2) (n := 2048) (k := 1536) ?_ ?_ ?_
  all_goals blk_simp [facts t, head_zero y]
  all_goals rfl

theorem at_m (c : Dev nD) (t : Fin cfg0.N) (y : S1x256x1536.Idx) : pM m c t y = aM m c (place t y) := by
  show V m c main_arg2 _ = V m c main_arg2 _
  congr 1
  refine ext3 (a := 2) (n := 2048) (k := 1536) ?_ ?_ ?_
  all_goals blk_simp [facts t, head_zero y]
  all_goals rfl

theorem at_v (c : Dev nD) (t : Fin cfg0.N) (y : S1x256x1536.Idx) : pV m c t y = aV m c (place t y) := by
  show V m c main_arg3 _ = V m c main_arg3 _
  congr 1
  refine ext3 (a := 2) (n := 2048) (k := 1536) ?_ ?_ ?_
  all_goals blk_simp [facts t, head_zero y]
  all_goals rfl

/-! ## The three results -/

theorem left_w (c : Dev nD) (t : Fin cfg0.N) (y : S1x256x1536.Idx) :
    out0_4 (iblk m c 0 t) (iblk m c 1 t) (iblk m c 2 t) (iblk m c 3 t) y = wOut (aG m c) (aW m c) (aM m c) (aV m c) (place t y) := by
  frame_out
  exact (pay_w (pG m c t) (pW m c t) (pM m c t) (pV m c t) y).trans (change_congr (at_g m c t y) (at_w m c t y) (at_m m c t y) (at_v m c t y))

theorem left_m (c : Dev nD) (t : Fin cfg0.N) (y : S1x256x1536.Idx) :
    out0_5 (iblk m c 0 t) (iblk m c 1 t) (iblk m c 2 t) (iblk m c 3 t) y = mOut (aG m c) (aM m c) (place t y) := by
  frame_out
  exact (pay_m (pG m c t) (pM m c t) y).trans (moved_congr (at_m m c t y) (at_g m c t y))

theorem left_v (c : Dev nD) (t : Fin cfg0.N) (y : S1x256x1536.Idx) :
    out0_6 (iblk m c 0 t) (iblk m c 1 t) (iblk m c 2 t) (iblk m c 3 t) y = vOut (aG m c) (aV m c) (place t y) := by
  frame_out
  exact (pay_v (pG m c t) (pV m c t) y).trans (spread_congr (at_v m c t y) (at_g m c t y))

theorem array_w (c : Dev nD) : (dats m 0 c).arrAt 4 cfg0.N = wOut (aG m c) (aW m c) (aM m c) (aV m c) := by
  refine Dat.arrAt_eq_of_covers _ 4 _ (by decide +kernel) fun t hf y => ?_
  blk_simp
  refine (congrFun (after0_4 m c t) y).trans ((left_w m c t y).trans (congrArg _ (ext3 (a := 2) (n := 2048) (k := 1536) ?_ ?_ ?_)))
  all_goals blk_simp [facts t, head_zero y]
  all_goals rfl

theorem array_m (c : Dev nD) : (dats m 0 c).arrAt 5 cfg0.N = mOut (aG m c) (aM m c) := by
  refine Dat.arrAt_eq_of_covers _ 5 _ (by decide +kernel) fun t hf y => ?_
  blk_simp
  refine (congrFun (after0_5 m c t) y).trans ((left_m m c t y).trans (congrArg _ (ext3 (a := 2) (n := 2048) (k := 1536) ?_ ?_ ?_)))
  all_goals blk_simp [facts t, head_zero y]
  all_goals rfl

theorem array_v (c : Dev nD) : (dats m 0 c).arrAt 6 cfg0.N = vOut (aG m c) (aV m c) := by
  refine Dat.arrAt_eq_of_covers _ 6 _ (by decide +kernel) fun t hf y => ?_
  blk_simp
  refine (congrFun (after0_6 m c t) y).trans ((left_v m c t y).trans (congrArg _ (ext3 (a := 2) (n := 2048) (k := 1536) ?_ ?_ ?_)))
  all_goals blk_simp [facts t, head_zero y]
  all_goals rfl

end

section
open Cert.Reference10Ideal Cert.Reference10Ideal.Gen Cert.Reference10Ideal.Read

variable (G W M V : FVec Ideal S2x2048x1536 .f32) (i : S2x2048x1536.Idx)

theorem ref_m : val_main_v4 (F := Ideal) G M i = mOut G M i := by
  rw [val_main_v4_apply, val_main_v3_apply, val_main_v2_apply, val_main_v1_apply, val_main_v0_apply]
  rfl

theorem ref_v : val_main_v10 (F := Ideal) G V i = vOut G V i := by
  rw [val_main_v10_apply, val_main_v9_apply, val_main_v8_apply, val_main_v7_apply, val_main_v6_apply, val_main_v5_apply]
  rfl

theorem ref_w : val_main_v23 (F := Ideal) G W M V i = wOut G W M V i := by
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, ref_m, ref_v]
  rfl

end

end Cert.Adam.Stack

end
-- ==== Proof.LossModel.lean ====
/- The mean square loss and its gradients, entry by entry over the extended reals. -/
module

public import proofs.«01_k».proof.Proof.NormModel
public import Idealize.ShloMosaic.Lib.Pipeline.Value

@[expose] public section

set_option maxRecDepth 16384

noncomputable section

namespace Cert.Loss

open Cert.Ffn Idealize.ShloMosaic

/-- One half, one over the width, the width, and two. -/
def half : EReal := Ideal.ofBits .f32 0x3F000000#32
def inv : EReal := Ideal.ofBits .f32 0x3A000000#32
def wide : EReal := Ideal.ofBits .f32 0x45000000#32
def two : EReal := Ideal.ofBits .f32 0x40000000#32
def one : EReal := Ideal.ofBits .f32 0x3F800000#32

theorem half_eq : half = ((1 / 2 : ℝ) : EReal) := by
  simp [half, Ideal.ofBits, Ideal.ieee]
  rw [← EReal.coe_mul]; norm_num

theorem inv_eq : inv = ((1 / 2048 : ℝ) : EReal) := by
  simp [inv, Ideal.ofBits, Ideal.ieee]
  rw [← EReal.coe_mul]; norm_num

theorem wide_eq : wide = ((2048 : ℝ) : EReal) := by
  simp [wide, Ideal.ofBits, Ideal.ieee]
  rw [← EReal.coe_mul]; norm_num

theorem two_eq : two = ((2 : ℝ) : EReal) := by
  simp [two, Ideal.ofBits, Ideal.ieee]
  rw [← EReal.coe_mul]; norm_num

theorem one_eq : one = ((1 : ℝ) : EReal) := by
  simp [one, Ideal.ofBits, Ideal.ieee]
  rw [← EReal.coe_mul]; norm_num

/-- Division by the width is the product with its inverse. -/
theorem over_wide (x : EReal) : Ideal.div x wide = x * inv := by
  rw [wide_eq, inv_eq, Ideal.div_coe (by norm_num)]

/-- The gradient of half a square over the width. -/
theorem slope (e : EReal) : Ideal.div (half * one) wide * (two * e) = e * inv := by
  rw [over_wide, half_eq, one_eq, inv_eq, two_eq, ← mul_assoc, ← EReal.coe_mul, ← EReal.coe_mul, ← EReal.coe_mul, mul_comm]
  exact congrArg (fun z : ℝ => e * (z : EReal)) (by norm_num)

/-- The half of a sum. -/
theorem half_sum {ι : Type} (s : Finset ι) (f : ι → EReal) : half * ∑ q ∈ s, f q = ∑ q ∈ s, half * f q := by
  have h0 : (0 : EReal) ≤ half := by rw [half_eq]; exact EReal.coe_nonneg.2 (by norm_num)
  have h1 : half ≠ ⊤ := by rw [half_eq]; exact EReal.coe_ne_top _
  exact map_sum ({ toFun := fun x => half * x, map_zero' := mul_zero _, map_add' := fun x y => EReal.left_distrib_of_nonneg_of_ne_top h0 h1 x y } : EReal →+ EReal) f s

/-- Row `p` of block `q`. -/
def row (q : ℕ) (p : Fin 256) : Fin 2048 := ⟨(q * 256 + p.val) % 2048, Nat.mod_lt _ (by decide)⟩

theorem row_val {q : ℕ} (h : q < 8) (p : Fin 256) : (row q p).val = q * 256 + p.val := Nat.mod_eq_of_lt (by have := p.isLt; omega)

/-- A sum over 2048 rows, block by block. -/
theorem eight_blocks (g : Fin 2048 → EReal) : ∑ q ∈ Finset.range 8, ∑ p, g (row q p) = ∑ s, g s := by
  rw [Finset.sum_range, ← Fintype.sum_prod_type']
  refine Fintype.sum_equiv (finProdFinEquiv : Fin 8 × Fin 256 ≃ Fin (8 * 256)) _ _ fun x => congrArg g (Fin.ext ?_)
  rw [row_val x.1.isLt]
  show x.1.val * 256 + x.2.val = x.2.val + 256 * x.1.val
  omega

section
variable (Y T : (⟨2, ![2048, 2048]⟩ : Shape).Idx → EReal) (X : (⟨2, ![2048, 2048]⟩ : Shape).Idx → EReal) (G : (⟨2, ![1, 2048]⟩ : Shape).Idx → EReal)

/-- A row's mean square. -/
def meanSq (s : Fin 2048) : EReal :=
  (∑ k : Fin 2048, (Y (at2 (n := 2048) (k := 2048) s k) - T (at2 (n := 2048) (k := 2048) s k)) * (Y (at2 (n := 2048) (k := 2048) s k) - T (at2 (n := 2048) (k := 2048) s k))) * inv

/-- The loss, in every place of its tile, -/
def lossOut : (⟨2, ![1, 128]⟩ : Shape).Idx → EReal := fun _ => half * ∑ s, meanSq Y T s

/-- the prediction's gradient, -/
def dyOut : (⟨2, ![2048, 2048]⟩ : Shape).Idx → EReal := fun i => (Y i - T i) * inv

/-- the last branch's, -/
def dtOut : (⟨2, ![2048, 2048]⟩ : Shape).Idx → EReal := fun i => dyOut Y T i * G (at2 (n := 1) (k := 2048) 0 (i 1))

/-- and its gate's. -/
def dgateOut : (⟨2, ![1, 2048]⟩ : Shape).Idx → EReal := fun i =>
  ∑ s : Fin 2048, dyOut Y T (at2 (n := 2048) (k := 2048) s (i 1)) * X (at2 (n := 2048) (k := 2048) s (i 1))

end

/-! ## Sums down the columns -/

/-- The place of an entry of a row. -/
def place {n : ℕ} (b : Fin n) : (⟨1, ![n]⟩ : Shape).Idx := fun x => match x with
  | ⟨0, _⟩ => b

theorem as_row {n : ℕ} (x : FVec Ideal ⟨1, ![n]⟩ .f32) (h) (j : (⟨2, ![1, n]⟩ : Shape).Idx) : shapeCast ⟨2, ![1, n]⟩ x h j = x (place (j 1)) :=
  shapeCast_apply x h j (place (j 1)) (by
    rw [Shape.rowMajor_val_one, Shape.rowMajor_val_two]
    have h0 : (j 0).val < 1 := (j 0).isLt
    show (j 1).val = (j 0).val * n + (j 1).val
    rw [Nat.lt_one_iff.1 h0]
    omega)

theorem column_sum {n : ℕ} (x : FVec Ideal ⟨2, ![256, n]⟩ .f32) (h h₁ h₂) (b : Fin n) :
    multiReduction .add [0] ⟨1, ![n]⟩ x 0x00000000#32 h h₁ h₂ (place b) = ∑ p : Fin 256, x (at2 (n := 256) (k := n) p b) := by
  rw [Ideal.multiReduction_add_single]
  refine Finset.sum_congr rfl fun p _ => congrArg x (ext2 (n := 256) (k := n) rfl rfl)

theorem spread_one (x : FVec Ideal ⟨2, ![1, 1]⟩ .f32) (h) (j : (⟨2, ![1, 128]⟩ : Shape).Idx) :
    broadcastTo ⟨2, ![1, 128]⟩ x h j = x (at2 (n := 1) (k := 1) 0 0) :=
  broadcastTo_apply x h j (at2 (n := 1) (k := 1) 0 0) fun a => match a with
    | ⟨0, _⟩ => rfl
    | ⟨1, _⟩ => rfl

end Cert.Loss

end
-- ==== Proof.LossValue.lean ====
/- The loss: what the kernel leaves and what its reference says, over the extended reals. -/
module

public import proofs.«01_k».proof.Proof.LossModel
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

@[expose] public section

set_option maxRecDepth 16384

noncomputable section

namespace Cert.Loss

open Cert.Ffn Idealize.ShloMosaic

section
open Cert.Norm Cert.Kernel11Ideal Cert.Kernel11Ideal.Gen
open Idealize.ShloMosaic.Pipeline Idealize.ShloMosaic.TcCoe Idealize.ShloMosaic.Tactic

/-! ## The body's values -/

/-- A block's rows' mean squares, summed and halved. -/
def blockLoss (Y T : FVec Ideal S256x2048 .f32) : EReal :=
  half * ∑ p : Fin 256, (∑ k : Fin 2048, (Y (at2 (n := 256) (k := 2048) p k) - T (at2 (n := 256) (k := 2048) p k))
    * (Y (at2 (n := 256) (k := 2048) p k) - T (at2 (n := 256) (k := 2048) p k))) * inv

theorem pay_loss (Y T : FVec Ideal S256x2048 .f32) (acc : FVec Ideal S1x128 .f32) : k0_pay7 (F := Ideal) Y T acc = fun y => acc y + blockLoss Y T := by
  refine funext fun y => ?_
  unfold k0_pay7
  dsimp only
  rw [shapeCast_self]
  refine congrArg (acc y + ·) ((spread_one _ _ y).trans (congrArg (half * ·) ((as_row _ _ _).trans ((column_sum (n := 1) _ _ _ _ 0).trans ?_))))
  exact Finset.sum_congr rfl fun p _ => congrArg (· * inv) ((as_column _ _ p).trans (row_sum _ _ _ _ p))

/-- A block's share of the gate's gradient. -/
def blockGate (Y T : FVec Ideal S256x2048 .f32) (X : FVec Ideal S256x2048 .bf16) (y : S1x2048.Idx) : EReal :=
  ∑ p : Fin 256, (Y (at2 (n := 256) (k := 2048) p (y 1)) - T (at2 (n := 256) (k := 2048) p (y 1))) * inv * X (at2 (n := 256) (k := 2048) p (y 1))

theorem pay_gate (Y T : FVec Ideal S256x2048 .f32) (X : FVec Ideal S256x2048 .bf16) (acc : FVec Ideal S1x2048 .f32) :
    k0_pay1 (F := Ideal) (k0_pay6 Y T) acc X = fun y => acc y + blockGate Y T X y := by
  refine funext fun y => ?_
  unfold k0_pay1
  dsimp only
  rw [shapeCast_self]
  exact congrArg (acc y + ·) ((as_row _ _ y).trans (column_sum (n := 2048) _ _ _ _ (y 1)))

theorem pay_dt (Y T : FVec Ideal S256x2048 .f32) (G : FVec Ideal S1x2048 .f32) (y : S256x2048.Idx) :
    k0_pay8 (F := Ideal) Y T G y = (Y y - T y) * inv * G (at2 (n := 1) (k := 2048) 0 (y 1)) := by
  unfold k0_pay8
  exact congrArg ((Y y - T y) * inv * ·) (down_rows G _ y)

variable (m : (ℓ : Loc nD τ sig) → Buf (Elt Ideal) ℓ)

/-- A point's blocks. -/
def pY (c : Dev nD) (t : Fin cfg0.N) : FVec Ideal S256x2048 .f32 := iblk m c 0 t
def pT (c : Dev nD) (t : Fin cfg0.N) : FVec Ideal S256x2048 .f32 := iblk m c 1 t
def pX (c : Dev nD) (t : Fin cfg0.N) : FVec Ideal S256x2048 .bf16 := iblk m c 2 t
def pG (c : Dev nD) (t : Fin cfg0.N) : FVec Ideal S1x2048 .f32 := iblk m c 3 t

/-- The arguments. -/
def aY (c : Dev nD) : FVec Ideal S2048x2048 .f32 := V m c main_arg0
def aT (c : Dev nD) : FVec Ideal S2048x2048 .f32 := V m c main_arg1
def aX (c : Dev nD) : FVec Ideal S2048x2048 .bf16 := V m c main_arg2
def aG (c : Dev nD) : FVec Ideal S1x2048 .f32 := V m c main_arg3

theorem facts : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0])

/-- What the point before left of the loss and of the gate's gradient. -/
def lossBefore (c : Dev nD) (t : Fin cfg0.N) : FVec Ideal S1x128 .f32 := (outsAt0 m c (t.val - 1) (Nat.lt_of_le_of_lt (Nat.sub_le _ _) t.isLt)).1
def gateBefore (c : Dev nD) (t : Fin cfg0.N) : FVec Ideal S1x2048 .f32 := (outsAt0 m c (t.val - 1) (Nat.lt_of_le_of_lt (Nat.sub_le _ _) t.isLt)).2.2.2.1

theorem loss_A (c : Dev nD) (t : Fin cfg0.N) (h : t.val % 8 = 0) : (outsAt0 m c t.val t.isLt).1 = fun y => 0 + blockLoss (pY m c t) (pT m c t) := by
  rw [outsAt0_A m c t h]
  frame_out
  refine (pay_loss _ _ _).trans (funext fun y => congrArg (· + blockLoss (pY m c t) (pT m c t)) ?_)
  exact Ideal.ofBits_zero_f32

theorem loss_B (c : Dev nD) (t : Fin cfg0.N) (h : ¬t.val % 8 = 0) : (outsAt0 m c t.val t.isLt).1 = fun y => lossBefore m c t y + blockLoss (pY m c t) (pT m c t) := by
  rw [outsAt0_B m c t h]
  frame_out
  exact pay_loss _ _ _

theorem gate_A (c : Dev nD) (t : Fin cfg0.N) (h : t.val % 8 = 0) :
    (outsAt0 m c t.val t.isLt).2.2.2.1 = fun y => 0 + blockGate (pY m c t) (pT m c t) (pX m c t) y := by
  rw [outsAt0_A m c t h]
  frame_out
  refine (pay_gate _ _ _ _).trans (funext fun y => congrArg (· + blockGate (pY m c t) (pT m c t) (pX m c t) y) ?_)
  exact Ideal.ofBits_zero_f32

theorem gate_B (c : Dev nD) (t : Fin cfg0.N) (h : ¬t.val % 8 = 0) :
    (outsAt0 m c t.val t.isLt).2.2.2.1 = fun y => gateBefore m c t y + blockGate (pY m c t) (pT m c t) (pX m c t) y := by
  rw [outsAt0_B m c t h]
  frame_out
  exact pay_gate _ _ _ _

theorem dy_at (c : Dev nD) (t : Fin cfg0.N) : (outsAt0 m c t.val t.isLt).2.1 = fun y => (pY m c t y - pT m c t y) * inv := by
  by_cases h : t.val % 8 = 0
  · rw [outsAt0_A m c t h]
    frame_out
    rfl
  · rw [outsAt0_B m c t h]
    frame_out
    rfl

theorem dt_at (c : Dev nD) (t : Fin cfg0.N) :
    (outsAt0 m c t.val t.isLt).2.2.1 = fun y => (pY m c t y - pT m c t y) * inv * pG m c t (at2 (n := 1) (k := 2048) 0 (y 1)) := by
  by_cases h : t.val % 8 = 0
  · rw [outsAt0_A m c t h]
    frame_out
    exact funext fun y => pay_dt _ _ _ y
  · rw [outsAt0_B m c t h]
    frame_out
    exact funext fun y => pay_dt _ _ _ y

/-! ## The blocks in the arrays -/

theorem at_Y (c : Dev nD) (t : Fin cfg0.N) (p : Fin 256) (k r : Fin 2048) (hr : r.val = t.val * 256 + p.val) :
    pY m c t (at2 (n := 256) (k := 2048) p k) = aY m c (at2 (n := 2048) (k := 2048) r k) := by
  show V m c main_arg0 _ = V m c main_arg0 _
  congr 1
  refine ext2 (n := 2048) (k := 2048) ?_ ?_
  · blk_simp [facts t]; show _ = r.val; rw [hr]
  · blk_simp [facts t]

theorem at_T (c : Dev nD) (t : Fin cfg0.N) (p : Fin 256) (k r : Fin 2048) (hr : r.val = t.val * 256 + p.val) :
    pT m c t (at2 (n := 256) (k := 2048) p k) = aT m c (at2 (n := 2048) (k := 2048) r k) := by
  show V m c main_arg1 _ = V m c main_arg1 _
  congr 1
  refine ext2 (n := 2048) (k := 2048) ?_ ?_
  · blk_simp [facts t]; show _ = r.val; rw [hr]
  · blk_simp [facts t]

theorem at_X (c : Dev nD) (t : Fin cfg0.N) (p : Fin 256) (k r : Fin 2048) (hr : r.val = t.val * 256 + p.val) :
    pX m c t (at2 (n := 256) (k := 2048) p k) = aX m c (at2 (n := 2048) (k := 2048) r k) := by
  show V m c main_arg2 _ = V m c main_arg2 _
  congr 1
  refine ext2 (n := 2048) (k := 2048) ?_ ?_
  · blk_simp [facts t]; show _ = r.val; rw [hr]
  · blk_simp [facts t]

theorem at_G (c : Dev nD) (t : Fin cfg0.N) (k : Fin 2048) : pG m c t (at2 (n := 1) (k := 2048) 0 k) = aG m c (at2 (n := 1) (k := 2048) 0 k) := by
  show V m c main_arg3 _ = V m c main_arg3 _
  congr 1
  refine ext2 (n := 1) (k := 2048) ?_ ?_
  all_goals blk_simp [facts t]

theorem point_lt (t : Fin cfg0.N) : t.val < 8 := lt_of_lt_of_eq t.isLt N_0

theorem blockLoss_eq (c : Dev nD) (t : Fin cfg0.N) : blockLoss (pY m c t) (pT m c t) = half * ∑ p : Fin 256, meanSq (aY m c) (aT m c) (row t.val p) := by
  refine congrArg (half * ·) (Finset.sum_congr rfl fun p _ => congrArg (· * inv) (Finset.sum_congr rfl fun k _ => ?_))
  rw [at_Y m c t p k _ (row_val (point_lt t) p), at_T m c t p k _ (row_val (point_lt t) p)]

theorem blockGate_eq (c : Dev nD) (t : Fin cfg0.N) (y : S1x2048.Idx) : blockGate (pY m c t) (pT m c t) (pX m c t) y
    = ∑ p : Fin 256, dyOut (aY m c) (aT m c) (at2 (n := 2048) (k := 2048) (row t.val p) (y 1)) * aX m c (at2 (n := 2048) (k := 2048) (row t.val p) (y 1)) := by
  refine Finset.sum_congr rfl fun p _ => ?_
  rw [at_Y m c t p (y 1) _ (row_val (point_lt t) p), at_T m c t p (y 1) _ (row_val (point_lt t) p), at_X m c t p (y 1) _ (row_val (point_lt t) p)]
  rfl

/-! ## The sums over the points -/

theorem loss_upto (c : Dev nD) : ∀ (n : ℕ) (hn : n < cfg0.N) (y : S1x128.Idx),
    (outsAt0 m c n hn).1 y = ∑ q ∈ Finset.range (n + 1), half * ∑ p : Fin 256, meanSq (aY m c) (aT m c) (row q p)
  | 0, hn, y => by
    rw [Finset.sum_range_one]
    exact (congrFun (loss_A m c ⟨0, hn⟩ rfl) y).trans ((zero_add _).trans (blockLoss_eq m c ⟨0, hn⟩))
  | n + 1, hn, y => by
    rw [Finset.sum_range_succ]
    refine (congrFun (loss_B m c ⟨n + 1, hn⟩ ?_) y).trans (congrArg₂ (· + ·) (loss_upto c n (by omega) y) (blockLoss_eq m c ⟨n + 1, hn⟩))
    have := point_lt ⟨n + 1, hn⟩
    dsimp only at this ⊢
    omega

theorem gate_upto (c : Dev nD) : ∀ (n : ℕ) (hn : n < cfg0.N) (y : S1x2048.Idx),
    (outsAt0 m c n hn).2.2.2.1 y = ∑ q ∈ Finset.range (n + 1), ∑ p : Fin 256,
      dyOut (aY m c) (aT m c) (at2 (n := 2048) (k := 2048) (row q p) (y 1)) * aX m c (at2 (n := 2048) (k := 2048) (row q p) (y 1))
  | 0, hn, y => by
    rw [Finset.sum_range_one]
    exact (congrFun (gate_A m c ⟨0, hn⟩ rfl) y).trans ((zero_add _).trans (blockGate_eq m c ⟨0, hn⟩ y))
  | n + 1, hn, y => by
    rw [Finset.sum_range_succ]
    refine (congrFun (gate_B m c ⟨n + 1, hn⟩ ?_) y).trans (congrArg₂ (· + ·) (gate_upto c n (by omega) y) (blockGate_eq m c ⟨n + 1, hn⟩ y))
    have := point_lt ⟨n + 1, hn⟩
    dsimp only at this ⊢
    omega

/-! ## The four results -/

theorem last_point : ∀ t : Fin cfg0.N, (cfg0.win 4).flush t = true ∨ (cfg0.win 7).flush t = true → t.val = 7 :=
  (by decide +kernel : ∀ t : Fin grid0.N, (cfg0.win 4).flush t = true ∨ (cfg0.win 7).flush t = true → t.val = 7)

theorem array_loss (c : Dev nD) : (dats m 0 c).arrAt 4 cfg0.N = lossOut (aY m c) (aT m c) := by
  refine Dat.arrAt_eq_of_covers _ 4 _ (by decide +kernel) fun t hf y => ?_
  have e : t.val + 1 = 8 := congrArg (· + 1) (last_point t (.inl hf))
  blk_simp
  refine (congrFun (after0_4 m c t) y).trans ((loss_upto m c t.val t.isLt y).trans ?_)
  rw [e]
  exact (half_sum _ _).symm.trans (congrArg (half * ·) (eight_blocks (meanSq (aY m c) (aT m c))))

theorem array_dgate (c : Dev nD) : (dats m 0 c).arrAt 7 cfg0.N = dgateOut (aY m c) (aT m c) (aX m c) := by
  refine Dat.arrAt_eq_of_covers _ 7 _ (by decide +kernel) fun t hf y => ?_
  have e : t.val + 1 = 8 := congrArg (· + 1) (last_point t (.inr hf))
  blk_simp
  refine (congrFun (after0_7 m c t) y).trans ((gate_upto m c t.val t.isLt y).trans ?_)
  rw [e]
  refine (eight_blocks fun s => dyOut (aY m c) (aT m c) (at2 (n := 2048) (k := 2048) s (y 1)) * aX m c (at2 (n := 2048) (k := 2048) s (y 1))).trans ?_
  refine congrArg (dgateOut (aY m c) (aT m c) (aX m c)) (ext2 (n := 1) (k := 2048) ?_ ?_ : y = _)
  all_goals blk_simp [facts t]

/-- The row of the arrays that a row of a point's block is. -/
def rowAt (t : Fin cfg0.N) (y : S256x2048.Idx) : Fin 2048 :=
  ⟨t.val * 256 + (y 0).val, by have h0 : (y 0).val < 256 := (y 0).isLt; have h1 := point_lt t; omega⟩

theorem same (y : S256x2048.Idx) : y = at2 (n := 256) (k := 2048) (y 0) (y 1) := ext2 (n := 256) (k := 2048) rfl rfl

theorem dy_point (c : Dev nD) (t : Fin cfg0.N) (y : S256x2048.Idx) :
    (pY m c t y - pT m c t y) * inv = dyOut (aY m c) (aT m c) (at2 (n := 2048) (k := 2048) (rowAt t y) (y 1)) := by
  refine congrArg (· * inv) (congrArg₂ (· - ·) ((congrArg (pY m c t) (same y)).trans (at_Y m c t (y 0) (y 1) _ rfl))
    ((congrArg (pT m c t) (same y)).trans (at_T m c t (y 0) (y 1) _ rfl)))

theorem array_dy (c : Dev nD) : (dats m 0 c).arrAt 5 cfg0.N = dyOut (aY m c) (aT m c) := by
  refine Dat.arrAt_eq_of_covers _ 5 _ (by decide +kernel) fun t hf y => ?_
  blk_simp
  refine (congrFun ((after0_5 m c t).trans (dy_at m c t)) y).trans ((dy_point m c t y).trans ?_)
  refine congrArg _ (ext2 (n := 2048) (k := 2048) ?_ ?_)
  all_goals blk_simp [facts t]
  all_goals rfl

theorem array_dt (c : Dev nD) : (dats m 0 c).arrAt 6 cfg0.N = dtOut (aY m c) (aT m c) (aG m c) := by
  refine Dat.arrAt_eq_of_covers _ 6 _ (by decide +kernel) fun t hf y => ?_
  blk_simp
  refine (congrFun ((after0_6 m c t).trans (dt_at m c t)) y).trans ((congrArg₂ (· * ·) (dy_point m c t y) (at_G m c t (y 1))).trans ?_)
  refine congrArg (dtOut (aY m c) (aT m c) (aG m c)) (ext2 (n := 2048) (k := 2048) ?_ ?_ : at2 (n := 2048) (k := 2048) (rowAt t y) (y 1) = _)
  all_goals blk_simp [facts t]
  all_goals rfl

end

/-! ## The reference -/

section
open Cert.Reference11Ideal Cert.Reference11Ideal.Read

variable (Y T : (⟨S2048x2048, .f32⟩ : BufTy).Contents (Elt Ideal)) (X : (⟨S2048x2048, .bf16⟩ : BufTy).Contents (Elt Ideal)) (G : (⟨S1x2048, .f32⟩ : BufTy).Contents (Elt Ideal))

theorem ref_dy (i : S2048x2048.Idx) : val_main_v14 (F := Ideal) Y T i = dyOut Y T i := by
  rw [val_main_v14_apply, val_main_v13_apply, val_main_v12_apply]
  exact slope (Y i - T i)

theorem ref_rows (i : S2048.Idx) : val_main_v6 (F := Ideal) Y T i = meanSq Y T (i 0) := by
  rw [val_main_v6_apply, val_main_v4_apply]
  refine (over_wide _).trans (congrArg (· * inv) ?_)
  show Ideal.ofBits .f32 0x00000000#32 + ∑ k : Fin 2048, _ = _
  rw [Ideal.ofBits_zero_f32, zero_add]
  refine Finset.sum_congr rfl fun k _ => ?_
  have e : idx_main_v4 i k = at2 (n := 2048) (k := 2048) (i 0) k := ext2 (n := 2048) (k := 2048) rfl rfl
  rw [e]
  rfl

/-- The places of a row of 2048. -/
def spots : S2048.Idx ≃ Fin 2048 where
  toFun i := i 0
  invFun := place
  left_inv i := funext fun x => match x with
    | ⟨0, _⟩ => rfl
  right_inv _ := rfl

theorem ref_loss (i : S1x128.Idx) : val_main_v24 (F := Ideal) Y T i = lossOut Y T i := by
  rw [val_main_v24_apply, val_main_v8_apply, val_main_v7_apply]
  refine congrArg (half * ·) ?_
  show Ideal.ofBits .f32 0x00000000#32 + ∑ j : S2048.Idx, _ = _
  rw [Ideal.ofBits_zero_f32, zero_add]
  exact Fintype.sum_equiv spots _ _ fun j => ref_rows Y T j

theorem ref_dt (i : S2048x2048.Idx) : val_main_v23 (F := Ideal) Y T G i = dtOut Y T G i := by
  rw [val_main_v23_apply, val_main_v19_apply, ref_dy]
  refine (mul_comm _ _).trans (congrArg (dyOut Y T i * ·) ?_)
  exact congrArg G (ext2 (n := 1) (k := 2048) rfl rfl)

theorem ref_dgate (i : S1x2048.Idx) : val_main_v22 (F := Ideal) Y T X i = dgateOut Y T X i := by
  rw [val_main_v22_apply, val_main_v21_apply]
  show Ideal.ofBits .f32 0x00000000#32 + ∑ k : Fin 2048, _ = _
  rw [Ideal.ofBits_zero_f32, zero_add]
  refine Finset.sum_congr rfl fun k _ => ?_
  rw [val_main_v20_apply, ref_dy]
  have e : idx_main_v21 (idx_main_v22 i) k = at2 (n := 2048) (k := 2048) k (i 1) := ext2 (n := 2048) (k := 2048) rfl (by
    have h0 : (i 0).val < 1 := (i 0).isLt
    have h1 : (i 1).val < 2048 := (i 1).isLt
    show (i 0).val * 2048 + (i 1).val = (i 1).val
    omega)
  rw [e]
  rfl

end

end Cert.Loss

end
-- ==== Proof.SmallValue.lean ====
/- The AdamW step of the small weights, their gradients summed over the devices: the kernel's and the reference's. -/
module

public import proofs.«01_k».proof.Proof.AdamModel
public import proofs.«01_k».proof.Proof.Products
public import proofs.«01_k».proof.Proof.Gen.Kernel12Ideal.Value
public import proofs.«01_k».proof.Proof.Gen.Reference12Ideal.Read

@[expose] public section

set_option maxRecDepth 16384

noncomputable section

namespace Cert.Adam.Small

open Cert.Ffn Idealize.ShloMosaic

/-- The entry of device `k`'s row under `i`. -/
def part (k : Fin 8) (i : (⟨2, ![1, 33280]⟩ : Shape).Idx) : (⟨3, ![8, 1, 33280]⟩ : Shape).Idx := fun x => match x with
  | ⟨0, _⟩ => k
  | ⟨1, _⟩ => i 0
  | ⟨2, _⟩ => i 1

theorem ext3 {y z : (⟨3, ![8, 1, 33280]⟩ : Shape).Idx} (h0 : (y 0).val = (z 0).val) (h2 : (y 2).val = (z 2).val) : y = z := by
  funext x
  match x with
  | 0 => exact Fin.ext h0
  | 1 => exact Subsingleton.elim (α := Fin 1) _ _
  | 2 => exact Fin.ext h2

section
variable (P : (⟨3, ![8, 1, 33280]⟩ : Shape).Idx → EReal) (W M V : (⟨2, ![1, 33280]⟩ : Shape).Idx → EReal)

/-- The gradient, -/
def gOut : (⟨2, ![1, 33280]⟩ : Shape).Idx → EReal := fun i => ∑ k : Fin 8, P (part k i)

/-- the weights' changes, -/
def wOut : (⟨2, ![1, 33280]⟩ : Shape).Idx → EReal := fun i => change (gOut P i) (W i) (M i) (V i)

/-- and the new moments. -/
def mOut : (⟨2, ![1, 33280]⟩ : Shape).Idx → EReal := fun i => moved (M i) (gOut P i)
def vOut : (⟨2, ![1, 33280]⟩ : Shape).Idx → EReal := fun i => spread (V i) (gOut P i)

end

section
open Cert.Kernel12Ideal Cert.Kernel12Ideal.Gen Cert.Kernel12Ideal.Value

variable (P : FVec Ideal S8x1x33280 .f32) (W M V : FVec Ideal S1x33280 .f32) (y : S1x33280.Idx)

theorem pay_g : G4 (F := Ideal) P W M V y = gOut P y := by
  refine (piece4_0 (F := Ideal) _ _ _ _ _ _ _ _ y).trans ?_
  refine Eq.trans ?_ (Fin.sum_univ_eight fun k => P (part k y)).symm
  have hy : (y 1).val = 0 + 1 * (0 + 1 * (y 1).val) := by omega
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact congrArg P (ext3 rfl hy.symm)

theorem pay_w : G5 (F := Ideal) P W M V y = wOut P W M V y := by
  unfold G5 k0_pay3 k0_pay1 k0_pay2
  exact change_congr (pay_g P W M V y) rfl rfl rfl

theorem pay_m : G6 (F := Ideal) P W M V y = mOut P M y := by
  unfold G6 k0_pay1
  exact moved_congr rfl (pay_g P W M V y)

theorem pay_v : G7 (F := Ideal) P W M V y = vOut P V y := by
  unfold G7 k0_pay2
  exact spread_congr rfl (pay_g P W M V y)

end

section
open Cert.Reference12Ideal Cert.Reference12Ideal.Gen Cert.Reference12Ideal.Read

variable (P : FVec Ideal S8x1x33280 .f32) (W M V : FVec Ideal S1x33280 .f32) (i : S1x33280.Idx)

theorem ref_g : val_main_v0 (F := Ideal) P i = gOut P i := by
  rw [val_main_v0_apply]
  show Ideal.ofBits .f32 0x00000000#32 + ∑ k : Fin 8, _ = _
  rw [Ideal.ofBits_zero_f32, zero_add]
  exact Finset.sum_congr rfl fun k _ => congrArg P (ext3 rfl rfl)

theorem ref_m : val_main_v5 (F := Ideal) P M i = mOut P M i := by
  rw [val_main_v5_apply, val_main_v4_apply, val_main_v3_apply, val_main_v2_apply, val_main_v1_apply, ref_g]
  rfl

theorem ref_v : val_main_v11 (F := Ideal) P V i = vOut P V i := by
  rw [val_main_v11_apply, val_main_v10_apply, val_main_v9_apply, val_main_v8_apply, val_main_v7_apply, val_main_v6_apply, ref_g]
  rfl

theorem ref_w : val_main_v24 (F := Ideal) P W M V i = wOut P W M V i := by
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, ref_m, ref_v]
  rfl

end

end Cert.Adam.Small

end
-- ==== Proof.CombineValue.lean ====
/- The combination of the groups: what the kernel leaves and what its reference says, over the extended reals. -/
module

public import proofs.«01_k».proof.Proof.Dots
public import proofs.«01_k».proof.Proof.Reals
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

namespace Cert.Combine

open Cert.Ffn Idealize.ShloMosaic

/-- The greatest of three, -/
def top (a b c : EReal) : EReal := max (max a b) c

/-- the sum of their exponentials below it, -/
def mass (a b c : EReal) : EReal := Ideal.exp (a - top a b c) + Ideal.exp (b - top a b c) + Ideal.exp (c - top a b c)

/-- and one's share of the sum. -/
def share (a b c l : EReal) : EReal := Ideal.div (Ideal.exp (l - top a b c)) (mass a b c)

section
variable (O₀ O₁ O₂ L₀ L₁ L₂ : (⟨2, ![2048, 512]⟩ : Shape).Idx → EReal)

/-- Three outputs, each by its share. -/
def mixOut : (⟨2, ![2048, 512]⟩ : Shape).Idx → EReal := fun i =>
  share (L₀ i) (L₁ i) (L₂ i) (L₀ i) * O₀ i + share (L₀ i) (L₁ i) (L₂ i) (L₁ i) * O₁ i + share (L₀ i) (L₁ i) (L₂ i) (L₂ i) * O₂ i

end

section
open Cert.Kernel13Ideal Cert.Kernel13Ideal.Gen
open Idealize.ShloMosaic.Pipeline Idealize.ShloMosaic.TcCoe Idealize.ShloMosaic.Tactic

variable (m : (ℓ : Loc nD τ sig) → Buf (Elt Ideal) ℓ)

/-- The arguments. -/
def aO₀ (c : Dev nD) : FVec Ideal S2048x512 .f32 := V m c main_arg0
def aO₁ (c : Dev nD) : FVec Ideal S2048x512 .f32 := V m c main_arg1
def aO₂ (c : Dev nD) : FVec Ideal S2048x512 .f32 := V m c main_arg2
def aL₀ (c : Dev nD) : FVec Ideal S2048x512 .f32 := V m c main_arg3
def aL₁ (c : Dev nD) : FVec Ideal S2048x512 .f32 := V m c main_arg4
def aL₂ (c : Dev nD) : FVec Ideal S2048x512 .f32 := V m c main_arg5

theorem facts : ∀ t : Fin cfg0.N, (win0_0.index t = ![t.val, 0] ∧ win0_1.index t = ![t.val, 0] ∧ win0_2.index t = ![t.val, 0] ∧ win0_3.index t = ![t.val, 0])
    ∧ win0_4.index t = ![t.val, 0] ∧ win0_5.index t = ![t.val, 0] ∧ win0_6.index t = ![t.val, 0] :=
  (by decide +kernel : ∀ t : Fin grid0.N, (win0_0.index t = ![t.val, 0] ∧ win0_1.index t = ![t.val, 0] ∧ win0_2.index t = ![t.val, 0] ∧ win0_3.index t = ![t.val, 0])
    ∧ win0_4.index t = ![t.val, 0] ∧ win0_5.index t = ![t.val, 0] ∧ win0_6.index t = ![t.val, 0])

/-- The place in the arrays of a place in a point's block. -/
def place (t : Fin cfg0.N) (y : S1024x512.Idx) : S2048x512.Idx :=
  at2 (n := 2048) (k := 512) ⟨t.val * 1024 + (y 0).val, by have h0 : (y 0).val < 1024 := (y 0).isLt; have h1 : t.val < 2 := lt_of_lt_of_eq t.isLt N_0; omega⟩ (y 1)

theorem blocks (c : Dev nD) (t : Fin cfg0.N) (y : S1024x512.Idx) :
    (iblk m c 0 t y = aO₀ m c (place t y) ∧ iblk m c 1 t y = aO₁ m c (place t y) ∧ iblk m c 2 t y = aO₂ m c (place t y))
      ∧ iblk m c 3 t y = aL₀ m c (place t y) ∧ iblk m c 4 t y = aL₁ m c (place t y) ∧ iblk m c 5 t y = aL₂ m c (place t y) := by
  refine ⟨⟨?_, ?_, ?_⟩, ?_, ?_, ?_⟩
  · show V m c main_arg0 _ = V m c main_arg0 _
    congr 1
    refine ext2 (n := 2048) (k := 512) ?_ ?_ <;> blk_simp [facts t] <;> rfl
  · show V m c main_arg1 _ = V m c main_arg1 _
    congr 1
    refine ext2 (n := 2048) (k := 512) ?_ ?_ <;> blk_simp [facts t] <;> rfl
  · show V m c main_arg2 _ = V m c main_arg2 _
    congr 1
    refine ext2 (n := 2048) (k := 512) ?_ ?_ <;> blk_simp [facts t] <;> rfl
  · show V m c main_arg3 _ = V m c main_arg3 _
    congr 1
    refine ext2 (n := 2048) (k := 512) ?_ ?_ <;> blk_simp [facts t] <;> rfl
  · show V m c main_arg4 _ = V m c main_arg4 _
    congr 1
    refine ext2 (n := 2048) (k := 512) ?_ ?_ <;> blk_simp [facts t] <;> rfl
  · show V m c main_arg5 _ = V m c main_arg5 _
    congr 1
    refine ext2 (n := 2048) (k := 512) ?_ ?_ <;> blk_simp [facts t] <;> rfl

theorem left_mix (c : Dev nD) (t : Fin cfg0.N) (y : S1024x512.Idx) :
    out0_6 (iblk m c 0 t) (iblk m c 1 t) (iblk m c 2 t) (iblk m c 3 t) (iblk m c 4 t) (iblk m c 5 t) y
      = share (iblk m c 3 t y) (iblk m c 4 t y) (iblk m c 5 t y) (iblk m c 3 t y) * iblk m c 0 t y
        + share (iblk m c 3 t y) (iblk m c 4 t y) (iblk m c 5 t y) (iblk m c 4 t y) * iblk m c 1 t y
        + share (iblk m c 3 t y) (iblk m c 4 t y) (iblk m c 5 t y) (iblk m c 5 t y) * iblk m c 2 t y := by
  frame_out
  rfl

theorem array_mix (c : Dev nD) : (dats m 0 c).arrAt 6 cfg0.N = mixOut (aO₀ m c) (aO₁ m c) (aO₂ m c) (aL₀ m c) (aL₁ m c) (aL₂ m c) := by
  refine Dat.arrAt_eq_of_covers _ 6 _ (by decide +kernel) fun t hf y => ?_
  blk_simp
  refine (congrFun (after0_6 m c t) y).trans ((left_mix m c t y).trans ?_)
  obtain ⟨⟨e0, e1, e2⟩, e3, e4, e5⟩ := blocks m c t y
  rw [e0, e1, e2, e3, e4, e5]
  refine congrArg (mixOut (aO₀ m c) (aO₁ m c) (aO₂ m c) (aL₀ m c) (aL₁ m c) (aL₂ m c)) (a₁ := place t y) (ext2 (n := 2048) (k := 512) ?_ ?_)
  all_goals blk_simp [facts t]
  all_goals rfl

end

/-! ## The reference -/

section
open Cert.Reference13Ideal Cert.Reference13Ideal.Read Cert.Reference13Ideal.Gen

variable (O₀ O₁ O₂ L₀ L₁ L₂ : (⟨S2048x512, .f32⟩ : BufTy).Contents (Elt Ideal)) (i : S2048x512.Idx)

/-- A place of one array in the stack of three. -/
def lay (q : Fin 3) : S3x2048x512.Idx := fun a => match a with
  | ⟨0, _⟩ => q
  | ⟨1, _⟩ => i 0
  | ⟨2, _⟩ => i 1

/-- And in a stack of one. -/
def alone : S1x2048x512.Idx := fun a => match a with
  | ⟨0, _⟩ => (0 : Fin 1)
  | ⟨1, _⟩ => i 0
  | ⟨2, _⟩ => i 1

theorem stacked (q : Fin 3) (f : Fin 3 → S1x2048x512.Idx → EReal) (h) :
    concatenate S3x2048x512 0 (List.ofFn fun n : Fin 3 => (⟨S1x2048x512, f n⟩ : (s : Shape) × (s.Idx → EReal))) h (lay i q) = f q (alone i) :=
  concatenate_ofFn_unit_apply (t := S3x2048x512) (0 : Fin 3) f h rfl rfl (lay i q) q rfl (alone i) fun b hb => match b with
    | ⟨0, _⟩ => absurd rfl hb
    | ⟨1, _⟩ => rfl
    | ⟨2, _⟩ => rfl

theorem back : idx_main_v0 (alone i) = i := ext2 (n := 2048) (k := 512) rfl rfl

theorem logs (q : Fin 3) : val_main_v3 (F := Ideal) L₀ L₁ L₂ (lay i q) = ![L₀ i, L₁ i, L₂ i] q := by
  refine (stacked i q ![val_main_v0 (F := Ideal) L₀, val_main_v1 (F := Ideal) L₁, val_main_v2 (F := Ideal) L₂] _).trans ?_
  match q with
  | 0 => exact (val_main_v0_apply L₀ _).trans (congrArg L₀ (back i))
  | 1 => exact (val_main_v1_apply L₁ _).trans (congrArg L₁ (back i))
  | 2 => exact (val_main_v2_apply L₂ _).trans (congrArg L₂ (back i))

theorem outs (q : Fin 3) : val_main_v18 (F := Ideal) O₀ O₁ O₂ (lay i q) = ![O₀ i, O₁ i, O₂ i] q := by
  refine (stacked i q ![val_main_v15 (F := Ideal) O₀, val_main_v16 (F := Ideal) O₁, val_main_v17 (F := Ideal) O₂] _).trans ?_
  match q with
  | 0 => exact (val_main_v15_apply O₀ _).trans (congrArg O₀ (back i))
  | 1 => exact (val_main_v16_apply O₁ _).trans (congrArg O₁ (back i))
  | 2 => exact (val_main_v17_apply O₂ _).trans (congrArg O₂ (back i))

theorem greatest (f : Fin 3 → EReal) : (Finset.univ : Finset (Fin 3)).fold max ⊥ f = top (f 0) (f 1) (f 2) := by
  apply le_antisymm
  · rw [Finset.fold_max_le]
    refine ⟨bot_le, fun q _ => ?_⟩
    match q with
    | 0 => exact (le_max_left _ _).trans (le_max_left _ _)
    | 1 => exact (le_max_right _ _).trans (le_max_left _ _)
    | 2 => exact le_max_right _ _
  · refine max_le (max_le ?_ ?_) ?_ <;> exact Finset.le_fold_max _ |>.2 (.inr ⟨_, Finset.mem_univ _, le_rfl⟩)

theorem ref_top : val_main_v6 (F := Ideal) L₀ L₁ L₂ i = top (L₀ i) (L₁ i) (L₂ i) := by
  have hr : S3x2048x512.Reduces [0] S2048x512 := ⟨reducesTo_S3x2048x512_S2048x512_d0.1, by decide, reducesTo_S3x2048x512_S2048x512_d0.2⟩
  have hl : ∀ q : Fin 3, hr.lift i q = lay i q := fun q => funext fun a => match a with
    | ⟨0, _⟩ => Fin.ext rfl
    | ⟨1, _⟩ => Fin.ext rfl
    | ⟨2, _⟩ => Fin.ext rfl
  rw [val_main_v6_apply]
  unfold val_main_v4
  rw [Host.reduce_eq_fold_single FloatOps.maximumf _ _ reducesTo_S3x2048x512_S2048x512_d0 hr h_S_, val_main_cst_apply, val_main_v5_apply, val_main_cst_0_apply,
    Ideal.ofBits_def, Cert.DilBwd.ofBits_bot]
  have e : (val_main_v3 (F := Ideal) L₀ L₁ L₂ ∘ hr.lift i) = ![L₀ i, L₁ i, L₂ i] := funext fun q => (congrArg _ (hl q)).trans (logs L₀ L₁ L₂ i q)
  rw [e]
  exact (bot_sup_eq _).trans (greatest _)

theorem ref_exp (q : Fin 3) : val_main_v10 (F := Ideal) L₀ L₁ L₂ (lay i q) = Ideal.exp (![L₀ i, L₁ i, L₂ i] q - top (L₀ i) (L₁ i) (L₂ i)) := by
  rw [val_main_v10_apply, val_main_v9_apply, logs, val_main_v8_apply, val_main_v7_apply]
  have e : idx_main_v7 (idx_main_v8 (lay i q)) = i := ext2 (n := 2048) (k := 512) rfl rfl
  rw [e, ref_top]
  rfl

theorem ref_mass : val_main_v11 (F := Ideal) L₀ L₁ L₂ i = mass (L₀ i) (L₁ i) (L₂ i) := by
  rw [val_main_v11_apply]
  show Ideal.ofBits .f32 0x00000000#32 + ∑ k : Fin 3, val_main_v10 (F := Ideal) L₀ L₁ L₂ (lay i k) = _
  rw [Ideal.ofBits_zero_f32, zero_add, Fin.sum_univ_three, ref_exp, ref_exp, ref_exp]
  rfl

theorem ref_share (q : Fin 3) : val_main_v14 (F := Ideal) L₀ L₁ L₂ (lay i q) = share (L₀ i) (L₁ i) (L₂ i) (![L₀ i, L₁ i, L₂ i] q) := by
  rw [val_main_v14_apply, ref_exp, val_main_v13_apply, val_main_v12_apply]
  have e : idx_main_v12 (idx_main_v13 (lay i q)) = i := ext2 (n := 2048) (k := 512) rfl rfl
  rw [e, ref_mass]
  rfl

theorem ref_mix : val_main_v21 (F := Ideal) O₀ O₁ O₂ L₀ L₁ L₂ i = mixOut O₀ O₁ O₂ L₀ L₁ L₂ i := by
  rw [val_main_v21_apply, val_main_v20_apply]
  show Ideal.ofBits .f32 0x00000000#32 + ∑ k : Fin 3, val_main_v19 (F := Ideal) O₀ O₁ O₂ L₀ L₁ L₂ (lay i k) = _
  rw [Ideal.ofBits_zero_f32, zero_add, Fin.sum_univ_three]
  simp only [val_main_v19_apply, ref_share, outs]
  rfl

end

end Cert.Combine

end
-- ==== Proof.RopeValue.lean ====
/- The norms of q and k with the rotary embedding: what the kernel leaves and what its reference says, over the extended reals. -/
module

public import proofs.«01_k».proof.Proof.NormModel
public import proofs.«01_k».proof.Proof.FfnModel
public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Rope

open Cert.Ffn Idealize.ShloMosaic
open Cert.Norm (only)

/-- The entry half a head away. -/
def half (d : Fin 128) : Fin 128 := ⟨(d.val + 64) % 128, Nat.mod_lt _ (by decide)⟩

/-- A head's reciprocal root mean square, -/
def root (f : Fin 128 → EReal) : EReal :=
  Ideal.rsqrt (Ideal.div (∑ d, f d * f d) (Ideal.ofBits .f32 0x43000000#32) + Ideal.ofBits .f32 0x358637BD#32)

/-- an entry of it, normed with its gain, -/
def scaled (f g : Fin 128 → EReal) (d : Fin 128) : EReal := f d * root f * g d

/-- and turned. -/
def turned (f g : Fin 128 → EReal) (d : Fin 128) (c s : EReal) : EReal := scaled f g d * c + scaled f g (half d) * s

theorem turned_congr {f f' g g' : Fin 128 → EReal} {d d' : Fin 128} {c c' s s' : EReal} (hf : f = f') (hg : g = g') (hd : d = d') (hc : c = c') (hs : s = s') :
    turned f g d c s = turned f' g' d' c' s' := by
  rw [hf, hg, hd, hc, hs]

/-- A gain's place. -/
def at3 {n : ℕ} (a : Fin n) (d : Fin 128) : (⟨3, ![n, 1, 128]⟩ : Shape).Idx := fun x => match x with
  | ⟨0, _⟩ => a
  | ⟨1, _⟩ => (0 : Fin 1)
  | ⟨2, _⟩ => d

theorem at3_ext {n : ℕ} {a b : (⟨3, ![n, 1, 128]⟩ : Shape).Idx} (h0 : (a 0).val = (b 0).val) (h2 : (a 2).val = (b 2).val) : a = b := funext fun x => match x with
  | ⟨0, _⟩ => Fin.ext h0
  | ⟨1, _⟩ => Fin.ext (by
      have h : (a 1).val < 1 := (a 1).isLt
      have h' : (b 1).val < 1 := (b 1).isLt
      show (a 1).val = (b 1).val
      omega)
  | ⟨2, _⟩ => Fin.ext h2

section
variable (X : (⟨2, ![2048, 10240]⟩ : Shape).Idx → EReal) (G : (⟨3, ![2, 1, 128]⟩ : Shape).Idx → EReal) (C S : (⟨2, ![2048, 128]⟩ : Shape).Idx → EReal)

/-- The column of an entry of the head of a column. -/
def col (n : Fin 3072) (d : Fin 128) : Fin 10240 := ⟨n.val / 128 * 128 + d.val, by have := n.isLt; have := d.isLt; omega⟩

/-- The heads of q and of k, normed and turned. -/
def ropeOut : (⟨2, ![2048, 3072]⟩ : Shape).Idx → EReal := fun i =>
  turned (fun d => X (at2 (n := 2048) (k := 10240) (i 0) (col (i 1) d)))
    (fun d => G (at3 (n := 2) ⟨(i 1).val / 1536, by have h : (i 1).val < 3072 := (i 1).isLt; omega⟩ d)) ⟨(i 1).val % 128, Nat.mod_lt _ (by decide)⟩
    (C (at2 (n := 2048) (k := 128) (i 0) ⟨(i 1).val % 128, Nat.mod_lt _ (by decide)⟩)) (S (at2 (n := 2048) (k := 128) (i 0) ⟨(i 1).val % 128, Nat.mod_lt _ (by decide)⟩))

end

/-! ## A block's head -/

theorem row_total (x : FVec Ideal ⟨2, ![256, 128]⟩ .f32) (h h₁ h₂) (a : Fin 256) :
    multiReduction .add [1] ⟨1, ![256]⟩ x 0x00000000#32 h h₁ h₂ (only a) = ∑ d : Fin 128, x (at2 (n := 256) (k := 128) a d) := by
  rw [Ideal.multiReduction_add_single]
  exact Finset.sum_congr rfl fun d _ => congrArg x (ext2 (n := 256) (k := 128) rfl rfl)

/-- The rows' reciprocal roots, spread along them. -/
theorem spread (x : FVec Ideal ⟨2, ![256, 128]⟩ .f32) (h h₁ h₂ hc hb) (j : (⟨2, ![256, 128]⟩ : Shape).Idx) :
    broadcastTo ⟨2, ![256, 128]⟩ (rsqrt (addf (divf (shapeCast ⟨2, ![256, 1]⟩ (multiReduction .add [1] ⟨1, ![256]⟩ (mulf x x) 0x00000000#32 h h₁ h₂) hc)
        (broadcast ⟨2, ![256, 1]⟩ (Scalar.ofBits .f32 0x43000000#32))) (broadcast ⟨2, ![256, 1]⟩ (Scalar.ofBits .f32 0x358637BD#32)))) hb j
      = root fun d => x (at2 (n := 256) (k := 128) (j 0) d) := by
  refine (broadcastTo_apply _ hb j (at2 (n := 256) (k := 1) (j 0) 0) fun a => match a with
    | ⟨0, _⟩ => rfl
    | ⟨1, _⟩ => rfl).trans ?_
  refine congrArg (fun z => Ideal.rsqrt (Ideal.div z (Ideal.ofBits .f32 0x43000000#32) + Ideal.ofBits .f32 0x358637BD#32)) ?_
  refine (shapeCast_apply _ hc (at2 (n := 256) (k := 1) (j 0) 0) (only (j 0)) ?_).trans (row_total (mulf x x) h h₁ h₂ (j 0))
  rw [Shape.rowMajor_val_one, Shape.rowMajor_val_two]
  show (j 0).val = (j 0).val * 1 + 0
  omega

section
open Cert.Kernel14Ideal Cert.Kernel14Ideal.Gen
open Idealize.ShloMosaic.Pipeline Idealize.ShloMosaic.TcCoe Idealize.ShloMosaic.Tactic

section
variable (x : FVec Ideal S256x128 .f32) (G : FVec Ideal S1x1x128 .f32) (C S : FVec Ideal S256x128 .f32) (y : S256x128.Idx)

theorem gain_row (hb) : broadcastTo S256x128 (k0_pay6 (F := Ideal) G) hb y = G (at3 0 (y 1)) := by
  refine (broadcastTo_apply _ hb y (at2 (n := 1) (k := 128) 0 (y 1)) fun a => match a with
    | ⟨0, _⟩ => rfl
    | ⟨1, _⟩ => rfl).trans ?_
  unfold k0_pay6
  refine shapeCast_apply _ _ (at2 (n := 1) (k := 128) 0 (y 1)) (at3 0 (y 1)) ?_
  rw [Shape.rowMajor_val_three, Shape.rowMajor_val_two]
  rfl

/-- A head before it is turned. -/
def plain : FVec Ideal S256x128 .f32 := k0_pay30 (F := Ideal) (k0_pay6 (F := Ideal) G) x

theorem plain_eq : plain x G y = scaled (fun d => x (at2 (n := 256) (k := 128) (y 0) d)) (fun d => G (at3 0 d)) (y 1) := by
  unfold plain k0_pay30
  exact congrArg₂ (· * ·) (congrArg₂ (· * ·) (congrArg x (ext2 (n := 256) (k := 128) rfl rfl)) (spread x _ _ _ _ _ y)) (gain_row G y _)

theorem pay_turned : k0_pay3 (F := Ideal) (k0_pay6 (F := Ideal) G) C S x y
    = turned (fun d => x (at2 (n := 256) (k := 128) (y 0) d)) (fun d => G (at3 0 d)) (y 1) (C y) (S y) := by
  show plain x G y * C y + dynamicRotate 1 64#32 none (plain x G) rotates_S256x128_d1 y * S y = _
  rw [dynamicRotate_apply 1 64#32 (plain x G) rotates_S256x128_d1 y (at2 (n := 256) (k := 128) (y 0) (half (y 1))) (fun b => match b with
    | ⟨0, _⟩ => rfl
    | ⟨1, _⟩ => rfl), plain_eq, plain_eq]
  rfl

end

/-- The head of a place in a block, and the place in the head. -/
def lane (h : Fin 12) (d : Fin 128) : Fin 1536 := ⟨h.val * 128 + d.val, by have := h.isLt; have := d.isLt; omega⟩
def headOf (n : Fin 1536) : Fin 12 := ⟨n.val / 128, by have := n.isLt; omega⟩
def laneOf (n : Fin 1536) : Fin 128 := ⟨n.val % 128, Nat.mod_lt _ (by decide)⟩

/-- A block of twelve heads. -/
def tile (X : FVec Ideal S256x1536 .f32) (G : FVec Ideal S1x1x128 .f32) (C S : FVec Ideal S256x128 .f32) : FVec Ideal S256x1536 .f32 := fun y =>
  turned (fun d => X (at2 (n := 256) (k := 1536) (y 0) (lane (headOf (y 1)) d))) (fun d => G (at3 0 d)) (laneOf (y 1))
    (C (at2 (n := 256) (k := 128) (y 0) (laneOf (y 1)))) (S (at2 (n := 256) (k := 128) (y 0) (laneOf (y 1))))

theorem head (X : FVec Ideal S256x1536 .f32) (G : FVec Ideal S1x1x128 .f32) (C S : FVec Ideal S256x128 .f32) (o : ℕ) (hm : o % 128 = 0) (hl : o < 1536)
    (hz : ∀ i, (![0, o] : Fin 2 → ℕ) i + S256x128.size i ≤ S256x1536.size i) (x : S256x128.Idx) :
    k0_pay3 (F := Ideal) (k0_pay6 (F := Ideal) G) C S (View.ld X (Rect.unit (s := S256x1536) ![0, o] S256x128.size hz)) x
      = tile X G C S ((Rect.unit (s := S256x1536) ![0, o] S256x128.size hz).emb x) := by
  obtain ⟨h, rfl⟩ : ∃ h : Fin 12, o = h.val * 128 := ⟨⟨o / 128, by omega⟩, by show o = o / 128 * 128; omega⟩
  have h1 : (x 1).val < 128 := (x 1).isLt
  have e0 : x 0 = (Rect.unit (s := S256x1536) ![0, h.val * 128] S256x128.size hz).emb x 0 := Fin.ext (by show (x 0).val = 0 + 1 * (x 0).val; omega)
  have ev : ((Rect.unit (s := S256x1536) ![0, h.val * 128] S256x128.size hz).emb x 1).val = h.val * 128 + (x 1).val := by
    show h.val * 128 + 1 * (x 1).val = _; omega
  have el : x 1 = laneOf ((Rect.unit (s := S256x1536) ![0, h.val * 128] S256x128.size hz).emb x 1) := Fin.ext (by show (x 1).val = _ % 128; rw [ev]; omega)
  have eh : headOf ((Rect.unit (s := S256x1536) ![0, h.val * 128] S256x128.size hz).emb x 1) = h := Fin.ext (by show _ / 128 = h.val; rw [ev]; omega)
  have ec : x = at2 (n := 256) (k := 128) ((Rect.unit (s := S256x1536) ![0, h.val * 128] S256x128.size hz).emb x 0)
      (laneOf ((Rect.unit (s := S256x1536) ![0, h.val * 128] S256x128.size hz).emb x 1)) := ext2 (n := 256) (k := 128) (congrArg Fin.val e0) (congrArg Fin.val el)
  refine (pay_turned _ G C S x).trans (turned_congr (funext fun d => congrArg X (ext2 (n := 256) (k := 1536) ?_ ?_)) rfl el (congrArg C ec) (congrArg S ec))
  · rfl
  · show h.val * 128 + 1 * d.val = (lane (headOf _) d).val
    rw [eh]
    show _ = h.val * 128 + d.val
    omega

variable (m : (ℓ : Loc nD τ sig) → Buf (Elt Ideal) ℓ)

theorem left_exact (c : Dev nD) (t : Fin cfg0.N) : (outsAt0 m c t).2.1 = tile (X0_0 m c t) (iblk m c 1 t) (iblk m c 2 t) (iblk m c 3 t) := by
  unfold outsAt0
  dsimp only
  frame_out
  refine canon_all _ _ (fun y => View.cover_of_tiled (s := S256x1536) _ S256x128.size (by rfl) y) ?_
  iterate 12 refine List.forall_mem_cons.2 ⟨fun x => head _ _ _ _ _ (by decide) (by decide) _ x, ?_⟩
  exact fun p hp => absurd hp List.not_mem_nil

theorem left_rounded (c : Dev nD) (t : Fin cfg0.N) : (outsAt0 m c t).1 = tile (X0_0 m c t) (iblk m c 1 t) (iblk m c 2 t) (iblk m c 3 t) := by
  unfold outsAt0
  dsimp only
  frame_out
  refine canon_all _ _ (fun y => View.cover_of_tiled (s := S256x1536) _ S256x128.size (by rfl) y) ?_
  iterate 12 refine List.forall_mem_cons.2 ⟨fun x => head _ _ _ _ _ (by decide) (by decide) _ x, ?_⟩
  exact fun p hp => absurd hp List.not_mem_nil

/-- The arguments. -/
def aX (c : Dev nD) : FVec Ideal S2048x10240 .f32 := V m c main_arg0
def aG (c : Dev nD) : FVec Ideal S2x1x128 .f32 := V m c main_arg1
def aC (c : Dev nD) : FVec Ideal S2048x128 .f32 := V m c main_arg2
def aS (c : Dev nD) : FVec Ideal S2048x128 .f32 := V m c main_arg3

theorem facts : ∀ t : Fin cfg0.N, (win0_0.index t = ![t.val / 2, t.val % 2] ∧ win0_1.index t = ![t.val % 2, 0, 0] ∧ win0_2.index t = ![t.val / 2, 0])
    ∧ win0_3.index t = ![t.val / 2, 0] ∧ win0_4.index t = ![t.val / 2, t.val % 2] ∧ win0_5.index t = ![t.val / 2, t.val % 2] :=
  (by decide +kernel : ∀ t : Fin grid0.N, (win0_0.index t = ![t.val / 2, t.val % 2] ∧ win0_1.index t = ![t.val % 2, 0, 0] ∧ win0_2.index t = ![t.val / 2, 0])
    ∧ win0_3.index t = ![t.val / 2, 0] ∧ win0_4.index t = ![t.val / 2, t.val % 2] ∧ win0_5.index t = ![t.val / 2, t.val % 2])

section
variable (c : Dev nD) (t : Fin cfg0.N)

theorem at_x (p : Fin 256) (q : Fin 1536) (r : Fin 2048) (s : Fin 10240) (hr : r.val = t.val / 2 * 256 + p.val) (hs : s.val = t.val % 2 * 1536 + q.val) :
    X0_0 m c t (at2 (n := 256) (k := 1536) p q) = aX m c (at2 (n := 2048) (k := 10240) r s) := by
  unfold X0_0 Window.fill
  rw [dif_pos (moved0_0 t _)]
  show V m c main_arg0 _ = V m c main_arg0 _
  congr 1
  refine ext2 (n := 2048) (k := 10240) ?_ ?_
  · blk_simp [facts t]; show _ = r.val; rw [hr]
  · blk_simp [facts t]; show _ = s.val; rw [hs]

theorem at_g (d : Fin 128) (g : Fin 2) (hg : g.val = t.val % 2) : iblk m c 1 t (at3 (n := 1) 0 d) = aG m c (at3 (n := 2) g d) := by
  show V m c main_arg1 _ = V m c main_arg1 _
  congr 1
  refine at3_ext (n := 2) ?_ ?_
  · blk_simp [facts t]; show _ = g.val; rw [hg]
  · blk_simp [facts t]; rfl

theorem at_c (p : Fin 256) (q : Fin 128) (r : Fin 2048) (hr : r.val = t.val / 2 * 256 + p.val) :
    iblk m c 2 t (at2 (n := 256) (k := 128) p q) = aC m c (at2 (n := 2048) (k := 128) r q) ∧ iblk m c 3 t (at2 (n := 256) (k := 128) p q) = aS m c (at2 (n := 2048) (k := 128) r q) := by
  refine ⟨?_, ?_⟩
  · show V m c main_arg2 _ = V m c main_arg2 _
    congr 1
    refine ext2 (n := 2048) (k := 128) ?_ ?_
    · blk_simp [facts t]; show _ = r.val; rw [hr]
    · blk_simp [facts t]
  · show V m c main_arg3 _ = V m c main_arg3 _
    congr 1
    refine ext2 (n := 2048) (k := 128) ?_ ?_
    · blk_simp [facts t]; show _ = r.val; rw [hr]
    · blk_simp [facts t]

/-- The place in the arrays of a place in a point's block. -/
def place (y : S256x1536.Idx) : S2048x3072.Idx := at2 (n := 2048) (k := 3072)
  ⟨t.val / 2 * 256 + (y 0).val, by have h0 : (y 0).val < 256 := (y 0).isLt; have h1 : t.val < 16 := lt_of_lt_of_eq t.isLt N_0; omega⟩
  ⟨t.val % 2 * 1536 + (y 1).val, by have h0 : (y 1).val < 1536 := (y 1).isLt; omega⟩

theorem tile_place (y : S256x1536.Idx) : tile (X0_0 m c t) (iblk m c 1 t) (iblk m c 2 t) (iblk m c 3 t) y = ropeOut (aX m c) (aG m c) (aC m c) (aS m c) (place t y) := by
  have h1 : (y 1).val < 1536 := (y 1).isLt
  have e : laneOf (y 1) = ⟨(place t y 1).val % 128, Nat.mod_lt _ (by decide)⟩ := Fin.ext (by
    show (y 1).val % 128 = (t.val % 2 * 1536 + (y 1).val) % 128; omega)
  refine (turned_congr (funext fun d => at_x m c t (y 0) _ (place t y 0) (col (place t y 1) d) rfl ?_) (funext fun d => at_g m c t d _ ?_) e
    (((at_c m c t (y 0) _ (place t y 0) rfl).1).trans (congrArg (fun z => aC m c (at2 (n := 2048) (k := 128) (place t y 0) z)) e))
    (((at_c m c t (y 0) _ (place t y 0) rfl).2).trans (congrArg (fun z => aS m c (at2 (n := 2048) (k := 128) (place t y 0) z)) e)) : _)
  · show (t.val % 2 * 1536 + (y 1).val) / 128 * 128 + d.val = t.val % 2 * 1536 + ((y 1).val / 128 * 128 + d.val)
    omega
  · show (t.val % 2 * 1536 + (y 1).val) / 1536 = t.val % 2
    omega

end

theorem array_rounded (c : Dev nD) : (dats m 0 c).arrAt 4 cfg0.N = ropeOut (aX m c) (aG m c) (aC m c) (aS m c) := by
  refine Dat.arrAt_eq_of_covers _ 4 _ (by decide +kernel) fun t hf y => ?_
  blk_simp
  refine (congrFun ((after0_4 m c t).trans (left_rounded m c t)) y).trans ((tile_place m c t y).trans ?_)
  refine congrArg (ropeOut (aX m c) (aG m c) (aC m c) (aS m c)) (a₁ := place t y) (ext2 (n := 2048) (k := 3072) ?_ ?_)
  all_goals blk_simp [facts t]
  all_goals rfl

theorem array_exact (c : Dev nD) : (dats m 0 c).arrAt 5 cfg0.N = ropeOut (aX m c) (aG m c) (aC m c) (aS m c) := by
  refine Dat.arrAt_eq_of_covers _ 5 _ (by decide +kernel) fun t hf y => ?_
  blk_simp
  refine (congrFun ((after0_5 m c t).trans (left_exact m c t)) y).trans ((tile_place m c t y).trans ?_)
  refine congrArg (ropeOut (aX m c) (aG m c) (aC m c) (aS m c)) (a₁ := place t y) (ext2 (n := 2048) (k := 3072) ?_ ?_)
  all_goals blk_simp [facts t]
  all_goals rfl

end

/-! ## The reference -/

section
open Cert.Reference14Ideal Cert.Reference14Ideal.Gen Cert.Reference14Ideal.Read

variable (X : (⟨S2048x10240, .f32⟩ : BufTy).Contents (Elt Ideal)) (G : (⟨S2x1x128, .f32⟩ : BufTy).Contents (Elt Ideal)) (C S : (⟨S2048x128, .f32⟩ : BufTy).Contents (Elt Ideal))

/-- A place among the heads. -/
def at4 {n : ℕ} (r : Fin 2048) (g : Fin 2) (h : Fin 12) (d : Fin n) : (⟨4, ![2048, 2, 12, n]⟩ : Shape).Idx := fun a => match a with
  | ⟨0, _⟩ => r
  | ⟨1, _⟩ => g
  | ⟨2, _⟩ => h
  | ⟨3, _⟩ => d

/-- The column of a place among the heads. -/
def flat (g : Fin 2) (h : Fin 12) (d : Fin 128) : Fin 10240 := ⟨(g.val * 12 + h.val) * 128 + d.val, by have := g.isLt; have := h.isLt; have := d.isLt; omega⟩

variable (r : Fin 2048) (g : Fin 2) (h : Fin 12) (d : Fin 128)

theorem ref_entry : val_main_v1 (F := Ideal) X (at4 r g h d) = X (at2 (n := 2048) (k := 10240) r (flat g h d)) := by
  rw [val_main_v1_apply, val_main_v0_apply]
  have hr := r.isLt
  have hg := g.isLt
  have hh := h.isLt
  have hd := d.isLt
  refine congrArg X (ext2 (n := 2048) (k := 10240) ?_ ?_)
  · show (((r.val * 2 + g.val) * 12 + h.val) * 128 + d.val) / 3072 = r.val; omega
  · show (((r.val * 2 + g.val) * 12 + h.val) * 128 + d.val) % 3072 = (g.val * 12 + h.val) * 128 + d.val; omega

theorem ref_root : val_main_v11 (F := Ideal) X (at4 r g h d) = root fun k => X (at2 (n := 2048) (k := 10240) r (flat g h k)) := by
  rw [val_main_v11_apply, val_main_v10_apply, val_main_v9_apply, val_main_v8_apply, val_main_v7_apply, val_main_v6_apply, val_main_v5_apply, val_main_v4_apply]
  show Ideal.rsqrt (Ideal.div (Ideal.ofBits .f32 0x00000000#32 + ∑ k : Fin 128, val_main_v3 (F := Ideal) X (at4 r g h k)) (Ideal.ofBits .f32 0x43000000#32) + Ideal.ofBits .f32 0x358637BD#32) = _
  rw [Ideal.ofBits_zero_f32, zero_add]
  refine congrArg (fun z => Ideal.rsqrt (Ideal.div z _ + _)) (Finset.sum_congr rfl fun k _ => ?_)
  rw [val_main_v3_apply, ref_entry]
  rfl

theorem ref_scaled : val_main_v14 (F := Ideal) X G (at4 r g h d) = scaled (fun k => X (at2 (n := 2048) (k := 10240) r (flat g h k))) (fun k => G (at3 (n := 2) g k)) d := by
  rw [val_main_v14_apply, val_main_v12_apply, ref_entry, ref_root, val_main_v13_apply, val_main_v2_apply]
  exact congrArg (fun z => _ * _ * G z) (at3_ext (n := 2) rfl rfl)

theorem ref_half : val_main_v17 (F := Ideal) X G (at4 r g h d) = val_main_v14 (F := Ideal) X G (at4 r g h (half d)) := by
  unfold val_main_v17
  have hd := d.isLt
  by_cases hl : d.val < 64
  · refine (concatenate_pair_apply_left (t := S2048x2x12x128) (s₁ := S2048x2x12x64) (s₂ := S2048x2x12x64) 3 _ _ _ (at4 r g h d) rfl (at4 r g h ⟨d.val, hl⟩) fun b => match b with
      | ⟨0, _⟩ => rfl
      | ⟨1, _⟩ => rfl
      | ⟨2, _⟩ => rfl
      | ⟨3, _⟩ => rfl).trans ((val_main_v15_apply X G _).trans (congrArg (val_main_v14 (F := Ideal) X G) (funext fun a => match a with
      | ⟨0, _⟩ => rfl
      | ⟨1, _⟩ => rfl
      | ⟨2, _⟩ => rfl
      | ⟨3, _⟩ => Fin.ext (by show 64 + d.val = (d.val + 64) % 128; omega))))
  · refine (concatenate_pair_apply_right (t := S2048x2x12x128) (s₁ := S2048x2x12x64) (s₂ := S2048x2x12x64) 3 _ _ _ (at4 r g h d) rfl rfl
      (at4 r g h (⟨d.val - 64, by omega⟩ : Fin 64)) (fun b hb => match b with
      | ⟨0, _⟩ => rfl
      | ⟨1, _⟩ => rfl
      | ⟨2, _⟩ => rfl
      | ⟨3, _⟩ => absurd rfl hb) (by show d.val - 64 + 64 = d.val; omega)).trans ((val_main_v16_apply X G _).trans (congrArg (val_main_v14 (F := Ideal) X G) (funext fun a => match a with
      | ⟨0, _⟩ => rfl
      | ⟨1, _⟩ => rfl
      | ⟨2, _⟩ => rfl
      | ⟨3, _⟩ => Fin.ext (by show d.val - 64 = (d.val + 64) % 128; omega))))

theorem ref_turned : val_main_v24 (F := Ideal) X G C S (at4 r g h d)
    = turned (fun k => X (at2 (n := 2048) (k := 10240) r (flat g h k))) (fun k => G (at3 (n := 2) g k)) d (C (at2 (n := 2048) (k := 128) r d)) (S (at2 (n := 2048) (k := 128) r d)) := by
  rw [val_main_v24_apply, val_main_v20_apply, val_main_v23_apply, ref_half, ref_scaled, ref_scaled, val_main_v19_apply, val_main_v18_apply, val_main_v22_apply, val_main_v21_apply]
  exact congrArg₂ (· + ·) (congrArg (fun z => _ * C z) (ext2 (n := 2048) (k := 128) rfl rfl)) (congrArg (fun z => _ * S z) (ext2 (n := 2048) (k := 128) rfl rfl))

theorem ref_exact (i : S2048x3072.Idx) : val_main_v25 (F := Ideal) X G C S i = ropeOut X G C S i := by
  have h0 : (i 0).val < 2048 := (i 0).isLt
  have h1 : (i 1).val < 3072 := (i 1).isLt
  have e : idx_main_v25 i = at4 (i 0) ⟨(i 1).val / 1536, by omega⟩ ⟨(i 1).val / 128 % 12, Nat.mod_lt _ (by decide)⟩ ⟨(i 1).val % 128, Nat.mod_lt _ (by decide)⟩ := funext fun a => match a with
    | ⟨0, _⟩ => Fin.ext (by show ((i 0).val * 3072 + (i 1).val) / 3072 = (i 0).val; omega)
    | ⟨1, _⟩ => Fin.ext (by show ((i 0).val * 3072 + (i 1).val) / 1536 % 2 = (i 1).val / 1536; omega)
    | ⟨2, _⟩ => Fin.ext (by show ((i 0).val * 3072 + (i 1).val) / 128 % 12 = (i 1).val / 128 % 12; omega)
    | ⟨3, _⟩ => Fin.ext (by show ((i 0).val * 3072 + (i 1).val) % 128 = (i 1).val % 128; omega)
  refine (val_main_v25_apply X G C S i).trans ((congrArg _ e).trans ((ref_turned X G C S _ _ _ _).trans ?_))
  refine turned_congr (funext fun k => congrArg X (ext2 (n := 2048) (k := 10240) rfl ?_)) rfl rfl rfl rfl
  show ((i 1).val / 1536 * 12 + (i 1).val / 128 % 12) * 128 + k.val = (i 1).val / 128 * 128 + k.val
  omega

theorem ref_rounded (i : S2048x3072.Idx) : val_main_v26 (F := Ideal) X G C S i = ropeOut X G C S i :=
  (val_main_v26_apply X G C S i).trans (ref_exact X G C S i)

end

end Cert.Rope

end
-- ==== Proof.CombineBack.lean ====
/- The gradients of the combination of the groups: what the kernel leaves, over the extended reals. -/
module

public import proofs.«01_k».proof.Proof.CombineValue
public import proofs.«01_k».proof.Proof.Gen.Kernel15Ideal.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Combine

open Cert.Ffn Idealize.ShloMosaic

/-- The gradient of a log-sum: `w` its share and `o` its output, `u`, `v`, `s` the shares and `a`, `b`, `e` the outputs of the three. -/
def slope (w u v s : EReal) (d o a b e : Fin 128 → EReal) : EReal := w * ((∑ k, d k * o k) - ∑ k, d k * (u * a k + v * b k + s * e k))

/-- The head of a place, -/
def headOf (i : (⟨2, ![2048, 512]⟩ : Shape).Idx) : (⟨2, ![2048, 4]⟩ : Shape).Idx :=
  at2 (n := 2048) (k := 4) (i 0) ⟨(i 1).val / 128, by have h : (i 1).val < 512 := (i 1).isLt; omega⟩

/-- and the places of a head. -/
def spot (h : (⟨2, ![2048, 4]⟩ : Shape).Idx) (k : Fin 128) : (⟨2, ![2048, 512]⟩ : Shape).Idx :=
  at2 (n := 2048) (k := 512) (h 0) ⟨(h 1).val * 128 + k.val, by have h' : (h 1).val < 4 := (h 1).isLt; have := k.isLt; omega⟩

section
variable (D O₀ O₁ O₂ : (⟨2, ![2048, 512]⟩ : Shape).Idx → EReal) (L₀ L₁ L₂ : (⟨2, ![2048, 4]⟩ : Shape).Idx → EReal) (q : Fin 3)

/-- A group's share in a head. -/
def weight (h : (⟨2, ![2048, 4]⟩ : Shape).Idx) : EReal := share (L₀ h) (L₁ h) (L₂ h) (![L₀ h, L₁ h, L₂ h] q)

/-- The gradient of a group's output. -/
def outBack : (⟨2, ![2048, 512]⟩ : Shape).Idx → EReal := fun i => weight L₀ L₁ L₂ q (headOf i) * D i

/-- The gradient of a group's log-sums, along the head. -/
def logBack : (⟨2, ![2048, 512]⟩ : Shape).Idx → EReal := fun i =>
  slope (weight L₀ L₁ L₂ q (headOf i)) (weight L₀ L₁ L₂ 0 (headOf i)) (weight L₀ L₁ L₂ 1 (headOf i)) (weight L₀ L₁ L₂ 2 (headOf i))
    (fun k => D (spot (headOf i) k)) (fun k => ![O₀ (spot (headOf i) k), O₁ (spot (headOf i) k), O₂ (spot (headOf i) k)] q)
    (fun k => O₀ (spot (headOf i) k)) (fun k => O₁ (spot (headOf i) k)) (fun k => O₂ (spot (headOf i) k))

end

/-! ## A block -/

/-- A row's number. -/
def row (a : Fin 1024) : (⟨1, ![1024]⟩ : Shape).Idx := fun x => match x with
  | ⟨0, _⟩ => a

theorem row_sum (x : FVec Ideal ⟨2, ![1024, 128]⟩ .f32) (h h₁ h₂) (a : Fin 1024) :
    multiReduction .add [1] ⟨1, ![1024]⟩ x 0x00000000#32 h h₁ h₂ (row a) = ∑ d : Fin 128, x (at2 (n := 1024) (k := 128) a d) := by
  rw [Ideal.multiReduction_add_single]
  exact Finset.sum_congr rfl fun d _ => congrArg x (ext2 (n := 1024) (k := 128) rfl rfl)

theorem row_column (x : FVec Ideal ⟨2, ![1024, 128]⟩ .f32) (h h₁ h₂ hc) (a : Fin 1024) :
    shapeCast ⟨2, ![1024, 1]⟩ (multiReduction .add [1] ⟨1, ![1024]⟩ x 0x00000000#32 h h₁ h₂) hc (at2 (n := 1024) (k := 1) a 0)
      = ∑ d : Fin 128, x (at2 (n := 1024) (k := 128) a d) := by
  refine (shapeCast_apply _ hc (at2 (n := 1024) (k := 1) a 0) (row a) ?_).trans (row_sum x h h₁ h₂ a)
  rw [Shape.rowMajor_val_one, Shape.rowMajor_val_two]
  show a.val = a.val * 1 + 0
  omega

/-- The difference of the rows' sums, spread along them. -/
theorem gap (x z : FVec Ideal ⟨2, ![1024, 128]⟩ .f32) (h h₁ h₂ hc g g₁ g₂ gc hb) (y : (⟨2, ![1024, 128]⟩ : Shape).Idx) :
    broadcastTo ⟨2, ![1024, 128]⟩ (subf (shapeCast ⟨2, ![1024, 1]⟩ (multiReduction .add [1] ⟨1, ![1024]⟩ x 0x00000000#32 h h₁ h₂) hc)
        (shapeCast ⟨2, ![1024, 1]⟩ (multiReduction .add [1] ⟨1, ![1024]⟩ z 0x00000000#32 g g₁ g₂) gc)) hb y
      = (∑ d : Fin 128, x (at2 (n := 1024) (k := 128) (y 0) d)) - ∑ d : Fin 128, z (at2 (n := 1024) (k := 128) (y 0) d) := by
  refine (broadcastTo_apply _ hb y (at2 (n := 1024) (k := 1) (y 0) 0) fun a => match a with
    | ⟨0, _⟩ => rfl
    | ⟨1, _⟩ => rfl).trans ?_
  exact congrArg₂ (· - ·) (row_column x h h₁ h₂ hc (y 0)) (row_column z g g₁ g₂ gc (y 0))

section
open Cert.Kernel15Ideal Cert.Kernel15Ideal.Gen
open Idealize.ShloMosaic.Pipeline Idealize.ShloMosaic.TcCoe Idealize.ShloMosaic.Tactic Idealize.ShloMosaic.StableHlo

section
variable (x0 x1 x2 x3 x4 x5 x6 : FVec Ideal S1024x128 .f32) (y : S1024x128.Idx)

/-- A place's row. -/
def along (k : Fin 128) : S1024x128.Idx := at2 (n := 1024) (k := 128) (y 0) k

/-- The combination along a row. -/
def mixed (k : Fin 128) : EReal :=
  share (x4 (along y k)) (x5 (along y k)) (x6 (along y k)) (x4 (along y k)) * x1 (along y k)
    + share (x4 (along y k)) (x5 (along y k)) (x6 (along y k)) (x5 (along y k)) * x2 (along y k)
    + share (x4 (along y k)) (x5 (along y k)) (x6 (along y k)) (x6 (along y k)) * x3 (along y k)

theorem whole (x : FVec Ideal S1024x128 .f32) : View.ld (Val := Elt Ideal) (e' := .f32) x r0_1 = x := by
  have z : ∀ a, (![0, 0] : Fin S1024x128.rank → ℕ) a = 0 := by decide
  exact View.ld_unit_lit (Val := Elt Ideal) (e := .f32) (S := S1024x128) (off := ![0, 0]) inb_S1024x128_S1024x128_0_0 x z

theorem opened : (k0_pay21 (F := Ideal) x0 x1 x2 x3 x4 x5 x6 = k0_pay16 x4 x5 x6 ∧ k0_pay22 (F := Ideal) x0 x1 x2 x3 x4 x5 x6 = k0_pay17 x4 x5 x6)
    ∧ k0_pay23 (F := Ideal) x0 x1 x2 x3 x4 x5 x6 = k0_pay18 x4 x5 x6 x0 x1 x2 x3 := by
  unfold k0_pay21 k0_pay22 k0_pay23
  rw [whole x0, whole x1, whole x2, whole x3, whole x4, whole x5, whole x6]
  exact ⟨⟨rfl, rfl⟩, rfl⟩

/-- A block's shares. -/
theorem shares : (k0_pay15 (F := Ideal) x4 x5 x6 = (fun z => share (x4 z) (x5 z) (x6 z) (x4 z)) ∧ k0_pay16 (F := Ideal) x4 x5 x6 = fun z => share (x4 z) (x5 z) (x6 z) (x5 z))
    ∧ k0_pay17 (F := Ideal) x4 x5 x6 = fun z => share (x4 z) (x5 z) (x6 z) (x6 z) := by
  unfold k0_pay15 k0_pay16 k0_pay17 k0_pay14 k0_pay13 k0_pay12 k0_pay11 k0_pay10 k0_pay9 k0_pay8 k0_pay7
  simp only [shapeCast_self]
  exact ⟨⟨rfl, rfl⟩, rfl⟩

theorem left_outs : (out0_7 (F := Ideal) x0 x1 x2 x3 x4 x5 x6 y = share (x4 y) (x5 y) (x6 y) (x4 y) * x0 y
      ∧ out0_8 (F := Ideal) x0 x1 x2 x3 x4 x5 x6 y = share (x4 y) (x5 y) (x6 y) (x5 y) * x0 y)
    ∧ out0_9 (F := Ideal) x0 x1 x2 x3 x4 x5 x6 y = share (x4 y) (x5 y) (x6 y) (x6 y) * x0 y := by
  refine ⟨⟨?_, ?_⟩, ?_⟩
  · frame_out
    exact congrArg₂ (· * ·) (congrFun (shares x4 x5 x6).1.1 y) rfl
  · frame_out
    rw [(opened x0 x1 x2 x3 x4 x5 x6).1.1]
    exact congrArg₂ (· * ·) (congrFun (shares x4 x5 x6).1.2 y) rfl
  · frame_out
    rw [(opened x0 x1 x2 x3 x4 x5 x6).1.2]
    exact congrArg₂ (· * ·) (congrFun (shares x4 x5 x6).2 y) rfl

/-- What the combination's product with the gradient sums. -/
def blend : FVec Ideal S1024x128 .f32 :=
  mulf x0 (addf (addf (mulf (k0_pay15 x4 x5 x6) x1) (mulf (k0_pay16 x4 x5 x6) x2)) (mulf (k0_pay17 x4 x5 x6) x3))

theorem blend_along (k : Fin 128) : blend x0 x1 x2 x3 x4 x5 x6 (at2 (n := 1024) (k := 128) (y 0) k) = x0 (along y k) * mixed x1 x2 x3 x4 x5 x6 y k := by
  unfold blend
  rw [(shares x4 x5 x6).1.1, (shares x4 x5 x6).1.2, (shares x4 x5 x6).2]
  rfl

theorem left_log₀ : out0_10 (F := Ideal) x0 x1 x2 x3 x4 x5 x6 y
    = share (x4 y) (x5 y) (x6 y) (x4 y) * ((∑ k, x0 (along y k) * x1 (along y k)) - ∑ k, x0 (along y k) * mixed x1 x2 x3 x4 x5 x6 y k) := by
  frame_out
  rw [(opened x0 x1 x2 x3 x4 x5 x6).2]
  refine congrArg₂ (· * ·) (congrFun (shares x4 x5 x6).1.1 y) ((gap (mulf x0 x1) (blend x0 x1 x2 x3 x4 x5 x6) reduces_S1024x128_S1024 (.inl rfl) rfl shapeCasts_S1024_S1024x1
    reduces_S1024x128_S1024 (.inl rfl) rfl shapeCasts_S1024_S1024x1 broadcasts_S1024x1_S1024x128 y).trans ?_)
  exact congrArg₂ (· - ·) rfl (Finset.sum_congr rfl fun k _ => blend_along x0 x1 x2 x3 x4 x5 x6 y k)

theorem left_log₁ : out0_11 (F := Ideal) x0 x1 x2 x3 x4 x5 x6 y
    = share (x4 y) (x5 y) (x6 y) (x5 y) * ((∑ k, x0 (along y k) * x2 (along y k)) - ∑ k, x0 (along y k) * mixed x1 x2 x3 x4 x5 x6 y k) := by
  frame_out
  rw [(opened x0 x1 x2 x3 x4 x5 x6).1.1, (opened x0 x1 x2 x3 x4 x5 x6).2]
  refine congrArg₂ (· * ·) (congrFun (shares x4 x5 x6).1.2 y) ((gap (mulf x0 x2) (blend x0 x1 x2 x3 x4 x5 x6) reduces_S1024x128_S1024 (.inl rfl) rfl shapeCasts_S1024_S1024x1
    reduces_S1024x128_S1024 (.inl rfl) rfl shapeCasts_S1024_S1024x1 broadcasts_S1024x1_S1024x128 y).trans ?_)
  exact congrArg₂ (· - ·) rfl (Finset.sum_congr rfl fun k _ => blend_along x0 x1 x2 x3 x4 x5 x6 y k)

theorem left_log₂ : out0_12 (F := Ideal) x0 x1 x2 x3 x4 x5 x6 y
    = share (x4 y) (x5 y) (x6 y) (x6 y) * ((∑ k, x0 (along y k) * x3 (along y k)) - ∑ k, x0 (along y k) * mixed x1 x2 x3 x4 x5 x6 y k) := by
  frame_out
  rw [(opened x0 x1 x2 x3 x4 x5 x6).1.2, (opened x0 x1 x2 x3 x4 x5 x6).2]
  refine congrArg₂ (· * ·) (congrFun (shares x4 x5 x6).2 y) ((gap (mulf x0 x3) (blend x0 x1 x2 x3 x4 x5 x6) reduces_S1024x128_S1024 (.inl rfl) rfl shapeCasts_S1024_S1024x1
    reduces_S1024x128_S1024 (.inl rfl) rfl shapeCasts_S1024_S1024x1 broadcasts_S1024x1_S1024x128 y).trans ?_)
  exact congrArg₂ (· - ·) rfl (Finset.sum_congr rfl fun k _ => blend_along x0 x1 x2 x3 x4 x5 x6 y k)

end

variable (m : (ℓ : Loc nD τ sig) → Buf (Elt Ideal) ℓ)

/-- The arguments. -/
def bD (c : Dev nD) : FVec Ideal S2048x512 .f32 := m ((c : Thread nD τ).loc main_arg0)
def bO₀ (c : Dev nD) : FVec Ideal S2048x512 .f32 := m ((c : Thread nD τ).loc main_arg1)
def bO₁ (c : Dev nD) : FVec Ideal S2048x512 .f32 := m ((c : Thread nD τ).loc main_arg2)
def bO₂ (c : Dev nD) : FVec Ideal S2048x512 .f32 := m ((c : Thread nD τ).loc main_arg3)
def bL₀ (c : Dev nD) : FVec Ideal S2048x4 .f32 := m ((c : Thread nD τ).loc main_arg4)
def bL₁ (c : Dev nD) : FVec Ideal S2048x4 .f32 := m ((c : Thread nD τ).loc main_arg5)
def bL₂ (c : Dev nD) : FVec Ideal S2048x4 .f32 := m ((c : Thread nD τ).loc main_arg6)

/-- A head's place with an entry, and with a place of one. -/
def inHead (i : S2048x512.Idx) : S2048x4x128.Idx := fun a => match a with
  | ⟨0, _⟩ => i 0
  | ⟨1, _⟩ => headOf i 1
  | ⟨2, _⟩ => (⟨(i 1).val % 128, Nat.mod_lt _ (by decide)⟩ : Fin 128)

def unitHead (i : S2048x512.Idx) : S2048x4x1.Idx := fun a => match a with
  | ⟨0, _⟩ => i 0
  | ⟨1, _⟩ => headOf i 1
  | ⟨2, _⟩ => (0 : Fin 1)

/-- A head's numbers spread along it. -/
theorem spread_head (L : FVec Ideal S2048x4 .f32) (i : S2048x512.Idx) :
    shapeCast S2048x512 (broadcastInDim S2048x4x128 ![0, 1, 2] bcast_S2048x4x1_S2048x4x128_0_1_2 (shapeCast S2048x4x1 L shapeCasts_S2048x4_S2048x4x1)) shapeCasts_S2048x4x128_S2048x512 i
      = L (headOf i) := by
  have h1 : (i 1).val < 512 := (i 1).isLt
  refine (shapeCast_apply _ _ i (inHead i) ?_).trans ?_
  · rw [Shape.rowMajor_val_three, Shape.rowMajor_val_two]
    show ((i 0).val * 4 + (i 1).val / 128) * 128 + (i 1).val % 128 = (i 0).val * 512 + (i 1).val
    omega
  refine (broadcastInDim_apply _ _ _ (inHead i) (unitHead i) fun a => match a with
    | ⟨0, _⟩ => rfl
    | ⟨1, _⟩ => rfl
    | ⟨2, _⟩ => rfl).trans ?_
  refine shapeCast_apply _ _ (unitHead i) (headOf i) ?_
  rw [Shape.rowMajor_val_three, Shape.rowMajor_val_two]
  show (i 0).val * 4 + (i 1).val / 128 = ((i 0).val * 4 + (i 1).val / 128) * 1 + 0
  omega

set_option maxHeartbeats 4000000 in
theorem spreads (c : Dev nD) (i : S2048x512.Idx) :
    (V m c main_v2 i = bL₀ m c (headOf i) ∧ V m c main_v5 i = bL₁ m c (headOf i)) ∧ V m c main_v8 i = bL₂ m c (headOf i) := by
  refine ⟨⟨Eq.trans (congrFun ?_ i) (spread_head (bL₀ m c) i), Eq.trans (congrFun ?_ i) (spread_head (bL₁ m c) i)⟩, Eq.trans (congrFun ?_ i) (spread_head (bL₂ m c) i)⟩
  · simp only [V, hostOps0, TRef.unary, TRef.toBuf, TRef.ofBuf, cast_eq]
    after_results_simp
    rfl
  · simp only [V, hostOps0, TRef.unary, TRef.toBuf, TRef.ofBuf, cast_eq]
    after_results_simp
    rfl
  · simp only [V, hostOps0, TRef.unary, TRef.toBuf, TRef.ofBuf, cast_eq]
    after_results_simp
    rfl

theorem back_facts : ∀ t : Fin cfg0.N, (win0_0.index t = ![t.val / 4, t.val % 4] ∧ win0_1.index t = ![t.val / 4, t.val % 4] ∧ win0_2.index t = ![t.val / 4, t.val % 4]
      ∧ win0_3.index t = ![t.val / 4, t.val % 4] ∧ win0_4.index t = ![t.val / 4, t.val % 4] ∧ win0_5.index t = ![t.val / 4, t.val % 4] ∧ win0_6.index t = ![t.val / 4, t.val % 4])
    ∧ win0_7.index t = ![t.val / 4, t.val % 4] ∧ win0_8.index t = ![t.val / 4, t.val % 4] ∧ win0_9.index t = ![t.val / 4, t.val % 4]
      ∧ win0_10.index t = ![t.val / 4, t.val % 4] ∧ win0_11.index t = ![t.val / 4, t.val % 4] ∧ win0_12.index t = ![t.val / 4, t.val % 4] :=
  (by decide +kernel : ∀ t : Fin grid0.N, (win0_0.index t = ![t.val / 4, t.val % 4] ∧ win0_1.index t = ![t.val / 4, t.val % 4] ∧ win0_2.index t = ![t.val / 4, t.val % 4]
      ∧ win0_3.index t = ![t.val / 4, t.val % 4] ∧ win0_4.index t = ![t.val / 4, t.val % 4] ∧ win0_5.index t = ![t.val / 4, t.val % 4] ∧ win0_6.index t = ![t.val / 4, t.val % 4])
    ∧ win0_7.index t = ![t.val / 4, t.val % 4] ∧ win0_8.index t = ![t.val / 4, t.val % 4] ∧ win0_9.index t = ![t.val / 4, t.val % 4]
      ∧ win0_10.index t = ![t.val / 4, t.val % 4] ∧ win0_11.index t = ![t.val / 4, t.val % 4] ∧ win0_12.index t = ![t.val / 4, t.val % 4])

/-- The place in the arrays of a place in a point's block. -/
def site (t : Fin cfg0.N) (y : S1024x128.Idx) : S2048x512.Idx :=
  at2 (n := 2048) (k := 512) ⟨t.val / 4 * 1024 + (y 0).val, by have h0 : (y 0).val < 1024 := (y 0).isLt; have h1 : t.val < 8 := lt_of_lt_of_eq t.isLt N_0; omega⟩
    ⟨t.val % 4 * 128 + (y 1).val, by have h0 : (y 1).val < 128 := (y 1).isLt; omega⟩

theorem site_along (t : Fin cfg0.N) (y : S1024x128.Idx) (k : Fin 128) : site t (along y k) = spot (headOf (site t y)) k := by
  have h0 : (y 1).val < 128 := (y 1).isLt
  refine ext2 (n := 2048) (k := 512) rfl ?_
  show t.val % 4 * 128 + k.val = (t.val % 4 * 128 + (y 1).val) / 128 * 128 + k.val
  omega

theorem site_head (t : Fin cfg0.N) (y : S1024x128.Idx) (k : Fin 128) : headOf (site t (along y k)) = headOf (site t y) := by
  have h0 : (y 1).val < 128 := (y 1).isLt
  have hk := k.isLt
  refine ext2 (n := 2048) (k := 4) rfl ?_
  show (t.val % 4 * 128 + k.val) / 128 = (t.val % 4 * 128 + (y 1).val) / 128
  omega

theorem pieces (c : Dev nD) (t : Fin cfg0.N) (y : S1024x128.Idx) :
    (iblk m c 0 t y = bD m c (site t y) ∧ iblk m c 1 t y = bO₀ m c (site t y) ∧ iblk m c 2 t y = bO₁ m c (site t y) ∧ iblk m c 3 t y = bO₂ m c (site t y))
      ∧ iblk m c 4 t y = bL₀ m c (headOf (site t y)) ∧ iblk m c 5 t y = bL₁ m c (headOf (site t y)) ∧ iblk m c 6 t y = bL₂ m c (headOf (site t y)) := by
  refine ⟨⟨?_, ?_, ?_, ?_⟩, ?_, ?_, ?_⟩
  · show V m c main_arg0 _ = V m c main_arg0 _
    congr 1
    refine ext2 (n := 2048) (k := 512) ?_ ?_ <;> blk_simp [back_facts t] <;> rfl
  · show V m c main_arg1 _ = V m c main_arg1 _
    congr 1
    refine ext2 (n := 2048) (k := 512) ?_ ?_ <;> blk_simp [back_facts t] <;> rfl
  · show V m c main_arg2 _ = V m c main_arg2 _
    congr 1
    refine ext2 (n := 2048) (k := 512) ?_ ?_ <;> blk_simp [back_facts t] <;> rfl
  · show V m c main_arg3 _ = V m c main_arg3 _
    congr 1
    refine ext2 (n := 2048) (k := 512) ?_ ?_ <;> blk_simp [back_facts t] <;> rfl
  · refine Eq.trans ?_ (spreads m c (site t y)).1.1
    show V m c main_v2 _ = V m c main_v2 _
    congr 1
    refine ext2 (n := 2048) (k := 512) ?_ ?_ <;> blk_simp [back_facts t] <;> rfl
  · refine Eq.trans ?_ (spreads m c (site t y)).1.2
    show V m c main_v5 _ = V m c main_v5 _
    congr 1
    refine ext2 (n := 2048) (k := 512) ?_ ?_ <;> blk_simp [back_facts t] <;> rfl
  · refine Eq.trans ?_ (spreads m c (site t y)).2
    show V m c main_v8 _ = V m c main_v8 _
    congr 1
    refine ext2 (n := 2048) (k := 512) ?_ ?_ <;> blk_simp [back_facts t] <;> rfl

theorem mixed_at (c : Dev nD) (t : Fin cfg0.N) (y : S1024x128.Idx) (k : Fin 128) :
    mixed (iblk m c 1 t) (iblk m c 2 t) (iblk m c 3 t) (iblk m c 4 t) (iblk m c 5 t) (iblk m c 6 t) y k
      = weight (bL₀ m c) (bL₁ m c) (bL₂ m c) 0 (headOf (site t y)) * bO₀ m c (spot (headOf (site t y)) k) + weight (bL₀ m c) (bL₁ m c) (bL₂ m c) 1 (headOf (site t y)) * bO₁ m c (spot (headOf (site t y)) k)
        + weight (bL₀ m c) (bL₁ m c) (bL₂ m c) 2 (headOf (site t y)) * bO₂ m c (spot (headOf (site t y)) k) := by
  obtain ⟨⟨e0, e1, e2, e3⟩, e4, e5, e6⟩ := pieces m c t (along y k)
  unfold mixed
  rw [e1, e2, e3, e4, e5, e6, site_head, site_along]
  rfl

theorem array_out₀ (c : Dev nD) : (dats m 0 c).arrAt 7 cfg0.N = outBack (bD m c) (bL₀ m c) (bL₁ m c) (bL₂ m c) 0 := by
  refine Dat.arrAt_eq_of_covers _ 7 _ (by decide +kernel) fun t hf y => ?_
  blk_simp
  refine (congrFun (after0_7 m c t) y).trans (((left_outs (iblk m c 0 t) (iblk m c 1 t) (iblk m c 2 t) (iblk m c 3 t) (iblk m c 4 t) (iblk m c 5 t) (iblk m c 6 t) y).1.1).trans ?_)
  obtain ⟨⟨e0, e1, e2, e3⟩, e4, e5, e6⟩ := pieces m c t y
  rw [e0, e4, e5, e6]
  refine congrArg (outBack (bD m c) (bL₀ m c) (bL₁ m c) (bL₂ m c) 0) (a₁ := site t y) (ext2 (n := 2048) (k := 512) ?_ ?_)
  all_goals blk_simp [back_facts t]
  all_goals rfl

theorem array_out₁ (c : Dev nD) : (dats m 0 c).arrAt 8 cfg0.N = outBack (bD m c) (bL₀ m c) (bL₁ m c) (bL₂ m c) 1 := by
  refine Dat.arrAt_eq_of_covers _ 8 _ (by decide +kernel) fun t hf y => ?_
  blk_simp
  refine (congrFun (after0_8 m c t) y).trans (((left_outs (iblk m c 0 t) (iblk m c 1 t) (iblk m c 2 t) (iblk m c 3 t) (iblk m c 4 t) (iblk m c 5 t) (iblk m c 6 t) y).1.2).trans ?_)
  obtain ⟨⟨e0, e1, e2, e3⟩, e4, e5, e6⟩ := pieces m c t y
  rw [e0, e4, e5, e6]
  refine congrArg (outBack (bD m c) (bL₀ m c) (bL₁ m c) (bL₂ m c) 1) (a₁ := site t y) (ext2 (n := 2048) (k := 512) ?_ ?_)
  all_goals blk_simp [back_facts t]
  all_goals rfl

theorem array_out₂ (c : Dev nD) : (dats m 0 c).arrAt 9 cfg0.N = outBack (bD m c) (bL₀ m c) (bL₁ m c) (bL₂ m c) 2 := by
  refine Dat.arrAt_eq_of_covers _ 9 _ (by decide +kernel) fun t hf y => ?_
  blk_simp
  refine (congrFun (after0_9 m c t) y).trans (((left_outs (iblk m c 0 t) (iblk m c 1 t) (iblk m c 2 t) (iblk m c 3 t) (iblk m c 4 t) (iblk m c 5 t) (iblk m c 6 t) y).2).trans ?_)
  obtain ⟨⟨e0, e1, e2, e3⟩, e4, e5, e6⟩ := pieces m c t y
  rw [e0, e4, e5, e6]
  refine congrArg (outBack (bD m c) (bL₀ m c) (bL₁ m c) (bL₂ m c) 2) (a₁ := site t y) (ext2 (n := 2048) (k := 512) ?_ ?_)
  all_goals blk_simp [back_facts t]
  all_goals rfl

theorem array_log₀ (c : Dev nD) : (dats m 0 c).arrAt 10 cfg0.N = logBack (bD m c) (bO₀ m c) (bO₁ m c) (bO₂ m c) (bL₀ m c) (bL₁ m c) (bL₂ m c) 0 := by
  refine Dat.arrAt_eq_of_covers _ 10 _ (by decide +kernel) fun t hf y => ?_
  blk_simp
  refine (congrFun (after0_10 m c t) y).trans ((left_log₀ (iblk m c 0 t) (iblk m c 1 t) (iblk m c 2 t) (iblk m c 3 t) (iblk m c 4 t) (iblk m c 5 t) (iblk m c 6 t) y).trans ?_)
  have e : ∀ k, iblk m c 0 t (along y k) = bD m c (spot (headOf (site t y)) k) := fun k => (pieces m c t (along y k)).1.1.trans (congrArg (bD m c) (site_along t y k))
  have g : ∀ k, iblk m c 1 t (along y k) = bO₀ m c (spot (headOf (site t y)) k) :=
    fun k => (pieces m c t (along y k)).1.2.1.trans (congrArg (bO₀ m c) (site_along t y k))
  obtain ⟨-, e4, e5, e6⟩ := pieces m c t y
  simp only [e, g, mixed_at]
  rw [e4, e5, e6]
  refine congrArg (logBack (bD m c) (bO₀ m c) (bO₁ m c) (bO₂ m c) (bL₀ m c) (bL₁ m c) (bL₂ m c) 0) (a₁ := site t y) (ext2 (n := 2048) (k := 512) ?_ ?_)
  all_goals blk_simp [back_facts t]
  all_goals rfl

theorem array_log₁ (c : Dev nD) : (dats m 0 c).arrAt 11 cfg0.N = logBack (bD m c) (bO₀ m c) (bO₁ m c) (bO₂ m c) (bL₀ m c) (bL₁ m c) (bL₂ m c) 1 := by
  refine Dat.arrAt_eq_of_covers _ 11 _ (by decide +kernel) fun t hf y => ?_
  blk_simp
  refine (congrFun (after0_11 m c t) y).trans ((left_log₁ (iblk m c 0 t) (iblk m c 1 t) (iblk m c 2 t) (iblk m c 3 t) (iblk m c 4 t) (iblk m c 5 t) (iblk m c 6 t) y).trans ?_)
  have e : ∀ k, iblk m c 0 t (along y k) = bD m c (spot (headOf (site t y)) k) := fun k => (pieces m c t (along y k)).1.1.trans (congrArg (bD m c) (site_along t y k))
  have g : ∀ k, iblk m c 2 t (along y k) = bO₁ m c (spot (headOf (site t y)) k) :=
    fun k => (pieces m c t (along y k)).1.2.2.1.trans (congrArg (bO₁ m c) (site_along t y k))
  obtain ⟨-, e4, e5, e6⟩ := pieces m c t y
  simp only [e, g, mixed_at]
  rw [e4, e5, e6]
  refine congrArg (logBack (bD m c) (bO₀ m c) (bO₁ m c) (bO₂ m c) (bL₀ m c) (bL₁ m c) (bL₂ m c) 1) (a₁ := site t y) (ext2 (n := 2048) (k := 512) ?_ ?_)
  all_goals blk_simp [back_facts t]
  all_goals rfl

theorem array_log₂ (c : Dev nD) : (dats m 0 c).arrAt 12 cfg0.N = logBack (bD m c) (bO₀ m c) (bO₁ m c) (bO₂ m c) (bL₀ m c) (bL₁ m c) (bL₂ m c) 2 := by
  refine Dat.arrAt_eq_of_covers _ 12 _ (by decide +kernel) fun t hf y => ?_
  blk_simp
  refine (congrFun (after0_12 m c t) y).trans ((left_log₂ (iblk m c 0 t) (iblk m c 1 t) (iblk m c 2 t) (iblk m c 3 t) (iblk m c 4 t) (iblk m c 5 t) (iblk m c 6 t) y).trans ?_)
  have e : ∀ k, iblk m c 0 t (along y k) = bD m c (spot (headOf (site t y)) k) := fun k => (pieces m c t (along y k)).1.1.trans (congrArg (bD m c) (site_along t y k))
  have g : ∀ k, iblk m c 3 t (along y k) = bO₂ m c (spot (headOf (site t y)) k) :=
    fun k => (pieces m c t (along y k)).1.2.2.2.trans (congrArg (bO₂ m c) (site_along t y k))
  obtain ⟨-, e4, e5, e6⟩ := pieces m c t y
  simp only [e, g, mixed_at]
  rw [e4, e5, e6]
  refine congrArg (logBack (bD m c) (bO₀ m c) (bO₁ m c) (bO₂ m c) (bL₀ m c) (bL₁ m c) (bL₂ m c) 2) (a₁ := site t y) (ext2 (n := 2048) (k := 512) ?_ ?_)
  all_goals blk_simp [back_facts t]
  all_goals rfl

end

end Cert.Combine

end
-- ==== Proof.CombineBackRef.lean ====
/- The gradients of the combination of the groups, as the reference says them where every entry is real. -/
module

public import proofs.«01_k».proof.Pre_finite_combine
public import proofs.«01_k».proof.Proof.CombineBack
public import proofs.«01_k».proof.Proof.FfnRef
public import proofs.«01_k».proof.Proof.Gen.Reference15Ideal.Read

@[expose] public section

set_option maxRecDepth 16384

noncomputable section

namespace Cert.Combine

open Cert.Ffn Idealize.ShloMosaic

/-! ## Real arguments -/

section Real
open Cert.Pre_finite_combine

/-- The precondition makes every entry of every argument a real. -/
theorem reals_of_finite [Facts] (x0 x1 x2 x3 : FVec Ideal S2048x512 .f32) (x4 x5 x6 : FVec Ideal S2048x4 .f32)
    (h : Cert.Pre_finite_combine.fn x0 x1 x2 x3 x4 x5 x6 = fun _ => 1#1) :
    ((∀ i, ∃ r : ℝ, (x0 i : EReal) = r) ∧ (∀ i, ∃ r : ℝ, (x1 i : EReal) = r) ∧ (∀ i, ∃ r : ℝ, (x2 i : EReal) = r) ∧ ∀ i, ∃ r : ℝ, (x3 i : EReal) = r)
      ∧ (∀ i, ∃ r : ℝ, (x4 i : EReal) = r) ∧ (∀ i, ∃ r : ℝ, (x5 i : EReal) = r) ∧ ∀ i, ∃ r : ℝ, (x6 i : EReal) = r := by
  have e := congrFun h (Shape.Idx.first Facts.h_S_)
  dsimp only [Cert.Pre_finite_combine.fn, Cert.Pre_finite_combine.fn_part1] at e
  obtain ⟨e, e6⟩ := Cert.DilBwd.of_andi e
  obtain ⟨e, e5⟩ := Cert.DilBwd.of_andi e
  obtain ⟨e, e4⟩ := Cert.DilBwd.of_andi e
  obtain ⟨e, e3⟩ := Cert.DilBwd.of_andi e
  obtain ⟨e, e2⟩ := Cert.DilBwd.of_andi e
  obtain ⟨e0, e1⟩ := Cert.DilBwd.of_andi e
  exact ⟨⟨fun i => ⟨_, Cert.DilBwd.real_of_all x0 _ _ _ _ e0 i⟩, fun i => ⟨_, Cert.DilBwd.real_of_all x1 _ _ _ _ e1 i⟩,
    fun i => ⟨_, Cert.DilBwd.real_of_all x2 _ _ _ _ e2 i⟩, fun i => ⟨_, Cert.DilBwd.real_of_all x3 _ _ _ _ e3 i⟩⟩,
    fun i => ⟨_, Cert.DilBwd.real_of_all x4 _ _ _ _ e4 i⟩, fun i => ⟨_, Cert.DilBwd.real_of_all x5 _ _ _ _ e5 i⟩, fun i => ⟨_, Cert.DilBwd.real_of_all x6 _ _ _ _ e6 i⟩⟩

end Real

/-- A product of two arrays summed along a head. -/
def total (d o : Fin 128 → EReal) : EReal := ∑ k, d k * o k

theorem top_coe (a b c : ℝ) : top (a : EReal) b c = ((max (max a b) c : ℝ) : EReal) := by
  unfold top
  rw [← EReal.coe_strictMono.monotone.map_max, ← EReal.coe_strictMono.monotone.map_max]

theorem slope_coe (w u v s : ℝ) (d o a b e : Fin 128 → ℝ) :
    slope w u v s (fun k => d k) (fun k => o k) (fun k => a k) (fun k => b k) (fun k => e k)
      = ((w * ((∑ k, d k * o k) - (u * (∑ k, d k * a k) + v * (∑ k, d k * b k) + s * (∑ k, d k * e k))) : ℝ) : EReal) := by
  unfold slope
  simp only [← EReal.coe_mul, ← EReal.coe_add, Cert.DilBwd.coe_sum, ← EReal.coe_sub]
  have h : ∑ k, d k * (u * a k + v * b k + s * e k) = u * (∑ k, d k * a k) + v * (∑ k, d k * b k) + s * (∑ k, d k * e k) := by
    simp only [Finset.mul_sum, ← Finset.sum_add_distrib]
    exact Finset.sum_congr rfl fun k _ => by ring
  rw [h]

theorem total_coe (d o : Fin 128 → ℝ) : total (fun k => d k) (fun k => o k) = ((∑ k, d k * o k : ℝ) : EReal) := Cert.DilBwd.coe_sum_mul Finset.univ d o

/-- The quotient's two gradients put together. -/
theorem slope_of_real (a b c l : EReal) (ha : ∃ r : ℝ, a = r) (hb : ∃ r : ℝ, b = r) (hc : ∃ r : ℝ, c = r) (hl : ∃ r : ℝ, l = r)
    (d o p q s : Fin 128 → EReal) (hd : ∀ k, ∃ r : ℝ, d k = r) (ho : ∀ k, ∃ r : ℝ, o k = r) (hp : ∀ k, ∃ r : ℝ, p k = r)
    (hq : ∀ k, ∃ r : ℝ, q k = r) (hs : ∀ k, ∃ r : ℝ, s k = r) :
    (Ideal.div (total d o) (mass a b c) + -(total d p * Ideal.div (Ideal.ofBits .f32 0x3F800000#32) (mass a b c * mass a b c) * Ideal.exp (a - top a b c)
        + total d q * Ideal.div (Ideal.ofBits .f32 0x3F800000#32) (mass a b c * mass a b c) * Ideal.exp (b - top a b c)
        + total d s * Ideal.div (Ideal.ofBits .f32 0x3F800000#32) (mass a b c * mass a b c) * Ideal.exp (c - top a b c))) * Ideal.exp (l - top a b c)
      = slope (share a b c l) (share a b c a) (share a b c b) (share a b c c) d o p q s := by
  obtain ⟨a, rfl⟩ := ha
  obtain ⟨b, rfl⟩ := hb
  obtain ⟨c, rfl⟩ := hc
  obtain ⟨l, rfl⟩ := hl
  choose d' hd using hd
  choose o' ho using ho
  choose p' hp using hp
  choose q' hq using hq
  choose s' hs using hs
  obtain rfl : d = fun k => (d' k : EReal) := funext hd
  obtain rfl : o = fun k => (o' k : EReal) := funext ho
  obtain rfl : p = fun k => (p' k : EReal) := funext hp
  obtain rfl : q = fun k => (q' k : EReal) := funext hq
  obtain rfl : s = fun k => (s' k : EReal) := funext hs
  unfold share mass
  rw [top_coe]
  generalize max (max a b) c = t
  simp only [← EReal.coe_sub, Ideal.exp_coe, total_coe, Cert.DilBwd.ofBits_one, ← EReal.coe_add, ← EReal.coe_mul]
  have hA := Real.exp_pos (a - t)
  have hB := Real.exp_pos (b - t)
  have hC := Real.exp_pos (c - t)
  generalize Real.exp (a - t) = A at *
  generalize Real.exp (b - t) = B at *
  generalize Real.exp (c - t) = C at *
  generalize Real.exp (l - t) = E
  have hM : A + B + C ≠ 0 := by positivity
  have hN : (A + B + C) * (A + B + C) ≠ 0 := mul_ne_zero hM hM
  simp only [Cert.DilBwd.coe_div hM, Cert.DilBwd.coe_div hN]
  rw [slope_coe]
  simp only [← EReal.coe_mul, ← EReal.coe_add, ← EReal.coe_neg]
  refine congrArg Real.toEReal ?_
  generalize ∑ k, d' k * o' k = Q
  generalize ∑ k, d' k * p' k = P
  generalize ∑ k, d' k * q' k = R
  generalize ∑ k, d' k * s' k = T
  generalize A + B + C = M at *
  field_simp
  ring

/-! ## The reference -/

section
open Cert.Reference15Ideal Cert.Reference15Ideal.Read Cert.Reference15Ideal.Gen

variable (D O₀ O₁ O₂ : (⟨S2048x512, .f32⟩ : BufTy).Contents (Elt Ideal)) (L₀ L₁ L₂ : (⟨S2048x4, .f32⟩ : BufTy).Contents (Elt Ideal)) (h : S2048x4.Idx) (k : Fin 128) (i : S2048x512.Idx)

/-- A head's place in the stack of three, and in a stack of one, -/
def pile (q : Fin 3) : S3x2048x4.Idx := fun a => match a with
  | ⟨0, _⟩ => q
  | ⟨1, _⟩ => h 0
  | ⟨2, _⟩ => h 1

def bare : S1x2048x4.Idx := fun a => match a with
  | ⟨0, _⟩ => (0 : Fin 1)
  | ⟨1, _⟩ => h 0
  | ⟨2, _⟩ => h 1

/-- and a head's entry's. -/
def deep (q : Fin 3) : S3x2048x4x128.Idx := fun a => match a with
  | ⟨0, _⟩ => q
  | ⟨1, _⟩ => h 0
  | ⟨2, _⟩ => h 1
  | ⟨3, _⟩ => k

theorem piled (q : Fin 3) (f : Fin 3 → S1x2048x4.Idx → EReal) (e) :
    concatenate S3x2048x4 0 (List.ofFn fun n : Fin 3 => (⟨S1x2048x4, f n⟩ : (s : Shape) × (s.Idx → EReal))) e (pile h q) = f q (bare h) :=
  concatenate_ofFn_unit_apply (t := S3x2048x4) (0 : Fin 3) f e rfl rfl (pile h q) q rfl (bare h) fun b hb => match b with
    | ⟨0, _⟩ => absurd rfl hb
    | ⟨1, _⟩ => rfl
    | ⟨2, _⟩ => rfl

theorem stacked_outs (q : Fin 3) (f : Fin 3 → S1x2048x512.Idx → EReal) (e) :
    concatenate S3x2048x512 0 (List.ofFn fun n : Fin 3 => (⟨S1x2048x512, f n⟩ : (s : Shape) × (s.Idx → EReal))) e (lay i q) = f q (alone i) :=
  stacked i q f e

theorem headed : idx_main_v5 (bare h) = h := ext2 (n := 2048) (k := 4) rfl rfl

theorem back_logs (q : Fin 3) : val_main_v8 (F := Ideal) L₀ L₁ L₂ (pile h q) = ![L₀ h, L₁ h, L₂ h] q := by
  refine (piled h q ![val_main_v5 (F := Ideal) L₀, val_main_v6 (F := Ideal) L₁, val_main_v7 (F := Ideal) L₂] _).trans ?_
  match q with
  | 0 => exact (val_main_v5_apply L₀ _).trans (congrArg L₀ (headed h))
  | 1 => exact (val_main_v6_apply L₁ _).trans (congrArg L₁ (headed h))
  | 2 => exact (val_main_v7_apply L₂ _).trans (congrArg L₂ (headed h))

theorem unstacked : idx_main_v0 (alone i) = i := ext2 (n := 2048) (k := 512) rfl rfl

theorem back_stack (q : Fin 3) : val_main_v3 (F := Ideal) O₀ O₁ O₂ (lay i q) = ![O₀ i, O₁ i, O₂ i] q := by
  refine (stacked_outs i q ![val_main_v0 (F := Ideal) O₀, val_main_v1 (F := Ideal) O₁, val_main_v2 (F := Ideal) O₂] _).trans ?_
  match q with
  | 0 => exact (val_main_v0_apply O₀ _).trans (congrArg O₀ (unstacked i))
  | 1 => exact (val_main_v1_apply O₁ _).trans (congrArg O₁ (unstacked i))
  | 2 => exact (val_main_v2_apply O₂ _).trans (congrArg O₂ (unstacked i))

theorem back_outs (q : Fin 3) : val_main_v4 (F := Ideal) O₀ O₁ O₂ (deep h k q) = ![O₀ (spot h k), O₁ (spot h k), O₂ (spot h k)] q := by
  rw [val_main_v4_apply]
  refine (congrArg (val_main_v3 (F := Ideal) O₀ O₁ O₂) (?_ : idx_main_v4 (deep h k q) = lay (spot h k) q)).trans (back_stack O₀ O₁ O₂ (spot h k) q)
  have h0 : (h 0).val < 2048 := (h 0).isLt
  have h1 : (h 1).val < 4 := (h 1).isLt
  have hk := k.isLt
  have hq := q.isLt
  refine funext fun a => match a with
    | ⟨0, _⟩ => Fin.ext ?_
    | ⟨1, _⟩ => Fin.ext ?_
    | ⟨2, _⟩ => Fin.ext ?_
  · show (((q.val * 2048 + (h 0).val) * 4 + (h 1).val) * 128 + k.val) / 1048576 = q.val
    omega
  · show (((q.val * 2048 + (h 0).val) * 4 + (h 1).val) * 128 + k.val) / 512 % 2048 = (h 0).val
    omega
  · show (((q.val * 2048 + (h 0).val) * 4 + (h 1).val) * 128 + k.val) % 512 = (h 1).val * 128 + k.val
    omega

theorem back_top : val_main_v16 (F := Ideal) L₀ L₁ L₂ h = top (L₀ h) (L₁ h) (L₂ h) := by
  have hr : S3x2048x4.Reduces [0] S2048x4 := ⟨reducesTo_S3x2048x4_S2048x4_d0.1, by decide, reducesTo_S3x2048x4_S2048x4_d0.2⟩
  have hl : ∀ q : Fin 3, hr.lift h q = pile h q := fun q => funext fun a => match a with
    | ⟨0, _⟩ => Fin.ext rfl
    | ⟨1, _⟩ => Fin.ext rfl
    | ⟨2, _⟩ => Fin.ext rfl
  rw [val_main_v16_apply]
  unfold val_main_v9
  rw [Host.reduce_eq_fold_single FloatOps.maximumf _ _ reducesTo_S3x2048x4_S2048x4_d0 hr h_S_, val_main_cst_apply, val_main_v15_apply, val_main_cst_1_apply,
    Ideal.ofBits_def, Cert.DilBwd.ofBits_bot]
  have e : (val_main_v8 (F := Ideal) L₀ L₁ L₂ ∘ hr.lift h) = ![L₀ h, L₁ h, L₂ h] := funext fun q => (congrArg _ (hl q)).trans (back_logs L₀ L₁ L₂ h q)
  rw [e]
  exact (bot_sup_eq _).trans (greatest _)

theorem back_exp (q : Fin 3) : val_main_v29 (F := Ideal) L₀ L₁ L₂ (pile h q) = Ideal.exp (![L₀ h, L₁ h, L₂ h] q - top (L₀ h) (L₁ h) (L₂ h)) := by
  rw [val_main_v29_apply, val_main_v28_apply, back_logs, val_main_v27_apply, val_main_v26_apply]
  have e : idx_main_v26 (idx_main_v27 (pile h q)) = h := ext2 (n := 2048) (k := 4) rfl rfl
  rw [e, back_top]
  rfl

theorem back_mass : val_main_v31 (F := Ideal) L₀ L₁ L₂ (bare h) = mass (L₀ h) (L₁ h) (L₂ h) := by
  rw [val_main_v31_apply]
  have e : idx_main_v31 (bare h) = h := ext2 (n := 2048) (k := 4) rfl rfl
  rw [e, val_main_v30_apply]
  show Ideal.ofBits .f32 0x00000000#32 + ∑ k : Fin 3, val_main_v29 (F := Ideal) L₀ L₁ L₂ (pile h k) = _
  rw [Ideal.ofBits_zero_f32, zero_add, Fin.sum_univ_three, back_exp, back_exp, back_exp]
  rfl

theorem back_weight (q : Fin 3) : val_main_v33 (F := Ideal) L₀ L₁ L₂ (pile h q) = weight L₀ L₁ L₂ q h := by
  rw [val_main_v33_apply, back_exp, val_main_v32_apply]
  refine (congrArg (Ideal.div _) ((congrArg (val_main_v31 (F := Ideal) L₀ L₁ L₂) (?_ : _ = bare h)).trans (back_mass L₀ L₁ L₂ h))).trans ?_
  · exact funext fun a => match a with
      | ⟨0, _⟩ => rfl
      | ⟨1, _⟩ => rfl
      | ⟨2, _⟩ => rfl
  · rfl

theorem back_grad (q : Fin 3) : val_main_v42 (F := Ideal) D (deep h k q) = D (spot h k) := by
  rw [val_main_v42_apply, val_main_v41_apply]
  have h0 : (h 0).val < 2048 := (h 0).isLt
  have h1 : (h 1).val < 4 := (h 1).isLt
  have hk := k.isLt
  refine congrArg D (ext2 (n := 2048) (k := 512) ?_ ?_)
  · show (((h 0).val * 4 + (h 1).val) * 128 + k.val) / 512 = (h 0).val
    omega
  · show (((h 0).val * 4 + (h 1).val) * 128 + k.val) % 512 = (h 1).val * 128 + k.val
    omega

/-- The place of an entry in its head. -/
def laneIn : Fin 128 := ⟨(i 1).val % 128, Nat.mod_lt _ (by decide)⟩

theorem spot_back : spot (headOf i) (laneIn i) = i := by
  refine ext2 (n := 2048) (k := 512) rfl ?_
  show (i 1).val / 128 * 128 + (i 1).val % 128 = (i 1).val
  omega

theorem back_product (q : Fin 3) : val_main_v44 (F := Ideal) D L₀ L₁ L₂ (deep (headOf i) (laneIn i) q) = outBack D L₀ L₁ L₂ q i := by
  rw [val_main_v44_apply, val_main_v43_apply, val_main_v37_apply, back_grad, spot_back]
  refine congrArg (· * D i) ((congrArg (val_main_v33 (F := Ideal) L₀ L₁ L₂) (?_ : _ = pile (headOf i) q)).trans (back_weight L₀ L₁ L₂ (headOf i) q))
  exact funext fun a => match a with
    | ⟨0, _⟩ => rfl
    | ⟨1, _⟩ => rfl
    | ⟨2, _⟩ => rfl

/-- The sums of a head's products. -/
theorem back_total (q : Fin 3) : val_main_v48 (F := Ideal) D O₀ O₁ O₂ (pile h q)
    = total (fun k => D (spot h k)) (fun k => ![O₀ (spot h k), O₁ (spot h k), O₂ (spot h k)] q) := by
  have h0 : (h 0).val < 2048 := (h 0).isLt
  have h1 : (h 1).val < 4 := (h 1).isLt
  have hq := q.isLt
  rw [val_main_v48_apply]
  show Ideal.ofBits .f32 0x00000000#32 + ∑ k : Fin 1, val_main_v47 (F := Ideal) D O₀ O₁ O₂ (idx_main_v48 (pile h q) k) = _
  rw [Ideal.ofBits_zero_f32, zero_add, Fin.sum_univ_one, val_main_v47_apply]
  have e : idx_main_v47 (idx_main_v48 (pile h q) 0) = pile h q := by
    refine funext fun a => match a with
      | ⟨0, _⟩ => Fin.ext ?_
      | ⟨1, _⟩ => Fin.ext ?_
      | ⟨2, _⟩ => Fin.ext ?_
    · show (((q.val * 2048 + (h 0).val) * 4 + (h 1).val) * 1 + 0) / 8192 = q.val
      omega
    · show (((q.val * 2048 + (h 0).val) * 4 + (h 1).val) * 1 + 0) / 4 % 2048 = (h 0).val
      omega
    · show (((q.val * 2048 + (h 0).val) * 4 + (h 1).val) * 1 + 0) % 4 = (h 1).val
      omega
  rw [e, val_main_v46_apply]
  show Ideal.ofBits .f32 0x00000000#32 + ∑ k : Fin 128, val_main_v45 (F := Ideal) D O₀ O₁ O₂ (idx_main_v46 (pile h q) k) = _
  rw [Ideal.ofBits_zero_f32, zero_add]
  refine Finset.sum_congr rfl fun k _ => ?_
  have e' : idx_main_v46 (pile h q) k = deep h k q := funext fun a => match a with
    | ⟨0, _⟩ => rfl
    | ⟨1, _⟩ => rfl
    | ⟨2, _⟩ => rfl
    | ⟨3, _⟩ => rfl
  rw [e', val_main_v45_apply, back_grad, back_outs]
  rfl

theorem bare_of (q : Fin 3) : idx_main_v49 (pile h q) = bare h := funext fun a => match a with
  | ⟨0, _⟩ => rfl
  | ⟨1, _⟩ => rfl
  | ⟨2, _⟩ => rfl

/-- A group's part of the gradient of the sum of the exponentials. -/
theorem back_part (q : Fin 3) : val_main_v51 (F := Ideal) D O₀ O₁ O₂ L₀ L₁ L₂ (pile h q)
    = total (fun k => D (spot h k)) (fun k => ![O₀ (spot h k), O₁ (spot h k), O₂ (spot h k)] q)
      * Ideal.div (Ideal.ofBits .f32 0x3F800000#32) (mass (L₀ h) (L₁ h) (L₂ h) * mass (L₀ h) (L₁ h) (L₂ h)) * Ideal.exp (![L₀ h, L₁ h, L₂ h] q - top (L₀ h) (L₁ h) (L₂ h)) := by
  rw [val_main_v51_apply, val_main_v50_apply, back_total, back_exp, val_main_v49_apply, bare_of, val_main_v36_apply, val_main_v35_apply, val_main_cst_8_apply,
    val_main_v34_apply, back_mass]
  rfl

theorem back_log (q : Fin 3) (hA : ((∀ i, ∃ r : ℝ, (D i : EReal) = r) ∧ (∀ i, ∃ r : ℝ, (O₀ i : EReal) = r) ∧ (∀ i, ∃ r : ℝ, (O₁ i : EReal) = r) ∧ ∀ i, ∃ r : ℝ, (O₂ i : EReal) = r)
      ∧ (∀ i, ∃ r : ℝ, (L₀ i : EReal) = r) ∧ (∀ i, ∃ r : ℝ, (L₁ i : EReal) = r) ∧ ∀ i, ∃ r : ℝ, (L₂ i : EReal) = r) :
    val_main_v62 (F := Ideal) D O₀ O₁ O₂ L₀ L₁ L₂ (deep (headOf i) (laneIn i) q) = logBack D O₀ O₁ O₂ L₀ L₁ L₂ q i := by
  obtain ⟨⟨hD, h0, h1, h2⟩, g0, g1, g2⟩ := hA
  rw [val_main_v62_apply, val_main_v61_apply]
  have e : idx_main_v61 (idx_main_v62 (deep (headOf i) (laneIn i) q)) = pile (headOf i) q := funext fun a => match a with
    | ⟨0, _⟩ => rfl
    | ⟨1, _⟩ => rfl
    | ⟨2, _⟩ => rfl
  rw [e]
  unfold logBack
  generalize headOf i = h
  rw [val_main_v60_apply, val_main_v59_apply, back_exp, val_main_v56_apply, back_total, val_main_v55_apply, val_main_v58_apply, val_main_v57_apply]
  have e' : idx_main_v58 (pile h q) = h := ext2 (n := 2048) (k := 4) rfl rfl
  rw [e']
  have ez : (∑ k : Fin 1, val_main_v54 (F := Ideal) D O₀ O₁ O₂ L₀ L₁ L₂ (idx_main_v57 h k))
      = -(∑ n : Fin 3, val_main_v51 (F := Ideal) D O₀ O₁ O₂ L₀ L₁ L₂ (pile h n)) := by
    rw [Fin.sum_univ_one, val_main_v54_apply, val_main_v53_apply]
    have e2 : idx_main_v53 (idx_main_v57 h 0) = h := by
      have h0 : (h 0).val < 2048 := (h 0).isLt
      have h1 : (h 1).val < 4 := (h 1).isLt
      refine ext2 (n := 2048) (k := 4) ?_ ?_
      · show ((0 * 2048 + (h 0).val) * 4 + (h 1).val) / 4 = (h 0).val
        omega
      · show ((0 * 2048 + (h 0).val) * 4 + (h 1).val) % 4 = (h 1).val
        omega
    rw [e2, val_main_v52_apply]
    show -(Ideal.ofBits .f32 0x00000000#32 + ∑ k : Fin 3, val_main_v51 (F := Ideal) D O₀ O₁ O₂ L₀ L₁ L₂ (pile h k)) = _
    rw [Ideal.ofBits_zero_f32, zero_add]
  rw [ez, Fin.sum_univ_three, back_part, back_part, back_part]
  refine Eq.trans ?_ (slope_of_real (L₀ h) (L₁ h) (L₂ h) (![L₀ h, L₁ h, L₂ h] q) (g0 h) (g1 h) (g2 h) ?_ (fun k => D (spot h k))
    (fun k => ![O₀ (spot h k), O₁ (spot h k), O₂ (spot h k)] q) (fun k => O₀ (spot h k)) (fun k => O₁ (spot h k)) (fun k => O₂ (spot h k))
    (fun k => hD _) ?_ (fun k => h0 _) (fun k => h1 _) fun k => h2 _)
  · have em : val_main_v31 (F := Ideal) L₀ L₁ L₂ (idx_main_v55 (pile h q)) = mass (L₀ h) (L₁ h) (L₂ h) :=
      (congrArg (val_main_v31 (F := Ideal) L₀ L₁ L₂) (bare_of h q)).trans (back_mass L₀ L₁ L₂ h)
    rw [em]
    show (_ + (Ideal.ofBits .f32 0x00000000#32 + _)) * _ = _
    rw [Ideal.ofBits_zero_f32, zero_add]
    rfl
  · match q with
    | 0 => exact g0 h
    | 1 => exact g1 h
    | 2 => exact g2 h
  · match q with
    | 0 => exact fun k => h0 _
    | 1 => exact fun k => h1 _
    | 2 => exact fun k => h2 _

/-- A place's number taken apart and put together. -/
theorem sited (a b : ℕ) (ha : a < 2048) (hb : b < 512) : ((((a * 512 + b) / 512) * 4 + ((a * 512 + b) / 128 % 4)) * 128 + ((a * 512 + b) % 128)) = a * 512 + b := by omega

theorem apart₀ (a b : ℕ) (ha : a < 2048) (hb : b < 512) : (a * 512 + b) / 512 % 2048 = a := by omega
theorem apart₁ (a b : ℕ) (ha : a < 2048) (hb : b < 512) : (a * 512 + b) / 128 % 4 = b / 128 := by omega
theorem apart₂ (a b : ℕ) (ha : a < 2048) (hb : b < 512) : (a * 512 + b) % 128 = b % 128 := by omega

/-- An entry's place in the stack, through the slice and the two reshapes. -/
theorem placed (q : Fin 3) (j : S3x2048x4x128.Idx) (hq : (j 0).val = q.val) (h0 : (j 1).val = (i 0).val) (h1 : (j 2).val = (i 1).val / 128) (h2 : (j 3).val = (i 1).val % 128) :
    j = deep (headOf i) (laneIn i) q := funext fun a => match a with
  | ⟨0, _⟩ => Fin.ext hq
  | ⟨1, _⟩ => Fin.ext h0
  | ⟨2, _⟩ => Fin.ext h1
  | ⟨3, _⟩ => Fin.ext h2

theorem ref_out₀ : val_main_v65 (F := Ideal) D L₀ L₁ L₂ i = outBack D L₀ L₁ L₂ 0 i := by
  rw [val_main_v65_apply, val_main_v64_apply, val_main_v63_apply]
  refine (congrArg (val_main_v44 (F := Ideal) D L₀ L₁ L₂) (placed i 0 _ rfl ?_ ?_ ?_)).trans (back_product D L₀ L₁ L₂ i 0)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt
theorem ref_log₀ (hA : ((∀ i, ∃ r : ℝ, (D i : EReal) = r) ∧ (∀ i, ∃ r : ℝ, (O₀ i : EReal) = r) ∧ (∀ i, ∃ r : ℝ, (O₁ i : EReal) = r) ∧ ∀ i, ∃ r : ℝ, (O₂ i : EReal) = r)
      ∧ (∀ i, ∃ r : ℝ, (L₀ i : EReal) = r) ∧ (∀ i, ∃ r : ℝ, (L₁ i : EReal) = r) ∧ ∀ i, ∃ r : ℝ, (L₂ i : EReal) = r) : val_main_v74 (F := Ideal) D O₀ O₁ O₂ L₀ L₁ L₂ i = logBack D O₀ O₁ O₂ L₀ L₁ L₂ 0 i := by
  rw [val_main_v74_apply, val_main_v73_apply, val_main_v72_apply]
  refine (congrArg (val_main_v62 (F := Ideal) D O₀ O₁ O₂ L₀ L₁ L₂) (placed i 0 _ rfl ?_ ?_ ?_)).trans (back_log D O₀ O₁ O₂ L₀ L₁ L₂ i 0 hA)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt

theorem ref_out₁ : val_main_v68 (F := Ideal) D L₀ L₁ L₂ i = outBack D L₀ L₁ L₂ 1 i := by
  rw [val_main_v68_apply, val_main_v67_apply, val_main_v66_apply]
  refine (congrArg (val_main_v44 (F := Ideal) D L₀ L₁ L₂) (placed i 1 _ rfl ?_ ?_ ?_)).trans (back_product D L₀ L₁ L₂ i 1)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt
theorem ref_log₁ (hA : ((∀ i, ∃ r : ℝ, (D i : EReal) = r) ∧ (∀ i, ∃ r : ℝ, (O₀ i : EReal) = r) ∧ (∀ i, ∃ r : ℝ, (O₁ i : EReal) = r) ∧ ∀ i, ∃ r : ℝ, (O₂ i : EReal) = r)
      ∧ (∀ i, ∃ r : ℝ, (L₀ i : EReal) = r) ∧ (∀ i, ∃ r : ℝ, (L₁ i : EReal) = r) ∧ ∀ i, ∃ r : ℝ, (L₂ i : EReal) = r) : val_main_v77 (F := Ideal) D O₀ O₁ O₂ L₀ L₁ L₂ i = logBack D O₀ O₁ O₂ L₀ L₁ L₂ 1 i := by
  rw [val_main_v77_apply, val_main_v76_apply, val_main_v75_apply]
  refine (congrArg (val_main_v62 (F := Ideal) D O₀ O₁ O₂ L₀ L₁ L₂) (placed i 1 _ rfl ?_ ?_ ?_)).trans (back_log D O₀ O₁ O₂ L₀ L₁ L₂ i 1 hA)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt

theorem ref_out₂ : val_main_v71 (F := Ideal) D L₀ L₁ L₂ i = outBack D L₀ L₁ L₂ 2 i := by
  rw [val_main_v71_apply, val_main_v70_apply, val_main_v69_apply]
  refine (congrArg (val_main_v44 (F := Ideal) D L₀ L₁ L₂) (placed i 2 _ rfl ?_ ?_ ?_)).trans (back_product D L₀ L₁ L₂ i 2)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt
theorem ref_log₂ (hA : ((∀ i, ∃ r : ℝ, (D i : EReal) = r) ∧ (∀ i, ∃ r : ℝ, (O₀ i : EReal) = r) ∧ (∀ i, ∃ r : ℝ, (O₁ i : EReal) = r) ∧ ∀ i, ∃ r : ℝ, (O₂ i : EReal) = r)
      ∧ (∀ i, ∃ r : ℝ, (L₀ i : EReal) = r) ∧ (∀ i, ∃ r : ℝ, (L₁ i : EReal) = r) ∧ ∀ i, ∃ r : ℝ, (L₂ i : EReal) = r) : val_main_v80 (F := Ideal) D O₀ O₁ O₂ L₀ L₁ L₂ i = logBack D O₀ O₁ O₂ L₀ L₁ L₂ 2 i := by
  rw [val_main_v80_apply, val_main_v79_apply, val_main_v78_apply]
  refine (congrArg (val_main_v62 (F := Ideal) D O₀ O₁ O₂ L₀ L₁ L₂) (placed i 2 _ rfl ?_ ?_ ?_)).trans (back_log D O₀ O₁ O₂ L₀ L₁ L₂ i 2 hA)
  · show (((((i 0).val * 512 + (i 1).val) / 512) * 4 + (((i 0).val * 512 + (i 1).val) / 128 % 4)) * 128 + (((i 0).val * 512 + (i 1).val) % 128)) / 512 % 2048 = (i 0).val
    rw [sited (i 0).val (i 1).val (i 0).isLt (i 1).isLt]
    exact apart₀ (i 0).val (i 1).val (i 0).isLt (i 1).isLt
  · show (((((i 0).val * 512 + (i 1).val) / 512) * 4 + (((i 0).val * 512 + (i 1).val) / 128 % 4)) * 128 + (((i 0).val * 512 + (i 1).val) % 128)) / 128 % 4 = (i 1).val / 128
    rw [sited (i 0).val (i 1).val (i 0).isLt (i 1).isLt]
    exact apart₁ (i 0).val (i 1).val (i 0).isLt (i 1).isLt
  · show (((((i 0).val * 512 + (i 1).val) / 512) * 4 + (((i 0).val * 512 + (i 1).val) / 128 % 4)) * 128 + (((i 0).val * 512 + (i 1).val) % 128)) % 128 = (i 1).val % 128
    rw [sited (i 0).val (i 1).val (i 0).isLt (i 1).isLt]
    exact apart₂ (i 0).val (i 1).val (i 0).isLt (i 1).isLt

end

end Cert.Combine

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite_ffn
public import proofs.«01_k».proof.Proof.Gen.Pre_finite_combine
public import proofs.«01_k».proof.Proof.Arrays
public import proofs.«01_k».proof.Proof.Gradients
public import proofs.«01_k».proof.Proof.Finite
public import proofs.«01_k».proof.Proof.Same
public import proofs.«01_k».proof.Proof.FfnSame
public import proofs.«01_k».proof.Proof.FfnRef
public import proofs.«01_k».proof.Proof.DuRef
public import proofs.«01_k».proof.Proof.CallsSame
public import proofs.«01_k».proof.Proof.InRun
public import proofs.«01_k».proof.Proof.InRef
public import proofs.«01_k».proof.Proof.InTValue
public import proofs.«01_k».proof.Proof.MergeRun
public import proofs.«01_k».proof.Proof.MergeRef
public import proofs.«01_k».proof.Proof.DownValue
public import proofs.«01_k».proof.Proof.NormRef
public import proofs.«01_k».proof.Proof.OutValue
public import proofs.«01_k».proof.Proof.FirstValue
public import proofs.«01_k».proof.Proof.AdamValue
public import proofs.«01_k».proof.Proof.LossValue
public import proofs.«01_k».proof.Proof.SmallValue
public import proofs.«01_k».proof.Proof.CombineValue
public import proofs.«01_k».proof.Proof.RopeValue
public import proofs.«01_k».proof.Proof.CombineBack
public import proofs.«01_k».proof.Proof.CombineBackRef
public import Idealize.ShloMosaic.Adequacy
public import Idealize.ShloMosaic.Init

@[expose] public section

noncomputable section

namespace Cert.Proof

open Idealize.ShloMosaic Idealize.SL.Sem

open Cert.DilBwd Cert.DilBwd.Ref

/-- The kernel's frame, over floats: its text is the idealisation's, and the run was taken over any values of the float types. -/
theorem frame_kernel : Cert.quiescent_Kernel := fun m ρ _ => by
  rw [defs_same, main_same]
  exact frame_any (F := Bits) m ρ

/-- The idealisation's frame. -/
theorem frame_kernelIdeal : Cert.quiescent_KernelIdeal :=
  fun m ρ _ => frame_any (F := Ideal) m ρ

/-- The idealisation's frame, where the arguments are finite. -/
theorem frame_kernelIdeal_finite : Cert.quiescent_KernelIdeal_pre_finite :=
  fun m ρ _ => frame_any (F := Ideal) m ρ

/-- The reference's frame; it declares no semaphore. -/
theorem frame_reference : Cert.quiescent_ReferenceIdeal :=
  fun m ρ _ => (θ_run Cert.ReferenceIdeal.defs _ _).mono (fun r h => ⟨fun c => (h c).2.2.2, sem_eq_zero_of_no_sems (by decide) r.2⟩)
    (Cert.ReferenceIdeal.Value.run (F := Ideal) m ρ)

/-- The reference's frame, where the arguments are finite. -/
theorem frame_reference_finite : Cert.quiescent_ReferenceIdeal_pre_finite :=
  fun m ρ _ => (θ_run Cert.ReferenceIdeal.defs _ _).mono (fun r h => ⟨fun c => (h c).2.2.2, sem_eq_zero_of_no_sems (by decide) r.2⟩)
    (Cert.ReferenceIdeal.Value.run (F := Ideal) m ρ)

section

open Cert.KernelIdeal

variable {m : (ℓ : Loc nD τ sig) → Buf (Elt Ideal) ℓ} {c : Dev nD} {R0 : S2048x3072.Idx → ℝ} {R1 : S2048x10240.Idx → ℝ} {R2 R3 : S2048x512.Idx → ℝ}

/-- The row of a row's residue and place is that row. -/
theorem row_of (i : S2048x512.Idx) : Model.row (rowRes (i 0)) (inTile i 0) = i 0 :=
  Fin.ext (by show 16 * ((i 0).val / 16) + (i 0).val % 16 = (i 0).val; omega)

/-- The kernel's gradient of q is the reference's. -/
theorem dq_eq (a : Args m c R0 R1 R2 R3) : assembled (dqOut m c) = Cert.ReferenceIdeal.Read.val_main_v92 (F := Ideal) (m (c.tc.loc main_arg0)) (m (c.tc.loc main_arg1)) (m (c.tc.loc main_arg2)) (m (c.tc.loc main_arg3)) := by
  funext i
  refine (a.dq (colHead (i 1)) (rowRes (i 0)) (inTile i)).trans (Eq.trans ?_ (dq_result a.inputs i).symm)
  exact congrArg (fun x => ((Model.dq κ (Qr R0 (colHead (i 1))) (Kr R0 (colHead (i 1))) (Vr R1 (colHead (i 1))) (Wr R2 (colHead (i 1))) (Gr R3 (colHead (i 1))) x (laneOf (i 1)) : ℝ) : EReal)) (row_of i)

/-- The kernel's gradient of k is the reference's. -/
theorem dk_eq (a : Args m c R0 R1 R2 R3) : assembled (dkOut m c) = Cert.ReferenceIdeal.Read.val_main_v93 (F := Ideal) (m (c.tc.loc main_arg0)) (m (c.tc.loc main_arg1)) (m (c.tc.loc main_arg2)) (m (c.tc.loc main_arg3)) := by
  funext i
  refine (a.dk (colHead (i 1)) (rowRes (i 0)) (inTile i)).trans (Eq.trans ?_ (dk_result a.inputs i).symm)
  exact congrArg (fun x => ((Model.dk κ (Qr R0 (colHead (i 1))) (Kr R0 (colHead (i 1))) (Vr R1 (colHead (i 1))) (Wr R2 (colHead (i 1))) (Gr R3 (colHead (i 1))) x (laneOf (i 1)) : ℝ) : EReal)) (row_of i)

/-- The kernel's gradient of v is the reference's. -/
theorem dv_eq (a : Args m c R0 R1 R2 R3) : assembled (dvOut m c) = Cert.ReferenceIdeal.Read.val_main_v94 (F := Ideal) (m (c.tc.loc main_arg0)) (m (c.tc.loc main_arg2)) := by
  funext i
  refine (a.dv (colHead (i 1)) (rowRes (i 0)) (inTile i)).trans (Eq.trans ?_ (dv_result a.inputs i).symm)
  exact congrArg (fun x => ((Model.dv κ (Qr R0 (colHead (i 1))) (Kr R0 (colHead (i 1))) (Wr R2 (colHead (i 1))) x (laneOf (i 1)) : ℝ) : EReal)) (row_of i)

end

/-- The results of the kernel and of the reference are equal over the reals. -/
theorem values : Cert.algebraic_KernelIdeal_ReferenceIdeal_pre_finite := by
  intro m g m' g' hpre hargs
  have hA : ∀ c, Args m c (fun i => (m (c.tc.loc Cert.KernelIdeal.main_arg0) i : EReal).toReal) (fun i => (m (c.tc.loc Cert.KernelIdeal.main_arg1) i : EReal).toReal)
      (fun i => (m (c.tc.loc Cert.KernelIdeal.main_arg2) i : EReal).toReal) (fun i => (m (c.tc.loc Cert.KernelIdeal.main_arg3) i : EReal).toReal) := fun c =>
    let ⟨h0, h1, h2, h3⟩ := reals_of_finite _ _ _ _ (hpre c)
    ⟨h0, h1, h2, h3⟩
  refine ⟨fun c => assembled (dqOut m c), fun c => assembled (dkOut m c), fun c => assembled (dvOut m c), ?_, ?_⟩
  · exact (θ_run _ _ _).mono (fun r h c => ⟨result_dq m h.1 c, result_dk m h.1 c, result_dv m h.1 c,
      arg0_unchanged m h.1 c, arg1_unchanged m h.1 c, arg2_unchanged m h.1 c, arg3_unchanged m h.1 c⟩) (run_main m g)
  · refine (θ_run _ _ _).mono (fun r h c => ⟨(h c).1.trans ?_, (h c).2.1.trans ?_, (h c).2.2.1.trans ?_, (h c).2.2.2⟩)
      (Cert.ReferenceIdeal.Value.run (F := Ideal) m' g')
    · rw [Cert.ReferenceIdeal.Read.val_main_v92_eq, (hargs c).1, (hargs c).2.1, (hargs c).2.2.1, (hargs c).2.2.2]
      exact (dq_eq (hA c)).symm
    · rw [Cert.ReferenceIdeal.Read.val_main_v93_eq, (hargs c).1, (hargs c).2.1, (hargs c).2.2.1, (hargs c).2.2.2]
      exact (dk_eq (hA c)).symm
    · rw [Cert.ReferenceIdeal.Read.val_main_v94_eq, (hargs c).1, (hargs c).2.2.1]
      exact (dv_eq (hA c)).symm

/-! ## The feed-forward's gradients -/

section

set_option maxHeartbeats 4000000 in
/-- The frame over floats: the text is the idealisation's, and its frame holds over any values of the float types. -/
theorem frame_ffn : Cert.quiescent_Kernel2 := fun m ρ _ => by
  rw [Cert.Ffn.defs_same, Cert.Ffn.main_same]
  exact Cert.Kernel2Ideal.Gen.frame (F := Bits) m ρ

theorem frame_ffnIdeal : Cert.quiescent_Kernel2Ideal := fun m ρ _ => Cert.Kernel2Ideal.Gen.frame (F := Ideal) m ρ

theorem frame_ffnIdeal_finite : Cert.quiescent_Kernel2Ideal_pre_finite_ffn := fun m ρ _ => Cert.Kernel2Ideal.Gen.frame (F := Ideal) m ρ

theorem frame_ffnReference : Cert.quiescent_Reference2Ideal :=
  fun m ρ _ => (θ_run Cert.Reference2Ideal.defs _ _).mono (fun r h => ⟨fun c => (h c).2.2.2.2, sem_eq_zero_of_no_sems (by decide) r.2⟩)
    (Cert.Reference2Ideal.Value.run (F := Ideal) m ρ)

theorem frame_ffnReference_finite : Cert.quiescent_Reference2Ideal_pre_finite_ffn :=
  fun m ρ _ => (θ_run Cert.Reference2Ideal.defs _ _).mono (fun r h => ⟨fun c => (h c).2.2.2.2, sem_eq_zero_of_no_sems (by decide) r.2⟩)
    (Cert.Reference2Ideal.Value.run (F := Ideal) m ρ)

open Cert.Ffn in
/-- The gradients by the gate, by the value and by the two weights are the reference's. -/
theorem values_ffn : Cert.algebraic_Kernel2Ideal_Reference2Ideal_pre_finite_ffn := by
  intro m g m' g' hpre hargs
  have hA := fun c => Cert.Ffn.reals_of_finite (inU m c) (inW m c) (inZ m c) (inD m c) (hpre c)
  refine ⟨fun c => gateGrad (inU m c) (inD m c) (inW m c) (inZ m c), fun c => upGrad (inU m c) (inD m c) (inW m c) (inZ m c),
    fun c => downGrad (inU m c) (inD m c) (inW m c), fun c => firstGrad (inU m c) (inD m c) (inW m c) (inZ m c), ?_, ?_⟩
  · exact (θ_run _ _ _).mono (fun r h c => ⟨(h c).1.1, (h c).1.2.1, (h c).1.2.2.1, (h c).1.2.2.2, (h c).2⟩) (Cert.Ffn.run m g)
  · refine (θ_run _ _ _).mono (fun r h c => ⟨(h c).1.trans ?_, (h c).2.1.trans ?_, (h c).2.2.1.trans ?_, (h c).2.2.2.1.trans ?_, (h c).2.2.2.2⟩)
      (Cert.Reference2Ideal.Value.run (F := Ideal) m' g')
    · rw [Cert.Reference2Ideal.Read.val_main_v22_eq, (hargs c).1, (hargs c).2.1, (hargs c).2.2.1, (hargs c).2.2.2]
      exact funext fun i => ref_gateGrad _ _ _ _ (hA c).1 (hA c).2.1 (hA c).2.2.1 (hA c).2.2.2 i
    · rw [Cert.Reference2Ideal.Read.val_main_v23_eq, (hargs c).1, (hargs c).2.1, (hargs c).2.2.1, (hargs c).2.2.2]
      exact funext fun i => ref_upGrad _ _ _ _ i
    · rw [Cert.Reference2Ideal.Read.val_main_v24_eq, (hargs c).1, (hargs c).2.1, (hargs c).2.2.2]
      exact funext fun i => ref_downGrad _ _ _ i
    · rw [Cert.Reference2Ideal.Read.val_main_v25_eq, (hargs c).1, (hargs c).2.1, (hargs c).2.2.1, (hargs c).2.2.2]
      exact funext fun i => ref_firstGrad _ _ _ _ (hA c).1 (hA c).2.1 (hA c).2.2.1 (hA c).2.2.2 i

end

/-! ## The feed-forward's input -/

section

theorem frame_du : Cert.quiescent_Kernel3 := fun m ρ _ => by
  rw [Cert.Ffn.du_defs_same, Cert.Ffn.du_main_same]
  exact Cert.Kernel3Ideal.Gen.frame (F := Bits) m ρ

theorem frame_duIdeal : Cert.quiescent_Kernel3Ideal := fun m ρ _ => Cert.Kernel3Ideal.Gen.frame (F := Ideal) m ρ

theorem frame_duReference : Cert.quiescent_Reference3Ideal :=
  fun m ρ _ => (θ_run Cert.Reference3Ideal.defs _ _).mono (fun r h => ⟨fun c => (h c).2, sem_eq_zero_of_no_sems (by decide) r.2⟩)
    (Cert.Reference3Ideal.Value.run (F := Ideal) m ρ)

/-- The gradient of the feed-forward's input is the reference's. -/
theorem values_du : Cert.algebraic_Kernel3Ideal_Reference3Ideal := by
  intro m g m' g' hpre hargs
  refine ⟨fun c => Cert.Kernel3Ideal.Value.G3 m c, ?_, ?_⟩
  · exact (θ_run _ _ _).mono (fun r h c => ⟨(h c).1, (h c).2.2⟩) (Cert.Kernel3Ideal.Value.run (F := Ideal) m g)
  · refine (θ_run _ _ _).mono (fun r h c => ⟨(h c).1.trans ?_, (h c).2⟩) (Cert.Reference3Ideal.Value.run (F := Ideal) m' g')
    rw [Cert.Reference3Ideal.Read.val_main_v10_eq, (hargs c).1, (hargs c).2.1, (hargs c).2.2]
    exact funext fun i => (Cert.Ffn.Du.ref_entry _ _ _ i).trans (Cert.Ffn.Du.entry m c i).symm

end

/-! ## The input projection -/

section

set_option maxHeartbeats 4000000 in
theorem frame_in : Cert.quiescent_Kernel4 := fun m ρ _ => by
  rw [Cert.Calls.in_defs_same, Cert.Calls.in_main_same]
  exact Cert.Kernel4Ideal.Gen.frame (F := Bits) m ρ

theorem frame_inIdeal : Cert.quiescent_Kernel4Ideal := fun m ρ _ => Cert.Kernel4Ideal.Gen.frame (F := Ideal) m ρ

theorem frame_inReference : Cert.quiescent_Reference4Ideal :=
  fun m ρ _ => (θ_run Cert.Reference4Ideal.defs _ _).mono (fun r h => ⟨fun c => (h c).2.2, sem_eq_zero_of_no_sems (by decide) r.2⟩)
    (Cert.Reference4Ideal.Value.run (F := Ideal) m ρ)

open Cert.Proj in
/-- The projection and the gradient of its weights are the reference's. -/
theorem values_in : Cert.algebraic_Kernel4Ideal_Reference4Ideal := by
  intro m g m' g' hpre hargs
  refine ⟨fun c => proj m c, fun c => wGrad m c, ?_, ?_⟩
  · exact (θ_run _ _ _).mono (fun r h c => ⟨(h c).1.1, (h c).1.2, (h c).2⟩) (Cert.Proj.run m g)
  · refine (θ_run _ _ _).mono (fun r h c => ⟨(h c).1.trans ?_, (h c).2.1.trans ?_, (h c).2.2⟩) (Cert.Reference4Ideal.Value.run (F := Ideal) m' g')
    · rw [Cert.Reference4Ideal.Read.val_main_v3_eq, (hargs c).1, (hargs c).2.1]
      exact funext fun i => ref_proj _ _ i
    · rw [Cert.Reference4Ideal.Read.val_main_v6_eq, (hargs c).1, (hargs c).2.2]
      exact funext fun i => ref_wGrad _ _ i

end

/-! ## The input projection's input -/

section

set_option maxHeartbeats 4000000 in
theorem frame_inT : Cert.quiescent_Kernel5 := fun m ρ _ => by
  rw [Cert.Calls.inT_defs_same, Cert.Calls.inT_main_same]
  exact Cert.Kernel5Ideal.Gen.frame (F := Bits) m ρ

theorem frame_inTIdeal : Cert.quiescent_Kernel5Ideal := fun m ρ _ => Cert.Kernel5Ideal.Gen.frame (F := Ideal) m ρ

theorem frame_inTReference : Cert.quiescent_Reference5Ideal :=
  fun m ρ _ => (θ_run Cert.Reference5Ideal.defs _ _).mono (fun r h => ⟨fun c => (h c).2, sem_eq_zero_of_no_sems (by decide) r.2⟩)
    (Cert.Reference5Ideal.Value.run (F := Ideal) m ρ)

/-- The gradient of the projection's input is the reference's. -/
theorem values_inT : Cert.algebraic_Kernel5Ideal_Reference5Ideal := by
  intro m g m' g' hpre hargs
  refine ⟨fun c => Cert.Kernel5Ideal.Value.G2 m c, ?_, ?_⟩
  · exact (θ_run _ _ _).mono (fun r h c => ⟨(h c).1, (h c).2.2⟩) (Cert.Kernel5Ideal.Value.run (F := Ideal) m g)
  · refine (θ_run _ _ _).mono (fun r h c => ⟨(h c).1.trans ?_, (h c).2⟩) (Cert.Reference5Ideal.Value.run (F := Ideal) m' g')
    rw [Cert.Reference5Ideal.Read.val_main_v4_eq, (hargs c).1, (hargs c).2]
    exact funext fun i => (Cert.Proj.ref_inputGrad _ _ i).trans (Cert.Proj.Back.entry m c i).symm

end

/-! ## The merge of the branches -/

section

set_option maxHeartbeats 4000000 in
theorem frame_merge : Cert.quiescent_Kernel6 := fun m ρ _ => by
  rw [Cert.Calls.merge_defs_same, Cert.Calls.merge_main_same]
  exact Cert.Kernel6Ideal.Gen.frame (F := Bits) m ρ

theorem frame_mergeIdeal : Cert.quiescent_Kernel6Ideal := fun m ρ _ => Cert.Kernel6Ideal.Gen.frame (F := Ideal) m ρ

theorem frame_mergeReference : Cert.quiescent_Reference6Ideal :=
  fun m ρ _ => (θ_run Cert.Reference6Ideal.defs _ _).mono (fun r h => ⟨fun c => (h c).2.2.2.2.2.2.2, sem_eq_zero_of_no_sems (by decide) r.2⟩)
    (Cert.Reference6Ideal.Value.run (F := Ideal) m ρ)

open Cert.Merge in
/-- The merge's gradients are the reference's. -/
theorem values_merge : Cert.algebraic_Kernel6Ideal_Reference6Ideal := by
  intro m g m' g' hpre hargs
  refine ⟨fun c => gradA m c, fun c => gradB m c, fun c => gradX m c, fun c => gradY m c, fun c => gradGA m c, fun c => gradGB m c, fun c => gradO m c, ?_, ?_⟩
  · exact (θ_run _ _ _).mono (fun r h c => h c) (Cert.Merge.run m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference6Ideal.Value.run (F := Ideal) m' g')
    · rw [Cert.Reference6Ideal.Read.val_main_v46_eq, (hargs c).2.2.1, (hargs c).2.2.2.2.1, (hargs c).2.2.2.2.2.1, (hargs c).2.2.2.2.2.2]
      exact funext fun i => ref_dInA _ _ _ _ i
    · rw [Cert.Reference6Ideal.Read.val_main_v43_eq, (hargs c).2.2.2.1, (hargs c).2.2.2.2.1, (hargs c).2.2.2.2.2.1, (hargs c).2.2.2.2.2.2]
      exact funext fun i => ref_dInB _ _ _ _ i
    · rw [Cert.Reference6Ideal.Read.val_main_v47_eq, (hargs c).1, (hargs c).2.2.2.2.1, (hargs c).2.2.2.2.2.1, (hargs c).2.2.2.2.2.2]
      exact funext fun i => ref_dWA _ _ _ _ i
    · rw [Cert.Reference6Ideal.Read.val_main_v48_eq, (hargs c).2.1, (hargs c).2.2.2.2.1, (hargs c).2.2.2.2.2.1, (hargs c).2.2.2.2.2.2]
      exact funext fun i => ref_dWB _ _ _ _ i
    · rw [Cert.Reference6Ideal.Read.val_main_v49_eq, (hargs c).1, (hargs c).2.2.1, (hargs c).2.2.2.2.1, (hargs c).2.2.2.2.2.1, (hargs c).2.2.2.2.2.2]
      exact funext fun i => ref_dgA _ _ _ _ _ i
    · rw [Cert.Reference6Ideal.Read.val_main_v50_eq, (hargs c).2.1, (hargs c).2.2.2.1, (hargs c).2.2.2.2.1, (hargs c).2.2.2.2.2.1, (hargs c).2.2.2.2.2.2]
      exact funext fun i => ref_dgB _ _ _ _ _ i
    · rw [Cert.Reference6Ideal.Read.val_main_v51_eq, (hargs c).1, (hargs c).2.1, (hargs c).2.2.1, (hargs c).2.2.2.1, (hargs c).2.2.2.2.1, (hargs c).2.2.2.2.2.2]
      exact funext fun i => ref_dOut _ _ _ _ _ _ i

end

/-! ## The second product of the feed-forward -/

section

set_option maxHeartbeats 4000000 in
theorem frame_down : Cert.quiescent_Kernel7 := fun m ρ _ => by
  rw [Cert.Calls.down_defs_same, Cert.Calls.down_main_same]
  exact Cert.Kernel7Ideal.Gen.frame (F := Bits) m ρ

theorem frame_downIdeal : Cert.quiescent_Kernel7Ideal := fun m ρ _ => Cert.Kernel7Ideal.Gen.frame (F := Ideal) m ρ

theorem frame_downReference : Cert.quiescent_Reference7Ideal :=
  fun m ρ _ => (θ_run Cert.Reference7Ideal.defs _ _).mono (fun r h => ⟨fun c => (h c).2.2.2, sem_eq_zero_of_no_sems (by decide) r.2⟩)
    (Cert.Reference7Ideal.Value.run (F := Ideal) m ρ)

open Cert.Norm Cert.Norm.Down in
/-- The feed-forward's second product, with its residual and norm, is the reference's. -/
theorem values_down : Cert.algebraic_Kernel7Ideal_Reference7Ideal := by
  intro m g m' g' hpre hargs
  refine ⟨fun c => hOut (aX m c) (aW m c) (aH m c) (ag m c), fun c => prodOut (aX m c) (aW m c), fun c => normOut (aX m c) (aW m c) (aH m c) (ag m c) (aa m c) (ac m c) (ab m c), ?_, ?_⟩
  · exact (θ_run _ _ _).mono (fun r h c => ⟨(h c).1.trans (array_h m c), (h c).2.1.trans (array_t m c), (h c).2.2.1.trans (array_normed m c), (h c).2.2.2.2⟩)
      (Cert.Kernel7Ideal.Value.run_blocks (F := Ideal) m g)
  · refine (θ_run _ _ _).mono (fun r h c => ⟨(h c).1.trans ?_, (h c).2.1.trans ?_, (h c).2.2.1.trans ?_, (h c).2.2.2⟩) (Cert.Reference7Ideal.Value.run (F := Ideal) m' g')
    · rw [Cert.Reference7Ideal.Read.val_main_v5_eq, (hargs c).1, (hargs c).2.1, (hargs c).2.2.1, (hargs c).2.2.2.1]
      exact funext fun i => ref_h7 _ _ _ _ i
    · rw [Cert.Reference7Ideal.Read.val_main_v6_eq, (hargs c).1, (hargs c).2.1]
      exact funext fun i => ref_prod7 _ _ i
    · rw [Cert.Reference7Ideal.Read.val_main_v25_eq, (hargs c).1, (hargs c).2.1, (hargs c).2.2.1, (hargs c).2.2.2.1, (hargs c).2.2.2.2.1, (hargs c).2.2.2.2.2.1, (hargs c).2.2.2.2.2.2]
      exact funext fun i => ref_norm7 _ _ _ _ _ _ _ i

end

/-! ## The output projection -/

section

set_option maxHeartbeats 4000000 in
theorem frame_out : Cert.quiescent_Kernel8 := fun m ρ _ => by
  rw [Cert.Calls.out_defs_same, Cert.Calls.out_main_same]
  exact Cert.Kernel8Ideal.Gen.frame (F := Bits) m ρ

theorem frame_outIdeal : Cert.quiescent_Kernel8Ideal := fun m ρ _ => Cert.Kernel8Ideal.Gen.frame (F := Ideal) m ρ

theorem frame_outReference : Cert.quiescent_Reference8Ideal :=
  fun m ρ _ => (θ_run Cert.Reference8Ideal.defs _ _).mono (fun r h => ⟨fun c => (h c).2.2.2, sem_eq_zero_of_no_sems (by decide) r.2⟩)
    (Cert.Reference8Ideal.Value.run (F := Ideal) m ρ)

open Cert.Norm Cert.Norm.Out in
/-- The output projection, with its residual and norm, is the reference's. -/
theorem values_out : Cert.algebraic_Kernel8Ideal_Reference8Ideal := by
  intro m g m' g' hpre hargs
  refine ⟨fun c => hOut (aX m c) (aW m c) (aH m c) (ag m c), fun c => prodOut (aX m c) (aW m c), fun c => normOut (aX m c) (aW m c) (aH m c) (ag m c) (aa m c) (ac m c) (ab m c), ?_, ?_⟩
  · exact (θ_run _ _ _).mono (fun r h c => ⟨(h c).1.trans (array_h m c), (h c).2.1.trans (array_t m c), (h c).2.2.1.trans (array_normed m c), (h c).2.2.2.2⟩)
      (Cert.Kernel8Ideal.Value.run_blocks (F := Ideal) m g)
  · refine (θ_run _ _ _).mono (fun r h c => ⟨(h c).1.trans ?_, (h c).2.1.trans ?_, (h c).2.2.1.trans ?_, (h c).2.2.2⟩) (Cert.Reference8Ideal.Value.run (F := Ideal) m' g')
    · rw [Cert.Reference8Ideal.Read.val_main_v5_eq, (hargs c).1, (hargs c).2.1, (hargs c).2.2.1, (hargs c).2.2.2.1]
      exact funext fun i => ref_h8 _ _ _ _ i
    · rw [Cert.Reference8Ideal.Read.val_main_v6_eq, (hargs c).1, (hargs c).2.1]
      exact funext fun i => ref_prod8 _ _ i
    · rw [Cert.Reference8Ideal.Read.val_main_v25_eq, (hargs c).1, (hargs c).2.1, (hargs c).2.2.1, (hargs c).2.2.2.1, (hargs c).2.2.2.2.1, (hargs c).2.2.2.2.2.1, (hargs c).2.2.2.2.2.2]
      exact funext fun i => ref_norm8 _ _ _ _ _ _ _ i

end

/-! ## The first norm -/

section

set_option maxHeartbeats 4000000 in
theorem frame_norm : Cert.quiescent_Kernel9 := fun m ρ _ => by
  rw [Cert.Calls.norm_defs_same, Cert.Calls.norm_main_same]
  exact Cert.Kernel9Ideal.Gen.frame (F := Bits) m ρ

theorem frame_normIdeal : Cert.quiescent_Kernel9Ideal := fun m ρ _ => Cert.Kernel9Ideal.Gen.frame (F := Ideal) m ρ

theorem frame_normReference : Cert.quiescent_Reference9Ideal :=
  fun m ρ _ => (θ_run Cert.Reference9Ideal.defs _ _).mono (fun r h => ⟨fun c => (h c).2, sem_eq_zero_of_no_sems (by decide) r.2⟩)
    (Cert.Reference9Ideal.Value.run (F := Ideal) m ρ)

open Cert.Norm Cert.Norm.First in
/-- The first layer's first norm is the reference's. -/
theorem values_norm : Cert.algebraic_Kernel9Ideal_Reference9Ideal := by
  intro m g m' g' hpre hargs
  refine ⟨fun c => rowsOut (aH m c) (aa m c) (ac m c) (ab m c), ?_, ?_⟩
  · exact (θ_run _ _ _).mono (fun r h c => ⟨(h c).1.trans (array_rows m c), (h c).2.2⟩) (Cert.Kernel9Ideal.Value.run_blocks (F := Ideal) m g)
  · refine (θ_run _ _ _).mono (fun r h c => ⟨(h c).1.trans ?_, (h c).2⟩) (Cert.Reference9Ideal.Value.run (F := Ideal) m' g')
    rw [Cert.Reference9Ideal.Read.val_main_v18_eq, (hargs c).1, (hargs c).2.1, (hargs c).2.2.1, (hargs c).2.2.2]
    exact funext fun i => ref_rows _ _ _ _ i

end

/-! ## The AdamW step of a large weight -/

section

set_option maxHeartbeats 4000000 in
theorem frame_adam : Cert.quiescent_Kernel10 := fun m ρ _ => by
  rw [Cert.Calls.adam_defs_same, Cert.Calls.adam_main_same]
  exact Cert.Kernel10Ideal.Gen.frame (F := Bits) m ρ

theorem frame_adamIdeal : Cert.quiescent_Kernel10Ideal := fun m ρ _ => Cert.Kernel10Ideal.Gen.frame (F := Ideal) m ρ

theorem frame_adamReference : Cert.quiescent_Reference10Ideal :=
  fun m ρ _ => (θ_run Cert.Reference10Ideal.defs _ _).mono (fun r h => ⟨fun c => (h c).2.2.2, sem_eq_zero_of_no_sems (by decide) r.2⟩)
    (Cert.Reference10Ideal.Value.run (F := Ideal) m ρ)

open Cert.Adam.Stack in
/-- A weight's AdamW step is the reference's. -/
theorem values_adam : Cert.algebraic_Kernel10Ideal_Reference10Ideal := by
  intro m g m' g' hpre hargs
  refine ⟨fun c => wOut (aG m c) (aW m c) (aM m c) (aV m c), fun c => mOut (aG m c) (aM m c), fun c => vOut (aG m c) (aV m c), ?_, ?_⟩
  · exact (θ_run _ _ _).mono (fun r h c => ⟨(h c).1.trans (array_w m c), (h c).2.1.trans (array_m m c), (h c).2.2.1.trans (array_v m c), (h c).2.2.2.2⟩)
      (Cert.Kernel10Ideal.Value.run_blocks (F := Ideal) m g)
  · refine (θ_run _ _ _).mono (fun r h c => ⟨(h c).1.trans ?_, (h c).2.1.trans ?_, (h c).2.2.1.trans ?_, (h c).2.2.2⟩) (Cert.Reference10Ideal.Value.run (F := Ideal) m' g')
    · rw [Cert.Reference10Ideal.Read.val_main_v23_eq, (hargs c).1, (hargs c).2.1, (hargs c).2.2.1, (hargs c).2.2.2]
      exact funext fun i => ref_w _ _ _ _ i
    · rw [Cert.Reference10Ideal.Read.val_main_v4_eq, (hargs c).1, (hargs c).2.2.1]
      exact funext fun i => ref_m _ _ i
    · rw [Cert.Reference10Ideal.Read.val_main_v10_eq, (hargs c).1, (hargs c).2.2.2]
      exact funext fun i => ref_v _ _ i

end

/-! ## The loss -/

section

set_option maxHeartbeats 4000000 in
theorem frame_loss : Cert.quiescent_Kernel11 := fun m ρ _ => by
  rw [Cert.Calls.loss_defs_same, Cert.Calls.loss_main_same]
  exact Cert.Kernel11Ideal.Gen.frame (F := Bits) m ρ

theorem frame_lossIdeal : Cert.quiescent_Kernel11Ideal := fun m ρ _ => Cert.Kernel11Ideal.Gen.frame (F := Ideal) m ρ

theorem frame_lossReference : Cert.quiescent_Reference11Ideal :=
  fun m ρ _ => (θ_run Cert.Reference11Ideal.defs _ _).mono (fun r h => ⟨fun c => (h c).2.2.2.2, sem_eq_zero_of_no_sems (by decide) r.2⟩)
    (Cert.Reference11Ideal.Value.run (F := Ideal) m ρ)

open Cert.Loss in
/-- The loss and its gradients are the reference's. -/
theorem values_loss : Cert.algebraic_Kernel11Ideal_Reference11Ideal := by
  intro m g m' g' hpre hargs
  refine ⟨fun c => lossOut (aY m c) (aT m c), fun c => dyOut (aY m c) (aT m c), fun c => dtOut (aY m c) (aT m c) (aG m c), fun c => dgateOut (aY m c) (aT m c) (aX m c), ?_, ?_⟩
  · exact (θ_run _ _ _).mono (fun r h c => ⟨(h c).1.trans (array_loss m c), (h c).2.1.trans (array_dy m c), (h c).2.2.1.trans (array_dt m c),
      (h c).2.2.2.1.trans (array_dgate m c), (h c).2.2.2.2.2⟩) (Cert.Kernel11Ideal.Value.run_blocks (F := Ideal) m g)
  · refine (θ_run _ _ _).mono (fun r h c => ⟨(h c).1.trans ?_, (h c).2.1.trans ?_, (h c).2.2.1.trans ?_, (h c).2.2.2.1.trans ?_, (h c).2.2.2.2⟩)
      (Cert.Reference11Ideal.Value.run (F := Ideal) m' g')
    · rw [Cert.Reference11Ideal.Read.val_main_v24_eq, (hargs c).1, (hargs c).2.1]
      exact funext fun i => ref_loss _ _ i
    · rw [Cert.Reference11Ideal.Read.val_main_v14_eq, (hargs c).1, (hargs c).2.1]
      exact funext fun i => ref_dy _ _ i
    · rw [Cert.Reference11Ideal.Read.val_main_v23_eq, (hargs c).1, (hargs c).2.1, (hargs c).2.2.2]
      exact funext fun i => ref_dt _ _ _ i
    · rw [Cert.Reference11Ideal.Read.val_main_v22_eq, (hargs c).1, (hargs c).2.1, (hargs c).2.2.1]
      exact funext fun i => ref_dgate _ _ _ i

end

/-! ## The AdamW step of the small weights -/

section

set_option maxHeartbeats 4000000 in
theorem frame_small : Cert.quiescent_Kernel12 := fun m ρ _ => by
  rw [Cert.Calls.small_defs_same, Cert.Calls.small_main_same]
  exact Cert.Kernel12Ideal.Gen.frame (F := Bits) m ρ

theorem frame_smallIdeal : Cert.quiescent_Kernel12Ideal := fun m ρ _ => Cert.Kernel12Ideal.Gen.frame (F := Ideal) m ρ

theorem frame_smallReference : Cert.quiescent_Reference12Ideal :=
  fun m ρ _ => (θ_run Cert.Reference12Ideal.defs _ _).mono (fun r h => ⟨fun c => (h c).2.2.2.2, sem_eq_zero_of_no_sems (by decide) r.2⟩)
    (Cert.Reference12Ideal.Value.run (F := Ideal) m ρ)

open Cert.Adam.Small Cert.Kernel12Ideal in
/-- The small weights' AdamW step is the reference's. -/
theorem values_small : Cert.algebraic_Kernel12Ideal_Reference12Ideal := by
  intro m g m' g' hpre hargs
  refine ⟨fun c => gOut (m ((c.tc : Thread nD τ).loc main_arg0)),
    fun c => wOut (m ((c.tc : Thread nD τ).loc main_arg0)) (m ((c.tc : Thread nD τ).loc main_arg1)) (m ((c.tc : Thread nD τ).loc main_arg2)) (m ((c.tc : Thread nD τ).loc main_arg3)),
    fun c => mOut (m ((c.tc : Thread nD τ).loc main_arg0)) (m ((c.tc : Thread nD τ).loc main_arg2)),
    fun c => vOut (m ((c.tc : Thread nD τ).loc main_arg0)) (m ((c.tc : Thread nD τ).loc main_arg3)), ?_, ?_⟩
  · exact (θ_run _ _ _).mono (fun r h c => ⟨(h c).1.trans (funext fun y => pay_g _ _ _ _ y), (h c).2.1.trans (funext fun y => pay_w _ _ _ _ y),
      (h c).2.2.1.trans (funext fun y => pay_m _ _ _ _ y), (h c).2.2.2.1.trans (funext fun y => pay_v _ _ _ _ y), (h c).2.2.2.2.2⟩)
      (Cert.Kernel12Ideal.Value.run (F := Ideal) m g)
  · refine (θ_run _ _ _).mono (fun r h c => ⟨(h c).1.trans ?_, (h c).2.1.trans ?_, (h c).2.2.1.trans ?_, (h c).2.2.2.1.trans ?_, (h c).2.2.2.2⟩)
      (Cert.Reference12Ideal.Value.run (F := Ideal) m' g')
    · rw [Cert.Reference12Ideal.Read.val_main_v0_eq, (hargs c).1]
      exact funext fun i => ref_g _ i
    · rw [Cert.Reference12Ideal.Read.val_main_v24_eq, (hargs c).1, (hargs c).2.1, (hargs c).2.2.1, (hargs c).2.2.2]
      exact funext fun i => ref_w _ _ _ _ i
    · rw [Cert.Reference12Ideal.Read.val_main_v5_eq, (hargs c).1, (hargs c).2.2.1]
      exact funext fun i => ref_m _ _ i
    · rw [Cert.Reference12Ideal.Read.val_main_v11_eq, (hargs c).1, (hargs c).2.2.2]
      exact funext fun i => ref_v _ _ i

end

/-! ## The combination of the groups -/

section

set_option maxHeartbeats 4000000 in
theorem frame_combine : Cert.quiescent_Kernel13 := fun m ρ _ => by
  rw [Cert.Calls.combine_defs_same, Cert.Calls.combine_main_same]
  exact Cert.Kernel13Ideal.Gen.frame (F := Bits) m ρ

theorem frame_combineIdeal : Cert.quiescent_Kernel13Ideal := fun m ρ _ => Cert.Kernel13Ideal.Gen.frame (F := Ideal) m ρ

theorem frame_combineReference : Cert.quiescent_Reference13Ideal :=
  fun m ρ _ => (θ_run Cert.Reference13Ideal.defs _ _).mono (fun r h => ⟨fun c => (h c).2, sem_eq_zero_of_no_sems (by decide) r.2⟩)
    (Cert.Reference13Ideal.Value.run (F := Ideal) m ρ)

open Cert.Combine in
/-- The combination of the groups is the reference's. -/
theorem values_combine : Cert.algebraic_Kernel13Ideal_Reference13Ideal := by
  intro m g m' g' hpre hargs
  refine ⟨fun c => mixOut (aO₀ m c) (aO₁ m c) (aO₂ m c) (aL₀ m c) (aL₁ m c) (aL₂ m c), ?_, ?_⟩
  · exact (θ_run _ _ _).mono (fun r h c => ⟨(h c).1.trans (array_mix m c), (h c).2.2⟩) (Cert.Kernel13Ideal.Value.run_blocks (F := Ideal) m g)
  · refine (θ_run _ _ _).mono (fun r h c => ⟨(h c).1.trans ?_, (h c).2⟩) (Cert.Reference13Ideal.Value.run (F := Ideal) m' g')
    rw [Cert.Reference13Ideal.Read.val_main_v21_eq, (hargs c).1, (hargs c).2.1, (hargs c).2.2.1, (hargs c).2.2.2.1, (hargs c).2.2.2.2.1, (hargs c).2.2.2.2.2]
    exact funext fun i => ref_mix _ _ _ _ _ _ i

end

/-! ## The norms of q and k with the rotary embedding -/

section

set_option maxHeartbeats 4000000 in
theorem frame_qkrope : Cert.quiescent_Kernel14 := fun m ρ _ => by
  rw [Cert.Calls.qkrope_defs_same, Cert.Calls.qkrope_main_same]
  exact Cert.Kernel14Ideal.Gen.frame (F := Bits) m ρ

theorem frame_qkropeIdeal : Cert.quiescent_Kernel14Ideal := fun m ρ _ => Cert.Kernel14Ideal.Gen.frame (F := Ideal) m ρ

theorem frame_qkropeReference : Cert.quiescent_Reference14Ideal :=
  fun m ρ _ => (θ_run Cert.Reference14Ideal.defs _ _).mono (fun r h => ⟨fun c => (h c).2.2, sem_eq_zero_of_no_sems (by decide) r.2⟩)
    (Cert.Reference14Ideal.Value.run (F := Ideal) m ρ)

open Cert.Rope in
/-- The normed and turned q and k are the reference's. -/
theorem values_qkrope : Cert.algebraic_Kernel14Ideal_Reference14Ideal := by
  intro m g m' g' hpre hargs
  refine ⟨fun c => ropeOut (aX m c) (aG m c) (aC m c) (aS m c), fun c => ropeOut (aX m c) (aG m c) (aC m c) (aS m c), ?_, ?_⟩
  · exact (θ_run _ _ _).mono (fun r h c => ⟨(h c).1.trans (array_rounded m c), (h c).2.1.trans (array_exact m c), (h c).2.2.2⟩) (Cert.Kernel14Ideal.Value.run_blocks (F := Ideal) m g)
  · refine (θ_run _ _ _).mono (fun r h c => ⟨(h c).1.trans ?_, (h c).2.1.trans ?_, (h c).2.2⟩) (Cert.Reference14Ideal.Value.run (F := Ideal) m' g')
    · rw [Cert.Reference14Ideal.Read.val_main_v26_eq, (hargs c).1, (hargs c).2.1, (hargs c).2.2.1, (hargs c).2.2.2]
      exact funext fun i => ref_rounded _ _ _ _ i
    · rw [Cert.Reference14Ideal.Read.val_main_v25_eq, (hargs c).1, (hargs c).2.1, (hargs c).2.2.1, (hargs c).2.2.2]
      exact funext fun i => ref_exact _ _ _ _ i

end

/-! ## The gradients of the combination of the groups -/

section

set_option maxHeartbeats 4000000 in
theorem frame_back : Cert.quiescent_Kernel15 := fun m ρ _ => by
  rw [Cert.Calls.back_defs_same, Cert.Calls.back_main_same]
  exact Cert.Kernel15Ideal.Gen.frame (F := Bits) m ρ

theorem frame_backIdeal : Cert.quiescent_Kernel15Ideal := fun m ρ _ => Cert.Kernel15Ideal.Gen.frame (F := Ideal) m ρ

theorem frame_backReference : Cert.quiescent_Reference15Ideal :=
  fun m ρ _ => (θ_run Cert.Reference15Ideal.defs _ _).mono (fun r h => ⟨fun c => (h c).2.2.2.2.2.2, sem_eq_zero_of_no_sems (by decide) r.2⟩)
    (Cert.Reference15Ideal.Value.run (F := Ideal) m ρ)

theorem frame_backIdeal_finite : Cert.quiescent_Kernel15Ideal_pre_finite_combine := fun m ρ _ => Cert.Kernel15Ideal.Gen.frame (F := Ideal) m ρ

theorem frame_backReference_finite : Cert.quiescent_Reference15Ideal_pre_finite_combine :=
  fun m ρ _ => (θ_run Cert.Reference15Ideal.defs _ _).mono (fun r h => ⟨fun c => (h c).2.2.2.2.2.2, sem_eq_zero_of_no_sems (by decide) r.2⟩)
    (Cert.Reference15Ideal.Value.run (F := Ideal) m ρ)

open Cert.Combine in
/-- The gradients of the outputs and of the log-sums of the three groups are the reference's. -/
theorem values_back : Cert.algebraic_Kernel15Ideal_Reference15Ideal_pre_finite_combine := by
  intro m g m' g' hpre hargs
  have hA := fun c => Cert.Combine.reals_of_finite (bD m c) (bO₀ m c) (bO₁ m c) (bO₂ m c) (bL₀ m c) (bL₁ m c) (bL₂ m c) (hpre c)
  refine ⟨fun c => outBack (bD m c) (bL₀ m c) (bL₁ m c) (bL₂ m c) 0, fun c => outBack (bD m c) (bL₀ m c) (bL₁ m c) (bL₂ m c) 1, fun c => outBack (bD m c) (bL₀ m c) (bL₁ m c) (bL₂ m c) 2,
    fun c => logBack (bD m c) (bO₀ m c) (bO₁ m c) (bO₂ m c) (bL₀ m c) (bL₁ m c) (bL₂ m c) 0, fun c => logBack (bD m c) (bO₀ m c) (bO₁ m c) (bO₂ m c) (bL₀ m c) (bL₁ m c) (bL₂ m c) 1, fun c => logBack (bD m c) (bO₀ m c) (bO₁ m c) (bO₂ m c) (bL₀ m c) (bL₁ m c) (bL₂ m c) 2, ?_, ?_⟩
  · exact (θ_run _ _ _).mono (fun r h c => ⟨(h c).1.trans (array_out₀ m c), (h c).2.1.trans (array_out₁ m c), (h c).2.2.1.trans (array_out₂ m c), (h c).2.2.2.1.trans (array_log₀ m c), (h c).2.2.2.2.1.trans (array_log₁ m c), (h c).2.2.2.2.2.1.trans (array_log₂ m c), (h c).2.2.2.2.2.2.2⟩)
      (Cert.Kernel15Ideal.Value.run_blocks (F := Ideal) m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference15Ideal.Value.run (F := Ideal) m' g')
    · rw [Cert.Reference15Ideal.Read.val_main_v65_eq, (hargs c).1, (hargs c).2.2.2.2.1, (hargs c).2.2.2.2.2.1, (hargs c).2.2.2.2.2.2]
      exact funext fun i => ref_out₀ _ _ _ _ i
    · rw [Cert.Reference15Ideal.Read.val_main_v68_eq, (hargs c).1, (hargs c).2.2.2.2.1, (hargs c).2.2.2.2.2.1, (hargs c).2.2.2.2.2.2]
      exact funext fun i => ref_out₁ _ _ _ _ i
    · rw [Cert.Reference15Ideal.Read.val_main_v71_eq, (hargs c).1, (hargs c).2.2.2.2.1, (hargs c).2.2.2.2.2.1, (hargs c).2.2.2.2.2.2]
      exact funext fun i => ref_out₂ _ _ _ _ i
    · rw [Cert.Reference15Ideal.Read.val_main_v74_eq, (hargs c).1, (hargs c).2.1, (hargs c).2.2.1, (hargs c).2.2.2.1, (hargs c).2.2.2.2.1, (hargs c).2.2.2.2.2.1, (hargs c).2.2.2.2.2.2]
      exact funext fun i => ref_log₀ _ _ _ _ _ _ _ i (hA c)
    · rw [Cert.Reference15Ideal.Read.val_main_v77_eq, (hargs c).1, (hargs c).2.1, (hargs c).2.2.1, (hargs c).2.2.2.1, (hargs c).2.2.2.2.1, (hargs c).2.2.2.2.2.1, (hargs c).2.2.2.2.2.2]
      exact funext fun i => ref_log₁ _ _ _ _ _ _ _ i (hA c)
    · rw [Cert.Reference15Ideal.Read.val_main_v80_eq, (hargs c).1, (hargs c).2.1, (hargs c).2.2.1, (hargs c).2.2.2.1, (hargs c).2.2.2.2.1, (hargs c).2.2.2.2.2.1, (hargs c).2.2.2.2.2.2]
      exact funext fun i => ref_log₂ _ _ _ _ _ _ _ i (hA c)

end

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts, Cert.Pre_finite_ffn.Gen.facts, Cert.Pre_finite_combine.Gen.facts,
    frame_kernel, frame_kernelIdeal, frame_kernelIdeal_finite, frame_reference, frame_reference_finite,
    frame_ffn, frame_ffnIdeal, frame_ffnIdeal_finite, frame_ffnReference, frame_ffnReference_finite,
    frame_du, frame_duIdeal, frame_duReference,
    frame_in, frame_inIdeal, frame_inReference,
    frame_inT, frame_inTIdeal, frame_inTReference,
    frame_merge, frame_mergeIdeal, frame_mergeReference,
    frame_down, frame_downIdeal, frame_downReference,
    frame_out, frame_outIdeal, frame_outReference,
    frame_norm, frame_normIdeal, frame_normReference,
    frame_adam, frame_adamIdeal, frame_adamReference,
    frame_loss, frame_lossIdeal, frame_lossReference,
    frame_small, frame_smallIdeal, frame_smallReference,
    frame_combine, frame_combineIdeal, frame_combineReference,
    frame_qkrope, frame_qkropeIdeal, frame_qkropeReference,
    frame_back, frame_backIdeal, frame_backIdeal_finite, frame_backReference, frame_backReference_finite,
    trivial, values, trivial, values_ffn, trivial, values_du, trivial, values_in, trivial, values_inT, trivial, values_merge, trivial, values_down, trivial, values_out, trivial, values_norm, trivial, values_adam, trivial, values_loss, trivial, values_small, trivial, values_combine, trivial, values_qkrope, trivial, values_back⟩

end Cert.Proof

end
